-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_targets_fit [hPre_targets_fit : Cert.Pre_targets_fit.Facts] (m : (ℓ : Loc Cert.KernelIdeal.nD Cert.KernelIdeal.τ Cert.KernelIdeal.sig) → Buf (Elt Ideal) ℓ) : Prop :=
  ∀ c : Dev Cert.KernelIdeal.nD,
    (Cert.Pre_targets_fit.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_targets_fit [hPre_targets_fit : Cert.Pre_targets_fit.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_targets_fit.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_targets_fit [hKernelIdeal : Cert.KernelIdeal.Facts] [hPre_targets_fit : Cert.Pre_targets_fit.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_targets_fit m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_targets_fit [hReferenceIdeal : Cert.ReferenceIdeal.Facts] [hPre_targets_fit : Cert.Pre_targets_fit.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_targets_fit m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_targets_fit [hKernelIdeal : Cert.KernelIdeal.Facts] [hReferenceIdeal : Cert.ReferenceIdeal.Facts] [hPre_targets_fit : Cert.Pre_targets_fit.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_targets_fit m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v14)) (v1 : (c : Dev Cert.KernelIdeal.nD) → Buf (Elt Ideal) ((c.tc : Thread Cert.KernelIdeal.nD Cert.KernelIdeal.τ).loc Cert.KernelIdeal.main_v16)) (v2 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_v16) = v1 c
          ∧ r.2.mem ((c.tc : Thread Cert.KernelIdeal.nD Cert.KernelIdeal.τ).loc Cert.KernelIdeal.main_v18) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v156) = v0 c
          ∧ r.2.mem ((c.tc : Thread Cert.ReferenceIdeal.nD Cert.ReferenceIdeal.τ).loc Cert.ReferenceIdeal.main_v216) = v1 c
          ∧ r.2.mem ((c.tc : Thread Cert.ReferenceIdeal.nD Cert.ReferenceIdeal.τ).loc Cert.ReferenceIdeal.main_v219) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_targets_fit : Cert.Pre_targets_fit.Facts),
    quiescent_Kernel (hKernel := hKernel)
    ∧ quiescent_KernelIdeal (hKernelIdeal := hKernelIdeal)
    ∧ quiescent_KernelIdeal_pre_targets_fit (hKernelIdeal := hKernelIdeal) (hPre_targets_fit := hPre_targets_fit)
    ∧ quiescent_ReferenceIdeal (hReferenceIdeal := hReferenceIdeal)
    ∧ quiescent_ReferenceIdeal_pre_targets_fit (hReferenceIdeal := hReferenceIdeal) (hPre_targets_fit := hPre_targets_fit)
    ∧ preserves_Kernel_KernelIdeal
    ∧ algebraic_KernelIdeal_ReferenceIdeal_pre_targets_fit (hKernelIdeal := hKernelIdeal) (hReferenceIdeal := hReferenceIdeal) (hPre_targets_fit := hPre_targets_fit)
-- ==== Pre_targets_fit.lean ====
abbrev S8x65536x80 : Shape := ⟨3, ![8, 65536, 80]⟩
abbrev S8x65536x4 : Shape := ⟨3, ![8, 65536, 4]⟩
abbrev S8x65536 : Shape := ⟨2, ![8, 65536]⟩
abbrev S65536x4 : Shape := ⟨2, ![65536, 4]⟩
abbrev S8x32x4 : Shape := ⟨3, ![8, 32, 4]⟩
abbrev S8x32 : Shape := ⟨2, ![8, 32]⟩
abbrev S8x32x1 : Shape := ⟨3, ![8, 32, 1]⟩
abbrev S65536x1 : Shape := ⟨2, ![65536, 1]⟩
abbrev S65536 : Shape := ⟨1, ![65536]⟩
abbrev S8x32x2 : Shape := ⟨3, ![8, 32, 2]⟩
abbrev S8x32x1x2 : Shape := ⟨4, ![8, 32, 1, 2]⟩
abbrev S65536x2 : Shape := ⟨2, ![65536, 2]⟩
abbrev S1x65536x2 : Shape := ⟨3, ![1, 65536, 2]⟩
abbrev S1x1x65536x2 : Shape := ⟨4, ![1, 1, 65536, 2]⟩
abbrev S8x32x65536x2 : Shape := ⟨4, ![8, 32, 65536, 2]⟩
abbrev S_ : Shape := ⟨0, ![]⟩
abbrev S8x32x65536x1 : Shape := ⟨4, ![8, 32, 65536, 1]⟩
abbrev S8x32x65536 : Shape := ⟨3, ![8, 32, 65536]⟩
abbrev S1x65536 : Shape := ⟨2, ![1, 65536]⟩
abbrev S1x1x65536 : Shape := ⟨3, ![1, 1, 65536]⟩

class Facts : Prop where
  slices_S8x32x4_S8x32x1_0_0_2 : S8x32x4.Slices ![0, 0, 2] S8x32x1
  shapeCasts_S8x32x1_S8x32 : S8x32x1.ShapeCasts S8x32
  slices_S8x32x4_S8x32x1_0_0_0 : S8x32x4.Slices ![0, 0, 0] S8x32x1
  slices_S8x32x4_S8x32x1_0_0_3 : S8x32x4.Slices ![0, 0, 3] S8x32x1
  slices_S8x32x4_S8x32x1_0_0_1 : S8x32x4.Slices ![0, 0, 1] S8x32x1
  slices_S65536x4_S65536x1_0_2 : S65536x4.Slices ![0, 2] S65536x1
  shapeCasts_S65536x1_S65536 : S65536x1.ShapeCasts S65536
  slices_S65536x4_S65536x1_0_0 : S65536x4.Slices ![0, 0] S65536x1
  slices_S65536x4_S65536x1_0_3 : S65536x4.Slices ![0, 3] S65536x1
  slices_S65536x4_S65536x1_0_1 : S65536x4.Slices ![0, 1] S65536x1
  slices_S8x32x4_S8x32x2_0_0_0 : S8x32x4.Slices ![0, 0, 0] S8x32x2
  bcast_S8x32x2_S8x32x1x2_0_1_3 : S8x32x2.BroadcastsInDim S8x32x1x2 (![0, 1, 3] : Fin 3 → Fin S8x32x1x2.rank)
  slices_S65536x4_S65536x2_0_0 : S65536x4.Slices ![0, 0] S65536x2
  bcast_S65536x2_S1x65536x2_1_2 : S65536x2.BroadcastsInDim S1x65536x2 (![1, 2] : Fin 2 → Fin S1x65536x2.rank)
  bcast_S1x65536x2_S1x1x65536x2_1_2_3 : S1x65536x2.BroadcastsInDim S1x1x65536x2 (![1, 2, 3] : Fin 3 → Fin S1x1x65536x2.rank)
  bcast_S8x32x1x2_S8x32x65536x2_0_1_2_3 : S8x32x1x2.BroadcastsInDim S8x32x65536x2 (![0, 1, 2, 3] : Fin 4 → Fin S8x32x65536x2.rank)
  bcast_S1x1x65536x2_S8x32x65536x2_0_1_2_3 : S1x1x65536x2.BroadcastsInDim S8x32x65536x2 (![0, 1, 2, 3] : Fin 4 → Fin S8x32x65536x2.rank)
  slices_S8x32x4_S8x32x2_0_0_2 : S8x32x4.Slices ![0, 0, 2] S8x32x2
  slices_S65536x4_S65536x2_0_2 : S65536x4.Slices ![0, 2] S65536x2
  bcast_S_S8x32x65536x2 : S_.BroadcastsInDim S8x32x65536x2 (![] : Fin 0 → Fin S8x32x65536x2.rank)
  slices_S8x32x65536x2_S8x32x65536x1_0_0_0_0 : S8x32x65536x2.Slices ![0, 0, 0, 0] S8x32x65536x1
  shapeCasts_S8x32x65536x1_S8x32x65536 : S8x32x65536x1.ShapeCasts S8x32x65536
  slices_S8x32x65536x2_S8x32x65536x1_0_0_0_1 : S8x32x65536x2.Slices ![0, 0, 0, 1] S8x32x65536x1
  bcast_S8x32_S8x32x1_0_1 : S8x32.BroadcastsInDim S8x32x1 (![0, 1] : Fin 2 → Fin S8x32x1.rank)
  bcast_S65536_S1x65536_1 : S65536.BroadcastsInDim S1x65536 (![1] : Fin 1 → Fin S1x65536.rank)
  bcast_S1x65536_S1x1x65536_1_2 : S1x65536.BroadcastsInDim S1x1x65536 (![1, 2] : Fin 2 → Fin S1x1x65536.rank)
  bcast_S8x32x1_S8x32x65536_0_1_2 : S8x32x1.BroadcastsInDim S8x32x65536 (![0, 1, 2] : Fin 3 → Fin S8x32x65536.rank)
  bcast_S1x1x65536_S8x32x65536_0_1_2 : S1x1x65536.BroadcastsInDim S8x32x65536 (![0, 1, 2] : Fin 3 → Fin S8x32x65536.rank)
  reducesTo_S8x32x65536_S8x32_d2 : S8x32x65536.ReducesTo [2] S8x32
  h_S_ : 0 < S_.numel
  bcast_S65536_S8x32x65536_2 : S65536.BroadcastsInDim S8x32x65536 (![2] : Fin 1 → Fin S8x32x65536.rank)
  bcast_S_S8x32x65536 : S_.BroadcastsInDim S8x32x65536 (![] : Fin 0 → Fin S8x32x65536.rank)
  bcast_S_S8x32 : S_.BroadcastsInDim S8x32 (![] : Fin 0 → Fin S8x32.rank)

variable [Facts]

def fn_clip {F : FTy → Type} [FloatOps F] (arg0 : FVec F S8x32x65536x2 .f32) (arg1 : FVec F S_ .f32) : FVec F S8x32x65536x2 .f32 :=
  let v0 : FVec F S_ .f32 := id arg1
  let v1 : FVec F S8x32x65536x2 .f32 := broadcastInDim S8x32x65536x2 ![] bcast_S_S8x32x65536x2 v0
  let v2 : FVec F S8x32x65536x2 .f32 := maximumf v1 arg0
  v2

def fn_where {F : FTy → Type} [FloatOps F] (arg0 : IVec S8x32x65536 1) (arg1 : IVec S65536 32) (arg2 : IVec S_ 32) : IVec S8x32x65536 32 :=
  let v0 : IVec S_ 32 := id arg2
  let v1 : IVec S8x32x65536 32 := broadcastInDim S8x32x65536 ![2] bcast_S65536_S8x32x65536_2 arg1
  let v2 : IVec S8x32x65536 32 := broadcastInDim S8x32x65536 ![] bcast_S_S8x32x65536 v0
  let v3 : IVec S8x32x65536 32 := select arg0 v1 v2
  v3

def fn_part3 {F : FTy → Type} [FloatOps F] (main_arg5 : IVec S8x32 32) (main_v62 : IVec S8x32 1) (main_v64 : IVec S8x32 1) : IVec S8x32 1 :=
  let main_v65 : IVec S8x32 1 := andi main_v62 main_v64
  let main_c_5 : IVec S_ 32 := constantI S_ 32 80#32
  let main_v66 : IVec S8x32 32 := broadcastInDim S8x32 ![] bcast_S_S8x32 main_c_5
  let main_v67 : IVec S8x32 1 := cmpi .slt main_arg5 main_v66
  let main_v68 : IVec S8x32 1 := andi main_v65 main_v67
  main_v68

def fn_part2 {F : FTy → Type} [FloatOps F] (main_arg5 : IVec S8x32 32) (main_v44 : FVec F S8x32x65536 .f32) (main_v45 : FVec F S8x32x1 .f32) (main_v46 : FVec F S1x65536 .f32) : IVec S8x32 1 :=
  let main_v47 : FVec F S1x1x65536 .f32 := broadcastInDim S1x1x65536 ![1, 2] bcast_S1x65536_S1x1x65536_1_2 main_v46
  let main_v48 : FVec F S8x32x65536 .f32 := broadcastInDim S8x32x65536 ![0, 1, 2] bcast_S8x32x1_S8x32x65536_0_1_2 main_v45
  let main_v49 : FVec F S8x32x65536 .f32 := broadcastInDim S8x32x65536 ![0, 1, 2] bcast_S1x1x65536_S8x32x65536_0_1_2 main_v47
  let main_v50 : FVec F S8x32x65536 .f32 := addf main_v48 main_v49
  let main_v51 : FVec F S8x32x65536 .f32 := subf main_v50 main_v44
  let main_v52 : FVec F S8x32x65536 .f32 := Host.divf main_v44 main_v51
  let main_cst_0 : FVec F S_ .f32 := constant S_ .f32 0xFF800000#32
  let main_v53 : FVec F S8x32 .f32 := (fun x v => Host.reduce FloatOps.maximumf x v reducesTo_S8x32x65536_S8x32_d2 h_S_) main_v52 main_cst_0
  let main_v54 : FVec F S8x32x1 .f32 := broadcastInDim S8x32x1 ![0, 1] bcast_S8x32_S8x32x1_0_1 main_v53
  let main_v55 : FVec F S8x32x65536 .f32 := broadcastInDim S8x32x65536 ![0, 1, 2] bcast_S8x32x1_S8x32x65536_0_1_2 main_v54
  let main_v56 : IVec S8x32x65536 1 := cmpf .oeq main_v52 main_v55
  let main_v57 : IVec S65536 32 := iotaInDim S65536 32 0
  let main_c : IVec S_ 32 := constantI S_ 32 65536#32
  let main_v58 : IVec S8x32x65536 32 := fn_where (F := F) main_v56 main_v57 main_c
  let main_c_1 : IVec S_ 32 := constantI S_ 32 2147483647#32
  let main_v59 : IVec S8x32 32 := (fun x v => Host.reduce IntOp.minsi x v reducesTo_S8x32x65536_S8x32_d2 h_S_) main_v58 main_c_1
  let main_c_2 : IVec S_ 32 := constantI S_ 32 4294967295#32
  let main_v60 : IVec S8x32x65536 32 := fn_where (F := F) main_v56 main_v57 main_c_2
  let main_c_3 : IVec S_ 32 := constantI S_ 32 2147483648#32
  let main_v61 : IVec S8x32 32 := (fun x v => Host.reduce IntOp.maxsi x v reducesTo_S8x32x65536_S8x32_d2 h_S_) main_v60 main_c_3
  let main_v62 : IVec S8x32 1 := cmpi .eq main_v59 main_v61
  let main_c_4 : IVec S_ 32 := constantI S_ 32 0#32
  let main_v63 : IVec S8x32 32 := broadcastInDim S8x32 ![] bcast_S_S8x32 main_c_4
  let main_v64 : IVec S8x32 1 := cmpi .sge main_arg5 main_v63
  fn_part3 (F := F) main_arg5 main_v62 main_v64

def fn_part1 {F : FTy → Type} [FloatOps F] (main_arg3 : FVec F S65536x4 .f32) (main_arg4 : FVec F S8x32x4 .f32) (main_arg5 : IVec S8x32 32) (main_v10 : FVec F S8x32 .f32) (main_v21 : FVec F S65536 .f32) (main_v23 : FVec F S8x32x1x2 .f32) : IVec S8x32 1 :=
  let main_v24 : FVec F S65536x2 .f32 := (extractStridedSlice S65536x2 ![0, 0] · slices_S65536x4_S65536x2_0_0) main_arg3
  let main_v25 : FVec F S1x65536x2 .f32 := broadcastInDim S1x65536x2 ![1, 2] bcast_S65536x2_S1x65536x2_1_2 main_v24
  let main_v26 : FVec F S1x1x65536x2 .f32 := broadcastInDim S1x1x65536x2 ![1, 2, 3] bcast_S1x65536x2_S1x1x65536x2_1_2_3 main_v25
  let main_v27 : FVec F S8x32x65536x2 .f32 := broadcastInDim S8x32x65536x2 ![0, 1, 2, 3] bcast_S8x32x1x2_S8x32x65536x2_0_1_2_3 main_v23
  let main_v28 : FVec F S8x32x65536x2 .f32 := broadcastInDim S8x32x65536x2 ![0, 1, 2, 3] bcast_S1x1x65536x2_S8x32x65536x2_0_1_2_3 main_v26
  let main_v29 : FVec F S8x32x65536x2 .f32 := maximumf main_v27 main_v28
  let main_v30 : FVec F S8x32x2 .f32 := (extractStridedSlice S8x32x2 ![0, 0, 2] · slices_S8x32x4_S8x32x2_0_0_2) main_arg4
  let main_v31 : FVec F S8x32x1x2 .f32 := broadcastInDim S8x32x1x2 ![0, 1, 3] bcast_S8x32x2_S8x32x1x2_0_1_3 main_v30
  let main_v32 : FVec F S65536x2 .f32 := (extractStridedSlice S65536x2 ![0, 2] · slices_S65536x4_S65536x2_0_2) main_arg3
  let main_v33 : FVec F S1x65536x2 .f32 := broadcastInDim S1x65536x2 ![1, 2] bcast_S65536x2_S1x65536x2_1_2 main_v32
  let main_v34 : FVec F S1x1x65536x2 .f32 := broadcastInDim S1x1x65536x2 ![1, 2, 3] bcast_S1x65536x2_S1x1x65536x2_1_2_3 main_v33
  let main_v35 : FVec F S8x32x65536x2 .f32 := broadcastInDim S8x32x65536x2 ![0, 1, 2, 3] bcast_S8x32x1x2_S8x32x65536x2_0_1_2_3 main_v31
  let main_v36 : FVec F S8x32x65536x2 .f32 := broadcastInDim S8x32x65536x2 ![0, 1, 2, 3] bcast_S1x1x65536x2_S8x32x65536x2_0_1_2_3 main_v34
  let main_v37 : FVec F S8x32x65536x2 .f32 := minimumf main_v35 main_v36
  let main_v38 : FVec F S8x32x65536x2 .f32 := subf main_v37 main_v29
  let main_cst : FVec F S_ .f32 := constant S_ .f32 0x00000000#32
  let main_v39 : FVec F S8x32x65536x2 .f32 := fn_clip (F := F) main_v38 main_cst
  let main_v40 : FVec F S8x32x65536x1 .f32 := (extractStridedSlice S8x32x65536x1 ![0, 0, 0, 0] · slices_S8x32x65536x2_S8x32x65536x1_0_0_0_0) main_v39
  let main_v41 : FVec F S8x32x65536 .f32 := shapeCast S8x32x65536 main_v40 shapeCasts_S8x32x65536x1_S8x32x65536
  let main_v42 : FVec F S8x32x65536x1 .f32 := (extractStridedSlice S8x32x65536x1 ![0, 0, 0, 1] · slices_S8x32x65536x2_S8x32x65536x1_0_0_0_1) main_v39
  let main_v43 : FVec F S8x32x65536 .f32 := shapeCast S8x32x65536 main_v42 shapeCasts_S8x32x65536x1_S8x32x65536
  let main_v44 : FVec F S8x32x65536 .f32 := mulf main_v41 main_v43
  let main_v45 : FVec F S8x32x1 .f32 := broadcastInDim S8x32x1 ![0, 1] bcast_S8x32_S8x32x1_0_1 main_v10
  let main_v46 : FVec F S1x65536 .f32 := broadcastInDim S1x65536 ![1] bcast_S65536_S1x65536_1 main_v21
  fn_part2 (F := F) main_arg5 main_v44 main_v45 main_v46

def fn {F : FTy → Type} [FloatOps F] (main_arg0 : FVec F S8x65536x80 .f32) (main_arg1 : FVec F S8x65536x4 .f32) (main_arg2 : IVec S8x65536 1) (main_arg3 : FVec F S65536x4 .f32) (main_arg4 : FVec F S8x32x4 .f32) (main_arg5 : IVec S8x32 32) : IVec S8x32 1 :=
  let main_v0 : FVec F S8x32x1 .f32 := (extractStridedSlice S8x32x1 ![0, 0, 2] · slices_S8x32x4_S8x32x1_0_0_2) main_arg4
  let main_v1 : FVec F S8x32 .f32 := shapeCast S8x32 main_v0 shapeCasts_S8x32x1_S8x32
  let main_v2 : FVec F S8x32x1 .f32 := (extractStridedSlice S8x32x1 ![0, 0, 0] · slices_S8x32x4_S8x32x1_0_0_0) main_arg4
  let main_v3 : FVec F S8x32 .f32 := shapeCast S8x32 main_v2 shapeCasts_S8x32x1_S8x32
  let main_v4 : FVec F S8x32 .f32 := subf main_v1 main_v3
  let main_v5 : FVec F S8x32x1 .f32 := (extractStridedSlice S8x32x1 ![0, 0, 3] · slices_S8x32x4_S8x32x1_0_0_3) main_arg4
  let main_v6 : FVec F S8x32 .f32 := shapeCast S8x32 main_v5 shapeCasts_S8x32x1_S8x32
  let main_v7 : FVec F S8x32x1 .f32 := (extractStridedSlice S8x32x1 ![0, 0, 1] · slices_S8x32x4_S8x32x1_0_0_1) main_arg4
  let main_v8 : FVec F S8x32 .f32 := shapeCast S8x32 main_v7 shapeCasts_S8x32x1_S8x32
  let main_v9 : FVec F S8x32 .f32 := subf main_v6 main_v8
  let main_v10 : FVec F S8x32 .f32 := mulf main_v4 main_v9
  let main_v11 : FVec F S65536x1 .f32 := (extractStridedSlice S65536x1 ![0, 2] · slices_S65536x4_S65536x1_0_2) main_arg3
  let main_v12 : FVec F S65536 .f32 := shapeCast S65536 main_v11 shapeCasts_S65536x1_S65536
  let main_v13 : FVec F S65536x1 .f32 := (extractStridedSlice S65536x1 ![0, 0] · slices_S65536x4_S65536x1_0_0) main_arg3
  let main_v14 : FVec F S65536 .f32 := shapeCast S65536 main_v13 shapeCasts_S65536x1_S65536
  let main_v15 : FVec F S65536 .f32 := subf main_v12 main_v14
  let main_v16 : FVec F S65536x1 .f32 := (extractStridedSlice S65536x1 ![0, 3] · slices_S65536x4_S65536x1_0_3) main_arg3
  let main_v17 : FVec F S65536 .f32 := shapeCast S65536 main_v16 shapeCasts_S65536x1_S65536
  let main_v18 : FVec F S65536x1 .f32 := (extractStridedSlice S65536x1 ![0, 1] · slices_S65536x4_S65536x1_0_1) main_arg3
  let main_v19 : FVec F S65536 .f32 := shapeCast S65536 main_v18 shapeCasts_S65536x1_S65536
  let main_v20 : FVec F S65536 .f32 := subf main_v17 main_v19
  let main_v21 : FVec F S65536 .f32 := mulf main_v15 main_v20
  let main_v22 : FVec F S8x32x2 .f32 := (extractStridedSlice S8x32x2 ![0, 0, 0] · slices_S8x32x4_S8x32x2_0_0_0) main_arg4
  let main_v23 : FVec F S8x32x1x2 .f32 := broadcastInDim S8x32x1x2 ![0, 1, 3] bcast_S8x32x2_S8x32x1x2_0_1_3 main_v22
  fn_part1 (F := F) main_arg3 main_arg4 main_arg5 main_v10 main_v21 main_v23
-- ==== Kernel.lean ====
abbrev S8x65536x80 : Shape := ⟨3, ![8, 65536, 80]⟩
abbrev S8x65536x4 : Shape := ⟨3, ![8, 65536, 4]⟩
abbrev S8x65536 : Shape := ⟨2, ![8, 65536]⟩
abbrev S65536x4 : Shape := ⟨2, ![65536, 4]⟩
abbrev S8x32x4 : Shape := ⟨3, ![8, 32, 4]⟩
abbrev S8x32 : Shape := ⟨2, ![8, 32]⟩
abbrev S4x65536 : Shape := ⟨2, ![4, 65536]⟩
abbrev S8x4x65536 : Shape := ⟨3, ![8, 4, 65536]⟩
abbrev S8x32x1 : Shape := ⟨3, ![8, 32, 1]⟩
abbrev S8x1x65536 : Shape := ⟨3, ![8, 1, 65536]⟩
abbrev S4x16384 : Shape := ⟨2, ![4, 16384]⟩
abbrev S1x32x4 : Shape := ⟨3, ![1, 32, 4]⟩
abbrev S1x1x16384 : Shape := ⟨3, ![1, 1, 16384]⟩
abbrev S1x32x1 : Shape := ⟨3, ![1, 32, 1]⟩
abbrev S1x16384 : Shape := ⟨2, ![1, 16384]⟩
abbrev S32x4 : Shape := ⟨2, ![32, 4]⟩
abbrev S32x1 : Shape := ⟨2, ![32, 1]⟩
abbrev S32x16384 : Shape := ⟨2, ![32, 16384]⟩
abbrev S16384 : Shape := ⟨1, ![16384]⟩
abbrev S32 : Shape := ⟨1, ![32]⟩
abbrev S1x128 : Shape := ⟨2, ![1, 128]⟩
abbrev S1x4x16384 : Shape := ⟨3, ![1, 4, 16384]⟩
abbrev S2 : Shape := ⟨1, ![2]⟩
abbrev S1 : Shape := ⟨1, ![1]⟩
abbrev S1x1x1 : Shape := ⟨3, ![1, 1, 1]⟩
abbrev S524288x80 : Shape := ⟨2, ![524288, 80]⟩
abbrev S524288x1 : Shape := ⟨2, ![524288, 1]⟩
abbrev S1x2 : Shape := ⟨2, ![1, 2]⟩
abbrev S8192x80 : Shape := ⟨2, ![8192, 80]⟩
abbrev S8192x1 : Shape := ⟨2, ![8192, 1]⟩
abbrev S1x8192x80 : Shape := ⟨3, ![1, 8192, 80]⟩
abbrev S1x1 : Shape := ⟨2, ![1, 1]⟩
abbrev S_ : Shape := ⟨0, ![]⟩

abbrev nBuf : Space → Nat
  | .hbm => 30
  | .vmem => 38
  | .smem => 3
  | _ => 0

abbrev bufTy : (tb : Table) → Fin (tcTables nBuf tb) → BufTy
  | .hbm, ⟨0, _⟩ => ⟨S8x65536x80, .f32⟩
  | .hbm, ⟨1, _⟩ => ⟨S8x65536x4, .f32⟩
  | .hbm, ⟨2, _⟩ => ⟨S8x65536, .i1⟩
  | .hbm, ⟨3, _⟩ => ⟨S65536x4, .f32⟩
  | .hbm, ⟨4, _⟩ => ⟨S8x32x4, .f32⟩
  | .hbm, ⟨5, _⟩ => ⟨S8x32, .i32⟩
  | .hbm, ⟨6, _⟩ => ⟨S4x65536, .f32⟩
  | .hbm, ⟨7, _⟩ => ⟨S8x4x65536, .f32⟩
  | .hbm, ⟨8, _⟩ => ⟨S8x32x1, .i32⟩
  | .hbm, ⟨9, _⟩ => ⟨S8x65536, .f32⟩
  | .hbm, ⟨10, _⟩ => ⟨S8x1x65536, .f32⟩
  | .hbm, ⟨11, _⟩ => ⟨S8x1x65536, .f32⟩
  | .hbm, ⟨12, _⟩ => ⟨S8x1x65536, .i32⟩
  | .hbm, ⟨13, _⟩ => ⟨S8x32x1, .f32⟩
  | .hbm, ⟨14, _⟩ => ⟨S8x32x1, .i32⟩
  | .hbm, ⟨15, _⟩ => ⟨S8x1x65536, .i32⟩
  | .hbm, ⟨16, _⟩ => ⟨S8x1x65536, .f32⟩
  | .hbm, ⟨17, _⟩ => ⟨S1x128, .f32⟩
  | .hbm, ⟨18, _⟩ => ⟨S524288x80, .f32⟩
  | .hbm, ⟨19, _⟩ => ⟨S524288x1, .i32⟩
  | .hbm, ⟨20, _⟩ => ⟨S524288x1, .f32⟩
  | .hbm, ⟨21, _⟩ => ⟨S1x2, .f32⟩
  | .hbm, ⟨22, _⟩ => ⟨S2, .f32⟩
  | .hbm, ⟨23, _⟩ => ⟨S1x128, .f32⟩
  | .hbm, ⟨24, _⟩ => ⟨S1x1, .f32⟩
  | .hbm, ⟨25, _⟩ => ⟨S_, .f32⟩
  | .hbm, ⟨26, _⟩ => ⟨S1x1, .f32⟩
  | .hbm, ⟨27, _⟩ => ⟨S_, .f32⟩
  | .hbm, ⟨28, _⟩ => ⟨S1x1, .f32⟩
  | .hbm, ⟨29, _⟩ => ⟨S_, .f32⟩
  | .local _ .vmem, ⟨0, _⟩ => ⟨S4x16384, .f32⟩
  | .local _ .vmem, ⟨1, _⟩ => ⟨S4x16384, .f32⟩
  | .local _ .vmem, ⟨2, _⟩ => ⟨S1x32x4, .f32⟩
  | .local _ .vmem, ⟨3, _⟩ => ⟨S1x32x4, .f32⟩
  | .local _ .vmem, ⟨4, _⟩ => ⟨S1x1x16384, .f32⟩
  | .local _ .vmem, ⟨5, _⟩ => ⟨S1x1x16384, .f32⟩
  | .local _ .vmem, ⟨6, _⟩ => ⟨S1x1x16384, .i32⟩
  | .local _ .vmem, ⟨7, _⟩ => ⟨S1x1x16384, .i32⟩
  | .local _ .vmem, ⟨8, _⟩ => ⟨S1x32x1, .f32⟩
  | .local _ .vmem, ⟨9, _⟩ => ⟨S1x32x1, .f32⟩
  | .local _ .vmem, ⟨10, _⟩ => ⟨S1x32x1, .i32⟩
  | .local _ .vmem, ⟨11, _⟩ => ⟨S1x32x1, .i32⟩
  | .local _ .vmem, ⟨12, _⟩ => ⟨S1x1x16384, .f32⟩
  | .local _ .vmem, ⟨13, _⟩ => ⟨S1x1x16384, .f32⟩
  | .local _ .vmem, ⟨14, _⟩ => ⟨S1x1x16384, .i32⟩
  | .local _ .vmem, ⟨15, _⟩ => ⟨S1x1x16384, .i32⟩
  | .local _ .vmem, ⟨16, _⟩ => ⟨S1x32x1, .i32⟩
  | .local _ .vmem, ⟨17, _⟩ => ⟨S1x32x1, .i32⟩
  | .local _ .vmem, ⟨18, _⟩ => ⟨S1x32x1, .i32⟩
  | .local _ .vmem, ⟨19, _⟩ => ⟨S1x32x1, .i32⟩
  | .local _ .vmem, ⟨20, _⟩ => ⟨S1x32x4, .f32⟩
  | .local _ .vmem, ⟨21, _⟩ => ⟨S1x32x4, .f32⟩
  | .local _ .vmem, ⟨22, _⟩ => ⟨S1x4x16384, .f32⟩
  | .local _ .vmem, ⟨23, _⟩ => ⟨S1x4x16384, .f32⟩
  | .local _ .vmem, ⟨24, _⟩ => ⟨S1x1x16384, .f32⟩
  | .local _ .vmem, ⟨25, _⟩ => ⟨S1x1x16384, .f32⟩
  | .local _ .vmem, ⟨26, _⟩ => ⟨S1x1x16384, .i32⟩
  | .local _ .vmem, ⟨27, _⟩ => ⟨S1x1x16384, .i32⟩
  | .local _ .vmem, ⟨28, _⟩ => ⟨S1x1x16384, .f32⟩
  | .local _ .vmem, ⟨29, _⟩ => ⟨S1x1x16384, .f32⟩
  | .local _ .vmem, ⟨30, _⟩ => ⟨S1x128, .f32⟩
  | .local _ .vmem, ⟨31, _⟩ => ⟨S8192x80, .f32⟩
  | .local _ .vmem, ⟨32, _⟩ => ⟨S8192x80, .f32⟩
  | .local _ .vmem, ⟨33, _⟩ => ⟨S8192x1, .i32⟩
  | .local _ .vmem, ⟨34, _⟩ => ⟨S8192x1, .i32⟩
  | .local _ .vmem, ⟨35, _⟩ => ⟨S8192x1, .f32⟩
  | .local _ .vmem, ⟨36, _⟩ => ⟨S8192x1, .f32⟩
  | .local _ .vmem, ⟨37, _⟩ => ⟨S1x128, .f32⟩
  | .local _ .smem, ⟨0, _⟩ => ⟨S2, .f32⟩
  | .local _ .smem, ⟨1, _⟩ => ⟨S2, .f32⟩
  | .local _ .smem, ⟨2, _⟩ => ⟨S1, .f32⟩
  | _, _ => ⟨S8x65536x80, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v5_2 : Ref sig .tc := ⟨.hbm, 13, rfl⟩
abbrev main_v5_3 : Ref sig .tc := ⟨.hbm, 14, rfl⟩
abbrev main_v6_0 : Ref sig .tc := ⟨.hbm, 15, rfl⟩
abbrev main_v6_1 : Ref sig .tc := ⟨.hbm, 16, rfl⟩
abbrev main_v6_2 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc1_stg4_0 : Ref sig .tc := ⟨.vmem, 20, rfl⟩
abbrev cc1_stg4_1 : Ref sig .tc := ⟨.vmem, 21, rfl⟩
abbrev cc1_stg5_0 : Ref sig .tc := ⟨.vmem, 22, rfl⟩
abbrev cc1_stg5_1 : Ref sig .tc := ⟨.vmem, 23, rfl⟩
abbrev cc1_stg6_0 : Ref sig .tc := ⟨.vmem, 24, rfl⟩
abbrev cc1_stg6_1 : Ref sig .tc := ⟨.vmem, 25, rfl⟩
abbrev cc1_stg7_0 : Ref sig .tc := ⟨.vmem, 26, rfl⟩
abbrev cc1_stg7_1 : Ref sig .tc := ⟨.vmem, 27, rfl⟩
abbrev cc1_stg8_0 : Ref sig .tc := ⟨.vmem, 28, rfl⟩
abbrev cc1_stg8_1 : Ref sig .tc := ⟨.vmem, 29, rfl⟩
abbrev cc1_stg9_0 : Ref sig .tc := ⟨.vmem, 30, rfl⟩
abbrev cc2_stg0_0 : Ref sig .tc := ⟨.vmem, 31, rfl⟩
abbrev cc2_stg0_1 : Ref sig .tc := ⟨.vmem, 32, rfl⟩
abbrev cc2_stg1_0 : Ref sig .tc := ⟨.vmem, 33, rfl⟩
abbrev cc2_stg1_1 : Ref sig .tc := ⟨.vmem, 34, rfl⟩
abbrev cc2_stg2_0 : Ref sig .tc := ⟨.vmem, 35, rfl⟩
abbrev cc2_stg2_1 : Ref sig .tc := ⟨.vmem, 36, rfl⟩
abbrev cc2_stg4_0 : Ref sig .tc := ⟨.vmem, 37, rfl⟩
abbrev cc1_scratch0 : Ref sig .tc := ⟨.smem, 0, rfl⟩
abbrev cc2_stg3_0 : Ref sig .tc := ⟨.smem, 1, rfl⟩
abbrev cc2_scratch0 : Ref sig .tc := ⟨.smem, 2, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem4_1 : DmaSem sig := 21
abbrev cc1_sem5_0 : DmaSem sig := 22
abbrev cc1_sem5_1 : DmaSem sig := 23
abbrev cc1_sem6_0 : DmaSem sig := 24
abbrev cc1_sem6_1 : DmaSem sig := 25
abbrev cc1_sem7_0 : DmaSem sig := 26
abbrev cc1_sem7_1 : DmaSem sig := 27
abbrev cc1_sem8_0 : DmaSem sig := 28
abbrev cc1_sem8_1 : DmaSem sig := 29
abbrev cc1_sem9_0 : DmaSem sig := 30
abbrev cc2_sem0_0 : DmaSem sig := 31
abbrev cc2_sem0_1 : DmaSem sig := 32
abbrev cc2_sem1_0 : DmaSem sig := 33
abbrev cc2_sem1_1 : DmaSem sig := 34
abbrev cc2_sem2_0 : DmaSem sig := 35
abbrev cc2_sem2_1 : DmaSem sig := 36
abbrev cc2_sem3_0 : DmaSem sig := 37
abbrev cc2_sem4_0 : DmaSem sig := 38

abbrev nD : Nat := 1
abbrev τ : Topo := Topo.v7x

variable {F : FTy → Type} [FloatOps F]

abbrev grid0 : Pipeline.Grid := ⟨2, ![8, 4], ![false, false]⟩

def k0_cond1 (i : grid0.Coords) : BitVec 1 :=
  let arg1 : BitVec 32 := BitVec.ofNat 32 (i 1).val
  let c0_i32 : BitVec 32 := 0#32
  let v69 : BitVec 1 := Scalar.cmpi .eq arg1 c0_i32
  let v70 : BitVec 32 := Scalar.extui v69
  let c0_i32_15 : BitVec 32 := 0#32
  let v71 : BitVec 1 := Scalar.cmpi .ne v70 c0_i32_15
  v71

def k0_cond2 (i : grid0.Coords) : BitVec 1 :=
  let arg1 : BitVec 32 := BitVec.ofNat 32 (i 1).val
  let c0_i32_16 : BitVec 32 := 0#32
  let v72 : BitVec 1 := Scalar.cmpi .sgt arg1 c0_i32_16
  let v73 : BitVec 32 := Scalar.extui v72
  let c0_i32_17 : BitVec 32 := 0#32
  let v74 : BitVec 1 := Scalar.cmpi .ne v73 c0_i32_17
  v74

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x32x4 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x16384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x16384 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x32x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x32x1 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev grid1 : Pipeline.Grid := ⟨2, ![8, 4], ![false, false]⟩

def k1_cond3 (i : grid1.Coords) : BitVec 1 :=
  let arg0 : BitVec 32 := BitVec.ofNat 32 (i 0).val
  let c7_i32 : BitVec 32 := 7#32
  let v143 : BitVec 1 := Scalar.cmpi .eq arg0 c7_i32
  let arg1 : BitVec 32 := BitVec.ofNat 32 (i 1).val
  let c3_i32 : BitVec 32 := 3#32
  let v144 : BitVec 1 := Scalar.cmpi .eq arg1 c3_i32
  let v145 : BitVec 1 := Scalar.andi v143 v144
  let v146 : BitVec 32 := Scalar.extui v145
  let c0_i32_51 : BitVec 32 := 0#32
  let v147 : BitVec 1 := Scalar.cmpi .ne v146 c0_i32_51
  v147

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_7 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_8 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_9 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S1x1x16384 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x1x16384 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x32x1 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x32x1 .i32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1x32x4 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S1x4x16384 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S1x1x16384 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S1x1x16384 .i32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev stage1_8 : Fin 2 → Memref sig .tc .vmem S1x1x16384 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true]

abbrev stage1_9 : Fin 1 → Memref sig .tc .vmem S1x128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false, false]

abbrev grid2 : Pipeline.Grid := ⟨1, ![64], ![false]⟩

def k2_cond3 (i : grid2.Coords) : BitVec 1 :=
  let arg0 : BitVec 32 := BitVec.ofNat 32 (i 0).val
  let c63_i32 : BitVec 32 := 63#32
  let v45 : BitVec 1 := Scalar.cmpi .eq arg0 c63_i32
  let v46 : BitVec 32 := Scalar.extui v45
  let c0_i32_16 : BitVec 32 := 0#32
  let v47 : BitVec 1 := Scalar.cmpi .ne v46 c0_i32_16
  v47

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S8192x80 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S8192x1 .i32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S8192x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .smem S2 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]
-- ==== ReferenceIdeal.lean ====
abbrev S8x65536x80 : Shape := ⟨3, ![8, 65536, 80]⟩
abbrev S8x65536x4 : Shape := ⟨3, ![8, 65536, 4]⟩
abbrev S8x65536 : Shape := ⟨2, ![8, 65536]⟩
abbrev S65536x4 : Shape := ⟨2, ![65536, 4]⟩
abbrev S8x32x4 : Shape := ⟨3, ![8, 32, 4]⟩
abbrev S8x32 : Shape := ⟨2, ![8, 32]⟩
abbrev S8x32x1 : Shape := ⟨3, ![8, 32, 1]⟩
abbrev S65536x1 : Shape := ⟨2, ![65536, 1]⟩
abbrev S65536 : Shape := ⟨1, ![65536]⟩
abbrev S8x32x2 : Shape := ⟨3, ![8, 32, 2]⟩
abbrev S8x32x1x2 : Shape := ⟨4, ![8, 32, 1, 2]⟩
abbrev S65536x2 : Shape := ⟨2, ![65536, 2]⟩
abbrev S1x65536x2 : Shape := ⟨3, ![1, 65536, 2]⟩
abbrev S1x1x65536x2 : Shape := ⟨4, ![1, 1, 65536, 2]⟩
abbrev S8x32x65536x2 : Shape := ⟨4, ![8, 32, 65536, 2]⟩
abbrev S_ : Shape := ⟨0, ![]⟩
abbrev S8x32x65536x1 : Shape := ⟨4, ![8, 32, 65536, 1]⟩
abbrev S8x32x65536 : Shape := ⟨3, ![8, 32, 65536]⟩
abbrev S1x65536 : Shape := ⟨2, ![1, 65536]⟩
abbrev S1x1x65536 : Shape := ⟨3, ![1, 1, 65536]⟩
abbrev S32 : Shape := ⟨1, ![32]⟩
abbrev S32x1 : Shape := ⟨2, ![32, 1]⟩
abbrev S8x1x65536 : Shape := ⟨3, ![8, 1, 65536]⟩
abbrev S32x65536 : Shape := ⟨2, ![32, 65536]⟩
abbrev S8x65536x1 : Shape := ⟨3, ![8, 65536, 1]⟩
abbrev S524288x80 : Shape := ⟨2, ![524288, 80]⟩
abbrev S524288x4 : Shape := ⟨2, ![524288, 4]⟩
abbrev S524288 : Shape := ⟨1, ![524288]⟩
abbrev S524288x1 : Shape := ⟨2, ![524288, 1]⟩
abbrev S1x80 : Shape := ⟨2, ![1, 80]⟩
abbrev S524288x2 : Shape := ⟨2, ![524288, 2]⟩

abbrev nBuf : Space → Nat
  | .hbm => 305
  | .vmem => 0
  | .smem => 0
  | _ => 0

abbrev hbmTy0_0 (i : Nat) : BufTy := match i % 128 with
  | 0 => ⟨S8x65536x80, .f32⟩
  | 1 => ⟨S8x65536x4, .f32⟩
  | 2 => ⟨S8x65536, .i1⟩
  | 3 => ⟨S65536x4, .f32⟩
  | 4 => ⟨S8x32x4, .f32⟩
  | 5 => ⟨S8x32, .i32⟩
  | 6 => ⟨S8x32x1, .f32⟩
  | 7 => ⟨S8x32, .f32⟩
  | 8 => ⟨S8x32x1, .f32⟩
  | 9 => ⟨S8x32, .f32⟩
  | 10 => ⟨S8x32, .f32⟩
  | 11 => ⟨S8x32x1, .f32⟩
  | 12 => ⟨S8x32, .f32⟩
  | 13 => ⟨S8x32x1, .f32⟩
  | 14 => ⟨S8x32, .f32⟩
  | 15 => ⟨S8x32, .f32⟩
  | 16 => ⟨S8x32, .f32⟩
  | 17 => ⟨S65536x1, .f32⟩
  | 18 => ⟨S65536, .f32⟩
  | 19 => ⟨S65536x1, .f32⟩
  | 20 => ⟨S65536, .f32⟩
  | 21 => ⟨S65536, .f32⟩
  | 22 => ⟨S65536x1, .f32⟩
  | 23 => ⟨S65536, .f32⟩
  | 24 => ⟨S65536x1, .f32⟩
  | 25 => ⟨S65536, .f32⟩
  | 26 => ⟨S65536, .f32⟩
  | 27 => ⟨S65536, .f32⟩
  | 28 => ⟨S8x32x2, .f32⟩
  | 29 => ⟨S8x32x1x2, .f32⟩
  | 30 => ⟨S65536x2, .f32⟩
  | 31 => ⟨S1x65536x2, .f32⟩
  | 32 => ⟨S1x1x65536x2, .f32⟩
  | 33 => ⟨S8x32x65536x2, .f32⟩
  | 34 => ⟨S8x32x65536x2, .f32⟩
  | 35 => ⟨S8x32x65536x2, .f32⟩
  | 36 => ⟨S8x32x2, .f32⟩
  | 37 => ⟨S8x32x1x2, .f32⟩
  | 38 => ⟨S65536x2, .f32⟩
  | 39 => ⟨S1x65536x2, .f32⟩
  | 40 => ⟨S1x1x65536x2, .f32⟩
  | 41 => ⟨S8x32x65536x2, .f32⟩
  | 42 => ⟨S8x32x65536x2, .f32⟩
  | 43 => ⟨S8x32x65536x2, .f32⟩
  | 44 => ⟨S8x32x65536x2, .f32⟩
  | 45 => ⟨S_, .f32⟩
  | 46 => ⟨S_, .f32⟩
  | 47 => ⟨S8x32x65536x2, .f32⟩
  | 48 => ⟨S8x32x65536x2, .f32⟩
  | 49 => ⟨S8x32x65536x1, .f32⟩
  | 50 => ⟨S8x32x65536, .f32⟩
  | 51 => ⟨S8x32x65536x1, .f32⟩
  | 52 => ⟨S8x32x65536, .f32⟩
  | 53 => ⟨S8x32x65536, .f32⟩
  | 54 => ⟨S8x32x1, .f32⟩
  | 55 => ⟨S1x65536, .f32⟩
  | 56 => ⟨S1x1x65536, .f32⟩
  | 57 => ⟨S8x32x65536, .f32⟩
  | 58 => ⟨S8x32x65536, .f32⟩
  | 59 => ⟨S8x32x65536, .f32⟩
  | 60 => ⟨S8x32x65536, .f32⟩
  | 61 => ⟨S8x32x65536, .f32⟩
  | 62 => ⟨S_, .f32⟩
  | 63 => ⟨S8x65536, .f32⟩
  | 64 => ⟨S32, .i32⟩
  | 65 => ⟨S32x1, .i32⟩
  | 66 => ⟨S8x1x65536, .f32⟩
  | 67 => ⟨S8x32x65536, .f32⟩
  | 68 => ⟨S8x32x65536, .i1⟩
  | 69 => ⟨S_, .i32⟩
  | 70 => ⟨S_, .i32⟩
  | 71 => ⟨S32x65536, .i32⟩
  | 72 => ⟨S32x65536, .i32⟩
  | 73 => ⟨S8x32x65536, .i32⟩
  | 74 => ⟨S8x32x65536, .i32⟩
  | 75 => ⟨S8x32x65536, .i32⟩
  | 76 => ⟨S_, .i32⟩
  | 77 => ⟨S8x65536, .i32⟩
  | 78 => ⟨S_, .f32⟩
  | 79 => ⟨S8x65536, .f32⟩
  | 80 => ⟨S8x65536, .i1⟩
  | 81 => ⟨S_, .f32⟩
  | 82 => ⟨S8x65536, .f32⟩
  | 83 => ⟨S8x65536, .i1⟩
  | 84 => ⟨S_, .i32⟩
  | 85 => ⟨S_, .i32⟩
  | 86 => ⟨S65536, .i32⟩
  | 87 => ⟨S65536, .i32⟩
  | 88 => ⟨S8x65536, .i32⟩
  | 89 => ⟨S8x65536, .i32⟩
  | 90 => ⟨S8x65536, .i32⟩
  | 91 => ⟨S_, .i32⟩
  | 92 => ⟨S65536, .i32⟩
  | 93 => ⟨S8x65536, .i32⟩
  | 94 => ⟨S8x65536, .i32⟩
  | 95 => ⟨S_, .f32⟩
  | 96 => ⟨S8x32, .f32⟩
  | 97 => ⟨S8x32x1, .f32⟩
  | 98 => ⟨S8x32x65536, .f32⟩
  | 99 => ⟨S8x32x65536, .i1⟩
  | 100 => ⟨S_, .i1⟩
  | 101 => ⟨S8x65536, .i1⟩
  | 102 => ⟨S_, .i32⟩
  | 103 => ⟨S65536, .i32⟩
  | 104 => ⟨S8x65536, .i32⟩
  | 105 => ⟨S8x65536, .i32⟩
  | 106 => ⟨S_, .i32⟩
  | 107 => ⟨S8x65536, .i32⟩
  | 108 => ⟨S8x65536, .i1⟩
  | 109 => ⟨S_, .i32⟩
  | 110 => ⟨S8x65536, .i32⟩
  | 111 => ⟨S8x65536, .i32⟩
  | 112 => ⟨S8x65536, .i32⟩
  | 113 => ⟨S8x65536x1, .i32⟩
  | 114 => ⟨S8x65536, .i32⟩
  | 115 => ⟨S_, .i32⟩
  | 116 => ⟨S8x65536, .i32⟩
  | 117 => ⟨S8x65536, .i1⟩
  | 118 => ⟨S_, .i32⟩
  | 119 => ⟨S_, .i32⟩
  | 120 => ⟨S65536, .i32⟩
  | 121 => ⟨S8x65536, .i32⟩
  | 122 => ⟨S8x65536, .i32⟩
  | 123 => ⟨S_, .i32⟩
  | 124 => ⟨S8x65536, .i32⟩
  | 125 => ⟨S8x65536, .i1⟩
  | 126 => ⟨S_, .i32⟩
  | 127 => ⟨S_, .i32⟩
  | _ => ⟨S8x65536x80, .f32⟩

abbrev hbmTy0_1 (i : Nat) : BufTy := match i % 128 with
  | 0 => ⟨S65536, .i32⟩
  | 1 => ⟨S8x65536, .i32⟩
  | 2 => ⟨S8x65536, .i32⟩
  | 3 => ⟨S_, .i32⟩
  | 4 => ⟨S8x65536, .i32⟩
  | 5 => ⟨S8x65536, .i1⟩
  | 6 => ⟨S_, .i32⟩
  | 7 => ⟨S8x65536, .i32⟩
  | 8 => ⟨S8x65536, .i32⟩
  | 9 => ⟨S8x65536, .i32⟩
  | 10 => ⟨S8x65536x1, .i32⟩
  | 11 => ⟨S8x65536x4, .f32⟩
  | 12 => ⟨S524288x80, .f32⟩
  | 13 => ⟨S524288x4, .f32⟩
  | 14 => ⟨S524288, .i32⟩
  | 15 => ⟨S524288x4, .f32⟩
  | 16 => ⟨S_, .i32⟩
  | 17 => ⟨S524288, .i32⟩
  | 18 => ⟨S524288, .i1⟩
  | 19 => ⟨S_, .i32⟩
  | 20 => ⟨S524288, .i32⟩
  | 21 => ⟨S524288, .i1⟩
  | 22 => ⟨S524288, .i1⟩
  | 23 => ⟨S524288, .i32⟩
  | 24 => ⟨S_, .i32⟩
  | 25 => ⟨S_, .i32⟩
  | 26 => ⟨S_, .f32⟩
  | 27 => ⟨S_, .f32⟩
  | 28 => ⟨S_, .f32⟩
  | 29 => ⟨S_, .i32⟩
  | 30 => ⟨S_, .i32⟩
  | 31 => ⟨S_, .i32⟩
  | 32 => ⟨S524288, .i32⟩
  | 33 => ⟨S524288, .i32⟩
  | 34 => ⟨S_, .i32⟩
  | 35 => ⟨S524288, .i32⟩
  | 36 => ⟨S524288, .i32⟩
  | 37 => ⟨S524288x1, .i32⟩
  | 38 => ⟨S1x80, .i32⟩
  | 39 => ⟨S524288x80, .i32⟩
  | 40 => ⟨S524288x80, .i32⟩
  | 41 => ⟨S524288x80, .i1⟩
  | 42 => ⟨S524288x80, .f32⟩
  | 43 => ⟨S524288x1, .i1⟩
  | 44 => ⟨S524288x1, .f32⟩
  | 45 => ⟨S524288x80, .f32⟩
  | 46 => ⟨S524288x80, .f32⟩
  | 47 => ⟨S_, .i32⟩
  | 48 => ⟨S524288, .i32⟩
  | 49 => ⟨S524288, .i1⟩
  | 50 => ⟨S524288, .i1⟩
  | 51 => ⟨S524288, .i1⟩
  | 52 => ⟨S524288, .f32⟩
  | 53 => ⟨S524288x80, .f32⟩
  | 54 => ⟨S524288x80, .f32⟩
  | 55 => ⟨S_, .f32⟩
  | 56 => ⟨S524288x80, .f32⟩
  | 57 => ⟨S524288x80, .f32⟩
  | 58 => ⟨S_, .f32⟩
  | 59 => ⟨S524288x80, .f32⟩
  | 60 => ⟨S524288x80, .f32⟩
  | 61 => ⟨S_, .f32⟩
  | 62 => ⟨S524288x80, .f32⟩
  | 63 => ⟨S524288x80, .f32⟩
  | 64 => ⟨S524288x80, .f32⟩
  | 65 => ⟨S524288x80, .f32⟩
  | 66 => ⟨S524288x80, .f32⟩
  | 67 => ⟨S524288x80, .f32⟩
  | 68 => ⟨S524288x80, .f32⟩
  | 69 => ⟨S524288x80, .f32⟩
  | 70 => ⟨S524288x80, .f32⟩
  | 71 => ⟨S524288x80, .f32⟩
  | 72 => ⟨S_, .f32⟩
  | 73 => ⟨S524288x80, .f32⟩
  | 74 => ⟨S524288x80, .f32⟩
  | 75 => ⟨S_, .f32⟩
  | 76 => ⟨S524288x80, .f32⟩
  | 77 => ⟨S524288x80, .f32⟩
  | 78 => ⟨S524288x80, .f32⟩
  | 79 => ⟨S524288x80, .f32⟩
  | 80 => ⟨S_, .f32⟩
  | 81 => ⟨S524288x80, .f32⟩
  | 82 => ⟨S524288x80, .f32⟩
  | 83 => ⟨S_, .f32⟩
  | 84 => ⟨S524288x80, .f32⟩
  | 85 => ⟨S524288x80, .f32⟩
  | 86 => ⟨S524288x80, .f32⟩
  | 87 => ⟨S_, .f32⟩
  | 88 => ⟨S524288x80, .f32⟩
  | 89 => ⟨S524288x80, .f32⟩
  | 90 => ⟨S_, .f32⟩
  | 91 => ⟨S524288x80, .f32⟩
  | 92 => ⟨S524288x80, .f32⟩
  | 93 => ⟨S_, .f32⟩
  | 94 => ⟨S524288x80, .f32⟩
  | 95 => ⟨S524288x80, .f32⟩
  | 96 => ⟨S524288x80, .f32⟩
  | 97 => ⟨S524288x80, .f32⟩
  | 98 => ⟨S524288x1, .f32⟩
  | 99 => ⟨S524288x80, .f32⟩
  | 100 => ⟨S524288x80, .f32⟩
  | 101 => ⟨S_, .f32⟩
  | 102 => ⟨S_, .f32⟩
  | 103 => ⟨S_, .f32⟩
  | 104 => ⟨S524288x1, .f32⟩
  | 105 => ⟨S524288, .f32⟩
  | 106 => ⟨S524288x1, .f32⟩
  | 107 => ⟨S524288, .f32⟩
  | 108 => ⟨S524288, .f32⟩
  | 109 => ⟨S524288x1, .f32⟩
  | 110 => ⟨S524288, .f32⟩
  | 111 => ⟨S524288x1, .f32⟩
  | 112 => ⟨S524288, .f32⟩
  | 113 => ⟨S524288, .f32⟩
  | 114 => ⟨S524288, .f32⟩
  | 115 => ⟨S524288x1, .f32⟩
  | 116 => ⟨S524288, .f32⟩
  | 117 => ⟨S524288x1, .f32⟩
  | 118 => ⟨S524288, .f32⟩
  | 119 => ⟨S524288, .f32⟩
  | 120 => ⟨S524288x1, .f32⟩
  | 121 => ⟨S524288, .f32⟩
  | 122 => ⟨S524288x1, .f32⟩
  | 123 => ⟨S524288, .f32⟩
  | 124 => ⟨S524288, .f32⟩
  | 125 => ⟨S524288, .f32⟩
  | 126 => ⟨S524288x2, .f32⟩
  | 127 => ⟨S524288x2, .f32⟩
  | _ => ⟨S8x65536x80, .f32⟩

abbrev hbmTy0_2 (i : Nat) : BufTy := match i % 128 with
  | 0 => ⟨S524288x2, .f32⟩
  | 1 => ⟨S524288x2, .f32⟩
  | 2 => ⟨S524288x2, .f32⟩
  | 3 => ⟨S524288x2, .f32⟩
  | 4 => ⟨S524288x2, .f32⟩
  | 5 => ⟨S_, .f32⟩
  | 6 => ⟨S_, .f32⟩
  | 7 => ⟨S524288x2, .f32⟩
  | 8 => ⟨S524288x2, .f32⟩
  | 9 => ⟨S524288x1, .f32⟩
  | 10 => ⟨S524288, .f32⟩
  | 11 => ⟨S524288x1, .f32⟩
  | 12 => ⟨S524288, .f32⟩
  | 13 => ⟨S524288, .f32⟩
  | 14 => ⟨S524288, .f32⟩
  | 15 => ⟨S524288, .f32⟩
  | 16 => ⟨S524288, .f32⟩
  | 17 => ⟨S524288x2, .f32⟩
  | 18 => ⟨S524288x2, .f32⟩
  | 19 => ⟨S524288x2, .f32⟩
  | 20 => ⟨S524288x2, .f32⟩
  | 21 => ⟨S524288x2, .f32⟩
  | 22 => ⟨S524288x2, .f32⟩
  | 23 => ⟨S524288x2, .f32⟩
  | 24 => ⟨S_, .f32⟩
  | 25 => ⟨S_, .f32⟩
  | 26 => ⟨S524288x2, .f32⟩
  | 27 => ⟨S524288x2, .f32⟩
  | 28 => ⟨S524288x1, .f32⟩
  | 29 => ⟨S524288, .f32⟩
  | 30 => ⟨S524288x1, .f32⟩
  | 31 => ⟨S524288, .f32⟩
  | 32 => ⟨S524288, .f32⟩
  | 33 => ⟨S524288, .f32⟩
  | 34 => ⟨S524288, .f32⟩
  | 35 => ⟨S524288, .f32⟩
  | 36 => ⟨S_, .f32⟩
  | 37 => ⟨S524288, .f32⟩
  | 38 => ⟨S524288, .f32⟩
  | 39 => ⟨S524288, .f32⟩
  | 40 => ⟨S524288, .f32⟩
  | 41 => ⟨S_, .f32⟩
  | 42 => ⟨S_, .f32⟩
  | 43 => ⟨S_, .f32⟩
  | 44 => ⟨S_, .f32⟩
  | 45 => ⟨S_, .f32⟩
  | 46 => ⟨S_, .f32⟩
  | 47 => ⟨S_, .f32⟩
  | 48 => ⟨S_, .f32⟩
  | _ => ⟨S8x65536x80, .f32⟩

abbrev hbmTy (i : Nat) : BufTy := match i / 128 with
  | 0 => hbmTy0_0 i
  | 1 => hbmTy0_1 i
  | 2 => hbmTy0_2 i
  | _ => ⟨S8x65536x80, .f32⟩

abbrev bufTy : (tb : Table) → Fin (tcTables nBuf tb) → BufTy
  | .hbm, ⟨i, _⟩ => hbmTy i
  | _, _ => ⟨S8x65536x80, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_cst : Ref sig .tc := ⟨.hbm, 45, rfl⟩
abbrev main_call0_v0 : Ref sig .tc := ⟨.hbm, 46, rfl⟩
abbrev main_call0_v1 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_cst_0 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_c : Ref sig .tc := ⟨.hbm, 69, rfl⟩
abbrev main_call1_v0 : Ref sig .tc := ⟨.hbm, 70, rfl⟩
abbrev main_call1_v1 : Ref sig .tc := ⟨.hbm, 71, rfl⟩
abbrev main_call1_v2 : Ref sig .tc := ⟨.hbm, 72, rfl⟩
abbrev main_call1_v3 : Ref sig .tc := ⟨.hbm, 73, rfl⟩
abbrev main_call1_v4 : Ref sig .tc := ⟨.hbm, 74, rfl⟩
abbrev main_v59 : Ref sig .tc := ⟨.hbm, 75, rfl⟩
abbrev main_c_1 : Ref sig .tc := ⟨.hbm, 76, rfl⟩
abbrev main_v60 : Ref sig .tc := ⟨.hbm, 77, rfl⟩
abbrev main_cst_2 : Ref sig .tc := ⟨.hbm, 78, rfl⟩
abbrev main_v61 : Ref sig .tc := ⟨.hbm, 79, rfl⟩
abbrev main_v62 : Ref sig .tc := ⟨.hbm, 80, rfl⟩
abbrev main_cst_3 : Ref sig .tc := ⟨.hbm, 81, rfl⟩
abbrev main_v63 : Ref sig .tc := ⟨.hbm, 82, rfl⟩
abbrev main_v64 : Ref sig .tc := ⟨.hbm, 83, rfl⟩
abbrev main_c_4 : Ref sig .tc := ⟨.hbm, 84, rfl⟩
abbrev main_c_5 : Ref sig .tc := ⟨.hbm, 85, rfl⟩
abbrev main_call2_v0 : Ref sig .tc := ⟨.hbm, 86, rfl⟩
abbrev main_call2_v1 : Ref sig .tc := ⟨.hbm, 87, rfl⟩
abbrev main_call2_v2 : Ref sig .tc := ⟨.hbm, 88, rfl⟩
abbrev main_call2_v3 : Ref sig .tc := ⟨.hbm, 89, rfl⟩
abbrev main_v65 : Ref sig .tc := ⟨.hbm, 90, rfl⟩
abbrev main_c_6 : Ref sig .tc := ⟨.hbm, 91, rfl⟩
abbrev main_call3_v0 : Ref sig .tc := ⟨.hbm, 92, rfl⟩
abbrev main_call3_v1 : Ref sig .tc := ⟨.hbm, 93, rfl⟩
abbrev main_v66 : Ref sig .tc := ⟨.hbm, 94, rfl⟩
abbrev main_cst_7 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_c_8 : Ref sig .tc := ⟨.hbm, 100, rfl⟩
abbrev main_v71 : Ref sig .tc := ⟨.hbm, 101, rfl⟩
abbrev main_c_9 : Ref sig .tc := ⟨.hbm, 102, rfl⟩
abbrev main_call4_v0 : Ref sig .tc := ⟨.hbm, 103, rfl⟩
abbrev main_call4_v1 : Ref sig .tc := ⟨.hbm, 104, rfl⟩
abbrev main_v72 : Ref sig .tc := ⟨.hbm, 105, rfl⟩
abbrev main_c_10 : Ref sig .tc := ⟨.hbm, 106, rfl⟩
abbrev main_v73 : Ref sig .tc := ⟨.hbm, 107, rfl⟩
abbrev main_v74 : Ref sig .tc := ⟨.hbm, 108, rfl⟩
abbrev main_c_11 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_c_12 : Ref sig .tc := ⟨.hbm, 115, rfl⟩
abbrev main_v80 : Ref sig .tc := ⟨.hbm, 116, rfl⟩
abbrev main_v81 : Ref sig .tc := ⟨.hbm, 117, rfl⟩
abbrev main_c_13 : Ref sig .tc := ⟨.hbm, 118, rfl⟩
abbrev main_call5_v0 : Ref sig .tc := ⟨.hbm, 119, rfl⟩
abbrev main_call5_v1 : Ref sig .tc := ⟨.hbm, 120, rfl⟩
abbrev main_call5_v2 : Ref sig .tc := ⟨.hbm, 121, rfl⟩
abbrev main_v82 : Ref sig .tc := ⟨.hbm, 122, rfl⟩
abbrev main_c_14 : Ref sig .tc := ⟨.hbm, 123, rfl⟩
abbrev main_v83 : Ref sig .tc := ⟨.hbm, 124, rfl⟩
abbrev main_v84 : Ref sig .tc := ⟨.hbm, 125, rfl⟩
abbrev main_c_15 : Ref sig .tc := ⟨.hbm, 126, rfl⟩
abbrev main_call6_v0 : Ref sig .tc := ⟨.hbm, 127, rfl⟩
abbrev main_call6_v1 : Ref sig .tc := ⟨.hbm, 128, rfl⟩
abbrev main_call6_v2 : Ref sig .tc := ⟨.hbm, 129, rfl⟩
abbrev main_v85 : Ref sig .tc := ⟨.hbm, 130, rfl⟩
abbrev main_c_16 : Ref sig .tc := ⟨.hbm, 131, rfl⟩
abbrev main_v86 : Ref sig .tc := ⟨.hbm, 132, rfl⟩
abbrev main_v87 : Ref sig .tc := ⟨.hbm, 133, rfl⟩
abbrev main_c_17 : Ref sig .tc := ⟨.hbm, 134, rfl⟩
abbrev main_v88 : Ref sig .tc := ⟨.hbm, 135, rfl⟩
abbrev main_v89 : Ref sig .tc := ⟨.hbm, 136, rfl⟩
abbrev main_v90 : Ref sig .tc := ⟨.hbm, 137, rfl⟩
abbrev main_v91 : Ref sig .tc := ⟨.hbm, 138, rfl⟩
abbrev main_v92 : Ref sig .tc := ⟨.hbm, 139, rfl⟩
abbrev main_v93 : Ref sig .tc := ⟨.hbm, 140, rfl⟩
abbrev main_v94 : Ref sig .tc := ⟨.hbm, 141, rfl⟩
abbrev main_v95 : Ref sig .tc := ⟨.hbm, 142, rfl⟩
abbrev main_v96 : Ref sig .tc := ⟨.hbm, 143, rfl⟩
abbrev main_c_18 : Ref sig .tc := ⟨.hbm, 144, rfl⟩
abbrev main_v97 : Ref sig .tc := ⟨.hbm, 145, rfl⟩
abbrev main_v98 : Ref sig .tc := ⟨.hbm, 146, rfl⟩
abbrev main_c_19 : Ref sig .tc := ⟨.hbm, 147, rfl⟩
abbrev main_v99 : Ref sig .tc := ⟨.hbm, 148, rfl⟩
abbrev main_v100 : Ref sig .tc := ⟨.hbm, 149, rfl⟩
abbrev main_v101 : Ref sig .tc := ⟨.hbm, 150, rfl⟩
abbrev main_v102 : Ref sig .tc := ⟨.hbm, 151, rfl⟩
abbrev main_c_20 : Ref sig .tc := ⟨.hbm, 152, rfl⟩
abbrev main_v103 : Ref sig .tc := ⟨.hbm, 153, rfl⟩
abbrev main_v104 : Ref sig .tc := ⟨.hbm, 154, rfl⟩
abbrev main_cst_21 : Ref sig .tc := ⟨.hbm, 155, rfl⟩
abbrev main_v105 : Ref sig .tc := ⟨.hbm, 156, rfl⟩
abbrev main_c_22 : Ref sig .tc := ⟨.hbm, 157, rfl⟩
abbrev main_c_23 : Ref sig .tc := ⟨.hbm, 158, rfl⟩
abbrev main_call7_v0 : Ref sig .tc := ⟨.hbm, 159, rfl⟩
abbrev main_call7_v1 : Ref sig .tc := ⟨.hbm, 160, rfl⟩
abbrev main_call7_v2 : Ref sig .tc := ⟨.hbm, 161, rfl⟩
abbrev main_call7_v3 : Ref sig .tc := ⟨.hbm, 162, rfl⟩
abbrev main_call7_v4 : Ref sig .tc := ⟨.hbm, 163, rfl⟩
abbrev main_v106 : Ref sig .tc := ⟨.hbm, 164, rfl⟩
abbrev main_call8_v0 : Ref sig .tc := ⟨.hbm, 165, rfl⟩
abbrev main_call8_v1 : Ref sig .tc := ⟨.hbm, 166, rfl⟩
abbrev main_call8_v2 : Ref sig .tc := ⟨.hbm, 167, rfl⟩
abbrev main_call8_v3 : Ref sig .tc := ⟨.hbm, 168, rfl⟩
abbrev main_call8_v4 : Ref sig .tc := ⟨.hbm, 169, rfl⟩
abbrev main_v107 : Ref sig .tc := ⟨.hbm, 170, rfl⟩
abbrev main_v108 : Ref sig .tc := ⟨.hbm, 171, rfl⟩
abbrev main_v109 : Ref sig .tc := ⟨.hbm, 172, rfl⟩
abbrev main_v110 : Ref sig .tc := ⟨.hbm, 173, rfl⟩
abbrev main_v111 : Ref sig .tc := ⟨.hbm, 174, rfl⟩
abbrev main_c_24 : Ref sig .tc := ⟨.hbm, 175, rfl⟩
abbrev main_v112 : Ref sig .tc := ⟨.hbm, 176, rfl⟩
abbrev main_v113 : Ref sig .tc := ⟨.hbm, 177, rfl⟩
abbrev main_v114 : Ref sig .tc := ⟨.hbm, 178, rfl⟩
abbrev main_v115 : Ref sig .tc := ⟨.hbm, 179, rfl⟩
abbrev main_v116 : Ref sig .tc := ⟨.hbm, 180, rfl⟩
abbrev main_v117 : Ref sig .tc := ⟨.hbm, 181, rfl⟩
abbrev main_v118 : Ref sig .tc := ⟨.hbm, 182, rfl⟩
abbrev main_cst_25 : Ref sig .tc := ⟨.hbm, 183, rfl⟩
abbrev main_v119 : Ref sig .tc := ⟨.hbm, 184, rfl⟩
abbrev main_v120 : Ref sig .tc := ⟨.hbm, 185, rfl⟩
abbrev main_cst_26 : Ref sig .tc := ⟨.hbm, 186, rfl⟩
abbrev main_v121 : Ref sig .tc := ⟨.hbm, 187, rfl⟩
abbrev main_v122 : Ref sig .tc := ⟨.hbm, 188, rfl⟩
abbrev main_cst_27 : Ref sig .tc := ⟨.hbm, 189, rfl⟩
abbrev main_v123 : Ref sig .tc := ⟨.hbm, 190, rfl⟩
abbrev main_v124 : Ref sig .tc := ⟨.hbm, 191, rfl⟩
abbrev main_v125 : Ref sig .tc := ⟨.hbm, 192, rfl⟩
abbrev main_v126 : Ref sig .tc := ⟨.hbm, 193, rfl⟩
abbrev main_v127 : Ref sig .tc := ⟨.hbm, 194, rfl⟩
abbrev main_v128 : Ref sig .tc := ⟨.hbm, 195, rfl⟩
abbrev main_v129 : Ref sig .tc := ⟨.hbm, 196, rfl⟩
abbrev main_v130 : Ref sig .tc := ⟨.hbm, 197, rfl⟩
abbrev main_v131 : Ref sig .tc := ⟨.hbm, 198, rfl⟩
abbrev main_v132 : Ref sig .tc := ⟨.hbm, 199, rfl⟩
abbrev main_cst_28 : Ref sig .tc := ⟨.hbm, 200, rfl⟩
abbrev main_v133 : Ref sig .tc := ⟨.hbm, 201, rfl⟩
abbrev main_v134 : Ref sig .tc := ⟨.hbm, 202, rfl⟩
abbrev main_cst_29 : Ref sig .tc := ⟨.hbm, 203, rfl⟩
abbrev main_v135 : Ref sig .tc := ⟨.hbm, 204, rfl⟩
abbrev main_v136 : Ref sig .tc := ⟨.hbm, 205, rfl⟩
abbrev main_v137 : Ref sig .tc := ⟨.hbm, 206, rfl⟩
abbrev main_v138 : Ref sig .tc := ⟨.hbm, 207, rfl⟩
abbrev main_cst_30 : Ref sig .tc := ⟨.hbm, 208, rfl⟩
abbrev main_v139 : Ref sig .tc := ⟨.hbm, 209, rfl⟩
abbrev main_v140 : Ref sig .tc := ⟨.hbm, 210, rfl⟩
abbrev main_cst_31 : Ref sig .tc := ⟨.hbm, 211, rfl⟩
abbrev main_v141 : Ref sig .tc := ⟨.hbm, 212, rfl⟩
abbrev main_v142 : Ref sig .tc := ⟨.hbm, 213, rfl⟩
abbrev main_v143 : Ref sig .tc := ⟨.hbm, 214, rfl⟩
abbrev main_cst_32 : Ref sig .tc := ⟨.hbm, 215, rfl⟩
abbrev main_v144 : Ref sig .tc := ⟨.hbm, 216, rfl⟩
abbrev main_v145 : Ref sig .tc := ⟨.hbm, 217, rfl⟩
abbrev main_cst_33 : Ref sig .tc := ⟨.hbm, 218, rfl⟩
abbrev main_v146 : Ref sig .tc := ⟨.hbm, 219, rfl⟩
abbrev main_v147 : Ref sig .tc := ⟨.hbm, 220, rfl⟩
abbrev main_cst_34 : Ref sig .tc := ⟨.hbm, 221, rfl⟩
abbrev main_v148 : Ref sig .tc := ⟨.hbm, 222, rfl⟩
abbrev main_v149 : Ref sig .tc := ⟨.hbm, 223, rfl⟩
abbrev main_v150 : Ref sig .tc := ⟨.hbm, 224, rfl⟩
abbrev main_v151 : Ref sig .tc := ⟨.hbm, 225, rfl⟩
abbrev main_v152 : Ref sig .tc := ⟨.hbm, 226, rfl⟩
abbrev main_v153 : Ref sig .tc := ⟨.hbm, 227, rfl⟩
abbrev main_v154 : Ref sig .tc := ⟨.hbm, 228, rfl⟩
abbrev main_cst_35 : Ref sig .tc := ⟨.hbm, 229, rfl⟩
abbrev main_v155 : Ref sig .tc := ⟨.hbm, 230, rfl⟩
abbrev main_v156 : Ref sig .tc := ⟨.hbm, 231, rfl⟩
abbrev main_v157 : Ref sig .tc := ⟨.hbm, 232, rfl⟩
abbrev main_v158 : Ref sig .tc := ⟨.hbm, 233, rfl⟩
abbrev main_v159 : Ref sig .tc := ⟨.hbm, 234, rfl⟩
abbrev main_v160 : Ref sig .tc := ⟨.hbm, 235, rfl⟩
abbrev main_v161 : Ref sig .tc := ⟨.hbm, 236, rfl⟩
abbrev main_v162 : Ref sig .tc := ⟨.hbm, 237, rfl⟩
abbrev main_v163 : Ref sig .tc := ⟨.hbm, 238, rfl⟩
abbrev main_v164 : Ref sig .tc := ⟨.hbm, 239, rfl⟩
abbrev main_v165 : Ref sig .tc := ⟨.hbm, 240, rfl⟩
abbrev main_v166 : Ref sig .tc := ⟨.hbm, 241, rfl⟩
abbrev main_v167 : Ref sig .tc := ⟨.hbm, 242, rfl⟩
abbrev main_v168 : Ref sig .tc := ⟨.hbm, 243, rfl⟩
abbrev main_v169 : Ref sig .tc := ⟨.hbm, 244, rfl⟩
abbrev main_v170 : Ref sig .tc := ⟨.hbm, 245, rfl⟩
abbrev main_v171 : Ref sig .tc := ⟨.hbm, 246, rfl⟩
abbrev main_v172 : Ref sig .tc := ⟨.hbm, 247, rfl⟩
abbrev main_v173 : Ref sig .tc := ⟨.hbm, 248, rfl⟩
abbrev main_v174 : Ref sig .tc := ⟨.hbm, 249, rfl⟩
abbrev main_v175 : Ref sig .tc := ⟨.hbm, 250, rfl⟩
abbrev main_v176 : Ref sig .tc := ⟨.hbm, 251, rfl⟩
abbrev main_v177 : Ref sig .tc := ⟨.hbm, 252, rfl⟩
abbrev main_v178 : Ref sig .tc := ⟨.hbm, 253, rfl⟩
abbrev main_v179 : Ref sig .tc := ⟨.hbm, 254, rfl⟩
abbrev main_v180 : Ref sig .tc := ⟨.hbm, 255, rfl⟩
abbrev main_v181 : Ref sig .tc := ⟨.hbm, 256, rfl⟩
abbrev main_v182 : Ref sig .tc := ⟨.hbm, 257, rfl⟩
abbrev main_v183 : Ref sig .tc := ⟨.hbm, 258, rfl⟩
abbrev main_v184 : Ref sig .tc := ⟨.hbm, 259, rfl⟩
abbrev main_v185 : Ref sig .tc := ⟨.hbm, 260, rfl⟩
abbrev main_cst_36 : Ref sig .tc := ⟨.hbm, 261, rfl⟩
abbrev main_call9_v0 : Ref sig .tc := ⟨.hbm, 262, rfl⟩
abbrev main_call9_v1 : Ref sig .tc := ⟨.hbm, 263, rfl⟩
abbrev main_v186 : Ref sig .tc := ⟨.hbm, 264, rfl⟩
abbrev main_v187 : Ref sig .tc := ⟨.hbm, 265, rfl⟩
abbrev main_v188 : Ref sig .tc := ⟨.hbm, 266, rfl⟩
abbrev main_v189 : Ref sig .tc := ⟨.hbm, 267, rfl⟩
abbrev main_v190 : Ref sig .tc := ⟨.hbm, 268, rfl⟩
abbrev main_v191 : Ref sig .tc := ⟨.hbm, 269, rfl⟩
abbrev main_v192 : Ref sig .tc := ⟨.hbm, 270, rfl⟩
abbrev main_v193 : Ref sig .tc := ⟨.hbm, 271, rfl⟩
abbrev main_v194 : Ref sig .tc := ⟨.hbm, 272, rfl⟩
abbrev main_v195 : Ref sig .tc := ⟨.hbm, 273, rfl⟩
abbrev main_v196 : Ref sig .tc := ⟨.hbm, 274, rfl⟩
abbrev main_v197 : Ref sig .tc := ⟨.hbm, 275, rfl⟩
abbrev main_v198 : Ref sig .tc := ⟨.hbm, 276, rfl⟩
abbrev main_v199 : Ref sig .tc := ⟨.hbm, 277, rfl⟩
abbrev main_v200 : Ref sig .tc := ⟨.hbm, 278, rfl⟩
abbrev main_v201 : Ref sig .tc := ⟨.hbm, 279, rfl⟩
abbrev main_cst_37 : Ref sig .tc := ⟨.hbm, 280, rfl⟩
abbrev main_call10_v0 : Ref sig .tc := ⟨.hbm, 281, rfl⟩
abbrev main_call10_v1 : Ref sig .tc := ⟨.hbm, 282, rfl⟩
abbrev main_v202 : Ref sig .tc := ⟨.hbm, 283, rfl⟩
abbrev main_v203 : Ref sig .tc := ⟨.hbm, 284, rfl⟩
abbrev main_v204 : Ref sig .tc := ⟨.hbm, 285, rfl⟩
abbrev main_v205 : Ref sig .tc := ⟨.hbm, 286, rfl⟩
abbrev main_v206 : Ref sig .tc := ⟨.hbm, 287, rfl⟩
abbrev main_v207 : Ref sig .tc := ⟨.hbm, 288, rfl⟩
abbrev main_v208 : Ref sig .tc := ⟨.hbm, 289, rfl⟩
abbrev main_v209 : Ref sig .tc := ⟨.hbm, 290, rfl⟩
abbrev main_v210 : Ref sig .tc := ⟨.hbm, 291, rfl⟩
abbrev main_cst_38 : Ref sig .tc := ⟨.hbm, 292, rfl⟩
abbrev main_v211 : Ref sig .tc := ⟨.hbm, 293, rfl⟩
abbrev main_v212 : Ref sig .tc := ⟨.hbm, 294, rfl⟩
abbrev main_v213 : Ref sig .tc := ⟨.hbm, 295, rfl⟩
abbrev main_v214 : Ref sig .tc := ⟨.hbm, 296, rfl⟩
abbrev main_cst_39 : Ref sig .tc := ⟨.hbm, 297, rfl⟩
abbrev main_v215 : Ref sig .tc := ⟨.hbm, 298, rfl⟩
abbrev main_v216 : Ref sig .tc := ⟨.hbm, 299, rfl⟩
abbrev main_cst_40 : Ref sig .tc := ⟨.hbm, 300, rfl⟩
abbrev main_v217 : Ref sig .tc := ⟨.hbm, 301, rfl⟩
abbrev main_cst_41 : Ref sig .tc := ⟨.hbm, 302, rfl⟩
abbrev main_v218 : Ref sig .tc := ⟨.hbm, 303, rfl⟩
abbrev main_v219 : Ref sig .tc := ⟨.hbm, 304, rfl⟩

abbrev nD : Nat := 1
abbrev τ : Topo := Topo.v7x

variable {F : FTy → Type} [FloatOps F]
-- ==== Proof.Region0.Runs.lean ====
/- Region 0 of @main, the matching call: its windows' blocks, the conditions of its branches over the grid,
   and its staging buffers. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.TableIdle
public import Idealize.ShloMosaic.Lib.Pipeline.Frame
public import Idealize.ShloMosaic.Lib.Ring
public import Idealize.ShloMosaic.Lib.Tactic
public import Idealize.ShloMosaic.Lib.WordCmp

@[expose] public section

-- rectangles of the blocks' extents: the elaborator's look recurses once per coordinate of the long axes
set_option maxRecDepth 16384

noncomputable section

namespace Cert.KernelIdeal.Region0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers as the region finds them
variable (V : (c : Dev nD) → (b : Ref sig .tc) → Buf (Elt F) ((c : Thread nD τ).loc b))
/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof data whose array is `V`'s (`hA`) and whose body leaves the block in place (`hafter`). -/
theorem before0_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof data whose array is `V`'s (`hA`) and whose body leaves the block in place (`hafter`). -/
theorem before0_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- The condition of the body's `scf.if` 0 (`k0_h1`), from the grid coordinates (the skeleton's scalar chain substituted). -/
abbrev cond0_0 (i : grid0.Coords) : Prop := k0_cond1 i = 1#1
/-- It holds at the points ≡ 0 (mod 4) — by arithmetic of the point. -/
theorem hcond0_0 : ∀ t : Fin cfg0.N, cond0_0 (grid0.coords t) ↔ t.val % 4 = 0 :=
  (fun t => by
    have ht : t.val < 32 := Nat.lt_of_lt_of_eq t.isLt N_0
    have e0 : (grid0.coords t 0).val = t.val / 4 % 8 := Pipeline.Grid.coords_val t 0 (by decide) rfl
    have e1 : (grid0.coords t 1).val = t.val / 1 % 4 := Pipeline.Grid.coords_val t 1 (by decide) rfl
    simp only [cond0_0, k0_cond1, e0, e1]
    word_cmp
   : ∀ t : Fin grid0.N, cond0_0 (grid0.coords t) ↔ t.val % 4 = 0)

/-- The condition of the body's `scf.if` 1 (`k0_h2`), from the grid coordinates (the skeleton's scalar chain substituted). -/
abbrev cond0_1 (i : grid0.Coords) : Prop := k0_cond2 i = 1#1
/-- It holds at the points whose coordinates have 1 ≤ i1 — decided over the grid. -/
theorem hcond0_1 : ∀ t : Fin cfg0.N, cond0_1 (grid0.coords t) ↔ 1 ≤ t.val % 4 :=
  (by decide +kernel : ∀ t : Fin grid0.N, cond0_1 (grid0.coords t) ↔ 1 ≤ t.val % 4)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an output stored at every point, under no condition). -/
theorem liveAt0_2 : ∀ t : Fin cfg0.N, cfg0.idle 2 (grid0.coords t) = false := fun _ => rfl
/-- Window 3 is never idle (an output stored at every point, under no condition). -/
theorem liveAt0_3 : ∀ t : Fin cfg0.N, cfg0.idle 3 (grid0.coords t) = false := fun _ => rfl
/-- Whether output 4's buffer is FRESH at each position `1 ‥ N` — holds nothing the body stored since the region's entry or the last write-back (written back at the point before, or idle there and fresh before it) —, as a bitmask the classifier computed, bit `n` for position `n + 1`. -/
def freshTab0_4 : ℕ → Bool
  | 0 => true
  | n + 1 => (0x88888888 : ℕ).testBit n
theorem freshTab0_4_step : ∀ t : Fin cfg0.N,
    freshTab0_4 (t.val + 1) = ((cfg0.win 4).flush t || (cfg0.idle 4 (cfg0.grid.coords t) && freshTab0_4 t.val)) := by decide +kernel
theorem fresh0_4_eq (t : Fin cfg0.N) : cfg0.fresh 4 t.val = freshTab0_4 t.val :=
  Pipeline.Cfg.fresh_tab cfg0 4 freshTab0_4 rfl freshTab0_4_step t.val (Nat.le_of_lt t.isLt)
/-- At the points of case A the printed configuration (`Cfg.idle`) calls output 4 live. -/
theorem liveAt0_4_A : ∀ t : Fin cfg0.N, cond0_0 (grid0.coords t) → ¬cond0_1 (grid0.coords t) → cfg0.idle 4 (grid0.coords t) = false := by decide +kernel
/-- At the points of case B the printed configuration (`Cfg.idle`) calls output 4 live. -/
theorem liveAt0_4_B : ∀ t : Fin cfg0.N, ¬cond0_0 (grid0.coords t) → cond0_1 (grid0.coords t) → cfg0.idle 4 (grid0.coords t) = false := by decide +kernel
/-- At the points of case B, which keeps output 4's prior contents (reads it before covering, or covers it in part), the window's buffer is not FRESH. -/
theorem notFresh0_4_B : ∀ t : Fin cfg0.N, ¬cond0_0 (grid0.coords t) → cond0_1 (grid0.coords t) → cfg0.fresh 4 t.val = false := by
  intro t; rw [fresh0_4_eq t]; revert t; decide +kernel
/-- Whether output 5's buffer is FRESH at each position `1 ‥ N` — holds nothing the body stored since the region's entry or the last write-back (written back at the point before, or idle there and fresh before it) —, as a bitmask the classifier computed, bit `n` for position `n + 1`. -/
def freshTab0_5 : ℕ → Bool
  | 0 => true
  | n + 1 => (0x88888888 : ℕ).testBit n
theorem freshTab0_5_step : ∀ t : Fin cfg0.N,
    freshTab0_5 (t.val + 1) = ((cfg0.win 5).flush t || (cfg0.idle 5 (cfg0.grid.coords t) && freshTab0_5 t.val)) := by decide +kernel
theorem fresh0_5_eq (t : Fin cfg0.N) : cfg0.fresh 5 t.val = freshTab0_5 t.val :=
  Pipeline.Cfg.fresh_tab cfg0 5 freshTab0_5 rfl freshTab0_5_step t.val (Nat.le_of_lt t.isLt)
/-- At the points of case A the printed configuration (`Cfg.idle`) calls output 5 live. -/
theorem liveAt0_5_A : ∀ t : Fin cfg0.N, cond0_0 (grid0.coords t) → ¬cond0_1 (grid0.coords t) → cfg0.idle 5 (grid0.coords t) = false := by decide +kernel
/-- At the points of case B the printed configuration (`Cfg.idle`) calls output 5 live. -/
theorem liveAt0_5_B : ∀ t : Fin cfg0.N, ¬cond0_0 (grid0.coords t) → cond0_1 (grid0.coords t) → cfg0.idle 5 (grid0.coords t) = false := by decide +kernel
/-- At the points of case B, which keeps output 5's prior contents (reads it before covering, or covers it in part), the window's buffer is not FRESH. -/
theorem notFresh0_5_B : ∀ t : Fin cfg0.N, ¬cond0_0 (grid0.coords t) → cond0_1 (grid0.coords t) → cfg0.fresh 5 t.val = false := by
  intro t; rw [fresh0_5_eq t]; revert t; decide +kernel

/-! ## The kernel body on any staging memrefs: a subtype the run finds -/

/-- One staging buffer of output window 2, through which its contents are stated. -/
abbrev VO0_2 : View sig .tc .vmem S1x1x16384 .f32 := (Memref.whole cc0_stg2_0 : Memref sig .tc .vmem S1x1x16384 .f32).view
/-- One staging buffer of output window 3, through which its contents are stated. -/
abbrev VO0_3 : View sig .tc .vmem S1x1x16384 .i32 := (Memref.whole cc0_stg3_0 : Memref sig .tc .vmem S1x1x16384 .i32).view
/-- One staging buffer of output window 4, through which its contents are stated. -/
abbrev VO0_4 : View sig .tc .vmem S1x32x1 .f32 := (Memref.whole cc0_stg4_0 : Memref sig .tc .vmem S1x32x1 .f32).view
/-- One staging buffer of output window 5, through which its contents are stated. -/
abbrev VO0_5 : View sig .tc .vmem S1x32x1 .i32 := (Memref.whole cc0_stg5_0 : Memref sig .tc .vmem S1x32x1 .i32).view
/-- Each window's current staging memref at point `t`, spelled as the pipeline passes it (`bodyAt0`), and its wholeness. -/
abbrev ms0_0 (t : Fin cfg0.N) : Memref sig .tc .vmem S4x16384 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x32x4 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1x16384 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x16384 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x32x1 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x32x1 .i32 := win0_5.stage (cfg0.slots t 5)
abbrev hs0_5 (t : Fin cfg0.N) : (ms0_5 t).IsWhole := hstage0_5 ((cfg0.slots t 5).cast nbuf0_5)

end Cert.KernelIdeal.Region0

end
-- ==== Proof.Region0.RunA.lean ====
/- Region 0 of @main, the matching call: the body run in case A of its branches. -/
module

public import proofs.«01_k».proof.Proof.Region0.Runs

@[expose] public section

-- rectangles of the blocks' extents: the elaborator's look recurses once per coordinate of the long axes
set_option maxRecDepth 16384

noncomputable section

namespace Cert.KernelIdeal.Region0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers as the region finds them
variable (V : (c : Dev nD) → (b : Ref sig .tc) → Buf (Elt F) ((c : Thread nD τ).loc b))

-- (the run's proof term is large: the definition's epilogue — `abstractNestedProofs` — walks it past the default budget)
set_option maxHeartbeats 1000000 in
/-- What the body's stores leave in each output's staging memref, as pieces (last first) IN CASE A. -/
noncomputable def kernelRun0_A (c : Dev nD) (i : grid0.Coords) (arg2 : Memref sig .tc .vmem S4x16384 .f32) (harg2 : arg2.IsWhole) (arg3 : Memref sig .tc .vmem S1x32x4 .f32) (harg3 : arg3.IsWhole) (arg4 : Memref sig .tc .vmem S1x1x16384 .f32) (harg4 : arg4.IsWhole) (arg5 : Memref sig .tc .vmem S1x1x16384 .i32) (harg5 : arg5.IsWhole) (arg6 : Memref sig .tc .vmem S1x32x1 .f32) (harg6 : arg6.IsWhole) (arg7 : Memref sig .tc .vmem S1x32x1 .i32) (harg7 : arg7.IsWhole) (hc0 : cond0_0 i) (hc1 : ¬cond0_1 i)
    (x0 : Vec F S4x16384 .f32) (x1 : Vec F S1x32x4 .f32) :
    Σ' (L2 : List (View.Piece (Elt F) S1x1x16384 .f32)), Σ' (L3 : List (View.Piece (Elt F) S1x1x16384 .i32)), Σ' (L4 : List (View.Piece (Elt F) S1x32x1 .f32)), { L5 : List (View.Piece (Elt F) S1x32x1 .i32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5)) -∗ K ⟨⟩))
          ⊢ wp frame (wpE (defs₀ (F := F)) Variants.none c none) E (cc0__match_body i arg2 harg2 arg3 harg3 arg4 harg4 arg5 harg5 arg6 harg6 arg7 harg7) K } := by
  refine ⟨?_, ?_, ?_, ?_, fun E K => ?run⟩
  case run =>
    simp only [cc0__match_body_eq_skeleton]; unfold cc0__match_body_skel
    simp only [k0_part1_eq_skeleton]
    unfold owns
    iintro ⟨⟨%f0, %hf0, H0⟩, ⟨%f1, %hf1, H1⟩, ⟨%d2, %f2, -, H2⟩, ⟨%d3, %f3, -, H3⟩, ⟨%d4, %f4, -, H4⟩, ⟨%d5, %f5, -, H5⟩, Hk⟩
    obtain rfl := harg2.eq_unread hf0; obtain rfl := harg3.eq_unread hf1
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    isplitl [H4]; · iexists _; iexact H4
    iexists _; iexact H5

end Cert.KernelIdeal.Region0

end
-- ==== Proof.Region0.RunB.lean ====
/- Region 0 of @main, the matching call: the body run in case B of its branches. -/
module

public import proofs.«01_k».proof.Proof.Region0.RunA

@[expose] public section

-- rectangles of the blocks' extents: the elaborator's look recurses once per coordinate of the long axes
set_option maxRecDepth 16384

noncomputable section

namespace Cert.KernelIdeal.Region0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers as the region finds them
variable (V : (c : Dev nD) → (b : Ref sig .tc) → Buf (Elt F) ((c : Thread nD τ).loc b))

-- (the run's proof term is large: the definition's epilogue — `abstractNestedProofs` — walks it past the default budget)
set_option maxHeartbeats 1000000 in
/-- What the body's stores leave in each output's staging memref, as pieces (last first) IN CASE B. -/
noncomputable def kernelRun0_B (c : Dev nD) (i : grid0.Coords) (arg2 : Memref sig .tc .vmem S4x16384 .f32) (harg2 : arg2.IsWhole) (arg3 : Memref sig .tc .vmem S1x32x4 .f32) (harg3 : arg3.IsWhole) (arg4 : Memref sig .tc .vmem S1x1x16384 .f32) (harg4 : arg4.IsWhole) (arg5 : Memref sig .tc .vmem S1x1x16384 .i32) (harg5 : arg5.IsWhole) (arg6 : Memref sig .tc .vmem S1x32x1 .f32) (harg6 : arg6.IsWhole) (arg7 : Memref sig .tc .vmem S1x32x1 .i32) (harg7 : arg7.IsWhole) (hc0 : ¬cond0_0 i) (hc1 : cond0_1 i)
    (x0 : Vec F S4x16384 .f32) (x1 : Vec F S1x32x4 .f32) (xo4 : Vec F S1x32x1 .f32) (xo5 : Vec F S1x32x1 .i32) :
    Σ' (L2 : List (View.Piece (Elt F) S1x1x16384 .f32)), Σ' (L3 : List (View.Piece (Elt F) S1x1x16384 .i32)), Σ' (L4 : List (View.Piece (Elt F) S1x32x1 .f32)), { L5 : List (View.Piece (Elt F) S1x32x1 .i32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ owns (c : Thread nD τ) arg6 fullShare xo4 ∗ owns (c : Thread nD τ) arg7 fullShare xo5
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5)) -∗ K ⟨⟩))
          ⊢ wp frame (wpE (defs₀ (F := F)) Variants.none c none) E (cc0__match_body i arg2 harg2 arg3 harg3 arg4 harg4 arg5 harg5 arg6 harg6 arg7 harg7) K } := by
  refine ⟨?_, ?_, ?_, ?_, fun E K => ?run⟩
  case run =>
    simp only [cc0__match_body_eq_skeleton]; unfold cc0__match_body_skel
    simp only [k0_part1_eq_skeleton]
    unfold owns
    iintro ⟨⟨%f0, %hf0, H0⟩, ⟨%f1, %hf1, H1⟩, ⟨%d2, %f2, -, H2⟩, ⟨%d3, %f3, -, H3⟩, ⟨%f4, %hf4, H4⟩, ⟨%f5, %hf5, H5⟩, Hk⟩
    obtain rfl := harg2.eq_unread hf0; obtain rfl := harg3.eq_unread hf1; obtain rfl := harg6.eq_unread hf4; obtain rfl := harg7.eq_unread hf5
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    isplitl [H4]; · iexists _; iexact H4
    iexists _; iexact H5

end Cert.KernelIdeal.Region0

end
-- ==== Proof.Region0.Body.lean ====
/- Region 0 of @main, the matching call: what its outputs hold point by point, its proof data and its body obligation. -/
module

public import proofs.«01_k».proof.Proof.Region0.RunB

@[expose] public section

-- rectangles of the blocks' extents: the elaborator's look recurses once per coordinate of the long axes
set_option maxRecDepth 16384

noncomputable section

namespace Cert.KernelIdeal.Region0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers as the region finds them
variable (V : (c : Dev nD) → (b : Ref sig .tc) → Buf (Elt F) ((c : Thread nD τ).loc b))
/-- Case A's pieces for output 2 tile its block. -/
theorem cover0_A_2 (c : Dev nD) (i : grid0.Coords) (arg2 : Memref sig .tc .vmem S4x16384 .f32) (harg2 : arg2.IsWhole) (arg3 : Memref sig .tc .vmem S1x32x4 .f32) (harg3 : arg3.IsWhole) (arg4 : Memref sig .tc .vmem S1x1x16384 .f32) (harg4 : arg4.IsWhole) (arg5 : Memref sig .tc .vmem S1x1x16384 .i32) (harg5 : arg5.IsWhole) (arg6 : Memref sig .tc .vmem S1x32x1 .f32) (harg6 : arg6.IsWhole) (arg7 : Memref sig .tc .vmem S1x32x1 .i32) (harg7 : arg7.IsWhole) (hc0 : cond0_0 i) (hc1 : ¬cond0_1 i)
    (x0 : Vec F S4x16384 .f32) (x1 : Vec F S1x32x4 .f32) (y : S1x1x16384.Idx) :
    ∃ pc ∈ (kernelRun0_A c i arg2 harg2 arg3 harg3 arg4 harg4 arg5 harg5 arg6 harg6 arg7 harg7 hc0 hc1 x0 x1).1, y ∈ pc.1.set :=
  View.cover_of_tiledL (kernelRun0_A c i arg2 harg2 arg3 harg3 arg4 harg4 arg5 harg5 arg6 harg6 arg7 harg7 hc0 hc1 x0 x1).1 S1x1x16384.size (by sl_kernel_rfl) y

/-- What case A leaves in output 2's staging buffer. -/
def out0_A_2 (c : Dev nD) (i : grid0.Coords) (arg2 : Memref sig .tc .vmem S4x16384 .f32) (harg2 : arg2.IsWhole) (arg3 : Memref sig .tc .vmem S1x32x4 .f32) (harg3 : arg3.IsWhole) (arg4 : Memref sig .tc .vmem S1x1x16384 .f32) (harg4 : arg4.IsWhole) (arg5 : Memref sig .tc .vmem S1x1x16384 .i32) (harg5 : arg5.IsWhole) (arg6 : Memref sig .tc .vmem S1x32x1 .f32) (harg6 : arg6.IsWhole) (arg7 : Memref sig .tc .vmem S1x32x1 .i32) (harg7 : arg7.IsWhole) (hc0 : cond0_0 i) (hc1 : ¬cond0_1 i)
    (x0 : Vec F S4x16384 .f32) (x1 : Vec F S1x32x4 .f32) : Vec F S1x1x16384 .f32 :=
  VO0_2.read (Elt F) (VO0_2.writes (Elt F) VO0_2.junk (kernelRun0_A c i arg2 harg2 arg3 harg3 arg4 harg4 arg5 harg5 arg6 harg6 arg7 harg7 hc0 hc1 x0 x1).1)

/-- Case A's pieces for output 3 tile its block. -/
theorem cover0_A_3 (c : Dev nD) (i : grid0.Coords) (arg2 : Memref sig .tc .vmem S4x16384 .f32) (harg2 : arg2.IsWhole) (arg3 : Memref sig .tc .vmem S1x32x4 .f32) (harg3 : arg3.IsWhole) (arg4 : Memref sig .tc .vmem S1x1x16384 .f32) (harg4 : arg4.IsWhole) (arg5 : Memref sig .tc .vmem S1x1x16384 .i32) (harg5 : arg5.IsWhole) (arg6 : Memref sig .tc .vmem S1x32x1 .f32) (harg6 : arg6.IsWhole) (arg7 : Memref sig .tc .vmem S1x32x1 .i32) (harg7 : arg7.IsWhole) (hc0 : cond0_0 i) (hc1 : ¬cond0_1 i)
    (x0 : Vec F S4x16384 .f32) (x1 : Vec F S1x32x4 .f32) (y : S1x1x16384.Idx) :
    ∃ pc ∈ (kernelRun0_A c i arg2 harg2 arg3 harg3 arg4 harg4 arg5 harg5 arg6 harg6 arg7 harg7 hc0 hc1 x0 x1).2.1, y ∈ pc.1.set :=
  View.cover_of_tiledL (kernelRun0_A c i arg2 harg2 arg3 harg3 arg4 harg4 arg5 harg5 arg6 harg6 arg7 harg7 hc0 hc1 x0 x1).2.1 S1x1x16384.size (by sl_kernel_rfl) y

/-- What case A leaves in output 3's staging buffer. -/
def out0_A_3 (c : Dev nD) (i : grid0.Coords) (arg2 : Memref sig .tc .vmem S4x16384 .f32) (harg2 : arg2.IsWhole) (arg3 : Memref sig .tc .vmem S1x32x4 .f32) (harg3 : arg3.IsWhole) (arg4 : Memref sig .tc .vmem S1x1x16384 .f32) (harg4 : arg4.IsWhole) (arg5 : Memref sig .tc .vmem S1x1x16384 .i32) (harg5 : arg5.IsWhole) (arg6 : Memref sig .tc .vmem S1x32x1 .f32) (harg6 : arg6.IsWhole) (arg7 : Memref sig .tc .vmem S1x32x1 .i32) (harg7 : arg7.IsWhole) (hc0 : cond0_0 i) (hc1 : ¬cond0_1 i)
    (x0 : Vec F S4x16384 .f32) (x1 : Vec F S1x32x4 .f32) : Vec F S1x1x16384 .i32 :=
  VO0_3.read (Elt F) (VO0_3.writes (Elt F) VO0_3.junk (kernelRun0_A c i arg2 harg2 arg3 harg3 arg4 harg4 arg5 harg5 arg6 harg6 arg7 harg7 hc0 hc1 x0 x1).2.1)

/-- Case A's pieces for output 4 tile its block. -/
theorem cover0_A_4 (c : Dev nD) (i : grid0.Coords) (arg2 : Memref sig .tc .vmem S4x16384 .f32) (harg2 : arg2.IsWhole) (arg3 : Memref sig .tc .vmem S1x32x4 .f32) (harg3 : arg3.IsWhole) (arg4 : Memref sig .tc .vmem S1x1x16384 .f32) (harg4 : arg4.IsWhole) (arg5 : Memref sig .tc .vmem S1x1x16384 .i32) (harg5 : arg5.IsWhole) (arg6 : Memref sig .tc .vmem S1x32x1 .f32) (harg6 : arg6.IsWhole) (arg7 : Memref sig .tc .vmem S1x32x1 .i32) (harg7 : arg7.IsWhole) (hc0 : cond0_0 i) (hc1 : ¬cond0_1 i)
    (x0 : Vec F S4x16384 .f32) (x1 : Vec F S1x32x4 .f32) (y : S1x32x1.Idx) :
    ∃ pc ∈ (kernelRun0_A c i arg2 harg2 arg3 harg3 arg4 harg4 arg5 harg5 arg6 harg6 arg7 harg7 hc0 hc1 x0 x1).2.2.1, y ∈ pc.1.set :=
  View.cover_of_tiledL (kernelRun0_A c i arg2 harg2 arg3 harg3 arg4 harg4 arg5 harg5 arg6 harg6 arg7 harg7 hc0 hc1 x0 x1).2.2.1 S1x32x1.size (by sl_kernel_rfl) y

/-- What case A leaves in output 4's staging buffer. -/
def out0_A_4 (c : Dev nD) (i : grid0.Coords) (arg2 : Memref sig .tc .vmem S4x16384 .f32) (harg2 : arg2.IsWhole) (arg3 : Memref sig .tc .vmem S1x32x4 .f32) (harg3 : arg3.IsWhole) (arg4 : Memref sig .tc .vmem S1x1x16384 .f32) (harg4 : arg4.IsWhole) (arg5 : Memref sig .tc .vmem S1x1x16384 .i32) (harg5 : arg5.IsWhole) (arg6 : Memref sig .tc .vmem S1x32x1 .f32) (harg6 : arg6.IsWhole) (arg7 : Memref sig .tc .vmem S1x32x1 .i32) (harg7 : arg7.IsWhole) (hc0 : cond0_0 i) (hc1 : ¬cond0_1 i)
    (x0 : Vec F S4x16384 .f32) (x1 : Vec F S1x32x4 .f32) : Vec F S1x32x1 .f32 :=
  VO0_4.read (Elt F) (VO0_4.writes (Elt F) VO0_4.junk (kernelRun0_A c i arg2 harg2 arg3 harg3 arg4 harg4 arg5 harg5 arg6 harg6 arg7 harg7 hc0 hc1 x0 x1).2.2.1)

/-- Case A's pieces for output 5 tile its block. -/
theorem cover0_A_5 (c : Dev nD) (i : grid0.Coords) (arg2 : Memref sig .tc .vmem S4x16384 .f32) (harg2 : arg2.IsWhole) (arg3 : Memref sig .tc .vmem S1x32x4 .f32) (harg3 : arg3.IsWhole) (arg4 : Memref sig .tc .vmem S1x1x16384 .f32) (harg4 : arg4.IsWhole) (arg5 : Memref sig .tc .vmem S1x1x16384 .i32) (harg5 : arg5.IsWhole) (arg6 : Memref sig .tc .vmem S1x32x1 .f32) (harg6 : arg6.IsWhole) (arg7 : Memref sig .tc .vmem S1x32x1 .i32) (harg7 : arg7.IsWhole) (hc0 : cond0_0 i) (hc1 : ¬cond0_1 i)
    (x0 : Vec F S4x16384 .f32) (x1 : Vec F S1x32x4 .f32) (y : S1x32x1.Idx) :
    ∃ pc ∈ (kernelRun0_A c i arg2 harg2 arg3 harg3 arg4 harg4 arg5 harg5 arg6 harg6 arg7 harg7 hc0 hc1 x0 x1).2.2.2.1, y ∈ pc.1.set :=
  View.cover_of_tiledL (kernelRun0_A c i arg2 harg2 arg3 harg3 arg4 harg4 arg5 harg5 arg6 harg6 arg7 harg7 hc0 hc1 x0 x1).2.2.2.1 S1x32x1.size (by sl_kernel_rfl) y

/-- What case A leaves in output 5's staging buffer. -/
def out0_A_5 (c : Dev nD) (i : grid0.Coords) (arg2 : Memref sig .tc .vmem S4x16384 .f32) (harg2 : arg2.IsWhole) (arg3 : Memref sig .tc .vmem S1x32x4 .f32) (harg3 : arg3.IsWhole) (arg4 : Memref sig .tc .vmem S1x1x16384 .f32) (harg4 : arg4.IsWhole) (arg5 : Memref sig .tc .vmem S1x1x16384 .i32) (harg5 : arg5.IsWhole) (arg6 : Memref sig .tc .vmem S1x32x1 .f32) (harg6 : arg6.IsWhole) (arg7 : Memref sig .tc .vmem S1x32x1 .i32) (harg7 : arg7.IsWhole) (hc0 : cond0_0 i) (hc1 : ¬cond0_1 i)
    (x0 : Vec F S4x16384 .f32) (x1 : Vec F S1x32x4 .f32) : Vec F S1x32x1 .i32 :=
  VO0_5.read (Elt F) (VO0_5.writes (Elt F) VO0_5.junk (kernelRun0_A c i arg2 harg2 arg3 harg3 arg4 harg4 arg5 harg5 arg6 harg6 arg7 harg7 hc0 hc1 x0 x1).2.2.2.1)

/-- Case B's pieces for output 2 tile its block. -/
theorem cover0_B_2 (c : Dev nD) (i : grid0.Coords) (arg2 : Memref sig .tc .vmem S4x16384 .f32) (harg2 : arg2.IsWhole) (arg3 : Memref sig .tc .vmem S1x32x4 .f32) (harg3 : arg3.IsWhole) (arg4 : Memref sig .tc .vmem S1x1x16384 .f32) (harg4 : arg4.IsWhole) (arg5 : Memref sig .tc .vmem S1x1x16384 .i32) (harg5 : arg5.IsWhole) (arg6 : Memref sig .tc .vmem S1x32x1 .f32) (harg6 : arg6.IsWhole) (arg7 : Memref sig .tc .vmem S1x32x1 .i32) (harg7 : arg7.IsWhole) (hc0 : ¬cond0_0 i) (hc1 : cond0_1 i)
    (x0 : Vec F S4x16384 .f32) (x1 : Vec F S1x32x4 .f32) (xo4 : Vec F S1x32x1 .f32) (xo5 : Vec F S1x32x1 .i32) (y : S1x1x16384.Idx) :
    ∃ pc ∈ (kernelRun0_B c i arg2 harg2 arg3 harg3 arg4 harg4 arg5 harg5 arg6 harg6 arg7 harg7 hc0 hc1 x0 x1 xo4 xo5).1, y ∈ pc.1.set :=
  View.cover_of_tiledL (kernelRun0_B c i arg2 harg2 arg3 harg3 arg4 harg4 arg5 harg5 arg6 harg6 arg7 harg7 hc0 hc1 x0 x1 xo4 xo5).1 S1x1x16384.size (by sl_kernel_rfl) y

/-- What case B leaves in output 2's staging buffer. -/
def out0_B_2 (c : Dev nD) (i : grid0.Coords) (arg2 : Memref sig .tc .vmem S4x16384 .f32) (harg2 : arg2.IsWhole) (arg3 : Memref sig .tc .vmem S1x32x4 .f32) (harg3 : arg3.IsWhole) (arg4 : Memref sig .tc .vmem S1x1x16384 .f32) (harg4 : arg4.IsWhole) (arg5 : Memref sig .tc .vmem S1x1x16384 .i32) (harg5 : arg5.IsWhole) (arg6 : Memref sig .tc .vmem S1x32x1 .f32) (harg6 : arg6.IsWhole) (arg7 : Memref sig .tc .vmem S1x32x1 .i32) (harg7 : arg7.IsWhole) (hc0 : ¬cond0_0 i) (hc1 : cond0_1 i)
    (x0 : Vec F S4x16384 .f32) (x1 : Vec F S1x32x4 .f32) (xo4 : Vec F S1x32x1 .f32) (xo5 : Vec F S1x32x1 .i32) : Vec F S1x1x16384 .f32 :=
  VO0_2.read (Elt F) (VO0_2.writes (Elt F) VO0_2.junk (kernelRun0_B c i arg2 harg2 arg3 harg3 arg4 harg4 arg5 harg5 arg6 harg6 arg7 harg7 hc0 hc1 x0 x1 xo4 xo5).1)

/-- Case B's pieces for output 3 tile its block. -/
theorem cover0_B_3 (c : Dev nD) (i : grid0.Coords) (arg2 : Memref sig .tc .vmem S4x16384 .f32) (harg2 : arg2.IsWhole) (arg3 : Memref sig .tc .vmem S1x32x4 .f32) (harg3 : arg3.IsWhole) (arg4 : Memref sig .tc .vmem S1x1x16384 .f32) (harg4 : arg4.IsWhole) (arg5 : Memref sig .tc .vmem S1x1x16384 .i32) (harg5 : arg5.IsWhole) (arg6 : Memref sig .tc .vmem S1x32x1 .f32) (harg6 : arg6.IsWhole) (arg7 : Memref sig .tc .vmem S1x32x1 .i32) (harg7 : arg7.IsWhole) (hc0 : ¬cond0_0 i) (hc1 : cond0_1 i)
    (x0 : Vec F S4x16384 .f32) (x1 : Vec F S1x32x4 .f32) (xo4 : Vec F S1x32x1 .f32) (xo5 : Vec F S1x32x1 .i32) (y : S1x1x16384.Idx) :
    ∃ pc ∈ (kernelRun0_B c i arg2 harg2 arg3 harg3 arg4 harg4 arg5 harg5 arg6 harg6 arg7 harg7 hc0 hc1 x0 x1 xo4 xo5).2.1, y ∈ pc.1.set :=
  View.cover_of_tiledL (kernelRun0_B c i arg2 harg2 arg3 harg3 arg4 harg4 arg5 harg5 arg6 harg6 arg7 harg7 hc0 hc1 x0 x1 xo4 xo5).2.1 S1x1x16384.size (by sl_kernel_rfl) y

/-- What case B leaves in output 3's staging buffer. -/
def out0_B_3 (c : Dev nD) (i : grid0.Coords) (arg2 : Memref sig .tc .vmem S4x16384 .f32) (harg2 : arg2.IsWhole) (arg3 : Memref sig .tc .vmem S1x32x4 .f32) (harg3 : arg3.IsWhole) (arg4 : Memref sig .tc .vmem S1x1x16384 .f32) (harg4 : arg4.IsWhole) (arg5 : Memref sig .tc .vmem S1x1x16384 .i32) (harg5 : arg5.IsWhole) (arg6 : Memref sig .tc .vmem S1x32x1 .f32) (harg6 : arg6.IsWhole) (arg7 : Memref sig .tc .vmem S1x32x1 .i32) (harg7 : arg7.IsWhole) (hc0 : ¬cond0_0 i) (hc1 : cond0_1 i)
    (x0 : Vec F S4x16384 .f32) (x1 : Vec F S1x32x4 .f32) (xo4 : Vec F S1x32x1 .f32) (xo5 : Vec F S1x32x1 .i32) : Vec F S1x1x16384 .i32 :=
  VO0_3.read (Elt F) (VO0_3.writes (Elt F) VO0_3.junk (kernelRun0_B c i arg2 harg2 arg3 harg3 arg4 harg4 arg5 harg5 arg6 harg6 arg7 harg7 hc0 hc1 x0 x1 xo4 xo5).2.1)

/-- Case B's pieces for output 4 tile its block. -/
theorem cover0_B_4 (c : Dev nD) (i : grid0.Coords) (arg2 : Memref sig .tc .vmem S4x16384 .f32) (harg2 : arg2.IsWhole) (arg3 : Memref sig .tc .vmem S1x32x4 .f32) (harg3 : arg3.IsWhole) (arg4 : Memref sig .tc .vmem S1x1x16384 .f32) (harg4 : arg4.IsWhole) (arg5 : Memref sig .tc .vmem S1x1x16384 .i32) (harg5 : arg5.IsWhole) (arg6 : Memref sig .tc .vmem S1x32x1 .f32) (harg6 : arg6.IsWhole) (arg7 : Memref sig .tc .vmem S1x32x1 .i32) (harg7 : arg7.IsWhole) (hc0 : ¬cond0_0 i) (hc1 : cond0_1 i)
    (x0 : Vec F S4x16384 .f32) (x1 : Vec F S1x32x4 .f32) (xo4 : Vec F S1x32x1 .f32) (xo5 : Vec F S1x32x1 .i32) (y : S1x32x1.Idx) :
    ∃ pc ∈ (kernelRun0_B c i arg2 harg2 arg3 harg3 arg4 harg4 arg5 harg5 arg6 harg6 arg7 harg7 hc0 hc1 x0 x1 xo4 xo5).2.2.1, y ∈ pc.1.set :=
  View.cover_of_tiledL (kernelRun0_B c i arg2 harg2 arg3 harg3 arg4 harg4 arg5 harg5 arg6 harg6 arg7 harg7 hc0 hc1 x0 x1 xo4 xo5).2.2.1 S1x32x1.size (by sl_kernel_rfl) y

/-- What case B leaves in output 4's staging buffer. -/
def out0_B_4 (c : Dev nD) (i : grid0.Coords) (arg2 : Memref sig .tc .vmem S4x16384 .f32) (harg2 : arg2.IsWhole) (arg3 : Memref sig .tc .vmem S1x32x4 .f32) (harg3 : arg3.IsWhole) (arg4 : Memref sig .tc .vmem S1x1x16384 .f32) (harg4 : arg4.IsWhole) (arg5 : Memref sig .tc .vmem S1x1x16384 .i32) (harg5 : arg5.IsWhole) (arg6 : Memref sig .tc .vmem S1x32x1 .f32) (harg6 : arg6.IsWhole) (arg7 : Memref sig .tc .vmem S1x32x1 .i32) (harg7 : arg7.IsWhole) (hc0 : ¬cond0_0 i) (hc1 : cond0_1 i)
    (x0 : Vec F S4x16384 .f32) (x1 : Vec F S1x32x4 .f32) (xo4 : Vec F S1x32x1 .f32) (xo5 : Vec F S1x32x1 .i32) : Vec F S1x32x1 .f32 :=
  VO0_4.read (Elt F) (VO0_4.writes (Elt F) VO0_4.junk (kernelRun0_B c i arg2 harg2 arg3 harg3 arg4 harg4 arg5 harg5 arg6 harg6 arg7 harg7 hc0 hc1 x0 x1 xo4 xo5).2.2.1)

/-- Case B's pieces for output 5 tile its block. -/
theorem cover0_B_5 (c : Dev nD) (i : grid0.Coords) (arg2 : Memref sig .tc .vmem S4x16384 .f32) (harg2 : arg2.IsWhole) (arg3 : Memref sig .tc .vmem S1x32x4 .f32) (harg3 : arg3.IsWhole) (arg4 : Memref sig .tc .vmem S1x1x16384 .f32) (harg4 : arg4.IsWhole) (arg5 : Memref sig .tc .vmem S1x1x16384 .i32) (harg5 : arg5.IsWhole) (arg6 : Memref sig .tc .vmem S1x32x1 .f32) (harg6 : arg6.IsWhole) (arg7 : Memref sig .tc .vmem S1x32x1 .i32) (harg7 : arg7.IsWhole) (hc0 : ¬cond0_0 i) (hc1 : cond0_1 i)
    (x0 : Vec F S4x16384 .f32) (x1 : Vec F S1x32x4 .f32) (xo4 : Vec F S1x32x1 .f32) (xo5 : Vec F S1x32x1 .i32) (y : S1x32x1.Idx) :
    ∃ pc ∈ (kernelRun0_B c i arg2 harg2 arg3 harg3 arg4 harg4 arg5 harg5 arg6 harg6 arg7 harg7 hc0 hc1 x0 x1 xo4 xo5).2.2.2.1, y ∈ pc.1.set :=
  View.cover_of_tiledL (kernelRun0_B c i arg2 harg2 arg3 harg3 arg4 harg4 arg5 harg5 arg6 harg6 arg7 harg7 hc0 hc1 x0 x1 xo4 xo5).2.2.2.1 S1x32x1.size (by sl_kernel_rfl) y

/-- What case B leaves in output 5's staging buffer. -/
def out0_B_5 (c : Dev nD) (i : grid0.Coords) (arg2 : Memref sig .tc .vmem S4x16384 .f32) (harg2 : arg2.IsWhole) (arg3 : Memref sig .tc .vmem S1x32x4 .f32) (harg3 : arg3.IsWhole) (arg4 : Memref sig .tc .vmem S1x1x16384 .f32) (harg4 : arg4.IsWhole) (arg5 : Memref sig .tc .vmem S1x1x16384 .i32) (harg5 : arg5.IsWhole) (arg6 : Memref sig .tc .vmem S1x32x1 .f32) (harg6 : arg6.IsWhole) (arg7 : Memref sig .tc .vmem S1x32x1 .i32) (harg7 : arg7.IsWhole) (hc0 : ¬cond0_0 i) (hc1 : cond0_1 i)
    (x0 : Vec F S4x16384 .f32) (x1 : Vec F S1x32x4 .f32) (xo4 : Vec F S1x32x1 .f32) (xo5 : Vec F S1x32x1 .i32) : Vec F S1x32x1 .i32 :=
  VO0_5.read (Elt F) (VO0_5.writes (Elt F) VO0_5.junk (kernelRun0_B c i arg2 harg2 arg3 harg3 arg4 harg4 arg5 harg5 arg6 harg6 arg7 harg7 hc0 hc1 x0 x1 xo4 xo5).2.2.2.1)

/-! ## What the outputs hold after each point -/

/-- The accumulation, point by point. -/
def outsAt0 (c : Dev nD) : (n : ℕ) → n < cfg0.N → Vec F S1x1x16384 .f32 × Vec F S1x1x16384 .i32 × Vec F S1x32x1 .f32 × Vec F S1x32x1 .i32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) ((hcond0_0 ⟨0, hn⟩).mpr (Nat.zero_mod _)) (fun h => (fun h => by (try dsimp only at h); omega) ((hcond0_1 ⟨0, hn⟩).mp h)) (iblk V c 0 ⟨0, hn⟩) (iblk V c 1 ⟨0, hn⟩), out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) ((hcond0_0 ⟨0, hn⟩).mpr (Nat.zero_mod _)) (fun h => (fun h => by (try dsimp only at h); omega) ((hcond0_1 ⟨0, hn⟩).mp h)) (iblk V c 0 ⟨0, hn⟩) (iblk V c 1 ⟨0, hn⟩), out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) ((hcond0_0 ⟨0, hn⟩).mpr (Nat.zero_mod _)) (fun h => (fun h => by (try dsimp only at h); omega) ((hcond0_1 ⟨0, hn⟩).mp h)) (iblk V c 0 ⟨0, hn⟩) (iblk V c 1 ⟨0, hn⟩), out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) ((hcond0_0 ⟨0, hn⟩).mpr (Nat.zero_mod _)) (fun h => (fun h => by (try dsimp only at h); omega) ((hcond0_1 ⟨0, hn⟩).mp h)) (iblk V c 0 ⟨0, hn⟩) (iblk V c 1 ⟨0, hn⟩))
  | n + 1, hn =>
    if h0 : (n + 1) % 4 = 0 then
      if h1 : 1 ≤ (n + 1) % 4 then
        False.elim (by have hN : n + 1 < 32 := lt_of_lt_of_eq hn (show cfg0.N = 32 from N_0); omega)
      else
        (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) ((hcond0_0 ⟨n + 1, hn⟩).mpr h0) (fun h => h1 ((hcond0_1 ⟨n + 1, hn⟩).mp h)) (iblk V c 0 ⟨n + 1, hn⟩) (iblk V c 1 ⟨n + 1, hn⟩), out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) ((hcond0_0 ⟨n + 1, hn⟩).mpr h0) (fun h => h1 ((hcond0_1 ⟨n + 1, hn⟩).mp h)) (iblk V c 0 ⟨n + 1, hn⟩) (iblk V c 1 ⟨n + 1, hn⟩), out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) ((hcond0_0 ⟨n + 1, hn⟩).mpr h0) (fun h => h1 ((hcond0_1 ⟨n + 1, hn⟩).mp h)) (iblk V c 0 ⟨n + 1, hn⟩) (iblk V c 1 ⟨n + 1, hn⟩), out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) ((hcond0_0 ⟨n + 1, hn⟩).mpr h0) (fun h => h1 ((hcond0_1 ⟨n + 1, hn⟩).mp h)) (iblk V c 0 ⟨n + 1, hn⟩) (iblk V c 1 ⟨n + 1, hn⟩))
    else
      if h1 : 1 ≤ (n + 1) % 4 then
        (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (fun h => h0 ((hcond0_0 ⟨n + 1, hn⟩).mp h)) ((hcond0_1 ⟨n + 1, hn⟩).mpr h1) (iblk V c 0 ⟨n + 1, hn⟩) (iblk V c 1 ⟨n + 1, hn⟩) (outsAt0 c n (Nat.lt_of_succ_lt hn)).2.2.1 (outsAt0 c n (Nat.lt_of_succ_lt hn)).2.2.2, out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (fun h => h0 ((hcond0_0 ⟨n + 1, hn⟩).mp h)) ((hcond0_1 ⟨n + 1, hn⟩).mpr h1) (iblk V c 0 ⟨n + 1, hn⟩) (iblk V c 1 ⟨n + 1, hn⟩) (outsAt0 c n (Nat.lt_of_succ_lt hn)).2.2.1 (outsAt0 c n (Nat.lt_of_succ_lt hn)).2.2.2, out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (fun h => h0 ((hcond0_0 ⟨n + 1, hn⟩).mp h)) ((hcond0_1 ⟨n + 1, hn⟩).mpr h1) (iblk V c 0 ⟨n + 1, hn⟩) (iblk V c 1 ⟨n + 1, hn⟩) (outsAt0 c n (Nat.lt_of_succ_lt hn)).2.2.1 (outsAt0 c n (Nat.lt_of_succ_lt hn)).2.2.2, out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (fun h => h0 ((hcond0_0 ⟨n + 1, hn⟩).mp h)) ((hcond0_1 ⟨n + 1, hn⟩).mpr h1) (iblk V c 0 ⟨n + 1, hn⟩) (iblk V c 1 ⟨n + 1, hn⟩) (outsAt0 c n (Nat.lt_of_succ_lt hn)).2.2.1 (outsAt0 c n (Nat.lt_of_succ_lt hn)).2.2.2)
      else
        False.elim (by have hN : n + 1 < 32 := lt_of_lt_of_eq hn (show cfg0.N = 32 from N_0); omega)

/-- `outsAt0` at a point of case A. -/
theorem outsAt0_A (c : Dev nD) (t : Fin cfg0.N) (h0 : t.val % 4 = 0) (h1 : ¬1 ≤ t.val % 4) :
    outsAt0 V c t.val t.isLt = (out0_A_2 c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (fun h => h1 ((hcond0_1 t).mp h)) (iblk V c 0 t) (iblk V c 1 t), out0_A_3 c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (fun h => h1 ((hcond0_1 t).mp h)) (iblk V c 0 t) (iblk V c 1 t), out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (fun h => h1 ((hcond0_1 t).mp h)) (iblk V c 0 t) (iblk V c 1 t), out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (fun h => h1 ((hcond0_1 t).mp h)) (iblk V c 0 t) (iblk V c 1 t)) := by
  obtain ⟨n, hn⟩ := t
  cases n with
  | zero => exact rfl
  | succ n => exact (dif_pos h0).trans ((dif_neg h1).trans rfl)

/-- `outsAt0` at a point of case B. -/
theorem outsAt0_B (c : Dev nD) (t : Fin cfg0.N) (h0 : ¬t.val % 4 = 0) (h1 : 1 ≤ t.val % 4) :
    outsAt0 V c t.val t.isLt = (out0_B_2 c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) ((hcond0_1 t).mpr h1) (iblk V c 0 t) (iblk V c 1 t) (outsAt0 V c (t.val - 1) (Nat.lt_of_le_of_lt (Nat.sub_le _ _) t.isLt)).2.2.1 (outsAt0 V c (t.val - 1) (Nat.lt_of_le_of_lt (Nat.sub_le _ _) t.isLt)).2.2.2, out0_B_3 c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) ((hcond0_1 t).mpr h1) (iblk V c 0 t) (iblk V c 1 t) (outsAt0 V c (t.val - 1) (Nat.lt_of_le_of_lt (Nat.sub_le _ _) t.isLt)).2.2.1 (outsAt0 V c (t.val - 1) (Nat.lt_of_le_of_lt (Nat.sub_le _ _) t.isLt)).2.2.2, out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) ((hcond0_1 t).mpr h1) (iblk V c 0 t) (iblk V c 1 t) (outsAt0 V c (t.val - 1) (Nat.lt_of_le_of_lt (Nat.sub_le _ _) t.isLt)).2.2.1 (outsAt0 V c (t.val - 1) (Nat.lt_of_le_of_lt (Nat.sub_le _ _) t.isLt)).2.2.2, out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) ((hcond0_1 t).mpr h1) (iblk V c 0 t) (iblk V c 1 t) (outsAt0 V c (t.val - 1) (Nat.lt_of_le_of_lt (Nat.sub_le _ _) t.isLt)).2.2.1 (outsAt0 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-! ## The pipeline's proof data -/

/-- The proof data of the one pipeline on core `c`. -/
def dats (_ : Fin 1) (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => (outsAt0 V c t.val t.isLt).1
    | ⟨3, _⟩ => (outsAt0 V c t.val t.isLt).2.1
    | ⟨4, _⟩ => (outsAt0 V c t.val t.isLt).2.2.1
    | ⟨5, _⟩ => (outsAt0 V c t.val t.isLt).2.2.2
  Φ _ := Pipeline.scopedRest (Ix := Unit) (Name := ℕ) (U := UR sig nD τ) (Lvl := ℕ) (Val := Elt F) spec0 c
  q _ := fullShare
  owed _ := 0

/-- The proof data's arrays are the region-entry contents. -/
theorem A_eq (c : Dev nD) (w : Fin cfg0.W) : (dats V 0 c).A w = V c (Pipeline.arrRef spec0 w) := by
  dsimp only [dats]

/-- What the body leaves, window by window (the proof data's `match` reduced by `dsimp`). -/
theorem after0_0 (c : Dev nD) (t : Fin cfg0.N) : (dats V 0 c).after 0 t = iblk V c 0 t := by dsimp only [dats]
theorem after0_1 (c : Dev nD) (t : Fin cfg0.N) : (dats V 0 c).after 1 t = iblk V c 1 t := by dsimp only [dats]
theorem after0_2 (c : Dev nD) (t : Fin cfg0.N) : (dats V 0 c).after 2 t = (outsAt0 V c t.val t.isLt).1 := by dsimp only [dats]
theorem after0_3 (c : Dev nD) (t : Fin cfg0.N) : (dats V 0 c).after 3 t = (outsAt0 V c t.val t.isLt).2.1 := by dsimp only [dats]
theorem after0_4 (c : Dev nD) (t : Fin cfg0.N) : (dats V 0 c).after 4 t = (outsAt0 V c t.val t.isLt).2.2.1 := by dsimp only [dats]
theorem after0_5 (c : Dev nD) (t : Fin cfg0.N) : (dats V 0 c).after 5 t = (outsAt0 V c t.val t.isLt).2.2.2 := by dsimp only [dats]

/-- Each input's current staging buffer holds its block at every point, fetched there or not (`beforeK_W_of`). -/
theorem before0_0 (c : Dev nD) (t : Fin cfg0.N) (d) : (dats V 0 c).before 0 t d = iblk V c 0 t :=
  before0_0_of V (dats V 0 c) (A_eq V c 0) (after0_0 V c) t d
theorem before0_1 (c : Dev nD) (t : Fin cfg0.N) (d) : (dats V 0 c).before 1 t d = iblk V c 1 t :=
  before0_1_of V (dats V 0 c) (A_eq V c 1) (after0_1 V c) t d

/-- Output 4's contents CARRY through the points that leave it idle. -/
theorem hcarry0_4 (c : Dev nD) : ∀ (t : Fin cfg0.N) (_ : t.val ≠ 0), cfg0.idle 4 (grid0.coords t) = true → cfg0.fresh 4 t.val = false →
    (dats V 0 c).after 4 t = (dats V 0 c).after 4 ⟨t.val - 1, by omega⟩ := by
  intro t _ hi _
  have hN : t.val < 32 := lt_of_lt_of_eq t.isLt (show cfg0.N = 32 from N_0)
  rw [after0_4, after0_4]
  by_cases h0 : t.val % 4 = 0
  · by_cases h1 : 1 ≤ t.val % 4
    · exfalso; omega
    · rw [liveAt0_4_A t ((hcond0_0 t).mpr h0) (fun h => h1 ((hcond0_1 t).mp h))] at hi
      exact absurd hi Bool.false_ne_true
  · by_cases h1 : 1 ≤ t.val % 4
    · rw [liveAt0_4_B t (fun h => h0 ((hcond0_0 t).mp h)) ((hcond0_1 t).mpr h1)] at hi
      exact absurd hi Bool.false_ne_true
    · exfalso; omega

/-- Output 5's contents CARRY through the points that leave it idle. -/
theorem hcarry0_5 (c : Dev nD) : ∀ (t : Fin cfg0.N) (_ : t.val ≠ 0), cfg0.idle 5 (grid0.coords t) = true → cfg0.fresh 5 t.val = false →
    (dats V 0 c).after 5 t = (dats V 0 c).after 5 ⟨t.val - 1, by omega⟩ := by
  intro t _ hi _
  have hN : t.val < 32 := lt_of_lt_of_eq t.isLt (show cfg0.N = 32 from N_0)
  rw [after0_5, after0_5]
  by_cases h0 : t.val % 4 = 0
  · by_cases h1 : 1 ≤ t.val % 4
    · exfalso; omega
    · rw [liveAt0_5_A t ((hcond0_0 t).mpr h0) (fun h => h1 ((hcond0_1 t).mp h))] at hi
      exact absurd hi Bool.false_ne_true
  · by_cases h1 : 1 ≤ t.val % 4
    · rw [liveAt0_5_B t (fun h => h0 ((hcond0_0 t).mp h)) ((hcond0_1 t).mpr h1)] at hi
      exact absurd hi Bool.false_ne_true
    · exfalso; omega
/-- At a point of case B output 4's current staging buffer holds what the point before left. -/
theorem before0_4_B (c : Dev nD) (t : Fin cfg0.N) (h0 : ¬t.val % 4 = 0) (h1 : 1 ≤ t.val % 4) (d) :
    (dats V 0 c).before 4 t d = (outsAt0 V c (t.val - 1) (Nat.lt_of_le_of_lt (Nat.sub_le _ _) t.isLt)).2.2.1 := by
  rw [Dat.before_out_traj _ 4 rfl (fun _ _ => rfl) (hcarry0_4 V c) t.val t rfl d,
    if_neg (by rw [notFresh0_4_B t (fun h => h0 ((hcond0_0 t).mp h)) ((hcond0_1 t).mpr h1)]; exact Bool.false_ne_true)]
  dsimp only [dats]
/-- At a point of case B output 5's current staging buffer holds what the point before left. -/
theorem before0_5_B (c : Dev nD) (t : Fin cfg0.N) (h0 : ¬t.val % 4 = 0) (h1 : 1 ≤ t.val % 4) (d) :
    (dats V 0 c).before 5 t d = (outsAt0 V c (t.val - 1) (Nat.lt_of_le_of_lt (Nat.sub_le _ _) t.isLt)).2.2.2 := by
  rw [Dat.before_out_traj _ 5 rfl (fun _ _ => rfl) (hcarry0_5 V c) t.val t rfl d,
    if_neg (by rw [notFresh0_5_B t (fun h => h0 ((hcond0_0 t).mp h)) ((hcond0_1 t).mpr h1)]; exact Bool.false_ne_true)]
  dsimp only [dats]

/-! ## The body obligation, at a generic point -/

/-- What the body is called with at point `t` (Lib/Pipeline.lean `BodyObligation`'s precondition, the windows one by one),. -/
def bodyPre (c : Dev nD) (t : Fin cfg0.N) : sProp 𝕄 :=
  iprop((dats V 0 c).Φ t.castSucc ∗ (dats V 0 c).owesAt () t.castSucc
    ∗ (∃ d, owns (c : Thread nD τ) (ms0_0 t) fullShare ((dats V 0 c).before 0 t d))
    ∗ (∃ d, owns (c : Thread nD τ) (ms0_1 t) fullShare ((dats V 0 c).before 1 t d))
    ∗ (∃ d, owns (c : Thread nD τ) (ms0_2 t) fullShare ((dats V 0 c).before 2 t d))
    ∗ (∃ d, owns (c : Thread nD τ) (ms0_3 t) fullShare ((dats V 0 c).before 3 t d))
    ∗ (∃ d, owns (c : Thread nD τ) (ms0_4 t) fullShare ((dats V 0 c).before 4 t d))
    ∗ (∃ d, owns (c : Thread nD τ) (ms0_5 t) fullShare ((dats V 0 c).before 5 t d)))

/-- and what it returns. -/
def bodyPost (c : Dev nD) (t : Fin cfg0.N) : sProp 𝕄 :=
  iprop((dats V 0 c).Φ t.succ ∗ (dats V 0 c).owesAt () t.succ
    ∗ (dats V 0 c).leavesExact 0 t
    ∗ (dats V 0 c).leavesExact 1 t
    ∗ (dats V 0 c).leavesExact 2 t
    ∗ (dats V 0 c).leavesExact 3 t
    ∗ (dats V 0 c).leavesExact 4 t
    ∗ (dats V 0 c).leavesExact 5 t)

set_option maxHeartbeats 800000 in
/-- The body at any point. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0_0, before0_1]
  rw [show (dats V 0 c).Φ t.succ = (dats V 0 c).Φ t.castSucc from rfl,
    show (dats V 0 c).owesAt () t.succ = (dats V 0 c).owesAt () t.castSucc from rfl]
  have hN : t.val < 32 := lt_of_lt_of_eq t.isLt (show cfg0.N = 32 from N_0)
  by_cases h0 : t.val % 4 = 0
  · by_cases h1 : 1 ≤ t.val % 4
    · exfalso; omega
    · rw [show (dats V 0 c).leavesExact 0 t = owns (c : Thread nD τ) (ms0_0 t) fullShare ((dats V 0 c).after 0 t) from by
      unfold Dat.leavesExact; rw [liveAt0_0 t], after0_0]
      rw [show (dats V 0 c).leavesExact 1 t = owns (c : Thread nD τ) (ms0_1 t) fullShare ((dats V 0 c).after 1 t) from by
      unfold Dat.leavesExact; rw [liveAt0_1 t], after0_1]
      rw [show (dats V 0 c).leavesExact 2 t = owns (c : Thread nD τ) (ms0_2 t) fullShare ((dats V 0 c).after 2 t) from by
      unfold Dat.leavesExact; rw [liveAt0_2 t], after0_2]
      rw [show (dats V 0 c).leavesExact 3 t = owns (c : Thread nD τ) (ms0_3 t) fullShare ((dats V 0 c).after 3 t) from by
      unfold Dat.leavesExact; rw [liveAt0_3 t], after0_3]
      rw [show (dats V 0 c).leavesExact 4 t = owns (c : Thread nD τ) (ms0_4 t) fullShare ((dats V 0 c).after 4 t) from by
      unfold Dat.leavesExact; rw [liveAt0_4_A t ((hcond0_0 t).mpr h0) (fun h => h1 ((hcond0_1 t).mp h))], after0_4]
      rw [show (dats V 0 c).leavesExact 5 t = owns (c : Thread nD τ) (ms0_5 t) fullShare ((dats V 0 c).after 5 t) from by
      unfold Dat.leavesExact; rw [liveAt0_5_A t ((hcond0_0 t).mpr h0) (fun h => h1 ((hcond0_1 t).mp h))], after0_5]
      rw [outsAt0_A V c t h0 h1]
      unfold out0_A_2 out0_A_3 out0_A_4 out0_A_5; (try dsimp only)
      iintro ⟨HΦ, Ho, ⟨%d0, H0⟩, ⟨%d1, H1⟩, ⟨%d2, H2⟩, ⟨%d3, H3⟩, ⟨%d4, H4⟩, ⟨%d5, H5⟩⟩
      iapply ((kernelRun0_A c (grid0.coords t) _ _ _ _ _ _ _ _ _ _ _ _ ((hcond0_0 t).mpr h0) (fun h => h1 ((hcond0_1 t).mp h)) (iblk V c 0 t) (iblk V c 1 t)).2.2.2.2 Set.univ _)
      isplitl [H0]; · iexact H0
      isplitl [H1]; · iexact H1
      isplitl [H2]; · iexists _; iexact H2
      isplitl [H3]; · iexists _; iexact H3
      isplitl [H4]; · iexists _; iexact H4
      isplitl [H5]; · iexists _; iexact H5
      iintro ⟨H0, H1, ⟨%e2, H2⟩, ⟨%e3, H3⟩, ⟨%e4, H4⟩, ⟨%e5, H5⟩⟩
      isplitl [HΦ]; · iexact HΦ
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover0_A_2 c _ _ _ _ _ _ _ _ _ _ _ _ _ _ _ _ _)
      isplitl [H3]
      · unfold owns; iexists _; isplitr
        swap; · iexact H3
        ipureintro; exact View.read_writes_of_cover _ _ _ _ _ (cover0_A_3 c _ _ _ _ _ _ _ _ _ _ _ _ _ _ _ _ _)
      isplitl [H4]
      · unfold owns; iexists _; isplitr
        swap; · iexact H4
        ipureintro; exact View.read_writes_of_cover _ _ _ _ _ (cover0_A_4 c _ _ _ _ _ _ _ _ _ _ _ _ _ _ _ _ _)
      unfold owns; iexists _; isplitr
      swap; · iexact H5
      ipureintro; exact View.read_writes_of_cover _ _ _ _ _ (cover0_A_5 c _ _ _ _ _ _ _ _ _ _ _ _ _ _ _ _ _)
  · by_cases h1 : 1 ≤ t.val % 4
    · rw [show (dats V 0 c).leavesExact 0 t = owns (c : Thread nD τ) (ms0_0 t) fullShare ((dats V 0 c).after 0 t) from by
      unfold Dat.leavesExact; rw [liveAt0_0 t], after0_0]
      rw [show (dats V 0 c).leavesExact 1 t = owns (c : Thread nD τ) (ms0_1 t) fullShare ((dats V 0 c).after 1 t) from by
      unfold Dat.leavesExact; rw [liveAt0_1 t], after0_1]
      rw [show (dats V 0 c).leavesExact 2 t = owns (c : Thread nD τ) (ms0_2 t) fullShare ((dats V 0 c).after 2 t) from by
      unfold Dat.leavesExact; rw [liveAt0_2 t], after0_2]
      rw [show (dats V 0 c).leavesExact 3 t = owns (c : Thread nD τ) (ms0_3 t) fullShare ((dats V 0 c).after 3 t) from by
      unfold Dat.leavesExact; rw [liveAt0_3 t], after0_3]
      rw [show (dats V 0 c).leavesExact 4 t = owns (c : Thread nD τ) (ms0_4 t) fullShare ((dats V 0 c).after 4 t) from by
      unfold Dat.leavesExact; rw [liveAt0_4_B t (fun h => h0 ((hcond0_0 t).mp h)) ((hcond0_1 t).mpr h1)], after0_4]
      rw [show (dats V 0 c).leavesExact 5 t = owns (c : Thread nD τ) (ms0_5 t) fullShare ((dats V 0 c).after 5 t) from by
      unfold Dat.leavesExact; rw [liveAt0_5_B t (fun h => h0 ((hcond0_0 t).mp h)) ((hcond0_1 t).mpr h1)], after0_5]
      rw [outsAt0_B V c t h0 h1]
      simp only [before0_4_B V c t h0 h1, before0_5_B V c t h0 h1]
      unfold out0_B_2 out0_B_3 out0_B_4 out0_B_5; (try dsimp only)
      iintro ⟨HΦ, Ho, ⟨%d0, H0⟩, ⟨%d1, H1⟩, ⟨%d2, H2⟩, ⟨%d3, H3⟩, ⟨%d4, H4⟩, ⟨%d5, H5⟩⟩
      iapply ((kernelRun0_B c (grid0.coords t) _ _ _ _ _ _ _ _ _ _ _ _ (fun h => h0 ((hcond0_0 t).mp h)) ((hcond0_1 t).mpr h1) (iblk V c 0 t) (iblk V c 1 t) _ _).2.2.2.2 Set.univ _)
      isplitl [H0]; · iexact H0
      isplitl [H1]; · iexact H1
      isplitl [H2]; · iexists _; iexact H2
      isplitl [H3]; · iexists _; iexact H3
      isplitl [H4]; · iexact H4
      isplitl [H5]; · iexact H5
      iintro ⟨H0, H1, ⟨%e2, H2⟩, ⟨%e3, H3⟩, ⟨%e4, H4⟩, ⟨%e5, H5⟩⟩
      isplitl [HΦ]; · iexact HΦ
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover0_B_2 c _ _ _ _ _ _ _ _ _ _ _ _ _ _ _ _ _ _ _)
      isplitl [H3]
      · unfold owns; iexists _; isplitr
        swap; · iexact H3
        ipureintro; exact View.read_writes_of_cover _ _ _ _ _ (cover0_B_3 c _ _ _ _ _ _ _ _ _ _ _ _ _ _ _ _ _ _ _)
      isplitl [H4]
      · unfold owns; iexists _; isplitr
        swap; · iexact H4
        ipureintro; exact View.read_writes_of_cover _ _ _ _ _ (cover0_B_4 c _ _ _ _ _ _ _ _ _ _ _ _ _ _ _ _ _ _ _)
      unfold owns; iexists _; isplitr
      swap; · iexact H5
      ipureintro; exact View.read_writes_of_cover _ _ _ _ _ (cover0_B_5 c _ _ _ _ _ _ _ _ _ _ _ _ _ _ _ _ _ _ _)
    · exfalso; omega

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) V 0 c) (defs₀ (F := F)) Variants.none () Set.univ := fun t => by
  rw [bigSep_W0, bigSep_W0, defs₀_row]
  exact triple_restated (sound_body V c t) rfl .rfl fun _ => .rfl

/-- The launch hands the region its invariant, -/
theorem hin (c : Dev nD) : Pipeline.scopedRest (Ix := Unit) (Name := ℕ) (U := UR sig nD τ) (Lvl := ℕ) (Val := Elt F) spec0 c ⊢ (dats V 0 c).Φ 0 := Idealize.SL.BI.Entails.refl _

/-- which comes back after the last point. -/
theorem hout (c : Dev nD) : (dats V 0 c).Φ (Fin.last cfg0.N) ⊢ Pipeline.scopedRest (Ix := Unit) (Name := ℕ) (U := UR sig nD τ) (Lvl := ℕ) (Val := Elt F) spec0 c := Idealize.SL.BI.Entails.refl _

end Cert.KernelIdeal.Region0

end
-- ==== Proof.Region1.Runs.lean ====
/- Region 1 of @main, the assignment call: its windows' blocks, the conditions of its branches over the grid,
   and its staging buffers. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.TableIdle
public import Idealize.ShloMosaic.Lib.Pipeline.Frame
public import Idealize.ShloMosaic.Lib.Ring
public import Idealize.ShloMosaic.Lib.Tactic
public import Idealize.ShloMosaic.Lib.WordCmp

@[expose] public section

-- rectangles of the blocks' extents: the elaborator's look recurses once per coordinate of the long axes
set_option maxRecDepth 16384

noncomputable section

namespace Cert.KernelIdeal.Region1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers as the region finds them
variable (V : (c : Dev nD) → (b : Ref sig .tc) → Buf (Elt F) ((c : Thread nD τ).loc b))
/-! ## The windows' blocks -/

/-- Window `w`'s block at point `t`, read off its array as the region finds it (`V`). -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof data whose array is `V`'s (`hA`) and whose body leaves the block in place (`hafter`). -/
theorem before0_0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof data whose array is `V`'s (`hA`) and whose body leaves the block in place (`hafter`). -/
theorem before0_1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof data whose array is `V`'s (`hA`) and whose body leaves the block in place (`hafter`). -/
theorem before0_2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof data whose array is `V`'s (`hA`) and whose body leaves the block in place (`hafter`). -/
theorem before0_3_of {c : Dev nD} (dat : Dat τ (Elt F) Unit ℕ (UR sig nD τ) ℕ cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof data whose array is `V`'s (`hA`) and whose body leaves the block in place (`hafter`). -/
theorem before0_4_of {c : Dev nD} (dat : Dat τ (Elt F) Unit ℕ (UR sig nD τ) ℕ cfg1 c) (hA : dat.A 4 = V c (Pipeline.arrRef spec1 4))
    (hafter : ∀ t, dat.after 4 t = iblk V c 4 t) (t : Fin cfg1.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof data whose array is `V`'s (`hA`) and whose body leaves the block in place (`hafter`). -/
theorem before0_5_of {c : Dev nD} (dat : Dat τ (Elt F) Unit ℕ (UR sig nD τ) ℕ cfg1 c) (hA : dat.A 5 = V c (Pipeline.arrRef spec1 5))
    (hafter : ∀ t, dat.after 5 t = iblk V c 5 t) (t : Fin cfg1.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof data whose array is `V`'s (`hA`) and whose body leaves the block in place (`hafter`). -/
theorem before0_6_of {c : Dev nD} (dat : Dat τ (Elt F) Unit ℕ (UR sig nD τ) ℕ cfg1 c) (hA : dat.A 6 = V c (Pipeline.arrRef spec1 6))
    (hafter : ∀ t, dat.after 6 t = iblk V c 6 t) (t : Fin cfg1.N) (d) : dat.before 6 t d = iblk V c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- The condition of the body's `scf.if` 0 (`k1_h1`), from the grid coordinates (the skeleton's scalar chain substituted). -/
abbrev cond0_0 (i : grid1.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
/-- It holds at the first point only — by arithmetic of the point. -/
theorem hcond0_0 : ∀ t : Fin cfg1.N, cond0_0 (grid1.coords t) ↔ t.val % 32 = 0 :=
  (fun t => by
    have ht : t.val < 32 := Nat.lt_of_lt_of_eq t.isLt N_1
    have e0 : (grid1.coords t 0).val = t.val / 4 % 8 := Pipeline.Grid.coords_val t 0 (by decide) rfl
    have e1 : (grid1.coords t 1).val = t.val / 1 % 4 := Pipeline.Grid.coords_val t 1 (by decide) rfl
    simp only [cond0_0, e0, e1]
    word_cmp
   : ∀ t : Fin grid1.N, cond0_0 (grid1.coords t) ↔ t.val % 32 = 0)

/-- The condition of the body's `scf.if` 1 (`k1_h2`), from the grid coordinates (the skeleton's scalar chain substituted). -/
abbrev cond0_1 (i : grid1.Coords) : Prop := (Scalar.cmpi .ne (Scalar.extui (Scalar.xori (Scalar.andi (Scalar.cmpi .eq (BitVec.ofNat 32 (i 0).val) 0#32) (Scalar.cmpi .eq (BitVec.ofNat 32 (i 1).val) 0#32)) 1#1)) 0#32) = 1#1
/-- It holds at the points from point 1 on — decided over the grid. -/
theorem hcond0_1 : ∀ t : Fin cfg1.N, cond0_1 (grid1.coords t) ↔ 1 ≤ t.val :=
  (by decide +kernel : ∀ t : Fin grid1.N, cond0_1 (grid1.coords t) ↔ 1 ≤ t.val)

/-- The condition of the body's `scf.if` 2 (`k1_h3`), from the grid coordinates (the skeleton's scalar chain substituted). -/
abbrev cond0_2 (i : grid1.Coords) : Prop := k1_cond3 i = 1#1
/-- It holds at the last point only — by arithmetic of the point. -/
theorem hcond0_2 : ∀ t : Fin cfg1.N, cond0_2 (grid1.coords t) ↔ t.val % 32 = 31 :=
  (fun t => by
    have ht : t.val < 32 := Nat.lt_of_lt_of_eq t.isLt N_1
    have e0 : (grid1.coords t 0).val = t.val / 4 % 8 := Pipeline.Grid.coords_val t 0 (by decide) rfl
    have e1 : (grid1.coords t 1).val = t.val / 1 % 4 := Pipeline.Grid.coords_val t 1 (by decide) rfl
    simp only [cond0_2, k1_cond3, e0, e1]
    word_cmp
   : ∀ t : Fin grid1.N, cond0_2 (grid1.coords t) ↔ t.val % 32 = 31)

/-! ## Where the windows are idle (the printed configuration's table `Cfg.idle`) -/

/-- Window 0 is never idle (an input). -/
theorem liveAt0_0 : ∀ t : Fin cfg1.N, cfg1.idle 0 (grid1.coords t) = false := fun _ => rfl
/-- Window 1 is never idle (an input). -/
theorem liveAt0_1 : ∀ t : Fin cfg1.N, cfg1.idle 1 (grid1.coords t) = false := fun _ => rfl
/-- Window 2 is never idle (an input). -/
theorem liveAt0_2 : ∀ t : Fin cfg1.N, cfg1.idle 2 (grid1.coords t) = false := fun _ => rfl
/-- Window 3 is never idle (an input). -/
theorem liveAt0_3 : ∀ t : Fin cfg1.N, cfg1.idle 3 (grid1.coords t) = false := fun _ => rfl
/-- Window 4 is never idle (an input). -/
theorem liveAt0_4 : ∀ t : Fin cfg1.N, cfg1.idle 4 (grid1.coords t) = false := fun _ => rfl
/-- Window 5 is never idle (an input). -/
theorem liveAt0_5 : ∀ t : Fin cfg1.N, cfg1.idle 5 (grid1.coords t) = false := fun _ => rfl
/-- Window 6 is never idle (an input). -/
theorem liveAt0_6 : ∀ t : Fin cfg1.N, cfg1.idle 6 (grid1.coords t) = false := fun _ => rfl
/-- Window 7 is never idle (an output stored at every point, under no condition). -/
theorem liveAt0_7 : ∀ t : Fin cfg1.N, cfg1.idle 7 (grid1.coords t) = false := fun _ => rfl
/-- Window 8 is never idle (an output stored at every point, under no condition). -/
theorem liveAt0_8 : ∀ t : Fin cfg1.N, cfg1.idle 8 (grid1.coords t) = false := fun _ => rfl
/-- At the points of case A the printed configuration (`Cfg.idle`) calls output 9 idle. -/
theorem idleAt0_9_A : ∀ t : Fin cfg1.N, cond0_0 (grid1.coords t) → ¬cond0_1 (grid1.coords t) → ¬cond0_2 (grid1.coords t) → cfg1.idle 9 (grid1.coords t) = true := by decide +kernel
/-- At the points of case A the pipeline does not write output 9's block back. -/
theorem noFlush0_9_A : ∀ t : Fin cfg1.N, cond0_0 (grid1.coords t) → ¬cond0_1 (grid1.coords t) → ¬cond0_2 (grid1.coords t) → (cfg1.win 9).flush t = false := by decide +kernel
/-- At the points of case B the printed configuration (`Cfg.idle`) calls output 9 idle. -/
theorem idleAt0_9_B : ∀ t : Fin cfg1.N, ¬cond0_0 (grid1.coords t) → cond0_1 (grid1.coords t) → ¬cond0_2 (grid1.coords t) → cfg1.idle 9 (grid1.coords t) = true := by decide +kernel
/-- At the points of case B the pipeline does not write output 9's block back. -/
theorem noFlush0_9_B : ∀ t : Fin cfg1.N, ¬cond0_0 (grid1.coords t) → cond0_1 (grid1.coords t) → ¬cond0_2 (grid1.coords t) → (cfg1.win 9).flush t = false := by decide +kernel
/-- At the points of case C the printed configuration (`Cfg.idle`) calls output 9 live. -/
theorem liveAt0_9_C : ∀ t : Fin cfg1.N, ¬cond0_0 (grid1.coords t) → cond0_1 (grid1.coords t) → cond0_2 (grid1.coords t) → cfg1.idle 9 (grid1.coords t) = false := by decide +kernel

/-! ## The kernel body on any staging memrefs: a subtype the run finds -/

/-- One staging buffer of output window 7, through which its contents are stated. -/
abbrev VO0_7 : View sig .tc .vmem S1x1x16384 .i32 := (Memref.whole cc1_stg7_0 : Memref sig .tc .vmem S1x1x16384 .i32).view
/-- One staging buffer of output window 8, through which its contents are stated. -/
abbrev VO0_8 : View sig .tc .vmem S1x1x16384 .f32 := (Memref.whole cc1_stg8_0 : Memref sig .tc .vmem S1x1x16384 .f32).view
/-- One staging buffer of output window 9, through which its contents are stated. -/
abbrev VO0_9 : View sig .tc .vmem S1x128 .f32 := (Memref.whole cc1_stg9_0 : Memref sig .tc .vmem S1x128 .f32).view
/-- Each window's current staging memref at point `t`, spelled as the pipeline passes it (`bodyAt1`), and its wholeness. -/
abbrev ms0_0 (t : Fin cfg1.N) : Memref sig .tc .vmem S1x1x16384 .f32 := win1_0.stage (cfg1.slots t 0)
abbrev hs0_0 (t : Fin cfg1.N) : (ms0_0 t).IsWhole := hstage1_0 ((cfg1.slots t 0).cast nbuf1_0)
abbrev ms0_1 (t : Fin cfg1.N) : Memref sig .tc .vmem S1x1x16384 .i32 := win1_1.stage (cfg1.slots t 1)
abbrev hs0_1 (t : Fin cfg1.N) : (ms0_1 t).IsWhole := hstage1_1 ((cfg1.slots t 1).cast nbuf1_1)
abbrev ms0_2 (t : Fin cfg1.N) : Memref sig .tc .vmem S1x32x1 .i32 := win1_2.stage (cfg1.slots t 2)
abbrev hs0_2 (t : Fin cfg1.N) : (ms0_2 t).IsWhole := hstage1_2 ((cfg1.slots t 2).cast nbuf1_2)
abbrev ms0_3 (t : Fin cfg1.N) : Memref sig .tc .vmem S1x32x1 .i32 := win1_3.stage (cfg1.slots t 3)
abbrev hs0_3 (t : Fin cfg1.N) : (ms0_3 t).IsWhole := hstage1_3 ((cfg1.slots t 3).cast nbuf1_3)
abbrev ms0_4 (t : Fin cfg1.N) : Memref sig .tc .vmem S1x32x4 .f32 := win1_4.stage (cfg1.slots t 4)
abbrev hs0_4 (t : Fin cfg1.N) : (ms0_4 t).IsWhole := hstage1_4 ((cfg1.slots t 4).cast nbuf1_4)
abbrev ms0_5 (t : Fin cfg1.N) : Memref sig .tc .vmem S1x4x16384 .f32 := win1_5.stage (cfg1.slots t 5)
abbrev hs0_5 (t : Fin cfg1.N) : (ms0_5 t).IsWhole := hstage1_5 ((cfg1.slots t 5).cast nbuf1_5)
abbrev ms0_6 (t : Fin cfg1.N) : Memref sig .tc .vmem S1x1x16384 .f32 := win1_6.stage (cfg1.slots t 6)
abbrev hs0_6 (t : Fin cfg1.N) : (ms0_6 t).IsWhole := hstage1_6 ((cfg1.slots t 6).cast nbuf1_6)
abbrev ms0_7 (t : Fin cfg1.N) : Memref sig .tc .vmem S1x1x16384 .i32 := win1_7.stage (cfg1.slots t 7)
abbrev hs0_7 (t : Fin cfg1.N) : (ms0_7 t).IsWhole := hstage1_7 ((cfg1.slots t 7).cast nbuf1_7)
abbrev ms0_8 (t : Fin cfg1.N) : Memref sig .tc .vmem S1x1x16384 .f32 := win1_8.stage (cfg1.slots t 8)
abbrev hs0_8 (t : Fin cfg1.N) : (ms0_8 t).IsWhole := hstage1_8 ((cfg1.slots t 8).cast nbuf1_8)
abbrev ms0_9 (t : Fin cfg1.N) : Memref sig .tc .vmem S1x128 .f32 := win1_9.stage (cfg1.slots t 9)
abbrev hs0_9 (t : Fin cfg1.N) : (ms0_9 t).IsWhole := hstage1_9 ((cfg1.slots t 9).cast nbuf1_9)
/-- The scratch operands. -/
abbrev scM0_0 : Memref sig .tc .smem S2 .f32 := Memref.whole cc1_scratch0
/-- The scratch `arg12` the kernel carries between points, as a view. -/
abbrev VS0_0 : View sig .tc .smem S2 .f32 := scM0_0.view

/-- The frame kit's invariant with the scratch operands as memrefs owned at some contents (`Gen.scopedRest0_eq`, Lib/Memref.lean `owns_whole`). -/
theorem PhiA0_eq (c : Dev nD) :
    (Pipeline.scopedRest (Ix := Unit) (Name := ℕ) (U := UR sig nD τ) (Lvl := ℕ) (Val := Elt F) spec1 c : sProp 𝕄)
      = iprop(iprop((∃ d, owns (c : Thread nD τ) scM0_0 fullShare d)) ∗ Pipeline.scopedRestBut (Ix := Unit) (Name := ℕ) (U := UR sig nD τ) (Lvl := ℕ) (Val := Elt F) spec1 c [cc1_scratch0]) := by
  rw [Pipeline.scopedRest_split_of_list spec1 c [cc1_scratch0] (by decide) (by decide)]; simp only [scM0_0, owns_whole]; try rfl

end Cert.KernelIdeal.Region1

end
-- ==== Proof.Region1.RunA.lean ====
/- Region 1 of @main, the assignment call: the body run in case A of its branches. -/
module

public import proofs.«01_k».proof.Proof.Region1.Runs

@[expose] public section

-- rectangles of the blocks' extents: the elaborator's look recurses once per coordinate of the long axes
set_option maxRecDepth 16384

noncomputable section

namespace Cert.KernelIdeal.Region1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers as the region finds them
variable (V : (c : Dev nD) → (b : Ref sig .tc) → Buf (Elt F) ((c : Thread nD τ).loc b))

-- (the run's proof term is large: the definition's epilogue — `abstractNestedProofs` — walks it past the default budget)
set_option maxHeartbeats 1000000 in
/-- What the body's stores leave in each output's staging memref, as pieces (last first) IN CASE A. -/
noncomputable def kernelRun0_A (c : Dev nD) (i : grid1.Coords) (arg2 : Memref sig .tc .vmem S1x1x16384 .f32) (harg2 : arg2.IsWhole) (arg3 : Memref sig .tc .vmem S1x1x16384 .i32) (harg3 : arg3.IsWhole) (arg4 : Memref sig .tc .vmem S1x32x1 .i32) (harg4 : arg4.IsWhole) (arg5 : Memref sig .tc .vmem S1x32x1 .i32) (harg5 : arg5.IsWhole) (arg6 : Memref sig .tc .vmem S1x32x4 .f32) (harg6 : arg6.IsWhole) (arg7 : Memref sig .tc .vmem S1x4x16384 .f32) (harg7 : arg7.IsWhole) (arg8 : Memref sig .tc .vmem S1x1x16384 .f32) (harg8 : arg8.IsWhole) (arg9 : Memref sig .tc .vmem S1x1x16384 .i32) (harg9 : arg9.IsWhole) (arg10 : Memref sig .tc .vmem S1x1x16384 .f32) (harg10 : arg10.IsWhole) (arg11 : Memref sig .tc .vmem S1x128 .f32) (harg11 : arg11.IsWhole) (arg12 : Memref sig .tc .smem S2 .f32) (harg12 : arg12.IsWhole) (hc0 : cond0_0 i) (hc1 : ¬cond0_1 i) (hc2 : ¬cond0_2 i)
    (x0 : Vec F S1x1x16384 .f32) (x1 : Vec F S1x1x16384 .i32) (x2 : Vec F S1x32x1 .i32) (x3 : Vec F S1x32x1 .i32) (x4 : Vec F S1x32x4 .f32) (x5 : Vec F S1x4x16384 .f32) (x6 : Vec F S1x1x16384 .f32) :
    Σ' (L7 : List (View.Piece (Elt F) S1x1x16384 .i32)), Σ' (L8 : List (View.Piece (Elt F) S1x1x16384 .f32)), Σ' (L9 : List (View.Piece (Elt F) S1x128 .f32)), { LS0 : List (View.Piece (Elt F) S2 .f32) //
      ∀ (xi9 : Vec F S1x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ owns (c : Thread nD τ) arg11 fullShare xi9 ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ owns (c : Thread nD τ) arg11 fullShare xi9 ∗ (∃ f, arg12.view.loc (c : Thread nD τ) ↦[arg12.view.set]{fullShare} arg12.view.writes (Elt F) f LS0)) -∗ K ⟨⟩))
          ⊢ wp frame (wpE (defs₀ (F := F)) Variants.none c none) E (cc1__assign_body i arg2 harg2 arg3 harg3 arg4 harg4 arg5 harg5 arg6 harg6 arg7 harg7 arg8 harg8 arg9 harg9 arg10 harg10 arg11 harg11 arg12 harg12) K } := by
  refine ⟨?_, ?_, [], ?_, fun xi9 E K => ?run⟩
  case run =>
    simp only [cc1__assign_body_eq_skeleton]; unfold cc1__assign_body_skel
    simp only [k1_part1_eq_skeleton, k1_part2_eq_skeleton, k1_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%f9, %hf9, H9⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg11.eq_unread hf9
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    isplitl [H8]; · iexists _; iexact H8
    isplitl [H9]
    · iexists _; isplitr; · ipureintro; exact harg11.read_unread _
      iexact H9
    iexists _; iexact HS0

end Cert.KernelIdeal.Region1

end
-- ==== Proof.Region1.RunB.lean ====
/- Region 1 of @main, the assignment call: the body run in case B of its branches. -/
module

public import proofs.«01_k».proof.Proof.Region1.RunA

@[expose] public section

-- rectangles of the blocks' extents: the elaborator's look recurses once per coordinate of the long axes
set_option maxRecDepth 16384

noncomputable section

namespace Cert.KernelIdeal.Region1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers as the region finds them
variable (V : (c : Dev nD) → (b : Ref sig .tc) → Buf (Elt F) ((c : Thread nD τ).loc b))

-- (the run's proof term is large: the definition's epilogue — `abstractNestedProofs` — walks it past the default budget)
set_option maxHeartbeats 1000000 in
/-- What the body's stores leave in each output's staging memref, as pieces (last first) IN CASE B. -/
noncomputable def kernelRun0_B (c : Dev nD) (i : grid1.Coords) (arg2 : Memref sig .tc .vmem S1x1x16384 .f32) (harg2 : arg2.IsWhole) (arg3 : Memref sig .tc .vmem S1x1x16384 .i32) (harg3 : arg3.IsWhole) (arg4 : Memref sig .tc .vmem S1x32x1 .i32) (harg4 : arg4.IsWhole) (arg5 : Memref sig .tc .vmem S1x32x1 .i32) (harg5 : arg5.IsWhole) (arg6 : Memref sig .tc .vmem S1x32x4 .f32) (harg6 : arg6.IsWhole) (arg7 : Memref sig .tc .vmem S1x4x16384 .f32) (harg7 : arg7.IsWhole) (arg8 : Memref sig .tc .vmem S1x1x16384 .f32) (harg8 : arg8.IsWhole) (arg9 : Memref sig .tc .vmem S1x1x16384 .i32) (harg9 : arg9.IsWhole) (arg10 : Memref sig .tc .vmem S1x1x16384 .f32) (harg10 : arg10.IsWhole) (arg11 : Memref sig .tc .vmem S1x128 .f32) (harg11 : arg11.IsWhole) (arg12 : Memref sig .tc .smem S2 .f32) (harg12 : arg12.IsWhole) (hc0 : ¬cond0_0 i) (hc1 : cond0_1 i) (hc2 : ¬cond0_2 i)
    (x0 : Vec F S1x1x16384 .f32) (x1 : Vec F S1x1x16384 .i32) (x2 : Vec F S1x32x1 .i32) (x3 : Vec F S1x32x1 .i32) (x4 : Vec F S1x32x4 .f32) (x5 : Vec F S1x4x16384 .f32) (x6 : Vec F S1x1x16384 .f32) (xs0 : Vec F S2 .f32) :
    Σ' (L7 : List (View.Piece (Elt F) S1x1x16384 .i32)), Σ' (L8 : List (View.Piece (Elt F) S1x1x16384 .f32)), Σ' (L9 : List (View.Piece (Elt F) S1x128 .f32)), { LS0 : List (View.Piece (Elt F) S2 .f32) //
      ∀ (xi9 : Vec F S1x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ owns (c : Thread nD τ) arg11 fullShare xi9 ∗ owns (c : Thread nD τ) arg12 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ owns (c : Thread nD τ) arg11 fullShare xi9 ∗ (∃ f, arg12.view.loc (c : Thread nD τ) ↦[arg12.view.set]{fullShare} arg12.view.writes (Elt F) f LS0)) -∗ K ⟨⟩))
          ⊢ wp frame (wpE (defs₀ (F := F)) Variants.none c none) E (cc1__assign_body i arg2 harg2 arg3 harg3 arg4 harg4 arg5 harg5 arg6 harg6 arg7 harg7 arg8 harg8 arg9 harg9 arg10 harg10 arg11 harg11 arg12 harg12) K } := by
  refine ⟨?_, ?_, [], ?_, fun xi9 E K => ?run⟩
  case run =>
    simp only [cc1__assign_body_eq_skeleton]; unfold cc1__assign_body_skel
    simp only [k1_part1_eq_skeleton, k1_part2_eq_skeleton, k1_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%f9, %hf9, H9⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg11.eq_unread hf9; obtain rfl := harg12.eq_unread hfs0
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    isplitl [H8]; · iexists _; iexact H8
    isplitl [H9]
    · iexists _; isplitr; · ipureintro; exact harg11.read_unread _
      iexact H9
    iexists _; iexact HS0

end Cert.KernelIdeal.Region1

end
-- ==== Proof.Region1.RunC.lean ====
/- Region 1 of @main, the assignment call: the body run in case C of its branches. -/
module

public import proofs.«01_k».proof.Proof.Region1.RunB

@[expose] public section

-- rectangles of the blocks' extents: the elaborator's look recurses once per coordinate of the long axes
set_option maxRecDepth 16384

noncomputable section

namespace Cert.KernelIdeal.Region1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers as the region finds them
variable (V : (c : Dev nD) → (b : Ref sig .tc) → Buf (Elt F) ((c : Thread nD τ).loc b))

-- (the run's proof term is large: the definition's epilogue — `abstractNestedProofs` — walks it past the default budget)
set_option maxHeartbeats 1000000 in
/-- What the body's stores leave in each output's staging memref, as pieces (last first) IN CASE C. -/
noncomputable def kernelRun0_C (c : Dev nD) (i : grid1.Coords) (arg2 : Memref sig .tc .vmem S1x1x16384 .f32) (harg2 : arg2.IsWhole) (arg3 : Memref sig .tc .vmem S1x1x16384 .i32) (harg3 : arg3.IsWhole) (arg4 : Memref sig .tc .vmem S1x32x1 .i32) (harg4 : arg4.IsWhole) (arg5 : Memref sig .tc .vmem S1x32x1 .i32) (harg5 : arg5.IsWhole) (arg6 : Memref sig .tc .vmem S1x32x4 .f32) (harg6 : arg6.IsWhole) (arg7 : Memref sig .tc .vmem S1x4x16384 .f32) (harg7 : arg7.IsWhole) (arg8 : Memref sig .tc .vmem S1x1x16384 .f32) (harg8 : arg8.IsWhole) (arg9 : Memref sig .tc .vmem S1x1x16384 .i32) (harg9 : arg9.IsWhole) (arg10 : Memref sig .tc .vmem S1x1x16384 .f32) (harg10 : arg10.IsWhole) (arg11 : Memref sig .tc .vmem S1x128 .f32) (harg11 : arg11.IsWhole) (arg12 : Memref sig .tc .smem S2 .f32) (harg12 : arg12.IsWhole) (hc0 : ¬cond0_0 i) (hc1 : cond0_1 i) (hc2 : cond0_2 i)
    (x0 : Vec F S1x1x16384 .f32) (x1 : Vec F S1x1x16384 .i32) (x2 : Vec F S1x32x1 .i32) (x3 : Vec F S1x32x1 .i32) (x4 : Vec F S1x32x4 .f32) (x5 : Vec F S1x4x16384 .f32) (x6 : Vec F S1x1x16384 .f32) (xs0 : Vec F S2 .f32) :
    Σ' (L7 : List (View.Piece (Elt F) S1x1x16384 .i32)), Σ' (L8 : List (View.Piece (Elt F) S1x1x16384 .f32)), Σ' (L9 : List (View.Piece (Elt F) S1x128 .f32)), { LS0 : List (View.Piece (Elt F) S2 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ owns (c : Thread nD τ) arg12 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f LS0)) -∗ K ⟨⟩))
          ⊢ wp frame (wpE (defs₀ (F := F)) Variants.none c none) E (cc1__assign_body i arg2 harg2 arg3 harg3 arg4 harg4 arg5 harg5 arg6 harg6 arg7 harg7 arg8 harg8 arg9 harg9 arg10 harg10 arg11 harg11 arg12 harg12) K } := by
  refine ⟨?_, ?_, ?_, ?_, fun E K => ?run⟩
  case run =>
    simp only [cc1__assign_body_eq_skeleton]; unfold cc1__assign_body_skel
    simp only [k1_part1_eq_skeleton, k1_part2_eq_skeleton, k1_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg12.eq_unread hfs0
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    isplitl [H8]; · iexists _; iexact H8
    isplitl [H9]; · iexists _; iexact H9
    iexists _; iexact HS0

end Cert.KernelIdeal.Region1

end
-- ==== Proof.Region1.Body.lean ====
/- Region 1 of @main, the assignment call: what its outputs hold point by point, its proof data and its body obligation. -/
module

public import proofs.«01_k».proof.Proof.Region1.RunC

@[expose] public section

-- rectangles of the blocks' extents: the elaborator's look recurses once per coordinate of the long axes
set_option maxRecDepth 16384

noncomputable section

namespace Cert.KernelIdeal.Region1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers as the region finds them
variable (V : (c : Dev nD) → (b : Ref sig .tc) → Buf (Elt F) ((c : Thread nD τ).loc b))
/-- Case A's pieces for output 7 tile its block. -/
theorem cover0_A_7 (c : Dev nD) (i : grid1.Coords) (arg2 : Memref sig .tc .vmem S1x1x16384 .f32) (harg2 : arg2.IsWhole) (arg3 : Memref sig .tc .vmem S1x1x16384 .i32) (harg3 : arg3.IsWhole) (arg4 : Memref sig .tc .vmem S1x32x1 .i32) (harg4 : arg4.IsWhole) (arg5 : Memref sig .tc .vmem S1x32x1 .i32) (harg5 : arg5.IsWhole) (arg6 : Memref sig .tc .vmem S1x32x4 .f32) (harg6 : arg6.IsWhole) (arg7 : Memref sig .tc .vmem S1x4x16384 .f32) (harg7 : arg7.IsWhole) (arg8 : Memref sig .tc .vmem S1x1x16384 .f32) (harg8 : arg8.IsWhole) (arg9 : Memref sig .tc .vmem S1x1x16384 .i32) (harg9 : arg9.IsWhole) (arg10 : Memref sig .tc .vmem S1x1x16384 .f32) (harg10 : arg10.IsWhole) (arg11 : Memref sig .tc .vmem S1x128 .f32) (harg11 : arg11.IsWhole) (arg12 : Memref sig .tc .smem S2 .f32) (harg12 : arg12.IsWhole) (hc0 : cond0_0 i) (hc1 : ¬cond0_1 i) (hc2 : ¬cond0_2 i)
    (x0 : Vec F S1x1x16384 .f32) (x1 : Vec F S1x1x16384 .i32) (x2 : Vec F S1x32x1 .i32) (x3 : Vec F S1x32x1 .i32) (x4 : Vec F S1x32x4 .f32) (x5 : Vec F S1x4x16384 .f32) (x6 : Vec F S1x1x16384 .f32) (y : S1x1x16384.Idx) :
    ∃ pc ∈ (kernelRun0_A c i arg2 harg2 arg3 harg3 arg4 harg4 arg5 harg5 arg6 harg6 arg7 harg7 arg8 harg8 arg9 harg9 arg10 harg10 arg11 harg11 arg12 harg12 hc0 hc1 hc2 x0 x1 x2 x3 x4 x5 x6).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 hc0 hc1 hc2 x0 x1 x2 x3 x4 x5 x6).1 S1x1x16384.size (by sl_kernel_rfl) y

/-- What case A leaves in output 7's staging buffer. -/
def out0_A_7 (c : Dev nD) (i : grid1.Coords) (arg2 : Memref sig .tc .vmem S1x1x16384 .f32) (harg2 : arg2.IsWhole) (arg3 : Memref sig .tc .vmem S1x1x16384 .i32) (harg3 : arg3.IsWhole) (arg4 : Memref sig .tc .vmem S1x32x1 .i32) (harg4 : arg4.IsWhole) (arg5 : Memref sig .tc .vmem S1x32x1 .i32) (harg5 : arg5.IsWhole) (arg6 : Memref sig .tc .vmem S1x32x4 .f32) (harg6 : arg6.IsWhole) (arg7 : Memref sig .tc .vmem S1x4x16384 .f32) (harg7 : arg7.IsWhole) (arg8 : Memref sig .tc .vmem S1x1x16384 .f32) (harg8 : arg8.IsWhole) (arg9 : Memref sig .tc .vmem S1x1x16384 .i32) (harg9 : arg9.IsWhole) (arg10 : Memref sig .tc .vmem S1x1x16384 .f32) (harg10 : arg10.IsWhole) (arg11 : Memref sig .tc .vmem S1x128 .f32) (harg11 : arg11.IsWhole) (arg12 : Memref sig .tc .smem S2 .f32) (harg12 : arg12.IsWhole) (hc0 : cond0_0 i) (hc1 : ¬cond0_1 i) (hc2 : ¬cond0_2 i)
    (x0 : Vec F S1x1x16384 .f32) (x1 : Vec F S1x1x16384 .i32) (x2 : Vec F S1x32x1 .i32) (x3 : Vec F S1x32x1 .i32) (x4 : Vec F S1x32x4 .f32) (x5 : Vec F S1x4x16384 .f32) (x6 : Vec F S1x1x16384 .f32) : Vec F S1x1x16384 .i32 :=
  VO0_7.read (Elt F) (VO0_7.writes (Elt F) VO0_7.junk (kernelRun0_A c i arg2 harg2 arg3 harg3 arg4 harg4 arg5 harg5 arg6 harg6 arg7 harg7 arg8 harg8 arg9 harg9 arg10 harg10 arg11 harg11 arg12 harg12 hc0 hc1 hc2 x0 x1 x2 x3 x4 x5 x6).1)

/-- Case A's pieces for output 8 tile its block. -/
theorem cover0_A_8 (c : Dev nD) (i : grid1.Coords) (arg2 : Memref sig .tc .vmem S1x1x16384 .f32) (harg2 : arg2.IsWhole) (arg3 : Memref sig .tc .vmem S1x1x16384 .i32) (harg3 : arg3.IsWhole) (arg4 : Memref sig .tc .vmem S1x32x1 .i32) (harg4 : arg4.IsWhole) (arg5 : Memref sig .tc .vmem S1x32x1 .i32) (harg5 : arg5.IsWhole) (arg6 : Memref sig .tc .vmem S1x32x4 .f32) (harg6 : arg6.IsWhole) (arg7 : Memref sig .tc .vmem S1x4x16384 .f32) (harg7 : arg7.IsWhole) (arg8 : Memref sig .tc .vmem S1x1x16384 .f32) (harg8 : arg8.IsWhole) (arg9 : Memref sig .tc .vmem S1x1x16384 .i32) (harg9 : arg9.IsWhole) (arg10 : Memref sig .tc .vmem S1x1x16384 .f32) (harg10 : arg10.IsWhole) (arg11 : Memref sig .tc .vmem S1x128 .f32) (harg11 : arg11.IsWhole) (arg12 : Memref sig .tc .smem S2 .f32) (harg12 : arg12.IsWhole) (hc0 : cond0_0 i) (hc1 : ¬cond0_1 i) (hc2 : ¬cond0_2 i)
    (x0 : Vec F S1x1x16384 .f32) (x1 : Vec F S1x1x16384 .i32) (x2 : Vec F S1x32x1 .i32) (x3 : Vec F S1x32x1 .i32) (x4 : Vec F S1x32x4 .f32) (x5 : Vec F S1x4x16384 .f32) (x6 : Vec F S1x1x16384 .f32) (y : S1x1x16384.Idx) :
    ∃ pc ∈ (kernelRun0_A c i arg2 harg2 arg3 harg3 arg4 harg4 arg5 harg5 arg6 harg6 arg7 harg7 arg8 harg8 arg9 harg9 arg10 harg10 arg11 harg11 arg12 harg12 hc0 hc1 hc2 x0 x1 x2 x3 x4 x5 x6).2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 hc0 hc1 hc2 x0 x1 x2 x3 x4 x5 x6).2.1 S1x1x16384.size (by sl_kernel_rfl) y

/-- What case A leaves in output 8's staging buffer. -/
def out0_A_8 (c : Dev nD) (i : grid1.Coords) (arg2 : Memref sig .tc .vmem S1x1x16384 .f32) (harg2 : arg2.IsWhole) (arg3 : Memref sig .tc .vmem S1x1x16384 .i32) (harg3 : arg3.IsWhole) (arg4 : Memref sig .tc .vmem S1x32x1 .i32) (harg4 : arg4.IsWhole) (arg5 : Memref sig .tc .vmem S1x32x1 .i32) (harg5 : arg5.IsWhole) (arg6 : Memref sig .tc .vmem S1x32x4 .f32) (harg6 : arg6.IsWhole) (arg7 : Memref sig .tc .vmem S1x4x16384 .f32) (harg7 : arg7.IsWhole) (arg8 : Memref sig .tc .vmem S1x1x16384 .f32) (harg8 : arg8.IsWhole) (arg9 : Memref sig .tc .vmem S1x1x16384 .i32) (harg9 : arg9.IsWhole) (arg10 : Memref sig .tc .vmem S1x1x16384 .f32) (harg10 : arg10.IsWhole) (arg11 : Memref sig .tc .vmem S1x128 .f32) (harg11 : arg11.IsWhole) (arg12 : Memref sig .tc .smem S2 .f32) (harg12 : arg12.IsWhole) (hc0 : cond0_0 i) (hc1 : ¬cond0_1 i) (hc2 : ¬cond0_2 i)
    (x0 : Vec F S1x1x16384 .f32) (x1 : Vec F S1x1x16384 .i32) (x2 : Vec F S1x32x1 .i32) (x3 : Vec F S1x32x1 .i32) (x4 : Vec F S1x32x4 .f32) (x5 : Vec F S1x4x16384 .f32) (x6 : Vec F S1x1x16384 .f32) : Vec F S1x1x16384 .f32 :=
  VO0_8.read (Elt F) (VO0_8.writes (Elt F) VO0_8.junk (kernelRun0_A c i arg2 harg2 arg3 harg3 arg4 harg4 arg5 harg5 arg6 harg6 arg7 harg7 arg8 harg8 arg9 harg9 arg10 harg10 arg11 harg11 arg12 harg12 hc0 hc1 hc2 x0 x1 x2 x3 x4 x5 x6).2.1)

/-- Case A stores nothing into output 9 (the window is idle at its points and not written back there). -/
def out0_A_9 (c : Dev nD) (i : grid1.Coords) (arg2 : Memref sig .tc .vmem S1x1x16384 .f32) (harg2 : arg2.IsWhole) (arg3 : Memref sig .tc .vmem S1x1x16384 .i32) (harg3 : arg3.IsWhole) (arg4 : Memref sig .tc .vmem S1x32x1 .i32) (harg4 : arg4.IsWhole) (arg5 : Memref sig .tc .vmem S1x32x1 .i32) (harg5 : arg5.IsWhole) (arg6 : Memref sig .tc .vmem S1x32x4 .f32) (harg6 : arg6.IsWhole) (arg7 : Memref sig .tc .vmem S1x4x16384 .f32) (harg7 : arg7.IsWhole) (arg8 : Memref sig .tc .vmem S1x1x16384 .f32) (harg8 : arg8.IsWhole) (arg9 : Memref sig .tc .vmem S1x1x16384 .i32) (harg9 : arg9.IsWhole) (arg10 : Memref sig .tc .vmem S1x1x16384 .f32) (harg10 : arg10.IsWhole) (arg11 : Memref sig .tc .vmem S1x128 .f32) (harg11 : arg11.IsWhole) (arg12 : Memref sig .tc .smem S2 .f32) (harg12 : arg12.IsWhole) (hc0 : cond0_0 i) (hc1 : ¬cond0_1 i) (hc2 : ¬cond0_2 i)
    (x0 : Vec F S1x1x16384 .f32) (x1 : Vec F S1x1x16384 .i32) (x2 : Vec F S1x32x1 .i32) (x3 : Vec F S1x32x1 .i32) (x4 : Vec F S1x32x4 .f32) (x5 : Vec F S1x4x16384 .f32) (x6 : Vec F S1x1x16384 .f32) : Vec F S1x128 .f32 :=
  VO0_9.read (Elt F) (VO0_9.writes (Elt F) VO0_9.junk (kernelRun0_A c i arg2 harg2 arg3 harg3 arg4 harg4 arg5 harg5 arg6 harg6 arg7 harg7 arg8 harg8 arg9 harg9 arg10 harg10 arg11 harg11 arg12 harg12 hc0 hc1 hc2 x0 x1 x2 x3 x4 x5 x6).2.2.1)

/-- Case A's pieces for scratch `arg12`, which the kernel carries between points, cover it. -/
theorem scover0_A_0 (c : Dev nD) (i : grid1.Coords) (arg2 : Memref sig .tc .vmem S1x1x16384 .f32) (harg2 : arg2.IsWhole) (arg3 : Memref sig .tc .vmem S1x1x16384 .i32) (harg3 : arg3.IsWhole) (arg4 : Memref sig .tc .vmem S1x32x1 .i32) (harg4 : arg4.IsWhole) (arg5 : Memref sig .tc .vmem S1x32x1 .i32) (harg5 : arg5.IsWhole) (arg6 : Memref sig .tc .vmem S1x32x4 .f32) (harg6 : arg6.IsWhole) (arg7 : Memref sig .tc .vmem S1x4x16384 .f32) (harg7 : arg7.IsWhole) (arg8 : Memref sig .tc .vmem S1x1x16384 .f32) (harg8 : arg8.IsWhole) (arg9 : Memref sig .tc .vmem S1x1x16384 .i32) (harg9 : arg9.IsWhole) (arg10 : Memref sig .tc .vmem S1x1x16384 .f32) (harg10 : arg10.IsWhole) (arg11 : Memref sig .tc .vmem S1x128 .f32) (harg11 : arg11.IsWhole) (arg12 : Memref sig .tc .smem S2 .f32) (harg12 : arg12.IsWhole) (hc0 : cond0_0 i) (hc1 : ¬cond0_1 i) (hc2 : ¬cond0_2 i)
    (x0 : Vec F S1x1x16384 .f32) (x1 : Vec F S1x1x16384 .i32) (x2 : Vec F S1x32x1 .i32) (x3 : Vec F S1x32x1 .i32) (x4 : Vec F S1x32x4 .f32) (x5 : Vec F S1x4x16384 .f32) (x6 : Vec F S1x1x16384 .f32) (y : S2.Idx) :
    ∃ pc ∈ (kernelRun0_A c i arg2 harg2 arg3 harg3 arg4 harg4 arg5 harg5 arg6 harg6 arg7 harg7 arg8 harg8 arg9 harg9 arg10 harg10 arg11 harg11 arg12 harg12 hc0 hc1 hc2 x0 x1 x2 x3 x4 x5 x6).2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 hc0 hc1 hc2 x0 x1 x2 x3 x4 x5 x6).2.2.2.1 S1.size (by sl_kernel_rfl) y

/-- What case A leaves in scratch `arg12`. -/
def sout0_A_0 (c : Dev nD) (i : grid1.Coords) (arg2 : Memref sig .tc .vmem S1x1x16384 .f32) (harg2 : arg2.IsWhole) (arg3 : Memref sig .tc .vmem S1x1x16384 .i32) (harg3 : arg3.IsWhole) (arg4 : Memref sig .tc .vmem S1x32x1 .i32) (harg4 : arg4.IsWhole) (arg5 : Memref sig .tc .vmem S1x32x1 .i32) (harg5 : arg5.IsWhole) (arg6 : Memref sig .tc .vmem S1x32x4 .f32) (harg6 : arg6.IsWhole) (arg7 : Memref sig .tc .vmem S1x4x16384 .f32) (harg7 : arg7.IsWhole) (arg8 : Memref sig .tc .vmem S1x1x16384 .f32) (harg8 : arg8.IsWhole) (arg9 : Memref sig .tc .vmem S1x1x16384 .i32) (harg9 : arg9.IsWhole) (arg10 : Memref sig .tc .vmem S1x1x16384 .f32) (harg10 : arg10.IsWhole) (arg11 : Memref sig .tc .vmem S1x128 .f32) (harg11 : arg11.IsWhole) (arg12 : Memref sig .tc .smem S2 .f32) (harg12 : arg12.IsWhole) (hc0 : cond0_0 i) (hc1 : ¬cond0_1 i) (hc2 : ¬cond0_2 i)
    (x0 : Vec F S1x1x16384 .f32) (x1 : Vec F S1x1x16384 .i32) (x2 : Vec F S1x32x1 .i32) (x3 : Vec F S1x32x1 .i32) (x4 : Vec F S1x32x4 .f32) (x5 : Vec F S1x4x16384 .f32) (x6 : Vec F S1x1x16384 .f32) : Vec F S2 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 arg12 harg12 hc0 hc1 hc2 x0 x1 x2 x3 x4 x5 x6).2.2.2.1)

/-- Case B's pieces for output 7 tile its block. -/
theorem cover0_B_7 (c : Dev nD) (i : grid1.Coords) (arg2 : Memref sig .tc .vmem S1x1x16384 .f32) (harg2 : arg2.IsWhole) (arg3 : Memref sig .tc .vmem S1x1x16384 .i32) (harg3 : arg3.IsWhole) (arg4 : Memref sig .tc .vmem S1x32x1 .i32) (harg4 : arg4.IsWhole) (arg5 : Memref sig .tc .vmem S1x32x1 .i32) (harg5 : arg5.IsWhole) (arg6 : Memref sig .tc .vmem S1x32x4 .f32) (harg6 : arg6.IsWhole) (arg7 : Memref sig .tc .vmem S1x4x16384 .f32) (harg7 : arg7.IsWhole) (arg8 : Memref sig .tc .vmem S1x1x16384 .f32) (harg8 : arg8.IsWhole) (arg9 : Memref sig .tc .vmem S1x1x16384 .i32) (harg9 : arg9.IsWhole) (arg10 : Memref sig .tc .vmem S1x1x16384 .f32) (harg10 : arg10.IsWhole) (arg11 : Memref sig .tc .vmem S1x128 .f32) (harg11 : arg11.IsWhole) (arg12 : Memref sig .tc .smem S2 .f32) (harg12 : arg12.IsWhole) (hc0 : ¬cond0_0 i) (hc1 : cond0_1 i) (hc2 : ¬cond0_2 i)
    (x0 : Vec F S1x1x16384 .f32) (x1 : Vec F S1x1x16384 .i32) (x2 : Vec F S1x32x1 .i32) (x3 : Vec F S1x32x1 .i32) (x4 : Vec F S1x32x4 .f32) (x5 : Vec F S1x4x16384 .f32) (x6 : Vec F S1x1x16384 .f32) (xs0 : Vec F S2 .f32) (y : S1x1x16384.Idx) :
    ∃ pc ∈ (kernelRun0_B c i arg2 harg2 arg3 harg3 arg4 harg4 arg5 harg5 arg6 harg6 arg7 harg7 arg8 harg8 arg9 harg9 arg10 harg10 arg11 harg11 arg12 harg12 hc0 hc1 hc2 x0 x1 x2 x3 x4 x5 x6 xs0).1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 hc0 hc1 hc2 x0 x1 x2 x3 x4 x5 x6 xs0).1 S1x1x16384.size (by sl_kernel_rfl) y

/-- What case B leaves in output 7's staging buffer. -/
def out0_B_7 (c : Dev nD) (i : grid1.Coords) (arg2 : Memref sig .tc .vmem S1x1x16384 .f32) (harg2 : arg2.IsWhole) (arg3 : Memref sig .tc .vmem S1x1x16384 .i32) (harg3 : arg3.IsWhole) (arg4 : Memref sig .tc .vmem S1x32x1 .i32) (harg4 : arg4.IsWhole) (arg5 : Memref sig .tc .vmem S1x32x1 .i32) (harg5 : arg5.IsWhole) (arg6 : Memref sig .tc .vmem S1x32x4 .f32) (harg6 : arg6.IsWhole) (arg7 : Memref sig .tc .vmem S1x4x16384 .f32) (harg7 : arg7.IsWhole) (arg8 : Memref sig .tc .vmem S1x1x16384 .f32) (harg8 : arg8.IsWhole) (arg9 : Memref sig .tc .vmem S1x1x16384 .i32) (harg9 : arg9.IsWhole) (arg10 : Memref sig .tc .vmem S1x1x16384 .f32) (harg10 : arg10.IsWhole) (arg11 : Memref sig .tc .vmem S1x128 .f32) (harg11 : arg11.IsWhole) (arg12 : Memref sig .tc .smem S2 .f32) (harg12 : arg12.IsWhole) (hc0 : ¬cond0_0 i) (hc1 : cond0_1 i) (hc2 : ¬cond0_2 i)
    (x0 : Vec F S1x1x16384 .f32) (x1 : Vec F S1x1x16384 .i32) (x2 : Vec F S1x32x1 .i32) (x3 : Vec F S1x32x1 .i32) (x4 : Vec F S1x32x4 .f32) (x5 : Vec F S1x4x16384 .f32) (x6 : Vec F S1x1x16384 .f32) (xs0 : Vec F S2 .f32) : Vec F S1x1x16384 .i32 :=
  VO0_7.read (Elt F) (VO0_7.writes (Elt F) VO0_7.junk (kernelRun0_B c i arg2 harg2 arg3 harg3 arg4 harg4 arg5 harg5 arg6 harg6 arg7 harg7 arg8 harg8 arg9 harg9 arg10 harg10 arg11 harg11 arg12 harg12 hc0 hc1 hc2 x0 x1 x2 x3 x4 x5 x6 xs0).1)

/-- Case B's pieces for output 8 tile its block. -/
theorem cover0_B_8 (c : Dev nD) (i : grid1.Coords) (arg2 : Memref sig .tc .vmem S1x1x16384 .f32) (harg2 : arg2.IsWhole) (arg3 : Memref sig .tc .vmem S1x1x16384 .i32) (harg3 : arg3.IsWhole) (arg4 : Memref sig .tc .vmem S1x32x1 .i32) (harg4 : arg4.IsWhole) (arg5 : Memref sig .tc .vmem S1x32x1 .i32) (harg5 : arg5.IsWhole) (arg6 : Memref sig .tc .vmem S1x32x4 .f32) (harg6 : arg6.IsWhole) (arg7 : Memref sig .tc .vmem S1x4x16384 .f32) (harg7 : arg7.IsWhole) (arg8 : Memref sig .tc .vmem S1x1x16384 .f32) (harg8 : arg8.IsWhole) (arg9 : Memref sig .tc .vmem S1x1x16384 .i32) (harg9 : arg9.IsWhole) (arg10 : Memref sig .tc .vmem S1x1x16384 .f32) (harg10 : arg10.IsWhole) (arg11 : Memref sig .tc .vmem S1x128 .f32) (harg11 : arg11.IsWhole) (arg12 : Memref sig .tc .smem S2 .f32) (harg12 : arg12.IsWhole) (hc0 : ¬cond0_0 i) (hc1 : cond0_1 i) (hc2 : ¬cond0_2 i)
    (x0 : Vec F S1x1x16384 .f32) (x1 : Vec F S1x1x16384 .i32) (x2 : Vec F S1x32x1 .i32) (x3 : Vec F S1x32x1 .i32) (x4 : Vec F S1x32x4 .f32) (x5 : Vec F S1x4x16384 .f32) (x6 : Vec F S1x1x16384 .f32) (xs0 : Vec F S2 .f32) (y : S1x1x16384.Idx) :
    ∃ pc ∈ (kernelRun0_B c i arg2 harg2 arg3 harg3 arg4 harg4 arg5 harg5 arg6 harg6 arg7 harg7 arg8 harg8 arg9 harg9 arg10 harg10 arg11 harg11 arg12 harg12 hc0 hc1 hc2 x0 x1 x2 x3 x4 x5 x6 xs0).2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 hc0 hc1 hc2 x0 x1 x2 x3 x4 x5 x6 xs0).2.1 S1x1x16384.size (by sl_kernel_rfl) y

/-- What case B leaves in output 8's staging buffer. -/
def out0_B_8 (c : Dev nD) (i : grid1.Coords) (arg2 : Memref sig .tc .vmem S1x1x16384 .f32) (harg2 : arg2.IsWhole) (arg3 : Memref sig .tc .vmem S1x1x16384 .i32) (harg3 : arg3.IsWhole) (arg4 : Memref sig .tc .vmem S1x32x1 .i32) (harg4 : arg4.IsWhole) (arg5 : Memref sig .tc .vmem S1x32x1 .i32) (harg5 : arg5.IsWhole) (arg6 : Memref sig .tc .vmem S1x32x4 .f32) (harg6 : arg6.IsWhole) (arg7 : Memref sig .tc .vmem S1x4x16384 .f32) (harg7 : arg7.IsWhole) (arg8 : Memref sig .tc .vmem S1x1x16384 .f32) (harg8 : arg8.IsWhole) (arg9 : Memref sig .tc .vmem S1x1x16384 .i32) (harg9 : arg9.IsWhole) (arg10 : Memref sig .tc .vmem S1x1x16384 .f32) (harg10 : arg10.IsWhole) (arg11 : Memref sig .tc .vmem S1x128 .f32) (harg11 : arg11.IsWhole) (arg12 : Memref sig .tc .smem S2 .f32) (harg12 : arg12.IsWhole) (hc0 : ¬cond0_0 i) (hc1 : cond0_1 i) (hc2 : ¬cond0_2 i)
    (x0 : Vec F S1x1x16384 .f32) (x1 : Vec F S1x1x16384 .i32) (x2 : Vec F S1x32x1 .i32) (x3 : Vec F S1x32x1 .i32) (x4 : Vec F S1x32x4 .f32) (x5 : Vec F S1x4x16384 .f32) (x6 : Vec F S1x1x16384 .f32) (xs0 : Vec F S2 .f32) : Vec F S1x1x16384 .f32 :=
  VO0_8.read (Elt F) (VO0_8.writes (Elt F) VO0_8.junk (kernelRun0_B c i arg2 harg2 arg3 harg3 arg4 harg4 arg5 harg5 arg6 harg6 arg7 harg7 arg8 harg8 arg9 harg9 arg10 harg10 arg11 harg11 arg12 harg12 hc0 hc1 hc2 x0 x1 x2 x3 x4 x5 x6 xs0).2.1)

/-- Case B stores nothing into output 9 (the window is idle at its points and not written back there). -/
def out0_B_9 (c : Dev nD) (i : grid1.Coords) (arg2 : Memref sig .tc .vmem S1x1x16384 .f32) (harg2 : arg2.IsWhole) (arg3 : Memref sig .tc .vmem S1x1x16384 .i32) (harg3 : arg3.IsWhole) (arg4 : Memref sig .tc .vmem S1x32x1 .i32) (harg4 : arg4.IsWhole) (arg5 : Memref sig .tc .vmem S1x32x1 .i32) (harg5 : arg5.IsWhole) (arg6 : Memref sig .tc .vmem S1x32x4 .f32) (harg6 : arg6.IsWhole) (arg7 : Memref sig .tc .vmem S1x4x16384 .f32) (harg7 : arg7.IsWhole) (arg8 : Memref sig .tc .vmem S1x1x16384 .f32) (harg8 : arg8.IsWhole) (arg9 : Memref sig .tc .vmem S1x1x16384 .i32) (harg9 : arg9.IsWhole) (arg10 : Memref sig .tc .vmem S1x1x16384 .f32) (harg10 : arg10.IsWhole) (arg11 : Memref sig .tc .vmem S1x128 .f32) (harg11 : arg11.IsWhole) (arg12 : Memref sig .tc .smem S2 .f32) (harg12 : arg12.IsWhole) (hc0 : ¬cond0_0 i) (hc1 : cond0_1 i) (hc2 : ¬cond0_2 i)
    (x0 : Vec F S1x1x16384 .f32) (x1 : Vec F S1x1x16384 .i32) (x2 : Vec F S1x32x1 .i32) (x3 : Vec F S1x32x1 .i32) (x4 : Vec F S1x32x4 .f32) (x5 : Vec F S1x4x16384 .f32) (x6 : Vec F S1x1x16384 .f32) (xs0 : Vec F S2 .f32) : Vec F S1x128 .f32 :=
  VO0_9.read (Elt F) (VO0_9.writes (Elt F) VO0_9.junk (kernelRun0_B c i arg2 harg2 arg3 harg3 arg4 harg4 arg5 harg5 arg6 harg6 arg7 harg7 arg8 harg8 arg9 harg9 arg10 harg10 arg11 harg11 arg12 harg12 hc0 hc1 hc2 x0 x1 x2 x3 x4 x5 x6 xs0).2.2.1)

/-- Case B's pieces for scratch `arg12`, which the kernel carries between points, cover it. -/
theorem scover0_B_0 (c : Dev nD) (i : grid1.Coords) (arg2 : Memref sig .tc .vmem S1x1x16384 .f32) (harg2 : arg2.IsWhole) (arg3 : Memref sig .tc .vmem S1x1x16384 .i32) (harg3 : arg3.IsWhole) (arg4 : Memref sig .tc .vmem S1x32x1 .i32) (harg4 : arg4.IsWhole) (arg5 : Memref sig .tc .vmem S1x32x1 .i32) (harg5 : arg5.IsWhole) (arg6 : Memref sig .tc .vmem S1x32x4 .f32) (harg6 : arg6.IsWhole) (arg7 : Memref sig .tc .vmem S1x4x16384 .f32) (harg7 : arg7.IsWhole) (arg8 : Memref sig .tc .vmem S1x1x16384 .f32) (harg8 : arg8.IsWhole) (arg9 : Memref sig .tc .vmem S1x1x16384 .i32) (harg9 : arg9.IsWhole) (arg10 : Memref sig .tc .vmem S1x1x16384 .f32) (harg10 : arg10.IsWhole) (arg11 : Memref sig .tc .vmem S1x128 .f32) (harg11 : arg11.IsWhole) (arg12 : Memref sig .tc .smem S2 .f32) (harg12 : arg12.IsWhole) (hc0 : ¬cond0_0 i) (hc1 : cond0_1 i) (hc2 : ¬cond0_2 i)
    (x0 : Vec F S1x1x16384 .f32) (x1 : Vec F S1x1x16384 .i32) (x2 : Vec F S1x32x1 .i32) (x3 : Vec F S1x32x1 .i32) (x4 : Vec F S1x32x4 .f32) (x5 : Vec F S1x4x16384 .f32) (x6 : Vec F S1x1x16384 .f32) (xs0 : Vec F S2 .f32) (y : S2.Idx) :
    ∃ pc ∈ (kernelRun0_B c i arg2 harg2 arg3 harg3 arg4 harg4 arg5 harg5 arg6 harg6 arg7 harg7 arg8 harg8 arg9 harg9 arg10 harg10 arg11 harg11 arg12 harg12 hc0 hc1 hc2 x0 x1 x2 x3 x4 x5 x6 xs0).2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 hc0 hc1 hc2 x0 x1 x2 x3 x4 x5 x6 xs0).2.2.2.1 S1.size (by sl_kernel_rfl) y

/-- What case B leaves in scratch `arg12`. -/
def sout0_B_0 (c : Dev nD) (i : grid1.Coords) (arg2 : Memref sig .tc .vmem S1x1x16384 .f32) (harg2 : arg2.IsWhole) (arg3 : Memref sig .tc .vmem S1x1x16384 .i32) (harg3 : arg3.IsWhole) (arg4 : Memref sig .tc .vmem S1x32x1 .i32) (harg4 : arg4.IsWhole) (arg5 : Memref sig .tc .vmem S1x32x1 .i32) (harg5 : arg5.IsWhole) (arg6 : Memref sig .tc .vmem S1x32x4 .f32) (harg6 : arg6.IsWhole) (arg7 : Memref sig .tc .vmem S1x4x16384 .f32) (harg7 : arg7.IsWhole) (arg8 : Memref sig .tc .vmem S1x1x16384 .f32) (harg8 : arg8.IsWhole) (arg9 : Memref sig .tc .vmem S1x1x16384 .i32) (harg9 : arg9.IsWhole) (arg10 : Memref sig .tc .vmem S1x1x16384 .f32) (harg10 : arg10.IsWhole) (arg11 : Memref sig .tc .vmem S1x128 .f32) (harg11 : arg11.IsWhole) (arg12 : Memref sig .tc .smem S2 .f32) (harg12 : arg12.IsWhole) (hc0 : ¬cond0_0 i) (hc1 : cond0_1 i) (hc2 : ¬cond0_2 i)
    (x0 : Vec F S1x1x16384 .f32) (x1 : Vec F S1x1x16384 .i32) (x2 : Vec F S1x32x1 .i32) (x3 : Vec F S1x32x1 .i32) (x4 : Vec F S1x32x4 .f32) (x5 : Vec F S1x4x16384 .f32) (x6 : Vec F S1x1x16384 .f32) (xs0 : Vec F S2 .f32) : Vec F S2 .f32 :=
  VS0_0.read (Elt F) (VS0_0.writes (Elt F) VS0_0.junk (kernelRun0_B c i arg2 harg2 arg3 harg3 arg4 harg4 arg5 harg5 arg6 harg6 arg7 harg7 arg8 harg8 arg9 harg9 arg10 harg10 arg11 harg11 arg12 harg12 hc0 hc1 hc2 x0 x1 x2 x3 x4 x5 x6 xs0).2.2.2.1)

/-- Case C's pieces for output 7 tile its block. -/
theorem cover0_C_7 (c : Dev nD) (i : grid1.Coords) (arg2 : Memref sig .tc .vmem S1x1x16384 .f32) (harg2 : arg2.IsWhole) (arg3 : Memref sig .tc .vmem S1x1x16384 .i32) (harg3 : arg3.IsWhole) (arg4 : Memref sig .tc .vmem S1x32x1 .i32) (harg4 : arg4.IsWhole) (arg5 : Memref sig .tc .vmem S1x32x1 .i32) (harg5 : arg5.IsWhole) (arg6 : Memref sig .tc .vmem S1x32x4 .f32) (harg6 : arg6.IsWhole) (arg7 : Memref sig .tc .vmem S1x4x16384 .f32) (harg7 : arg7.IsWhole) (arg8 : Memref sig .tc .vmem S1x1x16384 .f32) (harg8 : arg8.IsWhole) (arg9 : Memref sig .tc .vmem S1x1x16384 .i32) (harg9 : arg9.IsWhole) (arg10 : Memref sig .tc .vmem S1x1x16384 .f32) (harg10 : arg10.IsWhole) (arg11 : Memref sig .tc .vmem S1x128 .f32) (harg11 : arg11.IsWhole) (arg12 : Memref sig .tc .smem S2 .f32) (harg12 : arg12.IsWhole) (hc0 : ¬cond0_0 i) (hc1 : cond0_1 i) (hc2 : cond0_2 i)
    (x0 : Vec F S1x1x16384 .f32) (x1 : Vec F S1x1x16384 .i32) (x2 : Vec F S1x32x1 .i32) (x3 : Vec F S1x32x1 .i32) (x4 : Vec F S1x32x4 .f32) (x5 : Vec F S1x4x16384 .f32) (x6 : Vec F S1x1x16384 .f32) (xs0 : Vec F S2 .f32) (y : S1x1x16384.Idx) :
    ∃ pc ∈ (kernelRun0_C c i arg2 harg2 arg3 harg3 arg4 harg4 arg5 harg5 arg6 harg6 arg7 harg7 arg8 harg8 arg9 harg9 arg10 harg10 arg11 harg11 arg12 harg12 hc0 hc1 hc2 x0 x1 x2 x3 x4 x5 x6 xs0).1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 hc0 hc1 hc2 x0 x1 x2 x3 x4 x5 x6 xs0).1 S1x1x16384.size (by sl_kernel_rfl) y

/-- What case C leaves in output 7's staging buffer. -/
def out0_C_7 (c : Dev nD) (i : grid1.Coords) (arg2 : Memref sig .tc .vmem S1x1x16384 .f32) (harg2 : arg2.IsWhole) (arg3 : Memref sig .tc .vmem S1x1x16384 .i32) (harg3 : arg3.IsWhole) (arg4 : Memref sig .tc .vmem S1x32x1 .i32) (harg4 : arg4.IsWhole) (arg5 : Memref sig .tc .vmem S1x32x1 .i32) (harg5 : arg5.IsWhole) (arg6 : Memref sig .tc .vmem S1x32x4 .f32) (harg6 : arg6.IsWhole) (arg7 : Memref sig .tc .vmem S1x4x16384 .f32) (harg7 : arg7.IsWhole) (arg8 : Memref sig .tc .vmem S1x1x16384 .f32) (harg8 : arg8.IsWhole) (arg9 : Memref sig .tc .vmem S1x1x16384 .i32) (harg9 : arg9.IsWhole) (arg10 : Memref sig .tc .vmem S1x1x16384 .f32) (harg10 : arg10.IsWhole) (arg11 : Memref sig .tc .vmem S1x128 .f32) (harg11 : arg11.IsWhole) (arg12 : Memref sig .tc .smem S2 .f32) (harg12 : arg12.IsWhole) (hc0 : ¬cond0_0 i) (hc1 : cond0_1 i) (hc2 : cond0_2 i)
    (x0 : Vec F S1x1x16384 .f32) (x1 : Vec F S1x1x16384 .i32) (x2 : Vec F S1x32x1 .i32) (x3 : Vec F S1x32x1 .i32) (x4 : Vec F S1x32x4 .f32) (x5 : Vec F S1x4x16384 .f32) (x6 : Vec F S1x1x16384 .f32) (xs0 : Vec F S2 .f32) : Vec F S1x1x16384 .i32 :=
  VO0_7.read (Elt F) (VO0_7.writes (Elt F) VO0_7.junk (kernelRun0_C c i arg2 harg2 arg3 harg3 arg4 harg4 arg5 harg5 arg6 harg6 arg7 harg7 arg8 harg8 arg9 harg9 arg10 harg10 arg11 harg11 arg12 harg12 hc0 hc1 hc2 x0 x1 x2 x3 x4 x5 x6 xs0).1)

/-- Case C's pieces for output 8 tile its block. -/
theorem cover0_C_8 (c : Dev nD) (i : grid1.Coords) (arg2 : Memref sig .tc .vmem S1x1x16384 .f32) (harg2 : arg2.IsWhole) (arg3 : Memref sig .tc .vmem S1x1x16384 .i32) (harg3 : arg3.IsWhole) (arg4 : Memref sig .tc .vmem S1x32x1 .i32) (harg4 : arg4.IsWhole) (arg5 : Memref sig .tc .vmem S1x32x1 .i32) (harg5 : arg5.IsWhole) (arg6 : Memref sig .tc .vmem S1x32x4 .f32) (harg6 : arg6.IsWhole) (arg7 : Memref sig .tc .vmem S1x4x16384 .f32) (harg7 : arg7.IsWhole) (arg8 : Memref sig .tc .vmem S1x1x16384 .f32) (harg8 : arg8.IsWhole) (arg9 : Memref sig .tc .vmem S1x1x16384 .i32) (harg9 : arg9.IsWhole) (arg10 : Memref sig .tc .vmem S1x1x16384 .f32) (harg10 : arg10.IsWhole) (arg11 : Memref sig .tc .vmem S1x128 .f32) (harg11 : arg11.IsWhole) (arg12 : Memref sig .tc .smem S2 .f32) (harg12 : arg12.IsWhole) (hc0 : ¬cond0_0 i) (hc1 : cond0_1 i) (hc2 : cond0_2 i)
    (x0 : Vec F S1x1x16384 .f32) (x1 : Vec F S1x1x16384 .i32) (x2 : Vec F S1x32x1 .i32) (x3 : Vec F S1x32x1 .i32) (x4 : Vec F S1x32x4 .f32) (x5 : Vec F S1x4x16384 .f32) (x6 : Vec F S1x1x16384 .f32) (xs0 : Vec F S2 .f32) (y : S1x1x16384.Idx) :
    ∃ pc ∈ (kernelRun0_C c i arg2 harg2 arg3 harg3 arg4 harg4 arg5 harg5 arg6 harg6 arg7 harg7 arg8 harg8 arg9 harg9 arg10 harg10 arg11 harg11 arg12 harg12 hc0 hc1 hc2 x0 x1 x2 x3 x4 x5 x6 xs0).2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 hc0 hc1 hc2 x0 x1 x2 x3 x4 x5 x6 xs0).2.1 S1x1x16384.size (by sl_kernel_rfl) y

/-- What case C leaves in output 8's staging buffer. -/
def out0_C_8 (c : Dev nD) (i : grid1.Coords) (arg2 : Memref sig .tc .vmem S1x1x16384 .f32) (harg2 : arg2.IsWhole) (arg3 : Memref sig .tc .vmem S1x1x16384 .i32) (harg3 : arg3.IsWhole) (arg4 : Memref sig .tc .vmem S1x32x1 .i32) (harg4 : arg4.IsWhole) (arg5 : Memref sig .tc .vmem S1x32x1 .i32) (harg5 : arg5.IsWhole) (arg6 : Memref sig .tc .vmem S1x32x4 .f32) (harg6 : arg6.IsWhole) (arg7 : Memref sig .tc .vmem S1x4x16384 .f32) (harg7 : arg7.IsWhole) (arg8 : Memref sig .tc .vmem S1x1x16384 .f32) (harg8 : arg8.IsWhole) (arg9 : Memref sig .tc .vmem S1x1x16384 .i32) (harg9 : arg9.IsWhole) (arg10 : Memref sig .tc .vmem S1x1x16384 .f32) (harg10 : arg10.IsWhole) (arg11 : Memref sig .tc .vmem S1x128 .f32) (harg11 : arg11.IsWhole) (arg12 : Memref sig .tc .smem S2 .f32) (harg12 : arg12.IsWhole) (hc0 : ¬cond0_0 i) (hc1 : cond0_1 i) (hc2 : cond0_2 i)
    (x0 : Vec F S1x1x16384 .f32) (x1 : Vec F S1x1x16384 .i32) (x2 : Vec F S1x32x1 .i32) (x3 : Vec F S1x32x1 .i32) (x4 : Vec F S1x32x4 .f32) (x5 : Vec F S1x4x16384 .f32) (x6 : Vec F S1x1x16384 .f32) (xs0 : Vec F S2 .f32) : Vec F S1x1x16384 .f32 :=
  VO0_8.read (Elt F) (VO0_8.writes (Elt F) VO0_8.junk (kernelRun0_C c i arg2 harg2 arg3 harg3 arg4 harg4 arg5 harg5 arg6 harg6 arg7 harg7 arg8 harg8 arg9 harg9 arg10 harg10 arg11 harg11 arg12 harg12 hc0 hc1 hc2 x0 x1 x2 x3 x4 x5 x6 xs0).2.1)

/-- Case C's pieces for output 9 tile its block. -/
theorem cover0_C_9 (c : Dev nD) (i : grid1.Coords) (arg2 : Memref sig .tc .vmem S1x1x16384 .f32) (harg2 : arg2.IsWhole) (arg3 : Memref sig .tc .vmem S1x1x16384 .i32) (harg3 : arg3.IsWhole) (arg4 : Memref sig .tc .vmem S1x32x1 .i32) (harg4 : arg4.IsWhole) (arg5 : Memref sig .tc .vmem S1x32x1 .i32) (harg5 : arg5.IsWhole) (arg6 : Memref sig .tc .vmem S1x32x4 .f32) (harg6 : arg6.IsWhole) (arg7 : Memref sig .tc .vmem S1x4x16384 .f32) (harg7 : arg7.IsWhole) (arg8 : Memref sig .tc .vmem S1x1x16384 .f32) (harg8 : arg8.IsWhole) (arg9 : Memref sig .tc .vmem S1x1x16384 .i32) (harg9 : arg9.IsWhole) (arg10 : Memref sig .tc .vmem S1x1x16384 .f32) (harg10 : arg10.IsWhole) (arg11 : Memref sig .tc .vmem S1x128 .f32) (harg11 : arg11.IsWhole) (arg12 : Memref sig .tc .smem S2 .f32) (harg12 : arg12.IsWhole) (hc0 : ¬cond0_0 i) (hc1 : cond0_1 i) (hc2 : cond0_2 i)
    (x0 : Vec F S1x1x16384 .f32) (x1 : Vec F S1x1x16384 .i32) (x2 : Vec F S1x32x1 .i32) (x3 : Vec F S1x32x1 .i32) (x4 : Vec F S1x32x4 .f32) (x5 : Vec F S1x4x16384 .f32) (x6 : Vec F S1x1x16384 .f32) (xs0 : Vec F S2 .f32) (y : S1x128.Idx) :
    ∃ pc ∈ (kernelRun0_C c i arg2 harg2 arg3 harg3 arg4 harg4 arg5 harg5 arg6 harg6 arg7 harg7 arg8 harg8 arg9 harg9 arg10 harg10 arg11 harg11 arg12 harg12 hc0 hc1 hc2 x0 x1 x2 x3 x4 x5 x6 xs0).2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 hc0 hc1 hc2 x0 x1 x2 x3 x4 x5 x6 xs0).2.2.1 S1x128.size (by sl_kernel_rfl) y

/-- What case C leaves in output 9's staging buffer. -/
def out0_C_9 (c : Dev nD) (i : grid1.Coords) (arg2 : Memref sig .tc .vmem S1x1x16384 .f32) (harg2 : arg2.IsWhole) (arg3 : Memref sig .tc .vmem S1x1x16384 .i32) (harg3 : arg3.IsWhole) (arg4 : Memref sig .tc .vmem S1x32x1 .i32) (harg4 : arg4.IsWhole) (arg5 : Memref sig .tc .vmem S1x32x1 .i32) (harg5 : arg5.IsWhole) (arg6 : Memref sig .tc .vmem S1x32x4 .f32) (harg6 : arg6.IsWhole) (arg7 : Memref sig .tc .vmem S1x4x16384 .f32) (harg7 : arg7.IsWhole) (arg8 : Memref sig .tc .vmem S1x1x16384 .f32) (harg8 : arg8.IsWhole) (arg9 : Memref sig .tc .vmem S1x1x16384 .i32) (harg9 : arg9.IsWhole) (arg10 : Memref sig .tc .vmem S1x1x16384 .f32) (harg10 : arg10.IsWhole) (arg11 : Memref sig .tc .vmem S1x128 .f32) (harg11 : arg11.IsWhole) (arg12 : Memref sig .tc .smem S2 .f32) (harg12 : arg12.IsWhole) (hc0 : ¬cond0_0 i) (hc1 : cond0_1 i) (hc2 : cond0_2 i)
    (x0 : Vec F S1x1x16384 .f32) (x1 : Vec F S1x1x16384 .i32) (x2 : Vec F S1x32x1 .i32) (x3 : Vec F S1x32x1 .i32) (x4 : Vec F S1x32x4 .f32) (x5 : Vec F S1x4x16384 .f32) (x6 : Vec F S1x1x16384 .f32) (xs0 : Vec F S2 .f32) : Vec F S1x128 .f32 :=
  VO0_9.read (Elt F) (VO0_9.writes (Elt F) VO0_9.junk (kernelRun0_C c i arg2 harg2 arg3 harg3 arg4 harg4 arg5 harg5 arg6 harg6 arg7 harg7 arg8 harg8 arg9 harg9 arg10 harg10 arg11 harg11 arg12 harg12 hc0 hc1 hc2 x0 x1 x2 x3 x4 x5 x6 xs0).2.2.1)

/-- Case C's pieces for scratch `arg12`, which the kernel carries between points, cover it. -/
theorem scover0_C_0 (c : Dev nD) (i : grid1.Coords) (arg2 : Memref sig .tc .vmem S1x1x16384 .f32) (harg2 : arg2.IsWhole) (arg3 : Memref sig .tc .vmem S1x1x16384 .i32) (harg3 : arg3.IsWhole) (arg4 : Memref sig .tc .vmem S1x32x1 .i32) (harg4 : arg4.IsWhole) (arg5 : Memref sig .tc .vmem S1x32x1 .i32) (harg5 : arg5.IsWhole) (arg6 : Memref sig .tc .vmem S1x32x4 .f32) (harg6 : arg6.IsWhole) (arg7 : Memref sig .tc .vmem S1x4x16384 .f32) (harg7 : arg7.IsWhole) (arg8 : Memref sig .tc .vmem S1x1x16384 .f32) (harg8 : arg8.IsWhole) (arg9 : Memref sig .tc .vmem S1x1x16384 .i32) (harg9 : arg9.IsWhole) (arg10 : Memref sig .tc .vmem S1x1x16384 .f32) (harg10 : arg10.IsWhole) (arg11 : Memref sig .tc .vmem S1x128 .f32) (harg11 : arg11.IsWhole) (arg12 : Memref sig .tc .smem S2 .f32) (harg12 : arg12.IsWhole) (hc0 : ¬cond0_0 i) (hc1 : cond0_1 i) (hc2 : cond0_2 i)
    (x0 : Vec F S1x1x16384 .f32) (x1 : Vec F S1x1x16384 .i32) (x2 : Vec F S1x32x1 .i32) (x3 : Vec F S1x32x1 .i32) (x4 : Vec F S1x32x4 .f32) (x5 : Vec F S1x4x16384 .f32) (x6 : Vec F S1x1x16384 .f32) (xs0 : Vec F S2 .f32) (y : S2.Idx) :
    ∃ pc ∈ (kernelRun0_C c i arg2 harg2 arg3 harg3 arg4 harg4 arg5 harg5 arg6 harg6 arg7 harg7 arg8 harg8 arg9 harg9 arg10 harg10 arg11 harg11 arg12 harg12 hc0 hc1 hc2 x0 x1 x2 x3 x4 x5 x6 xs0).2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 hc0 hc1 hc2 x0 x1 x2 x3 x4 x5 x6 xs0).2.2.2.1 S1.size (by sl_kernel_rfl) y

/-- What case C leaves in scratch `arg12`. -/
def sout0_C_0 (c : Dev nD) (i : grid1.Coords) (arg2 : Memref sig .tc .vmem S1x1x16384 .f32) (harg2 : arg2.IsWhole) (arg3 : Memref sig .tc .vmem S1x1x16384 .i32) (harg3 : arg3.IsWhole) (arg4 : Memref sig .tc .vmem S1x32x1 .i32) (harg4 : arg4.IsWhole) (arg5 : Memref sig .tc .vmem S1x32x1 .i32) (harg5 : arg5.IsWhole) (arg6 : Memref sig .tc .vmem S1x32x4 .f32) (harg6 : arg6.IsWhole) (arg7 : Memref sig .tc .vmem S1x4x16384 .f32) (harg7 : arg7.IsWhole) (arg8 : Memref sig .tc .vmem S1x1x16384 .f32) (harg8 : arg8.IsWhole) (arg9 : Memref sig .tc .vmem S1x1x16384 .i32) (harg9 : arg9.IsWhole) (arg10 : Memref sig .tc .vmem S1x1x16384 .f32) (harg10 : arg10.IsWhole) (arg11 : Memref sig .tc .vmem S1x128 .f32) (harg11 : arg11.IsWhole) (arg12 : Memref sig .tc .smem S2 .f32) (harg12 : arg12.IsWhole) (hc0 : ¬cond0_0 i) (hc1 : cond0_1 i) (hc2 : cond0_2 i)
    (x0 : Vec F S1x1x16384 .f32) (x1 : Vec F S1x1x16384 .i32) (x2 : Vec F S1x32x1 .i32) (x3 : Vec F S1x32x1 .i32) (x4 : Vec F S1x32x4 .f32) (x5 : Vec F S1x4x16384 .f32) (x6 : Vec F S1x1x16384 .f32) (xs0 : Vec F S2 .f32) : Vec F S2 .f32 :=
  VS0_0.read (Elt F) (VS0_0.writes (Elt F) VS0_0.junk (kernelRun0_C c i arg2 harg2 arg3 harg3 arg4 harg4 arg5 harg5 arg6 harg6 arg7 harg7 arg8 harg8 arg9 harg9 arg10 harg10 arg11 harg11 arg12 harg12 hc0 hc1 hc2 x0 x1 x2 x3 x4 x5 x6 xs0).2.2.2.1)

/-! ## What the outputs hold after each point -/

/-- The accumulation, point by point. -/
def outsAt0 (c : Dev nD) : (n : ℕ) → n < cfg1.N → Vec F S1x1x16384 .i32 × Vec F S1x1x16384 .f32 × Vec F S1x128 .f32 × Vec F S2 .f32
  | 0, hn => (out0_A_7 c (grid1.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) ((hcond0_0 ⟨0, hn⟩).mpr (Nat.zero_mod _)) (fun h => (fun h => by (try dsimp only at h); omega) ((hcond0_1 ⟨0, hn⟩).mp h)) (fun h => (fun h => by (try dsimp only at h); omega) ((hcond0_2 ⟨0, hn⟩).mp h)) (iblk V c 0 ⟨0, hn⟩) (iblk V c 1 ⟨0, hn⟩) (iblk V c 2 ⟨0, hn⟩) (iblk V c 3 ⟨0, hn⟩) (iblk V c 4 ⟨0, hn⟩) (iblk V c 5 ⟨0, hn⟩) (iblk V c 6 ⟨0, hn⟩), out0_A_8 c (grid1.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) ((hcond0_0 ⟨0, hn⟩).mpr (Nat.zero_mod _)) (fun h => (fun h => by (try dsimp only at h); omega) ((hcond0_1 ⟨0, hn⟩).mp h)) (fun h => (fun h => by (try dsimp only at h); omega) ((hcond0_2 ⟨0, hn⟩).mp h)) (iblk V c 0 ⟨0, hn⟩) (iblk V c 1 ⟨0, hn⟩) (iblk V c 2 ⟨0, hn⟩) (iblk V c 3 ⟨0, hn⟩) (iblk V c 4 ⟨0, hn⟩) (iblk V c 5 ⟨0, hn⟩) (iblk V c 6 ⟨0, hn⟩), out0_A_9 c (grid1.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) ((hcond0_0 ⟨0, hn⟩).mpr (Nat.zero_mod _)) (fun h => (fun h => by (try dsimp only at h); omega) ((hcond0_1 ⟨0, hn⟩).mp h)) (fun h => (fun h => by (try dsimp only at h); omega) ((hcond0_2 ⟨0, hn⟩).mp h)) (iblk V c 0 ⟨0, hn⟩) (iblk V c 1 ⟨0, hn⟩) (iblk V c 2 ⟨0, hn⟩) (iblk V c 3 ⟨0, hn⟩) (iblk V c 4 ⟨0, hn⟩) (iblk V c 5 ⟨0, hn⟩) (iblk V c 6 ⟨0, hn⟩), sout0_A_0 c (grid1.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) ((hcond0_0 ⟨0, hn⟩).mpr (Nat.zero_mod _)) (fun h => (fun h => by (try dsimp only at h); omega) ((hcond0_1 ⟨0, hn⟩).mp h)) (fun h => (fun h => by (try dsimp only at h); omega) ((hcond0_2 ⟨0, hn⟩).mp h)) (iblk V c 0 ⟨0, hn⟩) (iblk V c 1 ⟨0, hn⟩) (iblk V c 2 ⟨0, hn⟩) (iblk V c 3 ⟨0, hn⟩) (iblk V c 4 ⟨0, hn⟩) (iblk V c 5 ⟨0, hn⟩) (iblk V c 6 ⟨0, hn⟩))
  | n + 1, hn =>
    if h0 : (n + 1) % 32 = 0 then
      if h1 : 1 ≤ (n + 1) then
        False.elim (by have hN : n + 1 < 32 := lt_of_lt_of_eq hn (show cfg1.N = 32 from N_1); omega)
      else
        if h2 : (n + 1) % 32 = 31 then
          False.elim (by have hN : n + 1 < 32 := lt_of_lt_of_eq hn (show cfg1.N = 32 from N_1); omega)
        else
          (out0_A_7 c (grid1.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) ((hcond0_0 ⟨n + 1, hn⟩).mpr h0) (fun h => h1 ((hcond0_1 ⟨n + 1, hn⟩).mp h)) (fun h => h2 ((hcond0_2 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩), out0_A_8 c (grid1.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) ((hcond0_0 ⟨n + 1, hn⟩).mpr h0) (fun h => h1 ((hcond0_1 ⟨n + 1, hn⟩).mp h)) (fun h => h2 ((hcond0_2 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩), out0_A_9 c (grid1.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) ((hcond0_0 ⟨n + 1, hn⟩).mpr h0) (fun h => h1 ((hcond0_1 ⟨n + 1, hn⟩).mp h)) (fun h => h2 ((hcond0_2 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩), sout0_A_0 c (grid1.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) ((hcond0_0 ⟨n + 1, hn⟩).mpr h0) (fun h => h1 ((hcond0_1 ⟨n + 1, hn⟩).mp h)) (fun h => h2 ((hcond0_2 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩))
    else
      if h1 : 1 ≤ (n + 1) then
        if h2 : (n + 1) % 32 = 31 then
          (out0_C_7 c (grid1.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) (fun h => h0 ((hcond0_0 ⟨n + 1, hn⟩).mp h)) ((hcond0_1 ⟨n + 1, hn⟩).mpr h1) ((hcond0_2 ⟨n + 1, hn⟩).mpr h2) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (outsAt0 c n (Nat.lt_of_succ_lt hn)).2.2.2, out0_C_8 c (grid1.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) (fun h => h0 ((hcond0_0 ⟨n + 1, hn⟩).mp h)) ((hcond0_1 ⟨n + 1, hn⟩).mpr h1) ((hcond0_2 ⟨n + 1, hn⟩).mpr h2) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (outsAt0 c n (Nat.lt_of_succ_lt hn)).2.2.2, out0_C_9 c (grid1.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) (fun h => h0 ((hcond0_0 ⟨n + 1, hn⟩).mp h)) ((hcond0_1 ⟨n + 1, hn⟩).mpr h1) ((hcond0_2 ⟨n + 1, hn⟩).mpr h2) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (outsAt0 c n (Nat.lt_of_succ_lt hn)).2.2.2, sout0_C_0 c (grid1.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) (fun h => h0 ((hcond0_0 ⟨n + 1, hn⟩).mp h)) ((hcond0_1 ⟨n + 1, hn⟩).mpr h1) ((hcond0_2 ⟨n + 1, hn⟩).mpr h2) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (outsAt0 c n (Nat.lt_of_succ_lt hn)).2.2.2)
        else
          (out0_B_7 c (grid1.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) (fun h => h0 ((hcond0_0 ⟨n + 1, hn⟩).mp h)) ((hcond0_1 ⟨n + 1, hn⟩).mpr h1) (fun h => h2 ((hcond0_2 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (outsAt0 c n (Nat.lt_of_succ_lt hn)).2.2.2, out0_B_8 c (grid1.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) (fun h => h0 ((hcond0_0 ⟨n + 1, hn⟩).mp h)) ((hcond0_1 ⟨n + 1, hn⟩).mpr h1) (fun h => h2 ((hcond0_2 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (outsAt0 c n (Nat.lt_of_succ_lt hn)).2.2.2, out0_B_9 c (grid1.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) (fun h => h0 ((hcond0_0 ⟨n + 1, hn⟩).mp h)) ((hcond0_1 ⟨n + 1, hn⟩).mpr h1) (fun h => h2 ((hcond0_2 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (outsAt0 c n (Nat.lt_of_succ_lt hn)).2.2.2, sout0_B_0 c (grid1.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) (fun h => h0 ((hcond0_0 ⟨n + 1, hn⟩).mp h)) ((hcond0_1 ⟨n + 1, hn⟩).mpr h1) (fun h => h2 ((hcond0_2 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (outsAt0 c n (Nat.lt_of_succ_lt hn)).2.2.2)
      else
        False.elim (by have hN : n + 1 < 32 := lt_of_lt_of_eq hn (show cfg1.N = 32 from N_1); omega)

/-- `outsAt0` at a point of case A. -/
theorem outsAt0_A (c : Dev nD) (t : Fin cfg1.N) (h0 : t.val % 32 = 0) (h1 : ¬1 ≤ t.val) (h2 : ¬t.val % 32 = 31) :
    outsAt0 V c t.val t.isLt = (out0_A_7 c (grid1.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) ((hcond0_0 t).mpr h0) (fun h => h1 ((hcond0_1 t).mp h)) (fun h => h2 ((hcond0_2 t).mp h)) (iblk V c 0 t) (iblk V c 1 t) (iblk V c 2 t) (iblk V c 3 t) (iblk V c 4 t) (iblk V c 5 t) (iblk V c 6 t), out0_A_8 c (grid1.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) ((hcond0_0 t).mpr h0) (fun h => h1 ((hcond0_1 t).mp h)) (fun h => h2 ((hcond0_2 t).mp h)) (iblk V c 0 t) (iblk V c 1 t) (iblk V c 2 t) (iblk V c 3 t) (iblk V c 4 t) (iblk V c 5 t) (iblk V c 6 t), out0_A_9 c (grid1.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) ((hcond0_0 t).mpr h0) (fun h => h1 ((hcond0_1 t).mp h)) (fun h => h2 ((hcond0_2 t).mp h)) (iblk V c 0 t) (iblk V c 1 t) (iblk V c 2 t) (iblk V c 3 t) (iblk V c 4 t) (iblk V c 5 t) (iblk V c 6 t), sout0_A_0 c (grid1.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) ((hcond0_0 t).mpr h0) (fun h => h1 ((hcond0_1 t).mp h)) (fun h => h2 ((hcond0_2 t).mp h)) (iblk V c 0 t) (iblk V c 1 t) (iblk V c 2 t) (iblk V c 3 t) (iblk V c 4 t) (iblk V c 5 t) (iblk V c 6 t)) := by
  obtain ⟨n, hn⟩ := t
  cases n with
  | zero => exact rfl
  | succ n => exact (dif_pos h0).trans ((dif_neg h1).trans ((dif_neg h2).trans rfl))

/-- `outsAt0` at a point of case B. -/
theorem outsAt0_B (c : Dev nD) (t : Fin cfg1.N) (h0 : ¬t.val % 32 = 0) (h1 : 1 ≤ t.val) (h2 : ¬t.val % 32 = 31) :
    outsAt0 V c t.val t.isLt = (out0_B_7 c (grid1.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) ((hcond0_1 t).mpr h1) (fun h => h2 ((hcond0_2 t).mp h)) (iblk V c 0 t) (iblk V c 1 t) (iblk V c 2 t) (iblk V c 3 t) (iblk V c 4 t) (iblk V c 5 t) (iblk V c 6 t) (outsAt0 V c (t.val - 1) (Nat.lt_of_le_of_lt (Nat.sub_le _ _) t.isLt)).2.2.2, out0_B_8 c (grid1.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) ((hcond0_1 t).mpr h1) (fun h => h2 ((hcond0_2 t).mp h)) (iblk V c 0 t) (iblk V c 1 t) (iblk V c 2 t) (iblk V c 3 t) (iblk V c 4 t) (iblk V c 5 t) (iblk V c 6 t) (outsAt0 V c (t.val - 1) (Nat.lt_of_le_of_lt (Nat.sub_le _ _) t.isLt)).2.2.2, out0_B_9 c (grid1.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) ((hcond0_1 t).mpr h1) (fun h => h2 ((hcond0_2 t).mp h)) (iblk V c 0 t) (iblk V c 1 t) (iblk V c 2 t) (iblk V c 3 t) (iblk V c 4 t) (iblk V c 5 t) (iblk V c 6 t) (outsAt0 V c (t.val - 1) (Nat.lt_of_le_of_lt (Nat.sub_le _ _) t.isLt)).2.2.2, sout0_B_0 c (grid1.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) ((hcond0_1 t).mpr h1) (fun h => h2 ((hcond0_2 t).mp h)) (iblk V c 0 t) (iblk V c 1 t) (iblk V c 2 t) (iblk V c 3 t) (iblk V c 4 t) (iblk V c 5 t) (iblk V c 6 t) (outsAt0 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans ((dif_neg h2).trans rfl))

/-- `outsAt0` at a point of case C. -/
theorem outsAt0_C (c : Dev nD) (t : Fin cfg1.N) (h0 : ¬t.val % 32 = 0) (h1 : 1 ≤ t.val) (h2 : t.val % 32 = 31) :
    outsAt0 V c t.val t.isLt = (out0_C_7 c (grid1.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) ((hcond0_1 t).mpr h1) ((hcond0_2 t).mpr h2) (iblk V c 0 t) (iblk V c 1 t) (iblk V c 2 t) (iblk V c 3 t) (iblk V c 4 t) (iblk V c 5 t) (iblk V c 6 t) (outsAt0 V c (t.val - 1) (Nat.lt_of_le_of_lt (Nat.sub_le _ _) t.isLt)).2.2.2, out0_C_8 c (grid1.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) ((hcond0_1 t).mpr h1) ((hcond0_2 t).mpr h2) (iblk V c 0 t) (iblk V c 1 t) (iblk V c 2 t) (iblk V c 3 t) (iblk V c 4 t) (iblk V c 5 t) (iblk V c 6 t) (outsAt0 V c (t.val - 1) (Nat.lt_of_le_of_lt (Nat.sub_le _ _) t.isLt)).2.2.2, out0_C_9 c (grid1.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) ((hcond0_1 t).mpr h1) ((hcond0_2 t).mpr h2) (iblk V c 0 t) (iblk V c 1 t) (iblk V c 2 t) (iblk V c 3 t) (iblk V c 4 t) (iblk V c 5 t) (iblk V c 6 t) (outsAt0 V c (t.val - 1) (Nat.lt_of_le_of_lt (Nat.sub_le _ _) t.isLt)).2.2.2, sout0_C_0 c (grid1.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) ((hcond0_1 t).mpr h1) ((hcond0_2 t).mpr h2) (iblk V c 0 t) (iblk V c 1 t) (iblk V c 2 t) (iblk V c 3 t) (iblk V c 4 t) (iblk V c 5 t) (iblk V c 6 t) (outsAt0 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans ((dif_pos h2).trans rfl))

/-- The region invariant before position `n` with a scratch the kernel CARRIES between points. -/
def PhiS (c : Dev nD) : (n : ℕ) → n ≤ cfg1.N → sProp 𝕄
  | 0, _ => Pipeline.scopedRest (Ix := Unit) (Name := ℕ) (U := UR sig nD τ) (Lvl := ℕ) (Val := Elt F) spec1 c
  | n + 1, hn => iprop(iprop(owns (c : Thread nD τ) scM0_0 fullShare ((outsAt0 V c n hn).2.2.2)) ∗ Pipeline.scopedRestBut (Ix := Unit) (Name := ℕ) (U := UR sig nD τ) (Lvl := ℕ) (Val := Elt F) spec1 c [cc1_scratch0])

theorem PhiS_zero (c : Dev nD) (n : ℕ) (h : n ≤ cfg1.N) (hz : n = 0) : PhiS V c n h = Pipeline.scopedRest (Ix := Unit) (Name := ℕ) (U := UR sig nD τ) (Lvl := ℕ) (Val := Elt F) spec1 c := by
  subst hz; rfl

/-- After point `n` (before point `n + 1`). -/
theorem PhiS_succ (c : Dev nD) (n : ℕ) (hn : n < cfg1.N) :
    PhiS V c (n + 1) hn = iprop(iprop(owns (c : Thread nD τ) scM0_0 fullShare ((outsAt0 V c n hn).2.2.2)) ∗ Pipeline.scopedRestBut (Ix := Unit) (Name := ℕ) (U := UR sig nD τ) (Lvl := ℕ) (Val := Elt F) spec1 c [cc1_scratch0]) := rfl

/-- Before a point that is not the first. -/
theorem PhiS_pos (c : Dev nD) (n : ℕ) (h : n ≤ cfg1.N) (hz : n ≠ 0) :
    PhiS V c n h = iprop(iprop(owns (c : Thread nD τ) scM0_0 fullShare ((outsAt0 V c (n - 1) (by omega)).2.2.2)) ∗ Pipeline.scopedRestBut (Ix := Unit) (Name := ℕ) (U := UR sig nD τ) (Lvl := ℕ) (Val := Elt F) spec1 c [cc1_scratch0]) := by
  cases n with
  | zero => exact absurd rfl hz
  | succ n => rfl

/-! ## The pipeline's proof data -/

/-- The proof data of the one pipeline on core `c`. -/
def dats (_ : Fin 1) (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => (outsAt0 V c t.val t.isLt).1
    | ⟨8, _⟩ => (outsAt0 V c t.val t.isLt).2.1
    | ⟨9, _⟩ => (outsAt0 V c t.val t.isLt).2.2.1
  Φ t := PhiS V c t.val (Nat.le_of_lt_succ t.isLt)
  q _ := fullShare
  owed _ := 0

/-- The proof data's arrays are the region-entry contents. -/
theorem A_eq (c : Dev nD) (w : Fin cfg1.W) : (dats V 0 c).A w = V c (Pipeline.arrRef spec1 w) := by
  dsimp only [dats]

/-- The invariant at a point's start (the proof data at `t.castSucc`), restated at `t.val`. -/
theorem PhiS_castSucc (c : Dev nD) (t : Fin cfg1.N) :
    (dats V 0 c).Φ t.castSucc = PhiS V c t.val (Nat.le_of_lt t.isLt) := by
  dsimp only [dats]; exact Pipeline.Dat.Φ_castSucc (PhiS V c) t

/-- What the body leaves, window by window (the proof data's `match` reduced by `dsimp`). -/
theorem after0_0 (c : Dev nD) (t : Fin cfg1.N) : (dats V 0 c).after 0 t = iblk V c 0 t := by dsimp only [dats]
theorem after0_1 (c : Dev nD) (t : Fin cfg1.N) : (dats V 0 c).after 1 t = iblk V c 1 t := by dsimp only [dats]
theorem after0_2 (c : Dev nD) (t : Fin cfg1.N) : (dats V 0 c).after 2 t = iblk V c 2 t := by dsimp only [dats]
theorem after0_3 (c : Dev nD) (t : Fin cfg1.N) : (dats V 0 c).after 3 t = iblk V c 3 t := by dsimp only [dats]
theorem after0_4 (c : Dev nD) (t : Fin cfg1.N) : (dats V 0 c).after 4 t = iblk V c 4 t := by dsimp only [dats]
theorem after0_5 (c : Dev nD) (t : Fin cfg1.N) : (dats V 0 c).after 5 t = iblk V c 5 t := by dsimp only [dats]
theorem after0_6 (c : Dev nD) (t : Fin cfg1.N) : (dats V 0 c).after 6 t = iblk V c 6 t := by dsimp only [dats]
theorem after0_7 (c : Dev nD) (t : Fin cfg1.N) : (dats V 0 c).after 7 t = (outsAt0 V c t.val t.isLt).1 := by dsimp only [dats]
theorem after0_8 (c : Dev nD) (t : Fin cfg1.N) : (dats V 0 c).after 8 t = (outsAt0 V c t.val t.isLt).2.1 := by dsimp only [dats]
theorem after0_9 (c : Dev nD) (t : Fin cfg1.N) : (dats V 0 c).after 9 t = (outsAt0 V c t.val t.isLt).2.2.1 := by dsimp only [dats]

/-- Each input's current staging buffer holds its block at every point, fetched there or not (`beforeK_W_of`). -/
theorem before0_0 (c : Dev nD) (t : Fin cfg1.N) (d) : (dats V 0 c).before 0 t d = iblk V c 0 t :=
  before0_0_of V (dats V 0 c) (A_eq V c 0) (after0_0 V c) t d
theorem before0_1 (c : Dev nD) (t : Fin cfg1.N) (d) : (dats V 0 c).before 1 t d = iblk V c 1 t :=
  before0_1_of V (dats V 0 c) (A_eq V c 1) (after0_1 V c) t d
theorem before0_2 (c : Dev nD) (t : Fin cfg1.N) (d) : (dats V 0 c).before 2 t d = iblk V c 2 t :=
  before0_2_of V (dats V 0 c) (A_eq V c 2) (after0_2 V c) t d
theorem before0_3 (c : Dev nD) (t : Fin cfg1.N) (d) : (dats V 0 c).before 3 t d = iblk V c 3 t :=
  before0_3_of V (dats V 0 c) (A_eq V c 3) (after0_3 V c) t d
theorem before0_4 (c : Dev nD) (t : Fin cfg1.N) (d) : (dats V 0 c).before 4 t d = iblk V c 4 t :=
  before0_4_of V (dats V 0 c) (A_eq V c 4) (after0_4 V c) t d
theorem before0_5 (c : Dev nD) (t : Fin cfg1.N) (d) : (dats V 0 c).before 5 t d = iblk V c 5 t :=
  before0_5_of V (dats V 0 c) (A_eq V c 5) (after0_5 V c) t d
theorem before0_6 (c : Dev nD) (t : Fin cfg1.N) (d) : (dats V 0 c).before 6 t d = iblk V c 6 t :=
  before0_6_of V (dats V 0 c) (A_eq V c 6) (after0_6 V c) t d

/-! ## The body obligation, at a generic point -/

/-- What the body is called with at point `t` (Lib/Pipeline.lean `BodyObligation`'s precondition, the windows one by one),. -/
def bodyPre (c : Dev nD) (t : Fin cfg1.N) : sProp 𝕄 :=
  iprop((dats V 0 c).Φ t.castSucc ∗ (dats V 0 c).owesAt () t.castSucc
    ∗ (∃ d, owns (c : Thread nD τ) (ms0_0 t) fullShare ((dats V 0 c).before 0 t d))
    ∗ (∃ d, owns (c : Thread nD τ) (ms0_1 t) fullShare ((dats V 0 c).before 1 t d))
    ∗ (∃ d, owns (c : Thread nD τ) (ms0_2 t) fullShare ((dats V 0 c).before 2 t d))
    ∗ (∃ d, owns (c : Thread nD τ) (ms0_3 t) fullShare ((dats V 0 c).before 3 t d))
    ∗ (∃ d, owns (c : Thread nD τ) (ms0_4 t) fullShare ((dats V 0 c).before 4 t d))
    ∗ (∃ d, owns (c : Thread nD τ) (ms0_5 t) fullShare ((dats V 0 c).before 5 t d))
    ∗ (∃ d, owns (c : Thread nD τ) (ms0_6 t) fullShare ((dats V 0 c).before 6 t d))
    ∗ (∃ d, owns (c : Thread nD τ) (ms0_7 t) fullShare ((dats V 0 c).before 7 t d))
    ∗ (∃ d, owns (c : Thread nD τ) (ms0_8 t) fullShare ((dats V 0 c).before 8 t d))
    ∗ (∃ d, owns (c : Thread nD τ) (ms0_9 t) fullShare ((dats V 0 c).before 9 t d)))

/-- and what it returns. -/
def bodyPost (c : Dev nD) (t : Fin cfg1.N) : sProp 𝕄 :=
  iprop((dats V 0 c).Φ t.succ ∗ (dats V 0 c).owesAt () t.succ
    ∗ (dats V 0 c).leavesExact 0 t
    ∗ (dats V 0 c).leavesExact 1 t
    ∗ (dats V 0 c).leavesExact 2 t
    ∗ (dats V 0 c).leavesExact 3 t
    ∗ (dats V 0 c).leavesExact 4 t
    ∗ (dats V 0 c).leavesExact 5 t
    ∗ (dats V 0 c).leavesExact 6 t
    ∗ (dats V 0 c).leavesExact 7 t
    ∗ (dats V 0 c).leavesExact 8 t
    ∗ (dats V 0 c).leavesExact 9 t)

set_option maxHeartbeats 9600000 in
/-- The body at any point. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before0_0, before0_1, before0_2, before0_3, before0_4, before0_5, before0_6]
  rw [show (dats V 0 c).owesAt () t.succ = (dats V 0 c).owesAt () t.castSucc from rfl]
  rw [show (dats V 0 c).Φ t.succ = PhiS V c (t.val + 1) t.isLt from rfl, PhiS_succ]
  have hN : t.val < 32 := lt_of_lt_of_eq t.isLt (show cfg1.N = 32 from N_1)
  by_cases h0 : t.val % 32 = 0
  · by_cases h1 : 1 ≤ t.val
    · exfalso; omega
    · by_cases h2 : t.val % 32 = 31
      · exfalso; omega
      · rw [show (dats V 0 c).leavesExact 0 t = owns (c : Thread nD τ) (ms0_0 t) fullShare ((dats V 0 c).after 0 t) from by
      unfold Dat.leavesExact; rw [liveAt0_0 t], after0_0]
        rw [show (dats V 0 c).leavesExact 1 t = owns (c : Thread nD τ) (ms0_1 t) fullShare ((dats V 0 c).after 1 t) from by
      unfold Dat.leavesExact; rw [liveAt0_1 t], after0_1]
        rw [show (dats V 0 c).leavesExact 2 t = owns (c : Thread nD τ) (ms0_2 t) fullShare ((dats V 0 c).after 2 t) from by
      unfold Dat.leavesExact; rw [liveAt0_2 t], after0_2]
        rw [show (dats V 0 c).leavesExact 3 t = owns (c : Thread nD τ) (ms0_3 t) fullShare ((dats V 0 c).after 3 t) from by
      unfold Dat.leavesExact; rw [liveAt0_3 t], after0_3]
        rw [show (dats V 0 c).leavesExact 4 t = owns (c : Thread nD τ) (ms0_4 t) fullShare ((dats V 0 c).after 4 t) from by
      unfold Dat.leavesExact; rw [liveAt0_4 t], after0_4]
        rw [show (dats V 0 c).leavesExact 5 t = owns (c : Thread nD τ) (ms0_5 t) fullShare ((dats V 0 c).after 5 t) from by
      unfold Dat.leavesExact; rw [liveAt0_5 t], after0_5]
        rw [show (dats V 0 c).leavesExact 6 t = owns (c : Thread nD τ) (ms0_6 t) fullShare ((dats V 0 c).after 6 t) from by
      unfold Dat.leavesExact; rw [liveAt0_6 t], after0_6]
        rw [show (dats V 0 c).leavesExact 7 t = owns (c : Thread nD τ) (ms0_7 t) fullShare ((dats V 0 c).after 7 t) from by
      unfold Dat.leavesExact; rw [liveAt0_7 t], after0_7]
        rw [show (dats V 0 c).leavesExact 8 t = owns (c : Thread nD τ) (ms0_8 t) fullShare ((dats V 0 c).after 8 t) from by
      unfold Dat.leavesExact; rw [liveAt0_8 t], after0_8]
        rw [Dat.leavesExact_idle (dats V 0 c) 9 t (idleAt0_9_A t ((hcond0_0 t).mpr h0) (fun h => h1 ((hcond0_1 t).mp h)) (fun h => h2 ((hcond0_2 t).mp h))) (noFlush0_9_A t ((hcond0_0 t).mpr h0) (fun h => h1 ((hcond0_1 t).mp h)) (fun h => h2 ((hcond0_2 t).mp h)))]
        by_cases hz : t.val = 0
        · rw [PhiS_castSucc V c t, PhiS_zero V c _ _ hz, PhiA0_eq]
          rw [outsAt0_A V c t h0 h1 h2]
          unfold out0_A_7 out0_A_8 sout0_A_0; (try dsimp only)
          iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
          iapply ((kernelRun0_A c (grid1.coords t) _ _ _ _ _ _ _ _ _ _ _ _ _ _ _ _ _ _ _ _ _ _ ((hcond0_0 t).mpr h0) (fun h => h1 ((hcond0_1 t).mp h)) (fun h => h2 ((hcond0_2 t).mp h)) (iblk V c 0 t) (iblk V c 1 t) (iblk V c 2 t) (iblk V c 3 t) (iblk V c 4 t) (iblk V c 5 t) (iblk V c 6 t)).2.2.2.2 _ Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexists _; iexact H7
          isplitl [H8]; · iexists _; iexact H8
          isplitl [H9]; · iexact H9
          isplitl [HS0]; · iexact HS0
          iintro ⟨H0, H1, H2, H3, H4, H5, H6, ⟨%e7, H7⟩, ⟨%e8, H8⟩, H9, ⟨%es0, HS0⟩⟩
          isplitl [HS0 Hg]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _ _ _ _ _ _)
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]
          · unfold owns; iexists _; isplitr
            swap; · iexact H7
            ipureintro; exact View.read_writes_of_cover _ _ _ _ _ (cover0_A_7 c _ _ _ _ _ _ _ _ _ _ _ _ _ _ _ _ _ _ _ _ _ _ _ _ _ _ _ _ _ _ _ _ _)
          isplitl [H8]
          · unfold owns; iexists _; isplitr
            swap; · iexact H8
            ipureintro; exact View.read_writes_of_cover _ _ _ _ _ (cover0_A_8 c _ _ _ _ _ _ _ _ _ _ _ _ _ _ _ _ _ _ _ _ _ _ _ _ _ _ _ _ _ _ _ _ _)
          iexists _; iexact H9
        · exfalso; have hN : t.val < 32 := lt_of_lt_of_eq t.isLt (show cfg1.N = 32 from N_1); omega
  · by_cases h1 : 1 ≤ t.val
    · by_cases h2 : t.val % 32 = 31
      · rw [show (dats V 0 c).leavesExact 0 t = owns (c : Thread nD τ) (ms0_0 t) fullShare ((dats V 0 c).after 0 t) from by
      unfold Dat.leavesExact; rw [liveAt0_0 t], after0_0]
        rw [show (dats V 0 c).leavesExact 1 t = owns (c : Thread nD τ) (ms0_1 t) fullShare ((dats V 0 c).after 1 t) from by
      unfold Dat.leavesExact; rw [liveAt0_1 t], after0_1]
        rw [show (dats V 0 c).leavesExact 2 t = owns (c : Thread nD τ) (ms0_2 t) fullShare ((dats V 0 c).after 2 t) from by
      unfold Dat.leavesExact; rw [liveAt0_2 t], after0_2]
        rw [show (dats V 0 c).leavesExact 3 t = owns (c : Thread nD τ) (ms0_3 t) fullShare ((dats V 0 c).after 3 t) from by
      unfold Dat.leavesExact; rw [liveAt0_3 t], after0_3]
        rw [show (dats V 0 c).leavesExact 4 t = owns (c : Thread nD τ) (ms0_4 t) fullShare ((dats V 0 c).after 4 t) from by
      unfold Dat.leavesExact; rw [liveAt0_4 t], after0_4]
        rw [show (dats V 0 c).leavesExact 5 t = owns (c : Thread nD τ) (ms0_5 t) fullShare ((dats V 0 c).after 5 t) from by
      unfold Dat.leavesExact; rw [liveAt0_5 t], after0_5]
        rw [show (dats V 0 c).leavesExact 6 t = owns (c : Thread nD τ) (ms0_6 t) fullShare ((dats V 0 c).after 6 t) from by
      unfold Dat.leavesExact; rw [liveAt0_6 t], after0_6]
        rw [show (dats V 0 c).leavesExact 7 t = owns (c : Thread nD τ) (ms0_7 t) fullShare ((dats V 0 c).after 7 t) from by
      unfold Dat.leavesExact; rw [liveAt0_7 t], after0_7]
        rw [show (dats V 0 c).leavesExact 8 t = owns (c : Thread nD τ) (ms0_8 t) fullShare ((dats V 0 c).after 8 t) from by
      unfold Dat.leavesExact; rw [liveAt0_8 t], after0_8]
        rw [show (dats V 0 c).leavesExact 9 t = owns (c : Thread nD τ) (ms0_9 t) fullShare ((dats V 0 c).after 9 t) from by
      unfold Dat.leavesExact; rw [liveAt0_9_C t (fun h => h0 ((hcond0_0 t).mp h)) ((hcond0_1 t).mpr h1) ((hcond0_2 t).mpr h2)], after0_9]
        by_cases hz : t.val = 0
        · exfalso; have hN : t.val < 32 := lt_of_lt_of_eq t.isLt (show cfg1.N = 32 from N_1); omega
        · rw [PhiS_castSucc V c t, PhiS_pos V c _ _ hz]
          rw [outsAt0_C V c t h0 h1 h2]
          unfold out0_C_7 out0_C_8 out0_C_9 sout0_C_0; (try dsimp only)
          iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
          iapply ((kernelRun0_C c (grid1.coords t) _ _ _ _ _ _ _ _ _ _ _ _ _ _ _ _ _ _ _ _ _ _ (fun h => h0 ((hcond0_0 t).mp h)) ((hcond0_1 t).mpr h1) ((hcond0_2 t).mpr h2) (iblk V c 0 t) (iblk V c 1 t) (iblk V c 2 t) (iblk V c 3 t) (iblk V c 4 t) (iblk V c 5 t) (iblk V c 6 t) _).2.2.2.2 Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexists _; iexact H7
          isplitl [H8]; · iexists _; iexact H8
          isplitl [H9]; · iexists _; iexact H9
          isplitl [HS0]; · iexact HS0
          iintro ⟨H0, H1, H2, H3, H4, H5, H6, ⟨%e7, H7⟩, ⟨%e8, H8⟩, ⟨%e9, H9⟩, ⟨%es0, HS0⟩⟩
          isplitl [HS0 Hg]
          · isplitl [HS0]
            · unfold owns; iexists _; isplitr
              swap; · iexact HS0
              ipureintro; exact View.read_writes_of_cover _ _ _ _ _ (scover0_C_0 c _ _ _ _ _ _ _ _ _ _ _ _ _ _ _ _ _ _ _ _ _ _ _ _ _ _ _ _ _ _ _ _ _ _)
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]
          · unfold owns; iexists _; isplitr
            swap; · iexact H7
            ipureintro; exact View.read_writes_of_cover _ _ _ _ _ (cover0_C_7 c _ _ _ _ _ _ _ _ _ _ _ _ _ _ _ _ _ _ _ _ _ _ _ _ _ _ _ _ _ _ _ _ _ _)
          isplitl [H8]
          · unfold owns; iexists _; isplitr
            swap; · iexact H8
            ipureintro; exact View.read_writes_of_cover _ _ _ _ _ (cover0_C_8 c _ _ _ _ _ _ _ _ _ _ _ _ _ _ _ _ _ _ _ _ _ _ _ _ _ _ _ _ _ _ _ _ _ _)
          unfold owns; iexists _; isplitr
          swap; · iexact H9
          ipureintro; exact View.read_writes_of_cover _ _ _ _ _ (cover0_C_9 c _ _ _ _ _ _ _ _ _ _ _ _ _ _ _ _ _ _ _ _ _ _ _ _ _ _ _ _ _ _ _ _ _ _)
      · rw [show (dats V 0 c).leavesExact 0 t = owns (c : Thread nD τ) (ms0_0 t) fullShare ((dats V 0 c).after 0 t) from by
      unfold Dat.leavesExact; rw [liveAt0_0 t], after0_0]
        rw [show (dats V 0 c).leavesExact 1 t = owns (c : Thread nD τ) (ms0_1 t) fullShare ((dats V 0 c).after 1 t) from by
      unfold Dat.leavesExact; rw [liveAt0_1 t], after0_1]
        rw [show (dats V 0 c).leavesExact 2 t = owns (c : Thread nD τ) (ms0_2 t) fullShare ((dats V 0 c).after 2 t) from by
      unfold Dat.leavesExact; rw [liveAt0_2 t], after0_2]
        rw [show (dats V 0 c).leavesExact 3 t = owns (c : Thread nD τ) (ms0_3 t) fullShare ((dats V 0 c).after 3 t) from by
      unfold Dat.leavesExact; rw [liveAt0_3 t], after0_3]
        rw [show (dats V 0 c).leavesExact 4 t = owns (c : Thread nD τ) (ms0_4 t) fullShare ((dats V 0 c).after 4 t) from by
      unfold Dat.leavesExact; rw [liveAt0_4 t], after0_4]
        rw [show (dats V 0 c).leavesExact 5 t = owns (c : Thread nD τ) (ms0_5 t) fullShare ((dats V 0 c).after 5 t) from by
      unfold Dat.leavesExact; rw [liveAt0_5 t], after0_5]
        rw [show (dats V 0 c).leavesExact 6 t = owns (c : Thread nD τ) (ms0_6 t) fullShare ((dats V 0 c).after 6 t) from by
      unfold Dat.leavesExact; rw [liveAt0_6 t], after0_6]
        rw [show (dats V 0 c).leavesExact 7 t = owns (c : Thread nD τ) (ms0_7 t) fullShare ((dats V 0 c).after 7 t) from by
      unfold Dat.leavesExact; rw [liveAt0_7 t], after0_7]
        rw [show (dats V 0 c).leavesExact 8 t = owns (c : Thread nD τ) (ms0_8 t) fullShare ((dats V 0 c).after 8 t) from by
      unfold Dat.leavesExact; rw [liveAt0_8 t], after0_8]
        rw [Dat.leavesExact_idle (dats V 0 c) 9 t (idleAt0_9_B t (fun h => h0 ((hcond0_0 t).mp h)) ((hcond0_1 t).mpr h1) (fun h => h2 ((hcond0_2 t).mp h))) (noFlush0_9_B t (fun h => h0 ((hcond0_0 t).mp h)) ((hcond0_1 t).mpr h1) (fun h => h2 ((hcond0_2 t).mp h)))]
        by_cases hz : t.val = 0
        · exfalso; have hN : t.val < 32 := lt_of_lt_of_eq t.isLt (show cfg1.N = 32 from N_1); omega
        · rw [PhiS_castSucc V c t, PhiS_pos V c _ _ hz]
          rw [outsAt0_B V c t h0 h1 h2]
          unfold out0_B_7 out0_B_8 sout0_B_0; (try dsimp only)
          iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
          iapply ((kernelRun0_B c (grid1.coords t) _ _ _ _ _ _ _ _ _ _ _ _ _ _ _ _ _ _ _ _ _ _ (fun h => h0 ((hcond0_0 t).mp h)) ((hcond0_1 t).mpr h1) (fun h => h2 ((hcond0_2 t).mp h)) (iblk V c 0 t) (iblk V c 1 t) (iblk V c 2 t) (iblk V c 3 t) (iblk V c 4 t) (iblk V c 5 t) (iblk V c 6 t) _).2.2.2.2 _ Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexists _; iexact H7
          isplitl [H8]; · iexists _; iexact H8
          isplitl [H9]; · iexact H9
          isplitl [HS0]; · iexact HS0
          iintro ⟨H0, H1, H2, H3, H4, H5, H6, ⟨%e7, H7⟩, ⟨%e8, H8⟩, H9, ⟨%es0, HS0⟩⟩
          isplitl [HS0 Hg]
          · isplitl [HS0]
            · unfold owns; iexists _; isplitr
              swap; · iexact HS0
              ipureintro; exact View.read_writes_of_cover _ _ _ _ _ (scover0_B_0 c _ _ _ _ _ _ _ _ _ _ _ _ _ _ _ _ _ _ _ _ _ _ _ _ _ _ _ _ _ _ _ _ _ _)
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]
          · unfold owns; iexists _; isplitr
            swap; · iexact H7
            ipureintro; exact View.read_writes_of_cover _ _ _ _ _ (cover0_B_7 c _ _ _ _ _ _ _ _ _ _ _ _ _ _ _ _ _ _ _ _ _ _ _ _ _ _ _ _ _ _ _ _ _ _)
          isplitl [H8]
          · unfold owns; iexists _; isplitr
            swap; · iexact H8
            ipureintro; exact View.read_writes_of_cover _ _ _ _ _ (cover0_B_8 c _ _ _ _ _ _ _ _ _ _ _ _ _ _ _ _ _ _ _ _ _ _ _ _ _ _ _ _ _ _ _ _ _ _)
          iexists _; iexact H9
    · exfalso; omega

/-- The body table's row at point `t`'s slots is the body as `bodyAt1` spells it. -/
theorem defs₀_row (t : Fin cfg1.N) :
    defs₀ (F := F) .tc cfg1.body (cfg1.bodyArgs t (cfg1.slots t)) = bodyAt1 t := by
  unfold defs₀; rw [Defs.onTc_tc]

/-- The library's body obligation, at every point. -/
theorem body_obligation (c : Dev nD) : BodyObligation (dats (F := F) V 0 c) (defs₀ (F := F)) Variants.none () Set.univ := fun t => by
  rw [bigSep_W1, bigSep_W1, defs₀_row]
  exact triple_restated (sound_body V c t) rfl .rfl fun _ => .rfl

/-- What the launch hands the region (that) is the invariant before the first point. -/
theorem hin (c : Dev nD) : Pipeline.scopedRest (Ix := Unit) (Name := ℕ) (U := UR sig nD τ) (Lvl := ℕ) (Val := Elt F) spec1 c ⊢ (dats V 0 c).Φ 0 := by
  rw [show (dats V 0 c).Φ 0 = PhiS V c 0 (Nat.zero_le _) from rfl, PhiS_zero V c 0 _ rfl]
  try exact Idealize.SL.BI.Entails.refl _

/-- After any point but the first the invariant gives that back. -/
theorem Phi_out (c : Dev nD) (t : Fin (cfg1.N + 1)) (ht : t.val ≠ 0) : (dats V 0 c).Φ t ⊢ Pipeline.scopedRest (Ix := Unit) (Name := ℕ) (U := UR sig nD τ) (Lvl := ℕ) (Val := Elt F) spec1 c := by
  rw [show (dats V 0 c).Φ t = PhiS V c t.val (Nat.le_of_lt_succ t.isLt) from rfl, PhiS_pos V c _ _ ht, PhiA0_eq]
  iintro ⟨HS0, Hg⟩
  isplitl [HS0]
  · iexists _; iexact HS0
  iexact Hg

/-- The same after the last point. -/
theorem hout (c : Dev nD) : (dats V 0 c).Φ (Fin.last cfg1.N) ⊢ Pipeline.scopedRest (Ix := Unit) (Name := ℕ) (U := UR sig nD τ) (Lvl := ℕ) (Val := Elt F) spec1 c :=
  Phi_out V c _ (by rw [Fin.val_last]; have : cfg1.N = 32 := N_1; omega)

end Cert.KernelIdeal.Region1

end
-- ==== Proof.Region2.Runs.lean ====
/- Region 2 of @main, the loss call: its windows' blocks, the conditions of its branches over the grid,
   and its staging buffers. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.TableIdle
public import Idealize.ShloMosaic.Lib.Pipeline.Frame
public import Idealize.ShloMosaic.Lib.Ring
public import Idealize.ShloMosaic.Lib.Tactic
public import Idealize.ShloMosaic.Lib.WordCmp

@[expose] public section

-- rectangles of the blocks' extents: the elaborator's look recurses once per coordinate of the long axes
set_option maxRecDepth 16384

noncomputable section

namespace Cert.KernelIdeal.Region2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers as the region finds them
variable (V : (c : Dev nD) → (b : Ref sig .tc) → Buf (Elt F) ((c : Thread nD τ).loc b))
/-! ## The windows' blocks -/

/-- Window `w`'s block at point `t`, read off its array as the region finds it (`V`). -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for ANY proof data whose array is `V`'s (`hA`) and whose body leaves the block in place (`hafter`). -/
theorem before0_0_of {c : Dev nD} (dat : Dat τ (Elt F) Unit ℕ (UR sig nD τ) ℕ cfg2 c) (hA : dat.A 0 = V c (Pipeline.arrRef spec2 0))
    (hafter : ∀ t, dat.after 0 t = iblk V c 0 t) (t : Fin cfg2.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof data whose array is `V`'s (`hA`) and whose body leaves the block in place (`hafter`). -/
theorem before0_1_of {c : Dev nD} (dat : Dat τ (Elt F) Unit ℕ (UR sig nD τ) ℕ cfg2 c) (hA : dat.A 1 = V c (Pipeline.arrRef spec2 1))
    (hafter : ∀ t, dat.after 1 t = iblk V c 1 t) (t : Fin cfg2.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof data whose array is `V`'s (`hA`) and whose body leaves the block in place (`hafter`). -/
theorem before0_2_of {c : Dev nD} (dat : Dat τ (Elt F) Unit ℕ (UR sig nD τ) ℕ cfg2 c) (hA : dat.A 2 = V c (Pipeline.arrRef spec2 2))
    (hafter : ∀ t, dat.after 2 t = iblk V c 2 t) (t : Fin cfg2.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof data whose array is `V`'s (`hA`) and whose body leaves the block in place (`hafter`). -/
theorem before0_3_of {c : Dev nD} (dat : Dat τ (Elt F) Unit ℕ (UR sig nD τ) ℕ cfg2 c) (hA : dat.A 3 = V c (Pipeline.arrRef spec2 3))
    (hafter : ∀ t, dat.after 3 t = iblk V c 3 t) (t : Fin cfg2.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- The condition of the body's `scf.if` 0 (`k2_h1`), from the grid coordinates (the skeleton's scalar chain substituted). -/
abbrev cond0_0 (i : grid2.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg2.N, cond0_0 (grid2.coords t) ↔ t.val % 64 = 0 :=
  (fun t => by
    have ht : t.val < 64 := Nat.lt_of_lt_of_eq t.isLt N_2
    have e0 : (grid2.coords t 0).val = t.val / 1 % 64 := Pipeline.Grid.coords_val t 0 (by decide) rfl
    simp only [cond0_0, e0]
    word_cmp
   : ∀ t : Fin grid2.N, cond0_0 (grid2.coords t) ↔ t.val % 64 = 0)

/-- The condition of the body's `scf.if` 1 (`k2_h2`), from the grid coordinates (the skeleton's scalar chain substituted). -/
abbrev cond0_1 (i : grid2.Coords) : Prop := (Scalar.cmpi .ne (Scalar.extui (Scalar.cmpi .sgt (BitVec.ofNat 32 (i 0).val) 0#32)) 0#32) = 1#1
/-- It holds at the points from point 1 on — decided over the grid. -/
theorem hcond0_1 : ∀ t : Fin cfg2.N, cond0_1 (grid2.coords t) ↔ 1 ≤ t.val :=
  (by decide +kernel : ∀ t : Fin grid2.N, cond0_1 (grid2.coords t) ↔ 1 ≤ t.val)

/-- The condition of the body's `scf.if` 2 (`k2_h3`), from the grid coordinates (the skeleton's scalar chain substituted). -/
abbrev cond0_2 (i : grid2.Coords) : Prop := k2_cond3 i = 1#1
/-- It holds at the last point only — by arithmetic of the point. -/
theorem hcond0_2 : ∀ t : Fin cfg2.N, cond0_2 (grid2.coords t) ↔ t.val % 64 = 63 :=
  (fun t => by
    have ht : t.val < 64 := Nat.lt_of_lt_of_eq t.isLt N_2
    have e0 : (grid2.coords t 0).val = t.val / 1 % 64 := Pipeline.Grid.coords_val t 0 (by decide) rfl
    simp only [cond0_2, k2_cond3, e0]
    word_cmp
   : ∀ t : Fin grid2.N, cond0_2 (grid2.coords t) ↔ t.val % 64 = 63)

/-! ## Where the windows are idle (the printed configuration's table `Cfg.idle`) -/

/-- Window 0 is never idle (an input). -/
theorem liveAt0_0 : ∀ t : Fin cfg2.N, cfg2.idle 0 (grid2.coords t) = false := fun _ => rfl
/-- Window 1 is never idle (an input). -/
theorem liveAt0_1 : ∀ t : Fin cfg2.N, cfg2.idle 1 (grid2.coords t) = false := fun _ => rfl
/-- Window 2 is never idle (an input). -/
theorem liveAt0_2 : ∀ t : Fin cfg2.N, cfg2.idle 2 (grid2.coords t) = false := fun _ => rfl
/-- Window 3 is never idle (an input). -/
theorem liveAt0_3 : ∀ t : Fin cfg2.N, cfg2.idle 3 (grid2.coords t) = false := fun _ => rfl
/-- At the points of case A the printed configuration (`Cfg.idle`) calls output 4 idle. -/
theorem idleAt0_4_A : ∀ t : Fin cfg2.N, cond0_0 (grid2.coords t) → ¬cond0_1 (grid2.coords t) → ¬cond0_2 (grid2.coords t) → cfg2.idle 4 (grid2.coords t) = true := by decide +kernel
/-- At the points of case A the pipeline does not write output 4's block back. -/
theorem noFlush0_4_A : ∀ t : Fin cfg2.N, cond0_0 (grid2.coords t) → ¬cond0_1 (grid2.coords t) → ¬cond0_2 (grid2.coords t) → (cfg2.win 4).flush t = false := by decide +kernel
/-- At the points of case B the printed configuration (`Cfg.idle`) calls output 4 idle. -/
theorem idleAt0_4_B : ∀ t : Fin cfg2.N, ¬cond0_0 (grid2.coords t) → cond0_1 (grid2.coords t) → ¬cond0_2 (grid2.coords t) → cfg2.idle 4 (grid2.coords t) = true := by decide +kernel
/-- At the points of case B the pipeline does not write output 4's block back. -/
theorem noFlush0_4_B : ∀ t : Fin cfg2.N, ¬cond0_0 (grid2.coords t) → cond0_1 (grid2.coords t) → ¬cond0_2 (grid2.coords t) → (cfg2.win 4).flush t = false := by decide +kernel
/-- At the points of case C the printed configuration (`Cfg.idle`) calls output 4 live. -/
theorem liveAt0_4_C : ∀ t : Fin cfg2.N, ¬cond0_0 (grid2.coords t) → cond0_1 (grid2.coords t) → cond0_2 (grid2.coords t) → cfg2.idle 4 (grid2.coords t) = false := by decide +kernel

/-! ## The kernel body on any staging memrefs: a subtype the run finds -/

/-- One staging buffer of output window 4, through which its contents are stated. -/
abbrev VO0_4 : View sig .tc .vmem S1x128 .f32 := (Memref.whole cc2_stg4_0 : Memref sig .tc .vmem S1x128 .f32).view
/-- Each window's current staging memref at point `t`, spelled as the pipeline passes it (`bodyAt2`), and its wholeness. -/
abbrev ms0_0 (t : Fin cfg2.N) : Memref sig .tc .vmem S8192x80 .f32 := win2_0.stage (cfg2.slots t 0)
abbrev hs0_0 (t : Fin cfg2.N) : (ms0_0 t).IsWhole := hstage2_0 ((cfg2.slots t 0).cast nbuf2_0)
abbrev ms0_1 (t : Fin cfg2.N) : Memref sig .tc .vmem S8192x1 .i32 := win2_1.stage (cfg2.slots t 1)
abbrev hs0_1 (t : Fin cfg2.N) : (ms0_1 t).IsWhole := hstage2_1 ((cfg2.slots t 1).cast nbuf2_1)
abbrev ms0_2 (t : Fin cfg2.N) : Memref sig .tc .vmem S8192x1 .f32 := win2_2.stage (cfg2.slots t 2)
abbrev hs0_2 (t : Fin cfg2.N) : (ms0_2 t).IsWhole := hstage2_2 ((cfg2.slots t 2).cast nbuf2_2)
abbrev ms0_3 (t : Fin cfg2.N) : Memref sig .tc .smem S2 .f32 := win2_3.stage (cfg2.slots t 3)
abbrev hs0_3 (t : Fin cfg2.N) : (ms0_3 t).IsWhole := hstage2_3 ((cfg2.slots t 3).cast nbuf2_3)
abbrev ms0_4 (t : Fin cfg2.N) : Memref sig .tc .vmem S1x128 .f32 := win2_4.stage (cfg2.slots t 4)
abbrev hs0_4 (t : Fin cfg2.N) : (ms0_4 t).IsWhole := hstage2_4 ((cfg2.slots t 4).cast nbuf2_4)
/-- The scratch operands. -/
abbrev scM0_0 : Memref sig .tc .smem S1 .f32 := Memref.whole cc2_scratch0
/-- The scratch `arg6` the kernel carries between points, as a view. -/
abbrev VS0_0 : View sig .tc .smem S1 .f32 := scM0_0.view

/-- The frame kit's invariant with the scratch operands as memrefs owned at some contents (`Gen.scopedRest0_eq`, Lib/Memref.lean `owns_whole`). -/
theorem PhiA0_eq (c : Dev nD) :
    (Pipeline.scopedRest (Ix := Unit) (Name := ℕ) (U := UR sig nD τ) (Lvl := ℕ) (Val := Elt F) spec2 c : sProp 𝕄)
      = iprop(iprop((∃ d, owns (c : Thread nD τ) scM0_0 fullShare d)) ∗ Pipeline.scopedRestBut (Ix := Unit) (Name := ℕ) (U := UR sig nD τ) (Lvl := ℕ) (Val := Elt F) spec2 c [cc2_scratch0]) := by
  rw [Pipeline.scopedRest_split_of_list spec2 c [cc2_scratch0] (by decide) (by decide)]; simp only [scM0_0, owns_whole]; try rfl

end Cert.KernelIdeal.Region2

end
-- ==== Proof.Region2.RunA.lean ====
/- Region 2 of @main, the loss call: the body run in case A of its branches. -/
module

public import proofs.«01_k».proof.Proof.Region2.Runs

@[expose] public section

-- rectangles of the blocks' extents: the elaborator's look recurses once per coordinate of the long axes
set_option maxRecDepth 16384

noncomputable section

namespace Cert.KernelIdeal.Region2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers as the region finds them
variable (V : (c : Dev nD) → (b : Ref sig .tc) → Buf (Elt F) ((c : Thread nD τ).loc b))

-- (the run's proof term is large: the definition's epilogue — `abstractNestedProofs` — walks it past the default budget)
set_option maxHeartbeats 1000000 in
/-- What the body's stores leave in each output's staging memref, as pieces (last first) IN CASE A. -/
noncomputable def kernelRun0_A (c : Dev nD) (i : grid2.Coords) (arg1 : Memref sig .tc .vmem S8192x80 .f32) (harg1 : arg1.IsWhole) (arg2 : Memref sig .tc .vmem S8192x1 .i32) (harg2 : arg2.IsWhole) (arg3 : Memref sig .tc .vmem S8192x1 .f32) (harg3 : arg3.IsWhole) (arg4 : Memref sig .tc .smem S2 .f32) (harg4 : arg4.IsWhole) (arg5 : Memref sig .tc .vmem S1x128 .f32) (harg5 : arg5.IsWhole) (arg6 : Memref sig .tc .smem S1 .f32) (harg6 : arg6.IsWhole) (hc0 : cond0_0 i) (hc1 : ¬cond0_1 i) (hc2 : ¬cond0_2 i)
    (x0 : Vec F S8192x80 .f32) (x1 : Vec F S8192x1 .i32) (x2 : Vec F S8192x1 .f32) (x3 : Vec F S2 .f32) :
    Σ' (L4 : List (View.Piece (Elt F) S1x128 .f32)), { LS0 : List (View.Piece (Elt F) S1 .f32) //
      ∀ (xi4 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ (∃ f, arg6.view.loc (c : Thread nD τ) ↦[arg6.view.set]{fullShare} arg6.view.writes (Elt F) f LS0)) -∗ K ⟨⟩))
          ⊢ wp frame (wpE (defs₀ (F := F)) Variants.none c none) E (cc2__focal_body i arg1 harg1 arg2 harg2 arg3 harg3 arg4 harg4 arg5 harg5 arg6 harg6) K } := by
  refine ⟨[], ?_, fun xi4 E K => ?run⟩
  case run =>
    simp only [cc2__focal_body_eq_skeleton]; unfold cc2__focal_body_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    iexists _; iexact HS0

end Cert.KernelIdeal.Region2

end
-- ==== Proof.Region2.RunB.lean ====
/- Region 2 of @main, the loss call: the body run in case B of its branches. -/
module

public import proofs.«01_k».proof.Proof.Region2.RunA

@[expose] public section

-- rectangles of the blocks' extents: the elaborator's look recurses once per coordinate of the long axes
set_option maxRecDepth 16384

noncomputable section

namespace Cert.KernelIdeal.Region2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers as the region finds them
variable (V : (c : Dev nD) → (b : Ref sig .tc) → Buf (Elt F) ((c : Thread nD τ).loc b))

-- (the run's proof term is large: the definition's epilogue — `abstractNestedProofs` — walks it past the default budget)
set_option maxHeartbeats 1000000 in
/-- What the body's stores leave in each output's staging memref, as pieces (last first) IN CASE B. -/
noncomputable def kernelRun0_B (c : Dev nD) (i : grid2.Coords) (arg1 : Memref sig .tc .vmem S8192x80 .f32) (harg1 : arg1.IsWhole) (arg2 : Memref sig .tc .vmem S8192x1 .i32) (harg2 : arg2.IsWhole) (arg3 : Memref sig .tc .vmem S8192x1 .f32) (harg3 : arg3.IsWhole) (arg4 : Memref sig .tc .smem S2 .f32) (harg4 : arg4.IsWhole) (arg5 : Memref sig .tc .vmem S1x128 .f32) (harg5 : arg5.IsWhole) (arg6 : Memref sig .tc .smem S1 .f32) (harg6 : arg6.IsWhole) (hc0 : ¬cond0_0 i) (hc1 : cond0_1 i) (hc2 : ¬cond0_2 i)
    (x0 : Vec F S8192x80 .f32) (x1 : Vec F S8192x1 .i32) (x2 : Vec F S8192x1 .f32) (x3 : Vec F S2 .f32) (xs0 : Vec F S1 .f32) :
    Σ' (L4 : List (View.Piece (Elt F) S1x128 .f32)), { LS0 : List (View.Piece (Elt F) S1 .f32) //
      ∀ (xi4 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ owns (c : Thread nD τ) arg6 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ (∃ f, arg6.view.loc (c : Thread nD τ) ↦[arg6.view.set]{fullShare} arg6.view.writes (Elt F) f LS0)) -∗ K ⟨⟩))
          ⊢ wp frame (wpE (defs₀ (F := F)) Variants.none c none) E (cc2__focal_body i arg1 harg1 arg2 harg2 arg3 harg3 arg4 harg4 arg5 harg5 arg6 harg6) K } := by
  refine ⟨[], ?_, fun xi4 E K => ?run⟩
  case run =>
    simp only [cc2__focal_body_eq_skeleton]; unfold cc2__focal_body_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hfs0
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    iexists _; iexact HS0

end Cert.KernelIdeal.Region2

end
-- ==== Proof.Region2.RunC.lean ====
/- Region 2 of @main, the loss call: the body run in case C of its branches. -/
module

public import proofs.«01_k».proof.Proof.Region2.RunB

@[expose] public section

-- rectangles of the blocks' extents: the elaborator's look recurses once per coordinate of the long axes
set_option maxRecDepth 16384

noncomputable section

namespace Cert.KernelIdeal.Region2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers as the region finds them
variable (V : (c : Dev nD) → (b : Ref sig .tc) → Buf (Elt F) ((c : Thread nD τ).loc b))

-- (the run's proof term is large: the definition's epilogue — `abstractNestedProofs` — walks it past the default budget)
set_option maxHeartbeats 1000000 in
/-- What the body's stores leave in each output's staging memref, as pieces (last first) IN CASE C. -/
noncomputable def kernelRun0_C (c : Dev nD) (i : grid2.Coords) (arg1 : Memref sig .tc .vmem S8192x80 .f32) (harg1 : arg1.IsWhole) (arg2 : Memref sig .tc .vmem S8192x1 .i32) (harg2 : arg2.IsWhole) (arg3 : Memref sig .tc .vmem S8192x1 .f32) (harg3 : arg3.IsWhole) (arg4 : Memref sig .tc .smem S2 .f32) (harg4 : arg4.IsWhole) (arg5 : Memref sig .tc .vmem S1x128 .f32) (harg5 : arg5.IsWhole) (arg6 : Memref sig .tc .smem S1 .f32) (harg6 : arg6.IsWhole) (hc0 : ¬cond0_0 i) (hc1 : cond0_1 i) (hc2 : cond0_2 i)
    (x0 : Vec F S8192x80 .f32) (x1 : Vec F S8192x1 .i32) (x2 : Vec F S8192x1 .f32) (x3 : Vec F S2 .f32) (xs0 : Vec F S1 .f32) :
    Σ' (L4 : List (View.Piece (Elt F) S1x128 .f32)), { LS0 : List (View.Piece (Elt F) S1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f LS0)) -∗ K ⟨⟩))
          ⊢ wp frame (wpE (defs₀ (F := F)) Variants.none c none) E (cc2__focal_body i arg1 harg1 arg2 harg2 arg3 harg3 arg4 harg4 arg5 harg5 arg6 harg6) K } := by
  refine ⟨?_, ?_, fun E K => ?run⟩
  case run =>
    simp only [cc2__focal_body_eq_skeleton]; unfold cc2__focal_body_skel
    simp only [k2_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg1.eq_unread hf0; obtain rfl := harg2.eq_unread hf1; obtain rfl := harg3.eq_unread hf2; obtain rfl := harg4.eq_unread hf3; obtain rfl := harg6.eq_unread hfs0
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    iexists _; iexact HS0

end Cert.KernelIdeal.Region2

end
-- ==== Proof.Region2.Body.lean ====
/- Region 2 of @main, the loss call: what its outputs hold point by point, its proof data and its body obligation. -/
module

public import proofs.«01_k».proof.Proof.Region2.RunC

@[expose] public section

-- rectangles of the blocks' extents: the elaborator's look recurses once per coordinate of the long axes
set_option maxRecDepth 16384

noncomputable section

namespace Cert.KernelIdeal.Region2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers as the region finds them
variable (V : (c : Dev nD) → (b : Ref sig .tc) → Buf (Elt F) ((c : Thread nD τ).loc b))
/-- Case A stores nothing into output 4 (the window is idle at its points and not written back there). -/
def out0_A_4 (c : Dev nD) (i : grid2.Coords) (arg1 : Memref sig .tc .vmem S8192x80 .f32) (harg1 : arg1.IsWhole) (arg2 : Memref sig .tc .vmem S8192x1 .i32) (harg2 : arg2.IsWhole) (arg3 : Memref sig .tc .vmem S8192x1 .f32) (harg3 : arg3.IsWhole) (arg4 : Memref sig .tc .smem S2 .f32) (harg4 : arg4.IsWhole) (arg5 : Memref sig .tc .vmem S1x128 .f32) (harg5 : arg5.IsWhole) (arg6 : Memref sig .tc .smem S1 .f32) (harg6 : arg6.IsWhole) (hc0 : cond0_0 i) (hc1 : ¬cond0_1 i) (hc2 : ¬cond0_2 i)
    (x0 : Vec F S8192x80 .f32) (x1 : Vec F S8192x1 .i32) (x2 : Vec F S8192x1 .f32) (x3 : Vec F S2 .f32) : Vec F S1x128 .f32 :=
  VO0_4.read (Elt F) (VO0_4.writes (Elt F) VO0_4.junk (kernelRun0_A c i arg1 harg1 arg2 harg2 arg3 harg3 arg4 harg4 arg5 harg5 arg6 harg6 hc0 hc1 hc2 x0 x1 x2 x3).1)

/-- Case A's pieces for scratch `arg6`, which the kernel carries between points, cover it. -/
theorem scover0_A_0 (c : Dev nD) (i : grid2.Coords) (arg1 : Memref sig .tc .vmem S8192x80 .f32) (harg1 : arg1.IsWhole) (arg2 : Memref sig .tc .vmem S8192x1 .i32) (harg2 : arg2.IsWhole) (arg3 : Memref sig .tc .vmem S8192x1 .f32) (harg3 : arg3.IsWhole) (arg4 : Memref sig .tc .smem S2 .f32) (harg4 : arg4.IsWhole) (arg5 : Memref sig .tc .vmem S1x128 .f32) (harg5 : arg5.IsWhole) (arg6 : Memref sig .tc .smem S1 .f32) (harg6 : arg6.IsWhole) (hc0 : cond0_0 i) (hc1 : ¬cond0_1 i) (hc2 : ¬cond0_2 i)
    (x0 : Vec F S8192x80 .f32) (x1 : Vec F S8192x1 .i32) (x2 : Vec F S8192x1 .f32) (x3 : Vec F S2 .f32) (y : S1.Idx) :
    ∃ pc ∈ (kernelRun0_A c i arg1 harg1 arg2 harg2 arg3 harg3 arg4 harg4 arg5 harg5 arg6 harg6 hc0 hc1 hc2 x0 x1 x2 x3).2.1, y ∈ pc.1.set :=
  View.cover_of_tiledL (kernelRun0_A c i arg1 harg1 arg2 harg2 arg3 harg3 arg4 harg4 arg5 harg5 arg6 harg6 hc0 hc1 hc2 x0 x1 x2 x3).2.1 S1.size (by sl_kernel_rfl) y

/-- What case A leaves in scratch `arg6`. -/
def sout0_A_0 (c : Dev nD) (i : grid2.Coords) (arg1 : Memref sig .tc .vmem S8192x80 .f32) (harg1 : arg1.IsWhole) (arg2 : Memref sig .tc .vmem S8192x1 .i32) (harg2 : arg2.IsWhole) (arg3 : Memref sig .tc .vmem S8192x1 .f32) (harg3 : arg3.IsWhole) (arg4 : Memref sig .tc .smem S2 .f32) (harg4 : arg4.IsWhole) (arg5 : Memref sig .tc .vmem S1x128 .f32) (harg5 : arg5.IsWhole) (arg6 : Memref sig .tc .smem S1 .f32) (harg6 : arg6.IsWhole) (hc0 : cond0_0 i) (hc1 : ¬cond0_1 i) (hc2 : ¬cond0_2 i)
    (x0 : Vec F S8192x80 .f32) (x1 : Vec F S8192x1 .i32) (x2 : Vec F S8192x1 .f32) (x3 : Vec F S2 .f32) : Vec F S1 .f32 :=
  VS0_0.read (Elt F) (VS0_0.writes (Elt F) VS0_0.junk (kernelRun0_A c i arg1 harg1 arg2 harg2 arg3 harg3 arg4 harg4 arg5 harg5 arg6 harg6 hc0 hc1 hc2 x0 x1 x2 x3).2.1)

/-- Case B stores nothing into output 4 (the window is idle at its points and not written back there). -/
def out0_B_4 (c : Dev nD) (i : grid2.Coords) (arg1 : Memref sig .tc .vmem S8192x80 .f32) (harg1 : arg1.IsWhole) (arg2 : Memref sig .tc .vmem S8192x1 .i32) (harg2 : arg2.IsWhole) (arg3 : Memref sig .tc .vmem S8192x1 .f32) (harg3 : arg3.IsWhole) (arg4 : Memref sig .tc .smem S2 .f32) (harg4 : arg4.IsWhole) (arg5 : Memref sig .tc .vmem S1x128 .f32) (harg5 : arg5.IsWhole) (arg6 : Memref sig .tc .smem S1 .f32) (harg6 : arg6.IsWhole) (hc0 : ¬cond0_0 i) (hc1 : cond0_1 i) (hc2 : ¬cond0_2 i)
    (x0 : Vec F S8192x80 .f32) (x1 : Vec F S8192x1 .i32) (x2 : Vec F S8192x1 .f32) (x3 : Vec F S2 .f32) (xs0 : Vec F S1 .f32) : Vec F S1x128 .f32 :=
  VO0_4.read (Elt F) (VO0_4.writes (Elt F) VO0_4.junk (kernelRun0_B c i arg1 harg1 arg2 harg2 arg3 harg3 arg4 harg4 arg5 harg5 arg6 harg6 hc0 hc1 hc2 x0 x1 x2 x3 xs0).1)

/-- Case B's pieces for scratch `arg6`, which the kernel carries between points, cover it. -/
theorem scover0_B_0 (c : Dev nD) (i : grid2.Coords) (arg1 : Memref sig .tc .vmem S8192x80 .f32) (harg1 : arg1.IsWhole) (arg2 : Memref sig .tc .vmem S8192x1 .i32) (harg2 : arg2.IsWhole) (arg3 : Memref sig .tc .vmem S8192x1 .f32) (harg3 : arg3.IsWhole) (arg4 : Memref sig .tc .smem S2 .f32) (harg4 : arg4.IsWhole) (arg5 : Memref sig .tc .vmem S1x128 .f32) (harg5 : arg5.IsWhole) (arg6 : Memref sig .tc .smem S1 .f32) (harg6 : arg6.IsWhole) (hc0 : ¬cond0_0 i) (hc1 : cond0_1 i) (hc2 : ¬cond0_2 i)
    (x0 : Vec F S8192x80 .f32) (x1 : Vec F S8192x1 .i32) (x2 : Vec F S8192x1 .f32) (x3 : Vec F S2 .f32) (xs0 : Vec F S1 .f32) (y : S1.Idx) :
    ∃ pc ∈ (kernelRun0_B c i arg1 harg1 arg2 harg2 arg3 harg3 arg4 harg4 arg5 harg5 arg6 harg6 hc0 hc1 hc2 x0 x1 x2 x3 xs0).2.1, y ∈ pc.1.set :=
  View.cover_of_tiledL (kernelRun0_B c i arg1 harg1 arg2 harg2 arg3 harg3 arg4 harg4 arg5 harg5 arg6 harg6 hc0 hc1 hc2 x0 x1 x2 x3 xs0).2.1 S1.size (by sl_kernel_rfl) y

/-- What case B leaves in scratch `arg6`. -/
def sout0_B_0 (c : Dev nD) (i : grid2.Coords) (arg1 : Memref sig .tc .vmem S8192x80 .f32) (harg1 : arg1.IsWhole) (arg2 : Memref sig .tc .vmem S8192x1 .i32) (harg2 : arg2.IsWhole) (arg3 : Memref sig .tc .vmem S8192x1 .f32) (harg3 : arg3.IsWhole) (arg4 : Memref sig .tc .smem S2 .f32) (harg4 : arg4.IsWhole) (arg5 : Memref sig .tc .vmem S1x128 .f32) (harg5 : arg5.IsWhole) (arg6 : Memref sig .tc .smem S1 .f32) (harg6 : arg6.IsWhole) (hc0 : ¬cond0_0 i) (hc1 : cond0_1 i) (hc2 : ¬cond0_2 i)
    (x0 : Vec F S8192x80 .f32) (x1 : Vec F S8192x1 .i32) (x2 : Vec F S8192x1 .f32) (x3 : Vec F S2 .f32) (xs0 : Vec F S1 .f32) : Vec F S1 .f32 :=
  VS0_0.read (Elt F) (VS0_0.writes (Elt F) VS0_0.junk (kernelRun0_B c i arg1 harg1 arg2 harg2 arg3 harg3 arg4 harg4 arg5 harg5 arg6 harg6 hc0 hc1 hc2 x0 x1 x2 x3 xs0).2.1)

/-- Case C's pieces for output 4 tile its block. -/
theorem cover0_C_4 (c : Dev nD) (i : grid2.Coords) (arg1 : Memref sig .tc .vmem S8192x80 .f32) (harg1 : arg1.IsWhole) (arg2 : Memref sig .tc .vmem S8192x1 .i32) (harg2 : arg2.IsWhole) (arg3 : Memref sig .tc .vmem S8192x1 .f32) (harg3 : arg3.IsWhole) (arg4 : Memref sig .tc .smem S2 .f32) (harg4 : arg4.IsWhole) (arg5 : Memref sig .tc .vmem S1x128 .f32) (harg5 : arg5.IsWhole) (arg6 : Memref sig .tc .smem S1 .f32) (harg6 : arg6.IsWhole) (hc0 : ¬cond0_0 i) (hc1 : cond0_1 i) (hc2 : cond0_2 i)
    (x0 : Vec F S8192x80 .f32) (x1 : Vec F S8192x1 .i32) (x2 : Vec F S8192x1 .f32) (x3 : Vec F S2 .f32) (xs0 : Vec F S1 .f32) (y : S1x128.Idx) :
    ∃ pc ∈ (kernelRun0_C c i arg1 harg1 arg2 harg2 arg3 harg3 arg4 harg4 arg5 harg5 arg6 harg6 hc0 hc1 hc2 x0 x1 x2 x3 xs0).1, y ∈ pc.1.set :=
  View.cover_of_tiledL (kernelRun0_C c i arg1 harg1 arg2 harg2 arg3 harg3 arg4 harg4 arg5 harg5 arg6 harg6 hc0 hc1 hc2 x0 x1 x2 x3 xs0).1 S1x128.size (by sl_kernel_rfl) y

/-- What case C leaves in output 4's staging buffer. -/
def out0_C_4 (c : Dev nD) (i : grid2.Coords) (arg1 : Memref sig .tc .vmem S8192x80 .f32) (harg1 : arg1.IsWhole) (arg2 : Memref sig .tc .vmem S8192x1 .i32) (harg2 : arg2.IsWhole) (arg3 : Memref sig .tc .vmem S8192x1 .f32) (harg3 : arg3.IsWhole) (arg4 : Memref sig .tc .smem S2 .f32) (harg4 : arg4.IsWhole) (arg5 : Memref sig .tc .vmem S1x128 .f32) (harg5 : arg5.IsWhole) (arg6 : Memref sig .tc .smem S1 .f32) (harg6 : arg6.IsWhole) (hc0 : ¬cond0_0 i) (hc1 : cond0_1 i) (hc2 : cond0_2 i)
    (x0 : Vec F S8192x80 .f32) (x1 : Vec F S8192x1 .i32) (x2 : Vec F S8192x1 .f32) (x3 : Vec F S2 .f32) (xs0 : Vec F S1 .f32) : Vec F S1x128 .f32 :=
  VO0_4.read (Elt F) (VO0_4.writes (Elt F) VO0_4.junk (kernelRun0_C c i arg1 harg1 arg2 harg2 arg3 harg3 arg4 harg4 arg5 harg5 arg6 harg6 hc0 hc1 hc2 x0 x1 x2 x3 xs0).1)

/-- Case C's pieces for scratch `arg6`, which the kernel carries between points, cover it. -/
theorem scover0_C_0 (c : Dev nD) (i : grid2.Coords) (arg1 : Memref sig .tc .vmem S8192x80 .f32) (harg1 : arg1.IsWhole) (arg2 : Memref sig .tc .vmem S8192x1 .i32) (harg2 : arg2.IsWhole) (arg3 : Memref sig .tc .vmem S8192x1 .f32) (harg3 : arg3.IsWhole) (arg4 : Memref sig .tc .smem S2 .f32) (harg4 : arg4.IsWhole) (arg5 : Memref sig .tc .vmem S1x128 .f32) (harg5 : arg5.IsWhole) (arg6 : Memref sig .tc .smem S1 .f32) (harg6 : arg6.IsWhole) (hc0 : ¬cond0_0 i) (hc1 : cond0_1 i) (hc2 : cond0_2 i)
    (x0 : Vec F S8192x80 .f32) (x1 : Vec F S8192x1 .i32) (x2 : Vec F S8192x1 .f32) (x3 : Vec F S2 .f32) (xs0 : Vec F S1 .f32) (y : S1.Idx) :
    ∃ pc ∈ (kernelRun0_C c i arg1 harg1 arg2 harg2 arg3 harg3 arg4 harg4 arg5 harg5 arg6 harg6 hc0 hc1 hc2 x0 x1 x2 x3 xs0).2.1, y ∈ pc.1.set :=
  View.cover_of_tiledL (kernelRun0_C c i arg1 harg1 arg2 harg2 arg3 harg3 arg4 harg4 arg5 harg5 arg6 harg6 hc0 hc1 hc2 x0 x1 x2 x3 xs0).2.1 S1.size (by sl_kernel_rfl) y

/-- What case C leaves in scratch `arg6`. -/
def sout0_C_0 (c : Dev nD) (i : grid2.Coords) (arg1 : Memref sig .tc .vmem S8192x80 .f32) (harg1 : arg1.IsWhole) (arg2 : Memref sig .tc .vmem S8192x1 .i32) (harg2 : arg2.IsWhole) (arg3 : Memref sig .tc .vmem S8192x1 .f32) (harg3 : arg3.IsWhole) (arg4 : Memref sig .tc .smem S2 .f32) (harg4 : arg4.IsWhole) (arg5 : Memref sig .tc .vmem S1x128 .f32) (harg5 : arg5.IsWhole) (arg6 : Memref sig .tc .smem S1 .f32) (harg6 : arg6.IsWhole) (hc0 : ¬cond0_0 i) (hc1 : cond0_1 i) (hc2 : cond0_2 i)
    (x0 : Vec F S8192x80 .f32) (x1 : Vec F S8192x1 .i32) (x2 : Vec F S8192x1 .f32) (x3 : Vec F S2 .f32) (xs0 : Vec F S1 .f32) : Vec F S1 .f32 :=
  VS0_0.read (Elt F) (VS0_0.writes (Elt F) VS0_0.junk (kernelRun0_C c i arg1 harg1 arg2 harg2 arg3 harg3 arg4 harg4 arg5 harg5 arg6 harg6 hc0 hc1 hc2 x0 x1 x2 x3 xs0).2.1)

/-! ## What the outputs hold after each point -/

/-- The accumulation, point by point. -/
def outsAt0 (c : Dev nD) : (n : ℕ) → n < cfg2.N → Vec F S1x128 .f32 × Vec F S1 .f32
  | 0, hn => (out0_A_4 c (grid2.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr (Nat.zero_mod _)) (fun h => (fun h => by (try dsimp only at h); omega) ((hcond0_1 ⟨0, hn⟩).mp h)) (fun h => (fun h => by (try dsimp only at h); omega) ((hcond0_2 ⟨0, hn⟩).mp h)) (iblk V c 0 ⟨0, hn⟩) (iblk V c 1 ⟨0, hn⟩) (iblk V c 2 ⟨0, hn⟩) (iblk V c 3 ⟨0, hn⟩), sout0_A_0 c (grid2.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr (Nat.zero_mod _)) (fun h => (fun h => by (try dsimp only at h); omega) ((hcond0_1 ⟨0, hn⟩).mp h)) (fun h => (fun h => by (try dsimp only at h); omega) ((hcond0_2 ⟨0, hn⟩).mp h)) (iblk V c 0 ⟨0, hn⟩) (iblk V c 1 ⟨0, hn⟩) (iblk V c 2 ⟨0, hn⟩) (iblk V c 3 ⟨0, hn⟩))
  | n + 1, hn =>
    if h0 : (n + 1) % 64 = 0 then
      if h1 : 1 ≤ (n + 1) then
        False.elim (by have hN : n + 1 < 64 := lt_of_lt_of_eq hn (show cfg2.N = 64 from N_2); omega)
      else
        if h2 : (n + 1) % 64 = 63 then
          False.elim (by have hN : n + 1 < 64 := lt_of_lt_of_eq hn (show cfg2.N = 64 from N_2); omega)
        else
          (out0_A_4 c (grid2.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) ((hcond0_0 ⟨n + 1, hn⟩).mpr h0) (fun h => h1 ((hcond0_1 ⟨n + 1, hn⟩).mp h)) (fun h => h2 ((hcond0_2 ⟨n + 1, hn⟩).mp h)) (iblk V c 0 ⟨n + 1, hn⟩) (iblk V c 1 ⟨n + 1, hn⟩) (iblk V c 2 ⟨n + 1, hn⟩) (iblk V c 3 ⟨n + 1, hn⟩), sout0_A_0 c (grid2.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) ((hcond0_0 ⟨n + 1, hn⟩).mpr h0) (fun h => h1 ((hcond0_1 ⟨n + 1, hn⟩).mp h)) (fun h => h2 ((hcond0_2 ⟨n + 1, hn⟩).mp h)) (iblk V c 0 ⟨n + 1, hn⟩) (iblk V c 1 ⟨n + 1, hn⟩) (iblk V c 2 ⟨n + 1, hn⟩) (iblk V c 3 ⟨n + 1, hn⟩))
    else
      if h1 : 1 ≤ (n + 1) then
        if h2 : (n + 1) % 64 = 63 then
          (out0_C_4 c (grid2.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) ((hcond0_1 ⟨n + 1, hn⟩).mpr h1) ((hcond0_2 ⟨n + 1, hn⟩).mpr h2) (iblk V c 0 ⟨n + 1, hn⟩) (iblk V c 1 ⟨n + 1, hn⟩) (iblk V c 2 ⟨n + 1, hn⟩) (iblk V c 3 ⟨n + 1, hn⟩) (outsAt0 c n (Nat.lt_of_succ_lt hn)).2, sout0_C_0 c (grid2.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) ((hcond0_1 ⟨n + 1, hn⟩).mpr h1) ((hcond0_2 ⟨n + 1, hn⟩).mpr h2) (iblk V c 0 ⟨n + 1, hn⟩) (iblk V c 1 ⟨n + 1, hn⟩) (iblk V c 2 ⟨n + 1, hn⟩) (iblk V c 3 ⟨n + 1, hn⟩) (outsAt0 c n (Nat.lt_of_succ_lt hn)).2)
        else
          (out0_B_4 c (grid2.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) ((hcond0_1 ⟨n + 1, hn⟩).mpr h1) (fun h => h2 ((hcond0_2 ⟨n + 1, hn⟩).mp h)) (iblk V c 0 ⟨n + 1, hn⟩) (iblk V c 1 ⟨n + 1, hn⟩) (iblk V c 2 ⟨n + 1, hn⟩) (iblk V c 3 ⟨n + 1, hn⟩) (outsAt0 c n (Nat.lt_of_succ_lt hn)).2, sout0_B_0 c (grid2.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) ((hcond0_1 ⟨n + 1, hn⟩).mpr h1) (fun h => h2 ((hcond0_2 ⟨n + 1, hn⟩).mp h)) (iblk V c 0 ⟨n + 1, hn⟩) (iblk V c 1 ⟨n + 1, hn⟩) (iblk V c 2 ⟨n + 1, hn⟩) (iblk V c 3 ⟨n + 1, hn⟩) (outsAt0 c n (Nat.lt_of_succ_lt hn)).2)
      else
        False.elim (by have hN : n + 1 < 64 := lt_of_lt_of_eq hn (show cfg2.N = 64 from N_2); omega)

/-- `outsAt0` at a point of case A. -/
theorem outsAt0_A (c : Dev nD) (t : Fin cfg2.N) (h0 : t.val % 64 = 0) (h1 : ¬1 ≤ t.val) (h2 : ¬t.val % 64 = 63) :
    outsAt0 V c t.val t.isLt = (out0_A_4 c (grid2.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (fun h => h2 ((hcond0_2 t).mp h)) (iblk V c 0 t) (iblk V c 1 t) (iblk V c 2 t) (iblk V c 3 t), sout0_A_0 c (grid2.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (fun h => h2 ((hcond0_2 t).mp h)) (iblk V c 0 t) (iblk V c 1 t) (iblk V c 2 t) (iblk V c 3 t)) := by
  obtain ⟨n, hn⟩ := t
  cases n with
  | zero => exact rfl
  | succ n => exact (dif_pos h0).trans ((dif_neg h1).trans ((dif_neg h2).trans rfl))

/-- `outsAt0` at a point of case B. -/
theorem outsAt0_B (c : Dev nD) (t : Fin cfg2.N) (h0 : ¬t.val % 64 = 0) (h1 : 1 ≤ t.val) (h2 : ¬t.val % 64 = 63) :
    outsAt0 V c t.val t.isLt = (out0_B_4 c (grid2.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (fun h => h2 ((hcond0_2 t).mp h)) (iblk V c 0 t) (iblk V c 1 t) (iblk V c 2 t) (iblk V c 3 t) (outsAt0 V c (t.val - 1) (Nat.lt_of_le_of_lt (Nat.sub_le _ _) t.isLt)).2, sout0_B_0 c (grid2.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (fun h => h2 ((hcond0_2 t).mp h)) (iblk V c 0 t) (iblk V c 1 t) (iblk V c 2 t) (iblk V c 3 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans ((dif_neg h2).trans rfl))

/-- `outsAt0` at a point of case C. -/
theorem outsAt0_C (c : Dev nD) (t : Fin cfg2.N) (h0 : ¬t.val % 64 = 0) (h1 : 1 ≤ t.val) (h2 : t.val % 64 = 63) :
    outsAt0 V c t.val t.isLt = (out0_C_4 c (grid2.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) ((hcond0_2 t).mpr h2) (iblk V c 0 t) (iblk V c 1 t) (iblk V c 2 t) (iblk V c 3 t) (outsAt0 V c (t.val - 1) (Nat.lt_of_le_of_lt (Nat.sub_le _ _) t.isLt)).2, sout0_C_0 c (grid2.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) ((hcond0_2 t).mpr h2) (iblk V c 0 t) (iblk V c 1 t) (iblk V c 2 t) (iblk V c 3 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans ((dif_pos h2).trans rfl))

/-- The region invariant before position `n` with a scratch the kernel CARRIES between points. -/
def PhiS (c : Dev nD) : (n : ℕ) → n ≤ cfg2.N → sProp 𝕄
  | 0, _ => Pipeline.scopedRest (Ix := Unit) (Name := ℕ) (U := UR sig nD τ) (Lvl := ℕ) (Val := Elt F) spec2 c
  | n + 1, hn => iprop(iprop(owns (c : Thread nD τ) scM0_0 fullShare ((outsAt0 V c n hn).2)) ∗ Pipeline.scopedRestBut (Ix := Unit) (Name := ℕ) (U := UR sig nD τ) (Lvl := ℕ) (Val := Elt F) spec2 c [cc2_scratch0])

theorem PhiS_zero (c : Dev nD) (n : ℕ) (h : n ≤ cfg2.N) (hz : n = 0) : PhiS V c n h = Pipeline.scopedRest (Ix := Unit) (Name := ℕ) (U := UR sig nD τ) (Lvl := ℕ) (Val := Elt F) spec2 c := by
  subst hz; rfl

/-- After point `n` (before point `n + 1`). -/
theorem PhiS_succ (c : Dev nD) (n : ℕ) (hn : n < cfg2.N) :
    PhiS V c (n + 1) hn = iprop(iprop(owns (c : Thread nD τ) scM0_0 fullShare ((outsAt0 V c n hn).2)) ∗ Pipeline.scopedRestBut (Ix := Unit) (Name := ℕ) (U := UR sig nD τ) (Lvl := ℕ) (Val := Elt F) spec2 c [cc2_scratch0]) := rfl

/-- Before a point that is not the first. -/
theorem PhiS_pos (c : Dev nD) (n : ℕ) (h : n ≤ cfg2.N) (hz : n ≠ 0) :
    PhiS V c n h = iprop(iprop(owns (c : Thread nD τ) scM0_0 fullShare ((outsAt0 V c (n - 1) (by omega)).2)) ∗ Pipeline.scopedRestBut (Ix := Unit) (Name := ℕ) (U := UR sig nD τ) (Lvl := ℕ) (Val := Elt F) spec2 c [cc2_scratch0]) := by
  cases n with
  | zero => exact absurd rfl hz
  | succ n => rfl

/-! ## The pipeline's proof data -/

/-- The proof data of the one pipeline on core `c`. -/
def dats (_ : Fin 1) (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => iblk V c 3 t
    | ⟨4, _⟩ => (outsAt0 V c t.val t.isLt).1
  Φ t := PhiS V c t.val (Nat.le_of_lt_succ t.isLt)
  q _ := fullShare
  owed _ := 0

/-- The proof data's arrays are the region-entry contents. -/
theorem A_eq (c : Dev nD) (w : Fin cfg2.W) : (dats V 0 c).A w = V c (Pipeline.arrRef spec2 w) := by
  dsimp only [dats]

/-- The invariant at a point's start (the proof data at `t.castSucc`), restated at `t.val`. -/
theorem PhiS_castSucc (c : Dev nD) (t : Fin cfg2.N) :
    (dats V 0 c).Φ t.castSucc = PhiS V c t.val (Nat.le_of_lt t.isLt) := by
  dsimp only [dats]; exact Pipeline.Dat.Φ_castSucc (PhiS V c) t

/-- What the body leaves, window by window (the proof data's `match` reduced by `dsimp`). -/
theorem after0_0 (c : Dev nD) (t : Fin cfg2.N) : (dats V 0 c).after 0 t = iblk V c 0 t := by dsimp only [dats]
theorem after0_1 (c : Dev nD) (t : Fin cfg2.N) : (dats V 0 c).after 1 t = iblk V c 1 t := by dsimp only [dats]
theorem after0_2 (c : Dev nD) (t : Fin cfg2.N) : (dats V 0 c).after 2 t = iblk V c 2 t := by dsimp only [dats]
theorem after0_3 (c : Dev nD) (t : Fin cfg2.N) : (dats V 0 c).after 3 t = iblk V c 3 t := by dsimp only [dats]
theorem after0_4 (c : Dev nD) (t : Fin cfg2.N) : (dats V 0 c).after 4 t = (outsAt0 V c t.val t.isLt).1 := by dsimp only [dats]

/-- Each input's current staging buffer holds its block at every point, fetched there or not (`beforeK_W_of`). -/
theorem before0_0 (c : Dev nD) (t : Fin cfg2.N) (d) : (dats V 0 c).before 0 t d = iblk V c 0 t :=
  before0_0_of V (dats V 0 c) (A_eq V c 0) (after0_0 V c) t d
theorem before0_1 (c : Dev nD) (t : Fin cfg2.N) (d) : (dats V 0 c).before 1 t d = iblk V c 1 t :=
  before0_1_of V (dats V 0 c) (A_eq V c 1) (after0_1 V c) t d
theorem before0_2 (c : Dev nD) (t : Fin cfg2.N) (d) : (dats V 0 c).before 2 t d = iblk V c 2 t :=
  before0_2_of V (dats V 0 c) (A_eq V c 2) (after0_2 V c) t d
theorem before0_3 (c : Dev nD) (t : Fin cfg2.N) (d) : (dats V 0 c).before 3 t d = iblk V c 3 t :=
  before0_3_of V (dats V 0 c) (A_eq V c 3) (after0_3 V c) t d

/-! ## The body obligation, at a generic point -/

/-- What the body is called with at point `t` (Lib/Pipeline.lean `BodyObligation`'s precondition, the windows one by one),. -/
def bodyPre (c : Dev nD) (t : Fin cfg2.N) : sProp 𝕄 :=
  iprop((dats V 0 c).Φ t.castSucc ∗ (dats V 0 c).owesAt () t.castSucc
    ∗ (∃ d, owns (c : Thread nD τ) (ms0_0 t) fullShare ((dats V 0 c).before 0 t d))
    ∗ (∃ d, owns (c : Thread nD τ) (ms0_1 t) fullShare ((dats V 0 c).before 1 t d))
    ∗ (∃ d, owns (c : Thread nD τ) (ms0_2 t) fullShare ((dats V 0 c).before 2 t d))
    ∗ (∃ d, owns (c : Thread nD τ) (ms0_3 t) fullShare ((dats V 0 c).before 3 t d))
    ∗ (∃ d, owns (c : Thread nD τ) (ms0_4 t) fullShare ((dats V 0 c).before 4 t d)))

/-- and what it returns. -/
def bodyPost (c : Dev nD) (t : Fin cfg2.N) : sProp 𝕄 :=
  iprop((dats V 0 c).Φ t.succ ∗ (dats V 0 c).owesAt () t.succ
    ∗ (dats V 0 c).leavesExact 0 t
    ∗ (dats V 0 c).leavesExact 1 t
    ∗ (dats V 0 c).leavesExact 2 t
    ∗ (dats V 0 c).leavesExact 3 t
    ∗ (dats V 0 c).leavesExact 4 t)

set_option maxHeartbeats 4800000 in
/-- The body at any point. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before0_0, before0_1, before0_2, before0_3]
  rw [show (dats V 0 c).owesAt () t.succ = (dats V 0 c).owesAt () t.castSucc from rfl]
  rw [show (dats V 0 c).Φ t.succ = PhiS V c (t.val + 1) t.isLt from rfl, PhiS_succ]
  have hN : t.val < 64 := lt_of_lt_of_eq t.isLt (show cfg2.N = 64 from N_2)
  by_cases h0 : t.val % 64 = 0
  · by_cases h1 : 1 ≤ t.val
    · exfalso; omega
    · by_cases h2 : t.val % 64 = 63
      · exfalso; omega
      · rw [show (dats V 0 c).leavesExact 0 t = owns (c : Thread nD τ) (ms0_0 t) fullShare ((dats V 0 c).after 0 t) from by
      unfold Dat.leavesExact; rw [liveAt0_0 t], after0_0]
        rw [show (dats V 0 c).leavesExact 1 t = owns (c : Thread nD τ) (ms0_1 t) fullShare ((dats V 0 c).after 1 t) from by
      unfold Dat.leavesExact; rw [liveAt0_1 t], after0_1]
        rw [show (dats V 0 c).leavesExact 2 t = owns (c : Thread nD τ) (ms0_2 t) fullShare ((dats V 0 c).after 2 t) from by
      unfold Dat.leavesExact; rw [liveAt0_2 t], after0_2]
        rw [show (dats V 0 c).leavesExact 3 t = owns (c : Thread nD τ) (ms0_3 t) fullShare ((dats V 0 c).after 3 t) from by
      unfold Dat.leavesExact; rw [liveAt0_3 t], after0_3]
        rw [Dat.leavesExact_idle (dats V 0 c) 4 t (idleAt0_4_A t ((hcond0_0 t).mpr h0) (fun h => h1 ((hcond0_1 t).mp h)) (fun h => h2 ((hcond0_2 t).mp h))) (noFlush0_4_A t ((hcond0_0 t).mpr h0) (fun h => h1 ((hcond0_1 t).mp h)) (fun h => h2 ((hcond0_2 t).mp h)))]
        by_cases hz : t.val = 0
        · rw [PhiS_castSucc V c t, PhiS_zero V c _ _ hz, PhiA0_eq]
          rw [outsAt0_A V c t h0 h1 h2]
          unfold sout0_A_0; (try dsimp only)
          iintro ⟨⟨HS0, Hg⟩, Ho, ⟨%d0, H0⟩, ⟨%d1, H1⟩, ⟨%d2, H2⟩, ⟨%d3, H3⟩, ⟨%d4, H4⟩⟩
          iapply ((kernelRun0_A c (grid2.coords t) _ _ _ _ _ _ _ _ _ _ _ _ ((hcond0_0 t).mpr h0) (fun h => h1 ((hcond0_1 t).mp h)) (fun h => h2 ((hcond0_2 t).mp h)) (iblk V c 0 t) (iblk V c 1 t) (iblk V c 2 t) (iblk V c 3 t)).2.2 _ Set.univ _)
          isplitl [H0]; · iexact H0
          isplitl [H1]; · iexact H1
          isplitl [H2]; · iexact H2
          isplitl [H3]; · iexact H3
          isplitl [H4]; · iexact H4
          isplitl [HS0]; · iexact HS0
          iintro ⟨H0, H1, H2, H3, H4, ⟨%es0, HS0⟩⟩
          isplitl [HS0 Hg]
          · isplitl [HS0]
            · unfold owns; iexists _; isplitr
              swap; · iexact HS0
              ipureintro; exact View.read_writes_of_cover _ _ _ _ _ (scover0_A_0 c _ _ _ _ _ _ _ _ _ _ _ _ _ _ _ _ _ _ _ _)
            iexact Hg
          isplitl [Ho]; · iexact Ho
          isplitl [H0]; · iexact H0
          isplitl [H1]; · iexact H1
          isplitl [H2]; · iexact H2
          isplitl [H3]; · iexact H3
          iexists _; iexact H4
        · exfalso; have hN : t.val < 64 := lt_of_lt_of_eq t.isLt (show cfg2.N = 64 from N_2); omega
  · by_cases h1 : 1 ≤ t.val
    · by_cases h2 : t.val % 64 = 63
      · rw [show (dats V 0 c).leavesExact 0 t = owns (c : Thread nD τ) (ms0_0 t) fullShare ((dats V 0 c).after 0 t) from by
      unfold Dat.leavesExact; rw [liveAt0_0 t], after0_0]
        rw [show (dats V 0 c).leavesExact 1 t = owns (c : Thread nD τ) (ms0_1 t) fullShare ((dats V 0 c).after 1 t) from by
      unfold Dat.leavesExact; rw [liveAt0_1 t], after0_1]
        rw [show (dats V 0 c).leavesExact 2 t = owns (c : Thread nD τ) (ms0_2 t) fullShare ((dats V 0 c).after 2 t) from by
      unfold Dat.leavesExact; rw [liveAt0_2 t], after0_2]
        rw [show (dats V 0 c).leavesExact 3 t = owns (c : Thread nD τ) (ms0_3 t) fullShare ((dats V 0 c).after 3 t) from by
      unfold Dat.leavesExact; rw [liveAt0_3 t], after0_3]
        rw [show (dats V 0 c).leavesExact 4 t = owns (c : Thread nD τ) (ms0_4 t) fullShare ((dats V 0 c).after 4 t) from by
      unfold Dat.leavesExact; rw [liveAt0_4_C t (fun h => h0 ((hcond0_0 t).mp h)) ((hcond0_1 t).mpr h1) ((hcond0_2 t).mpr h2)], after0_4]
        by_cases hz : t.val = 0
        · exfalso; have hN : t.val < 64 := lt_of_lt_of_eq t.isLt (show cfg2.N = 64 from N_2); omega
        · rw [PhiS_castSucc V c t, PhiS_pos V c _ _ hz]
          rw [outsAt0_C V c t h0 h1 h2]
          unfold out0_C_4 sout0_C_0; (try dsimp only)
          iintro ⟨⟨HS0, Hg⟩, Ho, ⟨%d0, H0⟩, ⟨%d1, H1⟩, ⟨%d2, H2⟩, ⟨%d3, H3⟩, ⟨%d4, H4⟩⟩
          iapply ((kernelRun0_C c (grid2.coords t) _ _ _ _ _ _ _ _ _ _ _ _ (fun h => h0 ((hcond0_0 t).mp h)) ((hcond0_1 t).mpr h1) ((hcond0_2 t).mpr h2) (iblk V c 0 t) (iblk V c 1 t) (iblk V c 2 t) (iblk V c 3 t) _).2.2 Set.univ _)
          isplitl [H0]; · iexact H0
          isplitl [H1]; · iexact H1
          isplitl [H2]; · iexact H2
          isplitl [H3]; · iexact H3
          isplitl [H4]; · iexists _; iexact H4
          isplitl [HS0]; · iexact HS0
          iintro ⟨H0, H1, H2, H3, ⟨%e4, H4⟩, ⟨%es0, HS0⟩⟩
          isplitl [HS0 Hg]
          · isplitl [HS0]
            · unfold owns; iexists _; isplitr
              swap; · iexact HS0
              ipureintro; exact View.read_writes_of_cover _ _ _ _ _ (scover0_C_0 c _ _ _ _ _ _ _ _ _ _ _ _ _ _ _ _ _ _ _ _ _)
            iexact Hg
          isplitl [Ho]; · iexact Ho
          isplitl [H0]; · iexact H0
          isplitl [H1]; · iexact H1
          isplitl [H2]; · iexact H2
          isplitl [H3]; · iexact H3
          unfold owns; iexists _; isplitr
          swap; · iexact H4
          ipureintro; exact View.read_writes_of_cover _ _ _ _ _ (cover0_C_4 c _ _ _ _ _ _ _ _ _ _ _ _ _ _ _ _ _ _ _ _ _)
      · rw [show (dats V 0 c).leavesExact 0 t = owns (c : Thread nD τ) (ms0_0 t) fullShare ((dats V 0 c).after 0 t) from by
      unfold Dat.leavesExact; rw [liveAt0_0 t], after0_0]
        rw [show (dats V 0 c).leavesExact 1 t = owns (c : Thread nD τ) (ms0_1 t) fullShare ((dats V 0 c).after 1 t) from by
      unfold Dat.leavesExact; rw [liveAt0_1 t], after0_1]
        rw [show (dats V 0 c).leavesExact 2 t = owns (c : Thread nD τ) (ms0_2 t) fullShare ((dats V 0 c).after 2 t) from by
      unfold Dat.leavesExact; rw [liveAt0_2 t], after0_2]
        rw [show (dats V 0 c).leavesExact 3 t = owns (c : Thread nD τ) (ms0_3 t) fullShare ((dats V 0 c).after 3 t) from by
      unfold Dat.leavesExact; rw [liveAt0_3 t], after0_3]
        rw [Dat.leavesExact_idle (dats V 0 c) 4 t (idleAt0_4_B t (fun h => h0 ((hcond0_0 t).mp h)) ((hcond0_1 t).mpr h1) (fun h => h2 ((hcond0_2 t).mp h))) (noFlush0_4_B t (fun h => h0 ((hcond0_0 t).mp h)) ((hcond0_1 t).mpr h1) (fun h => h2 ((hcond0_2 t).mp h)))]
        by_cases hz : t.val = 0
        · exfalso; have hN : t.val < 64 := lt_of_lt_of_eq t.isLt (show cfg2.N = 64 from N_2); omega
        · rw [PhiS_castSucc V c t, PhiS_pos V c _ _ hz]
          rw [outsAt0_B V c t h0 h1 h2]
          unfold sout0_B_0; (try dsimp only)
          iintro ⟨⟨HS0, Hg⟩, Ho, ⟨%d0, H0⟩, ⟨%d1, H1⟩, ⟨%d2, H2⟩, ⟨%d3, H3⟩, ⟨%d4, H4⟩⟩
          iapply ((kernelRun0_B c (grid2.coords t) _ _ _ _ _ _ _ _ _ _ _ _ (fun h => h0 ((hcond0_0 t).mp h)) ((hcond0_1 t).mpr h1) (fun h => h2 ((hcond0_2 t).mp h)) (iblk V c 0 t) (iblk V c 1 t) (iblk V c 2 t) (iblk V c 3 t) _).2.2 _ Set.univ _)
          isplitl [H0]; · iexact H0
          isplitl [H1]; · iexact H1
          isplitl [H2]; · iexact H2
          isplitl [H3]; · iexact H3
          isplitl [H4]; · iexact H4
          isplitl [HS0]; · iexact HS0
          iintro ⟨H0, H1, H2, H3, H4, ⟨%es0, HS0⟩⟩
          isplitl [HS0 Hg]
          · isplitl [HS0]
            · unfold owns; iexists _; isplitr
              swap; · iexact HS0
              ipureintro; exact View.read_writes_of_cover _ _ _ _ _ (scover0_B_0 c _ _ _ _ _ _ _ _ _ _ _ _ _ _ _ _ _ _ _ _ _)
            iexact Hg
          isplitl [Ho]; · iexact Ho
          isplitl [H0]; · iexact H0
          isplitl [H1]; · iexact H1
          isplitl [H2]; · iexact H2
          isplitl [H3]; · iexact H3
          iexists _; iexact H4
    · exfalso; omega

/-- The body table's row at point `t`'s slots is the body as `bodyAt2` spells it. -/
theorem defs₀_row (t : Fin cfg2.N) :
    defs₀ (F := F) .tc cfg2.body (cfg2.bodyArgs t (cfg2.slots t)) = bodyAt2 t := by
  unfold defs₀; rw [Defs.onTc_tc]

/-- The library's body obligation, at every point. -/
theorem body_obligation (c : Dev nD) : BodyObligation (dats (F := F) V 0 c) (defs₀ (F := F)) Variants.none () Set.univ := fun t => by
  rw [bigSep_W2, bigSep_W2, defs₀_row]
  exact triple_restated (sound_body V c t) rfl .rfl fun _ => .rfl

/-- What the launch hands the region (that) is the invariant before the first point. -/
theorem hin (c : Dev nD) : Pipeline.scopedRest (Ix := Unit) (Name := ℕ) (U := UR sig nD τ) (Lvl := ℕ) (Val := Elt F) spec2 c ⊢ (dats V 0 c).Φ 0 := by
  rw [show (dats V 0 c).Φ 0 = PhiS V c 0 (Nat.zero_le _) from rfl, PhiS_zero V c 0 _ rfl]
  try exact Idealize.SL.BI.Entails.refl _

/-- After any point but the first the invariant gives that back. -/
theorem Phi_out (c : Dev nD) (t : Fin (cfg2.N + 1)) (ht : t.val ≠ 0) : (dats V 0 c).Φ t ⊢ Pipeline.scopedRest (Ix := Unit) (Name := ℕ) (U := UR sig nD τ) (Lvl := ℕ) (Val := Elt F) spec2 c := by
  rw [show (dats V 0 c).Φ t = PhiS V c t.val (Nat.le_of_lt_succ t.isLt) from rfl, PhiS_pos V c _ _ ht, PhiA0_eq]
  iintro ⟨HS0, Hg⟩
  isplitl [HS0]
  · iexists _; iexact HS0
  iexact Hg

/-- The same after the last point. -/
theorem hout (c : Dev nD) : (dats V 0 c).Φ (Fin.last cfg2.N) ⊢ Pipeline.scopedRest (Ix := Unit) (Name := ℕ) (U := UR sig nD τ) (Lvl := ℕ) (Val := Elt F) spec2 c :=
  Phi_out V c _ (by rw [Fin.val_last]; have : cfg2.N = 64 := N_2; omega)

end Cert.KernelIdeal.Region2

end
-- ==== Proof.Segments.lean ====
/- The three regions of @main as segments over the unscoped buffers, and the run of the whole program: every buffer's
   contents at the end, every counter at zero. -/
module

public import proofs.«01_k».proof.Proof.Region0.Body
public import proofs.«01_k».proof.Proof.Region1.Body
public import proofs.«01_k».proof.Proof.Region2.Body
public import proofs.«01_k».proof.Proof.Gen.KernelIdeal.Regions
public import Idealize.ShloMosaic.Lib.Pipeline.Regions
public import Idealize.ShloMosaic.Lib.Pipeline.RegionsLoop
public import Idealize.ShloMosaic.Lib.Pipeline.Frame

@[expose] public section

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Seg HostSeg RegionSeg)

variable {F : FTy → Type} [FloatOps F]

local notation "𝕄" => MT nD τ sig Unit (Elt F) ℕ (UR sig nD τ) ℕ

/-- Every core's buffers, by reference. -/
abbrev Entry : Type := (c : Dev nD) → (b : Ref sig .tc) → Buf (Elt F) ((c : Thread nD τ).loc b)

/-- What no core owes at any point. -/
abbrev L : GSem nD τ sig → Finset Unit := fun _ => ∅
abbrev lv : GSem nD τ sig → Unit → ℕ := fun _ _ => 0

/-- The thread state between two items: the unscoped buffers at `W`, and nothing owed. -/
abbrev idle (c : Dev nD) : sProp 𝕄 := iprop(∃ S, owes (c : Thread nD τ) (0 : CellTallies nD τ sig Unit) S)

section Regions

-- what the three regions find
variable (A B C : Entry (F := F))

/-- The three regions' proof data, each at what its region finds. -/
def pdats : (p : Fin 3) → (c : Dev nD) → Dat τ (Elt F) Unit ℕ (UR sig nD τ) ℕ (cfgs p) c
  | ⟨0, _⟩ => fun c => Region0.dats A 0 c
  | ⟨1, _⟩ => fun c => Region1.dats B 0 c
  | ⟨2, _⟩ => fun c => Region2.dats C 0 c

set_option backward.isDefEq.respectTransparency.types false in
/-- Region 0 from the buffers at `A` to the buffers at `Vp`, which has the region's results where it wrote and
    agrees with `A` everywhere else. -/
def region0 (Vp : Entry (F := F))
    (h0 : ∀ c, Vp c main_v5_0 = (Region0.dats A 0 c).arrAt 2 cfg0.N)
    (h1 : ∀ c, Vp c main_v5_1 = (Region0.dats A 0 c).arrAt 3 cfg0.N)
    (h2 : ∀ c, Vp c main_v5_2 = (Region0.dats A 0 c).arrAt 4 cfg0.N)
    (h3 : ∀ c, Vp c main_v5_3 = (Region0.dats A 0 c).arrAt 5 cfg0.N)
    (hne : ∀ c (b : Ref sig .tc), b ∉ ([main_v5_0, main_v5_1, main_v5_2, main_v5_3] : List (Ref sig .tc)) → Vp c b = A c b) :
    RegionSeg (pcfgs (F := F)) adm (pdats A B C) () defs₀ Variants.none L lv 0 where
  win := launch0.win.to₀
  block_pos := launch0.block_pos
  stage_whole := launch0.stage_whole
  K := PEmpty
  osem k := k.elim
  ho := Pipeline.OwnSemFacts.none _
  hbody c := (Region0.body_obligation A c).loose
  hwaits := Pipeline.hwaits_of_owed_zero _ _ _ _ L lv 0 fun _ _ => rfl
  pre c := iprop(unscopedBufs c (A c) ∗ idle c)
  post c := iprop(unscopedBufs c (Vp c) ∗ idle c)
  X _ := BI.emp
  Y _ := BI.emp
  Z c := Pipeline.unscopedRest (Ix := Unit) (Name := ℕ) (U := UR sig nD τ) (Lvl := ℕ) spec0 c (A c)
  hentry c := by
    rw [Pipeline.ownSems0_none]
    have hsplit := Pipeline.arrays_of_unscopedBufs (p := 0) (pcfgs (F := F)) adm (pdats A B C) launch0.win
      launch0.arr_whole c ((pdats A B C 0 c).share_full fun _ => rfl) (A c) (Region0.A_eq A c)
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats A B C 0 c).Φ 0 = (Region0.dats A 0 c).Φ 0 from rfl]
    iintro ⟨-, -, Hr⟩
    iapply (Region0.hin A c)
    iexact Hr
  hout c := by
    rw [Pipeline.ownSems0_none, show (pdats A B C 0 c).Φ (Fin.last _) = (Region0.dats A 0 c).Φ (Fin.last cfg0.N) from rfl]
    iintro Hr
    isplitr; · iempintro
    isplitr; · iempintro
    iapply (Region0.hout A c)
    iexact Hr
  hexit c := by
    have hjoin := Pipeline.unscopedBufs_of_arrays (p := 0) (pcfgs (F := F)) adm (Ix := Unit) (Name := ℕ) (U := UR sig nD τ) (Lvl := ℕ)
      launch0.win launch0.arr_whole c
      (pdats A B C) ((pdats A B C 0 c).share_full fun _ => rfl) (A c) (Vp c) ((pdats A B C 0 c).arrAt · cfg0.N)
      (fun w => by
        fin_cases w
        · exact (((pdats A B C 0 c).arrAt_in 0 rfl _).trans (Region0.A_eq A c 0)).trans (hne c (Pipeline.arrRef spec0 0) (by decide)).symm
        · exact (((pdats A B C 0 c).arrAt_in 1 rfl _).trans (Region0.A_eq A c 1)).trans (hne c (Pipeline.arrRef spec0 1) (by decide)).symm
        · exact (h0 c).symm
        · exact (h1 c).symm
        · exact (h2 c).symm
        · exact (h3 c).symm)
      (fun b hb => hne c b fun h => by
        simp only [List.mem_cons, List.not_mem_nil, or_false] at h
        rcases h with rfl | rfl | rfl | rfl
        · exact hb (Finset.mem_image.mpr ⟨2, Finset.mem_univ _, rfl⟩)
        · exact hb (Finset.mem_image.mpr ⟨3, Finset.mem_univ _, rfl⟩)
        · exact hb (Finset.mem_image.mpr ⟨4, Finset.mem_univ _, rfl⟩)
        · exact hb (Finset.mem_image.mpr ⟨5, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

set_option backward.isDefEq.respectTransparency.types false in
/-- Region 1 from the buffers at `B` to the buffers at `Vp`, which has the region's results where it wrote and
    agrees with `B` everywhere else. -/
def region1 (Vp : Entry (F := F))
    (h0 : ∀ c, Vp c main_v6_0 = (Region1.dats B 0 c).arrAt 7 cfg1.N)
    (h1 : ∀ c, Vp c main_v6_1 = (Region1.dats B 0 c).arrAt 8 cfg1.N)
    (h2 : ∀ c, Vp c main_v6_2 = (Region1.dats B 0 c).arrAt 9 cfg1.N)
    (hne : ∀ c (b : Ref sig .tc), b ∉ ([main_v6_0, main_v6_1, main_v6_2] : List (Ref sig .tc)) → Vp c b = B c b) :
    RegionSeg (pcfgs (F := F)) adm (pdats A B C) () defs₀ Variants.none L lv 1 where
  win := launch1.win.to₀
  block_pos := launch1.block_pos
  stage_whole := launch1.stage_whole
  K := PEmpty
  osem k := k.elim
  ho := Pipeline.OwnSemFacts.none _
  hbody c := (Region1.body_obligation B c).loose
  hwaits := Pipeline.hwaits_of_owed_zero _ _ _ _ L lv 1 fun _ _ => rfl
  pre c := iprop(unscopedBufs c (B c) ∗ idle c)
  post c := iprop(unscopedBufs c (Vp c) ∗ idle c)
  X _ := BI.emp
  Y _ := BI.emp
  Z c := Pipeline.unscopedRest (Ix := Unit) (Name := ℕ) (U := UR sig nD τ) (Lvl := ℕ) spec1 c (B c)
  hentry c := by
    rw [Pipeline.ownSems0_none]
    have hsplit := Pipeline.arrays_of_unscopedBufs (p := 1) (pcfgs (F := F)) adm (pdats A B C) launch1.win
      launch1.arr_whole c ((pdats A B C 1 c).share_full fun _ => rfl) (B c) (Region1.A_eq B c)
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats A B C 1 c).Φ 0 = (Region1.dats B 0 c).Φ 0 from rfl]
    iintro ⟨-, -, Hr⟩
    iapply (Region1.hin B c)
    iexact Hr
  hout c := by
    rw [Pipeline.ownSems0_none, show (pdats A B C 1 c).Φ (Fin.last _) = (Region1.dats B 0 c).Φ (Fin.last cfg1.N) from rfl]
    iintro Hr
    isplitr; · iempintro
    isplitr; · iempintro
    iapply (Region1.hout B c)
    iexact Hr
  hexit c := by
    have hjoin := Pipeline.unscopedBufs_of_arrays (p := 1) (pcfgs (F := F)) adm (Ix := Unit) (Name := ℕ) (U := UR sig nD τ) (Lvl := ℕ)
      launch1.win launch1.arr_whole c
      (pdats A B C) ((pdats A B C 1 c).share_full fun _ => rfl) (B c) (Vp c) ((pdats A B C 1 c).arrAt · cfg1.N)
      (fun w => by
        fin_cases w
        · exact (((pdats A B C 1 c).arrAt_in 0 rfl _).trans (Region1.A_eq B c 0)).trans (hne c (Pipeline.arrRef spec1 0) (by decide)).symm
        · exact (((pdats A B C 1 c).arrAt_in 1 rfl _).trans (Region1.A_eq B c 1)).trans (hne c (Pipeline.arrRef spec1 1) (by decide)).symm
        · exact (((pdats A B C 1 c).arrAt_in 2 rfl _).trans (Region1.A_eq B c 2)).trans (hne c (Pipeline.arrRef spec1 2) (by decide)).symm
        · exact (((pdats A B C 1 c).arrAt_in 3 rfl _).trans (Region1.A_eq B c 3)).trans (hne c (Pipeline.arrRef spec1 3) (by decide)).symm
        · exact (((pdats A B C 1 c).arrAt_in 4 rfl _).trans (Region1.A_eq B c 4)).trans (hne c (Pipeline.arrRef spec1 4) (by decide)).symm
        · exact (((pdats A B C 1 c).arrAt_in 5 rfl _).trans (Region1.A_eq B c 5)).trans (hne c (Pipeline.arrRef spec1 5) (by decide)).symm
        · exact (((pdats A B C 1 c).arrAt_in 6 rfl _).trans (Region1.A_eq B c 6)).trans (hne c (Pipeline.arrRef spec1 6) (by decide)).symm
        · exact (h0 c).symm
        · exact (h1 c).symm
        · exact (h2 c).symm)
      (fun b hb => hne c b fun h => by
        simp only [List.mem_cons, List.not_mem_nil, or_false] at h
        rcases h with rfl | rfl | rfl
        · exact hb (Finset.mem_image.mpr ⟨7, Finset.mem_univ _, rfl⟩)
        · exact hb (Finset.mem_image.mpr ⟨8, Finset.mem_univ _, rfl⟩)
        · exact hb (Finset.mem_image.mpr ⟨9, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

set_option backward.isDefEq.respectTransparency.types false in
/-- Region 2 from the buffers at `C` to the buffers at `Vp`, which has the region's results where it wrote and
    agrees with `C` everywhere else. -/
def region2 (Vp : Entry (F := F))
    (h0 : ∀ c, Vp c main_v12 = (Region2.dats C 0 c).arrAt 4 cfg2.N)
    (hne : ∀ c (b : Ref sig .tc), b ∉ ([main_v12] : List (Ref sig .tc)) → Vp c b = C c b) :
    RegionSeg (pcfgs (F := F)) adm (pdats A B C) () defs₀ Variants.none L lv 2 where
  win := launch2.win.to₀
  block_pos := launch2.block_pos
  stage_whole := launch2.stage_whole
  K := PEmpty
  osem k := k.elim
  ho := Pipeline.OwnSemFacts.none _
  hbody c := (Region2.body_obligation C c).loose
  hwaits := Pipeline.hwaits_of_owed_zero _ _ _ _ L lv 2 fun _ _ => rfl
  pre c := iprop(unscopedBufs c (C c) ∗ idle c)
  post c := iprop(unscopedBufs c (Vp c) ∗ idle c)
  X _ := BI.emp
  Y _ := BI.emp
  Z c := Pipeline.unscopedRest (Ix := Unit) (Name := ℕ) (U := UR sig nD τ) (Lvl := ℕ) spec2 c (C c)
  hentry c := by
    rw [Pipeline.ownSems0_none]
    have hsplit := Pipeline.arrays_of_unscopedBufs (p := 2) (pcfgs (F := F)) adm (pdats A B C) launch2.win
      launch2.arr_whole c ((pdats A B C 2 c).share_full fun _ => rfl) (C c) (Region2.A_eq C c)
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats A B C 2 c).Φ 0 = (Region2.dats C 0 c).Φ 0 from rfl]
    iintro ⟨-, -, Hr⟩
    iapply (Region2.hin C c)
    iexact Hr
  hout c := by
    rw [Pipeline.ownSems0_none, show (pdats A B C 2 c).Φ (Fin.last _) = (Region2.dats C 0 c).Φ (Fin.last cfg2.N) from rfl]
    iintro Hr
    isplitr; · iempintro
    isplitr; · iempintro
    iapply (Region2.hout C c)
    iexact Hr
  hexit c := by
    have hjoin := Pipeline.unscopedBufs_of_arrays (p := 2) (pcfgs (F := F)) adm (Ix := Unit) (Name := ℕ) (U := UR sig nD τ) (Lvl := ℕ)
      launch2.win launch2.arr_whole c
      (pdats A B C) ((pdats A B C 2 c).share_full fun _ => rfl) (C c) (Vp c) ((pdats A B C 2 c).arrAt · cfg2.N)
      (fun w => by
        fin_cases w
        · exact (((pdats A B C 2 c).arrAt_in 0 rfl _).trans (Region2.A_eq C c 0)).trans (hne c (Pipeline.arrRef spec2 0) (by decide)).symm
        · exact (((pdats A B C 2 c).arrAt_in 1 rfl _).trans (Region2.A_eq C c 1)).trans (hne c (Pipeline.arrRef spec2 1) (by decide)).symm
        · exact (((pdats A B C 2 c).arrAt_in 2 rfl _).trans (Region2.A_eq C c 2)).trans (hne c (Pipeline.arrRef spec2 2) (by decide)).symm
        · exact (((pdats A B C 2 c).arrAt_in 3 rfl _).trans (Region2.A_eq C c 3)).trans (hne c (Pipeline.arrRef spec2 3) (by decide)).symm
        · exact (h0 c).symm)
      (fun b hb => hne c b fun h => by
        simp only [List.mem_cons, List.not_mem_nil, or_false] at h
        rcases h with rfl
        · exact hb (Finset.mem_image.mpr ⟨4, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

end Regions

variable (m : (ℓ : Loc nD τ sig) → Buf (Elt F) ℓ) (ρ : Dev nD → PrngReg)

/-! ## The buffers between the items -/

/-- After the first host stretch. -/
def W1 (c : Dev nD) : Valuation τ sig (Elt F) := StableHlo.after hostOps0 (fun b => m (c, b))
/-- After region 0. -/
def W2 (c : Dev nD) : Valuation τ sig (Elt F) :=
  Function.update (Function.update (Function.update (Function.update (W1 m c)
    main_v5_0 ((Region0.dats (fun c b => W1 m c b) 0 c).arrAt 2 cfg0.N))
    main_v5_1 ((Region0.dats (fun c b => W1 m c b) 0 c).arrAt 3 cfg0.N))
    main_v5_2 ((Region0.dats (fun c b => W1 m c b) 0 c).arrAt 4 cfg0.N))
    main_v5_3 ((Region0.dats (fun c b => W1 m c b) 0 c).arrAt 5 cfg0.N)
/-- After region 1. -/
def W3 (c : Dev nD) : Valuation τ sig (Elt F) :=
  Function.update (Function.update (Function.update (W2 m c)
    main_v6_0 ((Region1.dats (fun c b => W2 m c b) 0 c).arrAt 7 cfg1.N))
    main_v6_1 ((Region1.dats (fun c b => W2 m c b) 0 c).arrAt 8 cfg1.N))
    main_v6_2 ((Region1.dats (fun c b => W2 m c b) 0 c).arrAt 9 cfg1.N)
/-- After the second host stretch. -/
def W4 (c : Dev nD) : Valuation τ sig (Elt F) := StableHlo.after hostOps2 (W3 m c)
/-- After region 2. -/
def W5 (c : Dev nD) : Valuation τ sig (Elt F) :=
  Function.update (W4 m c) main_v12 ((Region2.dats (fun c b => W4 m c b) 0 c).arrAt 4 cfg2.N)
/-- After the last host stretch. -/
def W6 (c : Dev nD) : Valuation τ sig (Elt F) := StableHlo.after hostOps3 (W5 m c)

theorem W1_of (c : Dev nD) (r : Ref sig .tc) (h : r ∉ hostOps0_W) : W1 m c r = m ((c : Thread nD τ).loc r) :=
  StableHlo.after_of_writes_sub hostOps0 _ hostOps0_writes h
theorem W2_of (c : Dev nD) (r : Ref sig .tc) (h : r ∉ ([main_v5_0, main_v5_1, main_v5_2, main_v5_3] : List (Ref sig .tc))) :
    W2 m c r = W1 m c r := by
  simp only [List.mem_cons, List.not_mem_nil, or_false, not_or] at h
  obtain ⟨h0, h1, h2, h3⟩ := h
  simp only [W2, Function.update_of_ne (StableHlo.devRef_ne_of_ne h0 : (Proc.devRef .tc r : DevRef τ sig) ≠ _),
    Function.update_of_ne (StableHlo.devRef_ne_of_ne h1 : (Proc.devRef .tc r : DevRef τ sig) ≠ _),
    Function.update_of_ne (StableHlo.devRef_ne_of_ne h2 : (Proc.devRef .tc r : DevRef τ sig) ≠ _),
    Function.update_of_ne (StableHlo.devRef_ne_of_ne h3 : (Proc.devRef .tc r : DevRef τ sig) ≠ _)]
theorem W3_of (c : Dev nD) (r : Ref sig .tc) (h : r ∉ ([main_v6_0, main_v6_1, main_v6_2] : List (Ref sig .tc))) :
    W3 m c r = W2 m c r := by
  simp only [List.mem_cons, List.not_mem_nil, or_false, not_or] at h
  obtain ⟨h0, h1, h2⟩ := h
  simp only [W3, Function.update_of_ne (StableHlo.devRef_ne_of_ne h0 : (Proc.devRef .tc r : DevRef τ sig) ≠ _),
    Function.update_of_ne (StableHlo.devRef_ne_of_ne h1 : (Proc.devRef .tc r : DevRef τ sig) ≠ _),
    Function.update_of_ne (StableHlo.devRef_ne_of_ne h2 : (Proc.devRef .tc r : DevRef τ sig) ≠ _)]
theorem W4_of (c : Dev nD) (r : Ref sig .tc) (h : r ∉ hostOps2_W) : W4 m c r = W3 m c r :=
  StableHlo.after_of_writes_sub hostOps2 _ hostOps2_writes h
theorem W5_of (c : Dev nD) (r : Ref sig .tc) (h : r ∉ ([main_v12] : List (Ref sig .tc))) : W5 m c r = W4 m c r := by
  simp only [List.mem_cons, List.not_mem_nil, or_false] at h
  simp only [W5, Function.update_of_ne (StableHlo.devRef_ne_of_ne h : (Proc.devRef .tc r : DevRef τ sig) ≠ _)]
theorem W6_of (c : Dev nD) (r : Ref sig .tc) (h : r ∉ hostOps3_W) : W6 m c r = W5 m c r :=
  StableHlo.after_of_writes_sub hostOps3 _ hostOps3_writes h

-- what each region leaves in the arrays it writes
theorem W2_at0 (c : Dev nD) : W2 m c main_v5_0 = (Region0.dats (fun c b => W1 m c b) 0 c).arrAt 2 cfg0.N := by
  simp only [W2, Function.update_of_ne (StableHlo.devRef_ne_of_ne (by decide : main_v5_0 ≠ main_v5_1) : (Proc.devRef .tc main_v5_0 : DevRef τ sig) ≠ _),
    Function.update_of_ne (StableHlo.devRef_ne_of_ne (by decide : main_v5_0 ≠ main_v5_2) : (Proc.devRef .tc main_v5_0 : DevRef τ sig) ≠ _),
    Function.update_of_ne (StableHlo.devRef_ne_of_ne (by decide : main_v5_0 ≠ main_v5_3) : (Proc.devRef .tc main_v5_0 : DevRef τ sig) ≠ _), Function.update_self]
theorem W2_at1 (c : Dev nD) : W2 m c main_v5_1 = (Region0.dats (fun c b => W1 m c b) 0 c).arrAt 3 cfg0.N := by
  simp only [W2, Function.update_of_ne (StableHlo.devRef_ne_of_ne (by decide : main_v5_1 ≠ main_v5_2) : (Proc.devRef .tc main_v5_1 : DevRef τ sig) ≠ _),
    Function.update_of_ne (StableHlo.devRef_ne_of_ne (by decide : main_v5_1 ≠ main_v5_3) : (Proc.devRef .tc main_v5_1 : DevRef τ sig) ≠ _), Function.update_self]
theorem W2_at2 (c : Dev nD) : W2 m c main_v5_2 = (Region0.dats (fun c b => W1 m c b) 0 c).arrAt 4 cfg0.N := by
  simp only [W2, Function.update_of_ne (StableHlo.devRef_ne_of_ne (by decide : main_v5_2 ≠ main_v5_3) : (Proc.devRef .tc main_v5_2 : DevRef τ sig) ≠ _), Function.update_self]
theorem W2_at3 (c : Dev nD) : W2 m c main_v5_3 = (Region0.dats (fun c b => W1 m c b) 0 c).arrAt 5 cfg0.N := by
  simp only [W2, Function.update_self]
theorem W3_at0 (c : Dev nD) : W3 m c main_v6_0 = (Region1.dats (fun c b => W2 m c b) 0 c).arrAt 7 cfg1.N := by
  simp only [W3, Function.update_of_ne (StableHlo.devRef_ne_of_ne (by decide : main_v6_0 ≠ main_v6_1) : (Proc.devRef .tc main_v6_0 : DevRef τ sig) ≠ _),
    Function.update_of_ne (StableHlo.devRef_ne_of_ne (by decide : main_v6_0 ≠ main_v6_2) : (Proc.devRef .tc main_v6_0 : DevRef τ sig) ≠ _), Function.update_self]
theorem W3_at1 (c : Dev nD) : W3 m c main_v6_1 = (Region1.dats (fun c b => W2 m c b) 0 c).arrAt 8 cfg1.N := by
  simp only [W3, Function.update_of_ne (StableHlo.devRef_ne_of_ne (by decide : main_v6_1 ≠ main_v6_2) : (Proc.devRef .tc main_v6_1 : DevRef τ sig) ≠ _), Function.update_self]
theorem W3_at2 (c : Dev nD) : W3 m c main_v6_2 = (Region1.dats (fun c b => W2 m c b) 0 c).arrAt 9 cfg1.N := by
  simp only [W3, Function.update_self]
theorem W5_at (c : Dev nD) : W5 m c main_v12 = (Region2.dats (fun c b => W4 m c b) 0 c).arrAt 4 cfg2.N := by
  simp only [W5, Function.update_self]

/-! ## The segments -/

/-- A host stretch from `W`, nothing owed before or after. -/
def stretch (ops : List (HloOp τ sig (Elt F))) (hs : ops.Forall fun op => op.bufs ⊆ StableHlo.tcRefs τ sig)
    (hf : ops.Forall fun op => op.fresh = ∅) (W : Dev nD → Valuation τ sig (Elt F)) :
    HostSeg (Ix := Unit) (Name := ℕ) (U := UR sig nD τ) (Lvl := ℕ) (pcfgs (F := F)) defs₀ Variants.none L lv :=
  HostSeg.ofOps _ _ _ _ _ (Pipeline.ucRefs τ sig) ops
    (fun op h => Pipeline.sub_ucRefs op ((List.forall_iff_forall_mem.mp hs) op h))
    (fun op h => (List.forall_iff_forall_mem.mp hf) op h) W idle

/-- What region K finds, core by core. -/
abbrev E1 : Entry (F := F) := fun c b => W1 m c b
abbrev E2 : Entry (F := F) := fun c b => W2 m c b
abbrev E4 : Entry (F := F) := fun c b => W4 m c b

/-- Region 0 of this run, -/
def R0 : RegionSeg (pcfgs (F := F)) adm (pdats (E1 m) (E2 m) (E4 m)) () defs₀ Variants.none L lv 0 :=
  region0 (E1 m) (E2 m) (E4 m) (E2 m) (W2_at0 m) (W2_at1 m) (W2_at2 m) (W2_at3 m) (W2_of m)
/-- region 1, -/
def R1 : RegionSeg (pcfgs (F := F)) adm (pdats (E1 m) (E2 m) (E4 m)) () defs₀ Variants.none L lv 1 :=
  region1 (E1 m) (E2 m) (E4 m) (fun c b => W3 m c b) (W3_at0 m) (W3_at1 m) (W3_at2 m) (W3_of m)
/-- and region 2. -/
def R2 : RegionSeg (pcfgs (F := F)) adm (pdats (E1 m) (E2 m) (E4 m)) () defs₀ Variants.none L lv 2 :=
  region2 (E1 m) (E2 m) (E4 m) (fun c b => W5 m c b) (W5_at m) (W5_of m)

/-- @main as segments. -/
abbrev items : List (Seg (pcfgs (F := F)) adm (pdats (E1 m) (E2 m) (E4 m)) () defs₀ Variants.none L lv) :=
  [.host (stretch hostOps0 hostOps0_sub hostOps0_fresh fun c b => m (c, b)), .region (R0 m), .region (R1 m),
   .host (stretch hostOps2 hostOps2_sub hostOps2_fresh (W3 m)), .region (R2 m),
   .host (stretch hostOps3 hostOps3_sub hostOps3_fresh (W5 m))]

/-- The unscoped buffers at a valuation, listed or held. -/
theorem held_bufs (c : Dev nD) (W : Valuation τ sig (Elt F)) :
    (iprop(StableHlo.held (c : Thread nD τ) (Pipeline.ucRefs τ sig) W ∗ idle c) : sProp 𝕄) ⊢ iprop(unscopedBufs c (fun b => W b) ∗ idle c) :=
  sep_mono (Entails.of_eq (Pipeline.unscopedBufs_held (Ix := Unit) (Name := ℕ) (U := UR sig nD τ) (Lvl := ℕ) c W).symm) .rfl
theorem bufs_held (c : Dev nD) (W : Valuation τ sig (Elt F)) :
    (iprop(unscopedBufs c (fun b => W b) ∗ idle c) : sProp 𝕄) ⊢ iprop(StableHlo.held (c : Thread nD τ) (Pipeline.ucRefs τ sig) W ∗ idle c) :=
  sep_mono (Entails.of_eq (Pipeline.unscopedBufs_held (Ix := Unit) (Name := ℕ) (U := UR sig nD τ) (Lvl := ℕ) c W)) .rfl

/-- Every buffer outside the kernels' own memory ends at `W6`. -/
def Final (s : MemSt nD τ sig (Elt F)) : Prop :=
  ∀ (c : Dev nD) (b : Ref sig .tc), (Proc.devRef .tc b : DevRef τ sig) ∈ Pipeline.ucRefs τ sig →
    s.mem ((c : Thread nD τ).loc b) = W6 m c (Proc.devRef .tc b)

end Cert.KernelIdeal.Whole

end
-- ==== Proof.Run.lean ====
/- The run of the whole program over its segments: every buffer ends at the last valuation. -/
module

public import proofs.«01_k».proof.Proof.Segments

@[expose] public section

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The whole run: from any memory with zero counters it terminates, every buffer ends at `W6`, every counter at zero. -/
theorem run_main : θ_run defs (onTc (τ := τ) (main (F := F))) ⟨m, fun _ => 0, ρ⟩ (fun r => Final m r.2 ∧ r.2.sem = fun _ => 0) := by
  refine Pipeline.θ_run_regions_kit_dev_sems (pcfgs (F := F)) adm (pdats (E1 m) (E2 m) (E4 m)) () cellOf_inj emb₁ defs₀ Variants.none L lv m ρ main
    (fun _ => items m)
    (fun c Q => by
      rewrite [main_chain c, Seg.run_eq_chain,
        show (items m).map Seg.prog = [
          StableHlo.seq hostOps0,
          Prog.lift (.customCall (Pipeline.entry 0) ()),
          Prog.lift (.customCall (Pipeline.entry 1) ()),
          StableHlo.seq hostOps2,
          Prog.lift (.customCall (Pipeline.entry 2) ()),
          StableHlo.seq hostOps3 ] from rfl]
      dsimp (config := { failIfUnchanged := false }) only
      exact .rfl)
    (fun c => by simp only [items, Seg.pipes_host, Seg.pipes_region, Seg.pipes_nil]; decide)
    (fun _ => 0) (fun _ _ => rfl) (fun _ => BI.emp)
    (initOf (Pipeline.cells cfgs cellOf_inj) (Pipeline.launchToks cfgs cellOf_inj)) ?_
    (T₀ := fun c => iprop(StableHlo.held (c : Thread nD τ) (Pipeline.ucRefs τ sig) (fun b => m (c, b)) ∗ idle c))
    (Tₙ := fun c => StableHlo.held (c : Thread nD τ) (Pipeline.ucRefs τ sig) (W6 m c))
    (hch := fun c => ⟨.rfl, held_bufs c (W1 m c), .rfl, bufs_held c (W3 m c), held_bufs c (W4 m c), bufs_held c (W5 m c), .rfl⟩)
    (hinit := ?_) (QY := fun c s => ∀ b : Ref sig .tc, (Proc.devRef .tc b : DevRef τ sig) ∈ Pipeline.ucRefs τ sig →
      s.mem ((c : Thread nD τ).loc b) = W6 m c (Proc.devRef .tc b))
    (hfin := fun c s' => ?_) (hQ := fun _ h hz => ⟨h, funext fun g => hz g (.inr (regions_no_unscoped g.2))⟩)
  · -- the launch's element is the pipelines' alone
    iintro Hu
    imodintro
    isplitl [Hu]
    · iapply (show (ownU _ : sProp 𝕄) ⊢ BI.own (emb₁ (initOf (Pipeline.cells cfgs cellOf_inj) (Pipeline.launchToks cfgs cellOf_inj))) from .rfl)
      iexact Hu
    · iapply (show (BI.emp : sProp 𝕄) ⊢ bigSep Finset.univ (fun _ : Dev nD => (BI.emp : sProp 𝕄)) from by rw [BI.bigSep_emp_const])
      iempintro
  · -- the launch: the buffers as launched, and nothing owed
    have h1 : ∀ c : Dev nD,
      iprop(unscopedBufs c (fun b => m ((c.tc : Thread nD τ).loc b)) ∗ unscopedSems0 c
          ∗ owes (c.tc : Thread nD τ) ((fun _ => 0 : Dev nD → CellTallies nD τ sig Unit) c) ∅ ∗ Pipeline.launchCred (fun _ => 0) c ∗ prngReg c (ρ c) ∗ BI.emp)
        ⊢ (iprop(StableHlo.held (c : Thread nD τ) (Pipeline.ucRefs τ sig) (fun b => m (c, b)) ∗ idle c) : sProp 𝕄) := fun c => by
      rw [← Pipeline.unscopedBufs_held (Ix := Unit) (Name := ℕ) (U := UR sig nD τ) (Lvl := ℕ) c (fun b => m (c, b))]
      iintro ⟨Hb, -, HO, -⟩
      isplitl [Hb]; · iexact Hb
      iexists _; iexact HO
    iintro ⟨H, -⟩
    imodintro
    iapply (show (bigSep Finset.univ (fun c : Dev nD => iprop(unscopedBufs c (fun b => m ((c.tc : Thread nD τ).loc b)) ∗ unscopedSems0 c
          ∗ owes (c.tc : Thread nD τ) ((fun _ => 0 : Dev nD → CellTallies nD τ sig Unit) c) ∅ ∗ Pipeline.launchCred (fun _ => 0) c ∗ prngReg c (ρ c) ∗ BI.emp)) : sProp 𝕄)
        ⊢ bigSep Finset.univ (fun c : Dev nD => iprop(StableHlo.held (c : Thread nD τ) (Pipeline.ucRefs τ sig) (fun b => m (c, b)) ∗ idle c)) from
      bigSep_mono fun c _ => h1 c)
    iexact H
  · -- the end: every buffer read off the last valuation
    unfold StableHlo.held
    iintro ⟨Hh, HSI⟩
    ihave Hr := (pointsTo_read_all (Pipeline.ucRefs τ sig) (fun b => ((c : Thread nD τ).1, b)) (W6 m c) s') $$ [Hh HSI]
    · isplitl [Hh] <;> iassumption
    icases Hr with ⟨%h, HSI⟩
    imodintro
    isplitr
    · ipureintro
      exact fun b hb => h _ hb
    · iexact HSI

end Cert.KernelIdeal.Whole

end
-- ==== Proof.Frames.lean ====
/- The frames of the two kernel programs: every argument array ends as it began, every counter at zero. -/
module

public import proofs.«01_k».proof.Defs
public import proofs.«01_k».proof.Proof.Gen.Kernel
public import proofs.«01_k».proof.Proof.Run

@[expose] public section

noncomputable section

namespace Cert.KernelIdeal.Whole

open Cert.KernelIdeal Cert.KernelIdeal.Gen
open Idealize.ShloMosaic Idealize.ShloMosaic.TcCoe Idealize.ShloMosaic.Tactic
open Idealize.SL.Sem

variable {F : FTy → Type} [FloatOps F]

variable (m : (ℓ : Loc nD τ sig) → Buf (Elt F) ℓ) (ρ : Dev nD → PrngReg)

/-- A buffer that no stretch writes and no call stores into keeps its contents to the end. -/
theorem kept (c : Dev nD) (r : Ref sig .tc) (h0 : r ∉ hostOps0_W) (h2 : r ∉ hostOps2_W) (h3 : r ∉ hostOps3_W)
    (k0 : r ∉ ([main_v5_0, main_v5_1, main_v5_2, main_v5_3] : List (Ref sig .tc)))
    (k1 : r ∉ ([main_v6_0, main_v6_1, main_v6_2] : List (Ref sig .tc)))
    (k2 : r ∉ ([main_v12] : List (Ref sig .tc))) : W6 m c r = m ((c : Thread nD τ).loc r) := by
  rw [W6_of m c r h3, W5_of m c r k2, W4_of m c r h2, W3_of m c r k1, W2_of m c r k0, W1_of m c r h0]

/-- What a final state says of the six argument arrays. -/
theorem args_kept (s : MemSt nD τ sig (Elt F)) (h : Final m s) (c : Dev nD) :
    s.mem ((c.tc : Thread nD τ).loc main_arg0) = m ((c.tc : Thread nD τ).loc main_arg0)
    ∧ s.mem ((c.tc : Thread nD τ).loc main_arg1) = m ((c.tc : Thread nD τ).loc main_arg1)
    ∧ s.mem ((c.tc : Thread nD τ).loc main_arg2) = m ((c.tc : Thread nD τ).loc main_arg2)
    ∧ s.mem ((c.tc : Thread nD τ).loc main_arg3) = m ((c.tc : Thread nD τ).loc main_arg3)
    ∧ s.mem ((c.tc : Thread nD τ).loc main_arg4) = m ((c.tc : Thread nD τ).loc main_arg4)
    ∧ s.mem ((c.tc : Thread nD τ).loc main_arg5) = m ((c.tc : Thread nD τ).loc main_arg5) := by
  refine ⟨?_, ?_, ?_, ?_, ?_, ?_⟩
  · exact (h c main_arg0 (Finset.mem_filter.mpr ⟨StableHlo.devRef_mem_tcRefs _, by decide⟩)).trans (kept m c main_arg0 (by decide) (by decide) (by decide) (by decide) (by decide) (by decide))
  · exact (h c main_arg1 (Finset.mem_filter.mpr ⟨StableHlo.devRef_mem_tcRefs _, by decide⟩)).trans (kept m c main_arg1 (by decide) (by decide) (by decide) (by decide) (by decide) (by decide))
  · exact (h c main_arg2 (Finset.mem_filter.mpr ⟨StableHlo.devRef_mem_tcRefs _, by decide⟩)).trans (kept m c main_arg2 (by decide) (by decide) (by decide) (by decide) (by decide) (by decide))
  · exact (h c main_arg3 (Finset.mem_filter.mpr ⟨StableHlo.devRef_mem_tcRefs _, by decide⟩)).trans (kept m c main_arg3 (by decide) (by decide) (by decide) (by decide) (by decide) (by decide))
  · exact (h c main_arg4 (Finset.mem_filter.mpr ⟨StableHlo.devRef_mem_tcRefs _, by decide⟩)).trans (kept m c main_arg4 (by decide) (by decide) (by decide) (by decide) (by decide) (by decide))
  · exact (h c main_arg5 (Finset.mem_filter.mpr ⟨StableHlo.devRef_mem_tcRefs _, by decide⟩)).trans (kept m c main_arg5 (by decide) (by decide) (by decide) (by decide) (by decide) (by decide))

/-- The results, named. -/
theorem results (s : MemSt nD τ sig (Elt F)) (h : Final m s) (c : Dev nD) :
    s.mem ((c.tc : Thread nD τ).loc main_v14) = W6 m c main_v14
    ∧ s.mem ((c.tc : Thread nD τ).loc main_v16) = W6 m c main_v16
    ∧ s.mem ((c.tc : Thread nD τ).loc main_v18) = W6 m c main_v18 :=
  ⟨h c main_v14 (Finset.mem_filter.mpr ⟨StableHlo.devRef_mem_tcRefs _, by decide⟩),
    h c main_v16 (Finset.mem_filter.mpr ⟨StableHlo.devRef_mem_tcRefs _, by decide⟩),
    h c main_v18 (Finset.mem_filter.mpr ⟨StableHlo.devRef_mem_tcRefs _, by decide⟩)⟩

/-- The kernel's frame at any floats. -/
theorem frame : θ_run (defs (F := F)) (onTc (τ := τ) (main (F := F))) ⟨m, fun _ => 0, ρ⟩ (fun r => (∀ c : Dev nD,
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5))
    ∧ r.2.sem = fun _ => 0) :=
  (θ_run _ _ _).mono (fun r h => ⟨args_kept m r.2 h.1, h.2⟩) (run_main m ρ)

/-- The statement of the frame at bits, of the program printed for the idealized kernel. -/
def FrameBits : Prop :=
  ∀ (m : (ℓ : Loc nD τ sig) → Buf (Elt Bits) ℓ) (g : Dev nD → PrngReg), True →
    θ_run (defs (F := Bits)) (onTc (τ := τ) (main (F := Bits))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0)

/-- No rule was applied, so the two printed programs are one and their frames one statement. -/
theorem frameBits_eq : FrameBits = @quiescent_Kernel Cert.Kernel.Gen.facts := by sl_kernel_rfl

/-- The frame of the kernel as printed. -/
theorem quiescent_Kernel : @quiescent_Kernel Cert.Kernel.Gen.facts :=
  frameBits_eq.mp fun m g _ => frame m g

end Cert.KernelIdeal.Whole

end
-- ==== Proof.Spec.lean ====
/- Facts about folds of maxima and minima, in plain form, that both sides of the matching read. -/
module

public import Idealize.ShloMosaic.PureOps.Ideal
public import Idealize.ShloMosaic.Lib.Pointwise

@[expose] public section

noncomputable section

namespace Cert.Spec

open Idealize.ShloMosaic

/-- The overlap of a ground truth `g` and an anchor `a`, each given by its four sides, as the ratio of areas. -/
def iou (g a : Fin 4 → EReal) : EReal :=
  Ideal.div
    (max (min (g 2) (a 2) - max (g 0) (a 0)) 0 * max (min (g 3) (a 3) - max (g 1) (a 1)) 0)
    ((g 2 - g 0) * (g 3 - g 1) + (a 2 - a 0) * (a 3 - a 1)
      - max (min (g 2) (a 2) - max (g 0) (a 0)) 0 * max (min (g 3) (a 3) - max (g 1) (a 1)) 0)

/-- The word a maximum starts from is minus infinity. -/
theorem neg_eq : Ideal.ofBits .f32 4286578688#32 = (⊥ : EReal) := by
  simp [Ideal.ofBits, Ideal.ieee]

/-- The largest value of a family, started at minus infinity. -/
def top {n : ℕ} (f : Fin n → EReal) : EReal := Finset.univ.fold max (Ideal.ofBits .f32 4286578688#32) f

theorem le_top {n : ℕ} (f : Fin n → EReal) (k : Fin n) : f k ≤ top f :=
  (Finset.le_fold_max _).mpr (.inr ⟨k, Finset.mem_univ _, le_rfl⟩)

theorem top_attained {n : ℕ} [NeZero n] (f : Fin n → EReal) : ∃ k, f k = top f := by
  obtain ⟨k, -, hk⟩ := Finset.exists_max_image Finset.univ f ⟨0, Finset.mem_univ _⟩
  refine ⟨k, le_antisymm (le_top f k) ?_⟩
  exact (Finset.fold_max_le _).mpr ⟨by rw [neg_eq]; exact bot_le, fun j _ => hk j (Finset.mem_univ _)⟩

theorem top_eq {n : ℕ} (f : Fin n → EReal) (v : EReal) (h : ∀ k, f k ≤ v) (k : Fin n) (hk : f k = v) : top f = v :=
  le_antisymm ((Finset.fold_max_le _).mpr ⟨by rw [neg_eq]; exact bot_le, fun j _ => h j⟩) (hk ▸ le_top f k)

/-- The signed minimum of two words is the smaller of them. -/
theorem minsi_cases (x y : BitVec 32) :
    IntOp.minsi x y = x ∧ x.toInt ≤ y.toInt ∨ IntOp.minsi x y = y ∧ y.toInt ≤ x.toInt := by
  unfold IntOp.minsi
  by_cases h : x.slt y
  · exact .inl ⟨if_pos h, by simp only [BitVec.slt, decide_eq_true_eq] at h; omega⟩
  · exact .inr ⟨if_neg h, by simp only [BitVec.slt, decide_eq_true_eq] at h; omega⟩

/-- The signed maximum of two words is at least each. -/
theorem maxsi_ge (x y : BitVec 32) : x.toInt ≤ (IntOp.maxsi x y).toInt ∧ y.toInt ≤ (IntOp.maxsi x y).toInt := by
  unfold IntOp.maxsi
  by_cases h : y.slt x
  · rw [if_pos h]; simp only [BitVec.slt, decide_eq_true_eq] at h; omega
  · rw [if_neg h]; simp only [BitVec.slt, decide_eq_true_eq] at h; omega

/-- A running signed minimum lies below its start and below every entry, and is one of them. -/
theorem fold_minsi {ι : Type} [DecidableEq ι] (s : Finset ι) (b : BitVec 32) (f : ι → BitVec 32) :
    (s.fold IntOp.minsi b f).toInt ≤ b.toInt ∧ (∀ k ∈ s, (s.fold IntOp.minsi b f).toInt ≤ (f k).toInt)
      ∧ (s.fold IntOp.minsi b f = b ∨ ∃ k ∈ s, s.fold IntOp.minsi b f = f k) := by
  induction s using Finset.induction_on with
  | empty => simp
  | insert a s ha ih =>
    obtain ⟨h1, h2, h3⟩ := ih
    rw [Finset.fold_insert ha]
    have hmin := minsi_cases (f a) (s.fold IntOp.minsi b f)
    rcases hmin with ⟨e, hle⟩ | ⟨e, hle⟩
    · rw [e]
      refine ⟨hle.trans h1, fun k hk => ?_, .inr ⟨a, Finset.mem_insert_self _ _, rfl⟩⟩
      rcases Finset.mem_insert.mp hk with rfl | hk
      · exact le_rfl
      · exact hle.trans (h2 k hk)
    · rw [e]
      refine ⟨h1, fun k hk => ?_, ?_⟩
      · rcases Finset.mem_insert.mp hk with rfl | hk
        · exact hle
        · exact h2 k hk
      · rcases h3 with h3 | ⟨k, hk, e'⟩
        · exact .inl h3
        · exact .inr ⟨k, Finset.mem_insert_of_mem hk, e'⟩

/-- A running signed maximum lies above every entry. -/
theorem le_fold_maxsi {ι : Type} [DecidableEq ι] (s : Finset ι) (b : BitVec 32) (f : ι → BitVec 32) :
    ∀ k ∈ s, (f k).toInt ≤ (s.fold IntOp.maxsi b f).toInt := by
  induction s using Finset.induction_on with
  | empty => simp
  | insert a s ha ih =>
    intro k hk
    rw [Finset.fold_insert ha]
    have hmax := maxsi_ge (f a) (s.fold IntOp.maxsi b f)
    rcases Finset.mem_insert.mp hk with rfl | hk
    · exact hmax.1
    · exact (ih k hk).trans hmax.2

/-- The least index at which a family reaches its largest value, as the kernels compute it: where the value differs the
    family holds a number no smaller than every index. -/
theorem pick {n : ℕ} [NeZero n] (f : Fin n → EReal) (g : Fin n → BitVec 32) (big start : BitVec 32)
    (hg : ∀ k, (g k).toInt < big.toInt) (hs : big.toInt ≤ start.toInt) :
    ∃ k, Finset.univ.fold IntOp.minsi start (fun k => if f k = top f then g k else big) = g k ∧ f k = top f := by
  obtain ⟨k0, hk0⟩ := top_attained f
  obtain ⟨h1, h2, h3⟩ := fold_minsi Finset.univ start (fun k => if f k = top f then g k else big)
  have hlt := h2 k0 (Finset.mem_univ _)
  simp only [hk0, if_true] at hlt
  have hb := hlt.trans_lt (hg k0)
  rcases h3 with h3 | ⟨k, -, hk⟩
  · rw [h3] at hb; omega
  · by_cases e : f k = top f
    · exact ⟨k, by rw [hk, if_pos e], e⟩
    · rw [hk, if_neg e] at hb; exact absurd hb (lt_irrefl _)

/-- The number of the ground truth that an anchor matches: the least one reaching the anchor's largest overlap. -/
def match32 (f : Fin 32 → EReal) : BitVec 32 :=
  Finset.univ.fold IntOp.minsi (2147483647#32) fun n => if f n = top f then BitVec.ofNat 32 n.val else 32#32

/-- The small words read back. -/
theorem toInt_ofNat (n : ℕ) (h : n < 2147483648) : (BitVec.ofNat 32 n).toInt = n := by
  rw [BitVec.toInt_ofNat'];
  simp [Int.bmod]; omega

theorem ofNat_inj {a b : ℕ} (ha : a < 2147483648) (hb : b < 2147483648) (h : BitVec.ofNat 32 a = BitVec.ofNat 32 b) : a = b := by
  have := congrArg BitVec.toInt h
  rw [toInt_ofNat a ha, toInt_ofNat b hb] at this
  omega

/-- Where the first index reaching the largest value is also the last, only one index reaches it. -/
theorem unique_of_first_last {n : ℕ} (hn : n < 2147483648) (f : Fin n → EReal) (v : EReal) (b b' c c' : BitVec 32)
    (h : Finset.univ.fold IntOp.minsi b (fun k : Fin n => if f k = v then BitVec.ofNat 32 k.val else c)
      = Finset.univ.fold IntOp.maxsi b' (fun k : Fin n => if f k = v then BitVec.ofNat 32 k.val else c'))
    (i j : Fin n) (hi : f i = v) (hj : f j = v) : i = j := by
  have lo := (fold_minsi Finset.univ b (fun k : Fin n => if f k = v then BitVec.ofNat 32 k.val else c)).2.1
  have hi' := le_fold_maxsi Finset.univ b' (fun k : Fin n => if f k = v then BitVec.ofNat 32 k.val else c')
  have a1 := lo i (Finset.mem_univ _); have a2 := lo j (Finset.mem_univ _)
  have a3 := hi' i (Finset.mem_univ _); have a4 := hi' j (Finset.mem_univ _)
  simp only [hi, hj, if_true, h] at a1 a2 a3 a4
  rw [toInt_ofNat _ (by omega)] at a1 a2 a3 a4
  exact Fin.ext (by omega)

theorem match32_eq (f : Fin 32 → EReal) : ∃ n : Fin 32, match32 f = BitVec.ofNat 32 n.val ∧ f n = top f :=
  pick f (fun n => BitVec.ofNat 32 n.val) 32#32 2147483647#32 (fun n => by
    rw [toInt_ofNat _ (by omega)]
    have : (32#32 : BitVec 32).toInt = 32 := by decide
    rw [this]; omega) (by decide)

end Cert.Spec

end
-- ==== Proof.Rows.lean ====
/-
  What one anchor contributes, in plain form: its label, its target class and box, its weights, its generalised overlap.
  Both programs are read in these terms.
-/
module

public import proofs.«01_k».proof.Proof.Spec

@[expose] public section

noncomputable section

namespace Cert.Spec

open Idealize.ShloMosaic
open Classical in
/-- An anchor's label from its largest overlap `m`: background, left out, or foreground; an anchor at which some ground
    truth reaches its largest overlap (`q`) is foreground in any case. -/
def lab (m : EReal) (q : Prop) : BitVec 32 :=
  if q then 1#32
  else if m < Ideal.ofBits .f32 1053609165#32 then 0#32
  else if m < Ideal.ofBits .f32 1056964608#32 then 4294967295#32
  else 1#32

theorem lab_cases (m : EReal) (q : Prop) : lab m q = 1#32 ∨ lab m q = 0#32 ∨ lab m q = 4294967295#32 := by
  unfold lab
  split
  · exact .inl rfl
  · split
    · exact .inr (.inl rfl)
    · split
      · exact .inr (.inr rfl)
      · exact .inl rfl

/-- The ground truth an anchor matches. -/
def who (f : Fin 32 → EReal) : Fin 32 := (match32_eq f).choose

theorem match32_who (f : Fin 32 → EReal) : match32 f = BitVec.ofNat 32 (who f).val := (match32_eq f).choose_spec.1

/-- One at a foreground anchor, else zero. -/
def fgw (l : BitVec 32) : EReal := if l = 1#32 then 1 else 0

/-- The weight of an anchor in the classification loss: its mask, zero where it is left out. -/
def validw (l : BitVec 32) (m : EReal) : EReal := (if l = 4294967295#32 then 0 else 1) * m

/-- The target class of a foreground anchor; minus one elsewhere. -/
def tcw (l c : BitVec 32) : BitVec 32 := if l = 1#32 then c else 4294967295#32

/-- The generalised overlap of two boxes. -/
def giou (p t : Fin 4 → EReal) : EReal :=
  Ideal.div
      (max (min (p 2) (t 2) - max (p 0) (t 0)) 0 * max (min (p 3) (t 3) - max (p 1) (t 1)) 0)
      ((p 2 - p 0) * (p 3 - p 1) + (t 2 - t 0) * (t 3 - t 1)
        - max (min (p 2) (t 2) - max (p 0) (t 0)) 0 * max (min (p 3) (t 3) - max (p 1) (t 1)) 0)
    - Ideal.div
      (max (max (p 2) (t 2) - min (p 0) (t 0)) 0 * max (max (p 3) (t 3) - min (p 1) (t 1)) 0
        - ((p 2 - p 0) * (p 3 - p 1) + (t 2 - t 0) * (t 3 - t 1)
          - max (min (p 2) (t 2) - max (p 0) (t 0)) 0 * max (min (p 3) (t 3) - max (p 1) (t 1)) 0))
      (max (max (p 2) (t 2) - min (p 0) (t 0)) 0 * max (max (p 3) (t 3) - min (p 1) (t 1)) 0)

/-- What an anchor adds to the box loss. -/
def boxw (l : BitVec 32) (p t : Fin 4 → EReal) : EReal := (1 - giou p t) * fgw l

/-- Comparing two words for equality and reading the bit as a number. -/
theorem bit_eq (a b : BitVec 32) :
    (FloatOps.sitofp (F := Ideal) FTy.f32 (BitVec.setWidth 32 (IntOp.cmpi CmpIPredicate.eq a b)) : EReal) = if a = b then 1 else 0 := by
  show (((BitVec.setWidth 32 (IntOp.cmpi CmpIPredicate.eq a b)).toInt : ℝ) : EReal) = _
  by_cases h : a = b
  · subst h; simp [IntOp.cmpi]
  · have h' : (a == b) = false := by simpa using h
    simp [IntOp.cmpi, h, h']

theorem bit_ne (a b : BitVec 32) :
    (FloatOps.sitofp (F := Ideal) FTy.f32 (BitVec.setWidth 32 (IntOp.cmpi CmpIPredicate.ne a b)) : EReal) = if a = b then 0 else 1 := by
  show (((BitVec.setWidth 32 (IntOp.cmpi CmpIPredicate.ne a b)).toInt : ℝ) : EReal) = _
  by_cases h : a = b
  · subst h; simp [IntOp.cmpi]
  · have h' : (a != b) = true := by simpa using h
    simp [IntOp.cmpi, h, h']

/-- A sum weighted by a one-hot row is the entry it picks. -/
theorem onehot_sum (n : Fin 32) (g : Fin 32 → EReal) (w : BitVec 32) (hw : w = BitVec.ofNat 32 n.val) :
    ∑ x : Fin 32, (FloatOps.sitofp (F := Ideal) FTy.f32 (BitVec.setWidth 32 (IntOp.cmpi CmpIPredicate.eq (BitVec.ofNat 32 x.val) w)) : EReal) * g x
      = g n := by
  rw [Finset.sum_eq_single n]
  · rw [bit_eq, if_pos hw.symm, one_mul]
  · intro x _ hx
    rw [bit_eq, if_neg, zero_mul]
    intro h
    rw [hw] at h
    exact hx (Fin.ext (ofNat_inj (by omega) (by omega) h))
  · intro h; exact absurd (Finset.mem_univ _) h

/-- A word read as a number and back. -/
theorem word_back (x : BitVec 32) : Ideal.fptosi 32 ((x.toInt : ℝ) : EReal) = x := by
  unfold Ideal.fptosi
  rw [Ideal.toIntClamped_coe]
  have h1 := BitVec.toInt_lt (x := x)
  have h2 := BitVec.le_toInt (x := x)
  have e : (if (0 : ℝ) ≤ (x.toInt : ℝ) then ⌊(x.toInt : ℝ)⌋ else ⌈(x.toInt : ℝ)⌉) = x.toInt := by
    split <;> simp
  rw [e]
  have : max (-(2 ^ (32 - 1) : ℕ) : ℤ) (min (((2 ^ (32 - 1) : ℕ) : ℤ) - 1) x.toInt) = x.toInt := by
    norm_num at h1 h2 ⊢
    omega
  rw [this, BitVec.ofInt_toInt]

theorem select_eq {α : Type} (t u : BitVec 32) (a b : α) :
    Scalar.select (IntOp.cmpi CmpIPredicate.eq u t) a b = if u = t then a else b := by
  by_cases h : u = t
  · subst h; simp [Scalar.select, IntOp.cmpi]
  · have h' : (u == t) = false := by simpa using h
    rw [if_neg h]; simp [Scalar.select, IntOp.cmpi, h']

/-- Whether some word of a column equals `w`, as a maximum over a column of zeros and ones. -/
theorem any_eq (g : Fin 32 → BitVec 32) (w : BitVec 32) :
    (0 : EReal) < Finset.univ.fold max (Ideal.ofBits .f32 4286578688#32) (fun x => Scalar.select (IntOp.cmpi CmpIPredicate.eq (g x) w) (1 : EReal) 0)
      ↔ ∃ x, g x = w := by
  rw [Finset.lt_fold_max, neg_eq]
  constructor
  · rintro (h | ⟨x, -, h⟩)
    · exact absurd h (by simp)
    · refine ⟨x, ?_⟩
      by_contra hx
      rw [select_eq, if_neg hx] at h
      exact absurd h (lt_irrefl _)
  · rintro ⟨x, hx⟩
    refine .inr ⟨x, Finset.mem_univ _, ?_⟩
    rw [select_eq, if_pos hx]
    exact zero_lt_one

end Cert.Spec

end
-- ==== Proof.RefOverlap.lean ====
/-
  The overlaps as the reference writes them, and reductions over ground truths or over anchors read entry by entry.
-/
module

public import proofs.«01_k».proof.Proof.Gen.ReferenceIdeal.Read
public import proofs.«01_k».proof.Proof.Rows
public import Idealize.ShloMosaic.Lib.Pointwise

@[expose] public section

set_option maxRecDepth 16384

noncomputable section

namespace Cert.RefSide

open Idealize.ShloMosaic Idealize.ShloMosaic.TcCoe Cert.ReferenceIdeal Cert.ReferenceIdeal.Gen Cert.ReferenceIdeal.Read Cert.Spec

variable (x3 : FVec Ideal S65536x4 .f32) (x4 : FVec Ideal S8x32x4 .f32) (x5 : IVec S8x32 32)

/-- The overlap of ground truth `n` of image `b` with anchor `j`. -/
def ovR (b : Fin 8) (n : Fin 32) (j : Fin 65536) : EReal := iou (fun q => x4 (ix3 b n q)) (fun q => x3 (ix2 j q))

/-- The reference's overlaps. -/
theorem v52_eq (b : Fin 8) (n : Fin 32) (j : Fin 65536) :
    val_main_v52 (F := Ideal) x3 x4 (ix3 b n j) = ovR x3 x4 b n j := by
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_cst, val_main_call0_v0, val_main_call0_v1, val_main_v39, val_main_v40, val_main_v41, val_main_v42, val_main_v43, val_main_v44, val_main_v45, val_main_v46, val_main_v47, val_main_v48, val_main_v49, val_main_v50, val_main_v51, val_main_v52]
  have z : id (constant (F := Ideal) S_ FTy.f32 0#32) ix0 = (0 : EReal) := by
    show Ideal.ofBits .f32 0#32 = 0
    simp [Ideal.ofBits, Ideal.ieee]
  rw [z, max_comm (0 : EReal), max_comm (0 : EReal)]
  rfl

/-- A reduction over the ground truths, entry by entry. -/
theorem reduce_gt {α : Type} (f : α → α → α) [Std.Commutative f] [Std.Associative f] (x : S8x32x65536.Idx → α) (init : S_.Idx → α)
    (b : Fin 8) (j : Fin 65536) :
    Host.reduce f x init reducesTo_S8x32x65536_S8x65536_d1 h_S_ (ix2 b j) = Finset.univ.fold f (init ix0) (fun n : Fin 32 => x (ix3 b n j)) := by
  rw [Host.reduce_eq_fold_single f x init _ (by decide : S8x32x65536.Reduces [1] S8x65536)]
  have e : Shape.Idx.first h_S_ = ix0 := funext fun a => a.elim0
  rw [e]
  refine Finset.fold_congr fun n _ => ?_
  refine congrArg x (funext fun a => Fin.ext ?_)
  match a with
  | ⟨0, _⟩ => rfl
  | ⟨1, _⟩ => rfl
  | ⟨2, _⟩ => rfl

/-- A reduction over the anchors, entry by entry. -/
theorem reduce_anchor {α : Type} (f : α → α → α) [Std.Commutative f] [Std.Associative f] (x : S8x32x65536.Idx → α) (init : S_.Idx → α)
    (b : Fin 8) (n : Fin 32) :
    Host.reduce f x init reducesTo_S8x32x65536_S8x32_d2 h_S_ (ix2 b n) = Finset.univ.fold f (init ix0) (fun j : Fin 65536 => x (ix3 b n j)) := by
  rw [Host.reduce_eq_fold_single f x init _ (by decide : S8x32x65536.Reduces [2] S8x32)]
  have e : Shape.Idx.first h_S_ = ix0 := funext fun a => a.elim0
  rw [e]
  refine Finset.fold_congr fun n _ => ?_
  refine congrArg x (funext fun a => Fin.ext ?_)
  match a with
  | ⟨0, _⟩ => rfl
  | ⟨1, _⟩ => rfl
  | ⟨2, _⟩ => rfl

end Cert.RefSide

end
-- ==== Proof.RefMatch.lean ====
/-
  The matching as the reference writes it: overlaps, each anchor's best ground truth, labels, target classes and boxes.
-/
module

public import proofs.«01_k».proof.Proof.RefOverlap
public import proofs.«01_k».proof.Proof.Rows
public import Idealize.ShloMosaic.Lib.Pointwise

@[expose] public section

set_option maxRecDepth 16384

noncomputable section

namespace Cert.RefSide

open Idealize.ShloMosaic Idealize.ShloMosaic.TcCoe Cert.ReferenceIdeal Cert.ReferenceIdeal.Gen Cert.ReferenceIdeal.Read Cert.Spec

variable (x3 : FVec Ideal S65536x4 .f32) (x4 : FVec Ideal S8x32x4 .f32) (x5 : IVec S8x32 32)

theorem max_op : (FloatOps.maximumf (F := Ideal) (φ := FTy.f32)) = (max : EReal → EReal → EReal) := rfl

/-- Each anchor's largest overlap. -/
theorem v53_eq (b : Fin 8) (j : Fin 65536) : val_main_v53 (F := Ideal) x3 x4 (ix2 b j) = top (fun n => ovR x3 x4 b n j) := by
  unfold val_main_v53
  rw [max_op]
  refine (reduce_gt max _ _ b j).trans ?_
  unfold top
  exact congrArg₂ (fun i g => Finset.univ.fold max i g) rfl (funext fun n => v52_eq x3 x4 b n j)

/-- Each ground truth's largest overlap. -/
theorem v67_eq (b : Fin 8) (n : Fin 32) : val_main_v67 (F := Ideal) x3 x4 (ix2 b n) = top (fun j => ovR x3 x4 b n j) := by
  unfold val_main_v67
  rw [max_op]
  refine (reduce_anchor max _ _ b n).trans ?_
  unfold top
  exact congrArg₂ (fun i g => Finset.univ.fold max i g) rfl (funext fun j => v52_eq x3 x4 b n j)

theorem v58_eq (b : Fin 8) (n : Fin 32) (j : Fin 65536) :
    val_main_v58 (F := Ideal) x3 x4 (ix3 b n j) = BitVec.ofBool (decide (ovR x3 x4 b n j = top (fun n => ovR x3 x4 b n j))) := by
  rw [← v52_eq, ← v53_eq]
  pointwise [val_main_v58, val_main_v57, val_main_v56]
  try rfl

theorem v70_eq (b : Fin 8) (n : Fin 32) (j : Fin 65536) :
    val_main_v70 (F := Ideal) x3 x4 (ix3 b n j) = BitVec.ofBool (decide (ovR x3 x4 b n j = top (fun j => ovR x3 x4 b n j))) := by
  rw [← v52_eq, ← v67_eq]
  pointwise [val_main_v70, val_main_v69, val_main_v68]
  try rfl

theorem v59_eq (b : Fin 8) (n : Fin 32) (j : Fin 65536) :
    val_main_v59 (F := Ideal) x3 x4 (ix3 b n j) = if ovR x3 x4 b n j = top (fun n => ovR x3 x4 b n j) then BitVec.ofNat 32 n.val else 32#32 := by
  have e : val_main_v59 (F := Ideal) x3 x4 (ix3 b n j) = Scalar.select (val_main_v58 (F := Ideal) x3 x4 (ix3 b n j)) (BitVec.ofNat 32 n.val) (32#32) := by
    pointwise [val_main_v59, val_main_call1_v4, val_main_call1_v3, val_main_call1_v2, val_main_call1_v1, val_main_call1_v0, val_main_v55, val_main_v54, val_main_c]
    try rfl
  rw [e, v58_eq]
  by_cases h : ovR x3 x4 b n j = top (fun n => ovR x3 x4 b n j) <;> simp [h, Scalar.select]

/-- The ground truth each anchor matches. -/
theorem v60_eq (b : Fin 8) (j : Fin 65536) : val_main_v60 (F := Ideal) x3 x4 (ix2 b j) = match32 (fun n => ovR x3 x4 b n j) := by
  unfold val_main_v60
  refine (reduce_gt IntOp.minsi _ _ b j).trans ?_
  unfold match32
  exact congrArg₂ (fun i g => Finset.univ.fold IntOp.minsi i g) rfl (funext fun n => v59_eq x3 x4 b n j)

end Cert.RefSide

end
-- ==== Proof.RefLabel.lean ====
/-
  The labels as the reference writes them.
-/
module

public import proofs.«01_k».proof.Proof.RefMatch
public import proofs.«01_k».proof.Proof.Rows
public import Idealize.ShloMosaic.Lib.Pointwise

@[expose] public section

set_option maxRecDepth 16384

noncomputable section

namespace Cert.RefSide

open Idealize.ShloMosaic Idealize.ShloMosaic.TcCoe Cert.ReferenceIdeal Cert.ReferenceIdeal.Gen Cert.ReferenceIdeal.Read Cert.Spec

variable (x3 : FVec Ideal S65536x4 .f32) (x4 : FVec Ideal S8x32x4 .f32) (x5 : IVec S8x32 32)

/-- A disjunction of bits. -/
theorem fold_ori {ι : Type} [DecidableEq ι] (s : Finset ι) (p : ι → Prop) [DecidablePred p] :
    s.fold IntOp.ori (0#1) (fun n => BitVec.ofBool (decide (p n))) = 1#1 ↔ ∃ n ∈ s, p n := by
  induction s using Finset.induction_on with
  | empty => simp
  | insert a s ha ih =>
    rw [Finset.fold_insert ha]
    by_cases h : p a
    · have : IntOp.ori (BitVec.ofBool (decide (p a))) (s.fold IntOp.ori (0#1) (fun n => BitVec.ofBool (decide (p n)))) = 1#1 := by
        generalize s.fold IntOp.ori (0#1) (fun n => BitVec.ofBool (decide (p n))) = w
        simp only [h]
        revert w; decide
      exact ⟨fun _ => ⟨a, Finset.mem_insert_self _ _, h⟩, fun _ => this⟩
    · have : IntOp.ori (BitVec.ofBool (decide (p a))) (s.fold IntOp.ori (0#1) (fun n => BitVec.ofBool (decide (p n))))
          = s.fold IntOp.ori (0#1) (fun n => BitVec.ofBool (decide (p n))) := by
        generalize s.fold IntOp.ori (0#1) (fun n => BitVec.ofBool (decide (p n))) = w
        simp only [h]
        revert w; decide
      rw [this, ih]
      constructor
      · rintro ⟨n, hn, hp⟩; exact ⟨n, Finset.mem_insert_of_mem hn, hp⟩
      · rintro ⟨n, hn, hp⟩
        rcases Finset.mem_insert.mp hn with rfl | hn
        · exact absurd hp h
        · exact ⟨n, hn, hp⟩

/-- An anchor is the best of some ground truth. -/
def bestR (b : Fin 8) (j : Fin 65536) : Prop := ∃ n, ovR x3 x4 b n j = top (fun j => ovR x3 x4 b n j)

theorem v71_eq (b : Fin 8) (j : Fin 65536) : val_main_v71 (F := Ideal) x3 x4 (ix2 b j) = 1#1 ↔ bestR x3 x4 b j := by
  unfold val_main_v71
  have e := reduce_gt IntOp.ori (val_main_v70 (F := Ideal) x3 x4) (val_main_c_8 (F := Ideal)) b j
  rw [e, show (fun n : Fin 32 => val_main_v70 (F := Ideal) x3 x4 (ix3 b n j)) = _ from funext fun n => v70_eq x3 x4 b n j]
  refine (fold_ori Finset.univ (fun n => ovR x3 x4 b n j = top (fun j => ovR x3 x4 b n j))).trans ?_
  simp [bestR]

/-- Each anchor's label. -/
def labR (b : Fin 8) (j : Fin 65536) : BitVec 32 := lab (top (fun n => ovR x3 x4 b n j)) (bestR x3 x4 b j)

theorem v72_read (i : S8x65536.Idx) : val_main_v72 (F := Ideal) x3 x4 i
    = Scalar.select (val_main_v71 (F := Ideal) x3 x4 i) 1#32
        (Scalar.select (FloatOps.cmpf (F := Ideal) (φ := FTy.f32) .olt (val_main_v53 (F := Ideal) x3 x4 i) (val_main_v61 (F := Ideal) i)) 0#32
          (Scalar.select (FloatOps.cmpf (F := Ideal) (φ := FTy.f32) .olt (val_main_v53 (F := Ideal) x3 x4 i) (val_main_v63 (F := Ideal) i)) 4294967295#32 1#32)) := by
  rw [val_main_v72_apply, val_main_v66_apply, val_main_v65_apply, val_main_v62_apply, val_main_v64_apply]
  generalize val_main_v53 (F := Ideal) x3 x4 i = m
  generalize val_main_v71 (F := Ideal) x3 x4 i = w
  rw [val_main_call4_v1_apply, val_main_call3_v1_apply, val_main_call2_v3_apply, val_main_call2_v2_apply,
    val_main_call4_v0_apply, val_main_call3_v0_apply, val_main_call2_v1_apply, val_main_call2_v0_apply]
  rfl

theorem select_lt {α : Type} (m t : EReal) (a b : α) :
    Scalar.select (FloatOps.cmpf (F := Ideal) (φ := FTy.f32) .olt m t) a b = if m < t then a else b := by
  pointwise []

theorem v72_eq (b : Fin 8) (j : Fin 65536) : val_main_v72 (F := Ideal) x3 x4 (ix2 b j) = labR x3 x4 b j := by
  have h61 : val_main_v61 (F := Ideal) (ix2 b j) = Ideal.ofBits .f32 1053609165#32 := by rw [val_main_v61_apply]; rfl
  have h63 : val_main_v63 (F := Ideal) (ix2 b j) = Ideal.ofBits .f32 1056964608#32 := by rw [val_main_v63_apply]; rfl
  rw [v72_read, v53_eq, h61, h63, select_lt, select_lt]
  unfold labR lab
  by_cases h : bestR x3 x4 b j
  · rw [if_pos h, (v71_eq x3 x4 b j).mpr h]
    rfl
  · rw [if_neg h]
    have h' : val_main_v71 (F := Ideal) x3 x4 (ix2 b j) = 0#1 := by
      have := mt (v71_eq x3 x4 b j).mp h
      revert this
      generalize val_main_v71 (F := Ideal) x3 x4 (ix2 b j) = w
      revert w; decide
    rw [h']
    generalize top (fun n => ovR x3 x4 b n j) = m
    generalize Ideal.ofBits .f32 1053609165#32 = t1
    generalize Ideal.ofBits .f32 1056964608#32 = t2
    rfl

end Cert.RefSide

end
-- ==== Proof.RefTarget.lean ====
/-
  What the reference looks up by each anchor's match, class and box, and the target class it makes of it.
-/
module

public import proofs.«01_k».proof.Proof.RefLabel

@[expose] public section

set_option maxRecDepth 16384

noncomputable section

namespace Cert.RefSide

open Idealize.ShloMosaic Idealize.ShloMosaic.TcCoe Cert.ReferenceIdeal Cert.ReferenceIdeal.Gen Cert.ReferenceIdeal.Read Cert.Spec

/-- Looking up one word per anchor in a row of 32 per image. -/
theorem lookup_label {α : Type} (x : S8x32.Idx → α) (ix : IVec S8x65536x1 32) (b : Fin 8) (j : Fin 65536) (n : Fin 32)
    (hn : ix (ix3 b j 0) = BitVec.ofNat 32 n.val) :
    Host.gather gather_S8x32_S8x65536x1_S8x65536_n_1_0_0_1_2_11 x ix (ix2 b j) = x (ix2 b n) := by
  unfold Host.gather
  refine congrArg x (funext fun a => Fin.ext ?_)
  show gather_S8x32_S8x65536x1_S8x65536_n_1_0_0_1_2_11.start (ix2 b j) ix a + gather_S8x32_S8x65536x1_S8x65536_n_1_0_0_1_2_11.batchCoord (ix2 b j) a
    + gather_S8x32_S8x65536x1_S8x65536_n_1_0_0_1_2_11.offCoord (ix2 b j) a = _
  have ha : a = 0 ∨ a = 1 := by
    match a with
    | ⟨0, _⟩ => exact .inl rfl
    | ⟨1, _⟩ => exact .inr rfl
  rcases ha with rfl | rfl
  · rw [GatherDims.start_batching _ _ _ _ (List.mem_singleton.mpr rfl),
      GatherDims.offCoord_eq_zero _ _ _ (fun h => ((GatherDims.mem_sKept _ _).mp h).2 (List.mem_singleton.mpr rfl))]
    unfold GatherDims.batchCoord
    rw [dif_pos (show (0 : Fin 2) ∈ gather_S8x32_S8x65536x1_S8x65536_n_1_0_0_1_2_11.operandBatchingDims from List.mem_singleton.mpr rfl)]
    show 0 + b.val + 0 = b.val
    omega
  · rw [GatherDims.batchCoord_eq_zero _ _ _ (fun h => absurd (List.mem_singleton.mp h) (by decide)),
      GatherDims.offCoord_eq_zero _ _ _ (fun h => ((GatherDims.mem_sKept _ _).mp h).1 (List.mem_singleton.mpr rfl))]
    unfold GatherDims.start
    rw [dif_pos (show (1 : Fin 2) ∈ gather_S8x32_S8x65536x1_S8x65536_n_1_0_0_1_2_11.startIndexMap from List.mem_singleton.mpr rfl)]
    have hs : gather_S8x32_S8x65536x1_S8x65536_n_1_0_0_1_2_11.siIdx (ix2 b j)
        ⟨List.idxOf (1 : Fin 2) gather_S8x32_S8x65536x1_S8x65536_n_1_0_0_1_2_11.startIndexMap, List.idxOf_lt_length_iff.2 (List.mem_singleton.mpr rfl)⟩
        = ix3 b j 0 := by
      funext c
      refine Fin.ext ?_
      match c with
      | ⟨0, _⟩ => rfl
      | ⟨1, _⟩ => rfl
      | ⟨2, _⟩ => rfl
    rw [hs, hn, toInt_ofNat _ (by omega)]
    show min ((n.val : ℤ).toNat) 31 + 0 + 0 = n.val
    omega

/-- Looking up four numbers per anchor in 32 rows per image. -/
theorem lookup_box {α : Type} (x : S8x32x4.Idx → α) (ix : IVec S8x65536x1 32) (b : Fin 8) (j : Fin 65536) (q : Fin 4) (n : Fin 32)
    (hn : ix (ix3 b j 0) = BitVec.ofNat 32 n.val) :
    Host.gather gather_S8x32x4_S8x65536x1_S8x65536x4_2_1_0_0_1_2_114 x ix (ix3 b j q) = x (ix3 b n q) := by
  unfold Host.gather
  refine congrArg x (funext fun a => Fin.ext ?_)
  show gather_S8x32x4_S8x65536x1_S8x65536x4_2_1_0_0_1_2_114.start (ix3 b j q) ix a + gather_S8x32x4_S8x65536x1_S8x65536x4_2_1_0_0_1_2_114.batchCoord (ix3 b j q) a
    + gather_S8x32x4_S8x65536x1_S8x65536x4_2_1_0_0_1_2_114.offCoord (ix3 b j q) a = _
  have ha : a = 0 ∨ a = 1 ∨ a = 2 := by
    match a with
    | ⟨0, _⟩ => exact .inl rfl
    | ⟨1, _⟩ => exact .inr (.inl rfl)
    | ⟨2, _⟩ => exact .inr (.inr rfl)
  rcases ha with rfl | rfl | rfl
  · rw [GatherDims.start_batching _ _ _ _ (List.mem_singleton.mpr rfl),
      GatherDims.offCoord_eq_zero _ _ _ (fun h => ((GatherDims.mem_sKept _ _).mp h).2 (List.mem_singleton.mpr rfl))]
    unfold GatherDims.batchCoord
    rw [dif_pos (show (0 : Fin 3) ∈ gather_S8x32x4_S8x65536x1_S8x65536x4_2_1_0_0_1_2_114.operandBatchingDims from List.mem_singleton.mpr rfl)]
    show 0 + b.val + 0 = b.val
    omega
  · rw [GatherDims.batchCoord_eq_zero _ _ _ (fun h => absurd (List.mem_singleton.mp h) (by decide)),
      GatherDims.offCoord_eq_zero _ _ _ (fun h => ((GatherDims.mem_sKept _ _).mp h).1 (List.mem_singleton.mpr rfl))]
    unfold GatherDims.start
    rw [dif_pos (show (1 : Fin 3) ∈ gather_S8x32x4_S8x65536x1_S8x65536x4_2_1_0_0_1_2_114.startIndexMap from List.mem_singleton.mpr rfl)]
    have hs : gather_S8x32x4_S8x65536x1_S8x65536x4_2_1_0_0_1_2_114.siIdx (ix3 b j q)
        ⟨List.idxOf (1 : Fin 3) gather_S8x32x4_S8x65536x1_S8x65536x4_2_1_0_0_1_2_114.startIndexMap, List.idxOf_lt_length_iff.2 (List.mem_singleton.mpr rfl)⟩
        = ix3 b j 0 := by
      funext c
      refine Fin.ext ?_
      match c with
      | ⟨0, _⟩ => rfl
      | ⟨1, _⟩ => rfl
      | ⟨2, _⟩ => rfl
    rw [hs, hn, toInt_ofNat _ (by omega)]
    show min ((n.val : ℤ).toNat) 31 + 0 + 0 = n.val
    omega
  · rw [GatherDims.batchCoord_eq_zero _ _ _ (fun h => absurd (List.mem_singleton.mp h) (by decide))]
    unfold GatherDims.start
    rw [dif_neg (show ¬ (2 : Fin 3) ∈ gather_S8x32x4_S8x65536x1_S8x65536x4_2_1_0_0_1_2_114.startIndexMap from fun h => absurd (List.mem_singleton.mp h) (by decide))]
    show 0 + 0 + gather_S8x32x4_S8x65536x1_S8x65536x4_2_1_0_0_1_2_114.offCoord (ix3 b j q) 2 = q.val
    unfold GatherDims.offCoord
    rw [dif_pos ((GatherDims.mem_sKept _ _).mpr ⟨fun h => absurd (List.mem_singleton.mp h) (by decide), fun h => absurd (List.mem_singleton.mp h) (by decide)⟩)]
    show 0 + 0 + q.val = q.val
    omega

variable (x3 : FVec Ideal S65536x4 .f32) (x4 : FVec Ideal S8x32x4 .f32) (x5 : IVec S8x32 32)

/-- The ground truth an anchor matches. -/
def whoR (b : Fin 8) (j : Fin 65536) : Fin 32 := who (fun n => ovR x3 x4 b n j)

theorem wrap : ∀ n : Fin 32, Scalar.select (IntOp.cmpi .slt (BitVec.ofNat 32 n.val) 0#32) (IntOp.addi (BitVec.ofNat 32 n.val) 32#32) (BitVec.ofNat 32 n.val)
    = BitVec.ofNat 32 n.val := by decide

theorem v78_eq (b : Fin 8) (j : Fin 65536) : val_main_v78 (F := Ideal) x3 x4 (ix3 b j 0) = BitVec.ofNat 32 (whoR x3 x4 b j).val := by
  have e : val_main_v78 (F := Ideal) x3 x4 (ix3 b j 0)
      = Scalar.select (IntOp.cmpi .slt (val_main_v60 (F := Ideal) x3 x4 (ix2 b j)) 0#32) (IntOp.addi (val_main_v60 (F := Ideal) x3 x4 (ix2 b j)) 32#32)
          (val_main_v60 (F := Ideal) x3 x4 (ix2 b j)) := by
    pointwise [val_main_v78, val_main_v77, val_main_v76, val_main_v75, val_main_v74, val_main_v73, val_main_c_10, val_main_c_11]
  rw [e, v60_eq, match32_who]
  exact wrap _

theorem v91_eq (b : Fin 8) (j : Fin 65536) : val_main_v91 (F := Ideal) x3 x4 (ix3 b j 0) = BitVec.ofNat 32 (whoR x3 x4 b j).val := by
  have e : val_main_v91 (F := Ideal) x3 x4 (ix3 b j 0)
      = Scalar.select (IntOp.cmpi .slt (val_main_v60 (F := Ideal) x3 x4 (ix2 b j)) 0#32) (IntOp.addi (val_main_v60 (F := Ideal) x3 x4 (ix2 b j)) 32#32)
          (val_main_v60 (F := Ideal) x3 x4 (ix2 b j)) := by
    pointwise [val_main_v91, val_main_v90, val_main_v89, val_main_v88, val_main_v87, val_main_v86, val_main_c_16, val_main_c_17]
  rw [e, v60_eq, match32_who]
  exact wrap _

/-- The matched class. -/
theorem v79_eq (b : Fin 8) (j : Fin 65536) : val_main_v79 (F := Ideal) x3 x4 x5 (ix2 b j) = x5 (ix2 b (whoR x3 x4 b j)) := by
  unfold val_main_v79
  exact lookup_label _ _ b j _ (v78_eq x3 x4 b j)

/-- The matched box. -/
theorem v92_eq (b : Fin 8) (j : Fin 65536) (q : Fin 4) : val_main_v92 (F := Ideal) x3 x4 (ix3 b j q) = x4 (ix3 b (whoR x3 x4 b j) q) := by
  unfold val_main_v92
  exact lookup_box _ _ b j q _ (v91_eq x3 x4 b j)

/-- The reference's target class from a label and a matched class. -/
def tcr (l k : BitVec 32) : BitVec 32 := if l = 4294967295#32 then 4294967295#32 else if l = 0#32 then 80#32 else k

theorem v85_eq (b : Fin 8) (j : Fin 65536) :
    val_main_v85 (F := Ideal) x3 x4 x5 (ix2 b j) = tcr (labR x3 x4 b j) (x5 (ix2 b (whoR x3 x4 b j))) := by
  have e : val_main_v85 (F := Ideal) x3 x4 x5 (ix2 b j)
      = Scalar.select (IntOp.cmpi .eq (val_main_v72 (F := Ideal) x3 x4 (ix2 b j)) 4294967295#32) 4294967295#32
          (Scalar.select (IntOp.cmpi .eq (val_main_v72 (F := Ideal) x3 x4 (ix2 b j)) 0#32) 80#32 (val_main_v79 (F := Ideal) x3 x4 x5 (ix2 b j))) := by
    pointwise [val_main_v85, val_main_call6_v2, val_main_call6_v1, val_main_call6_v0, val_main_c_15, val_main_v84, val_main_v83, val_main_c_14,
      val_main_v82, val_main_call5_v2, val_main_call5_v1, val_main_call5_v0, val_main_c_13, val_main_v81, val_main_v80, val_main_c_12]
    rfl
  rw [e, v72_eq, v79_eq, select_eq, select_eq]
  rfl

end Cert.RefSide

end
-- ==== Proof.FocalMath.lean ====
/-
  The focal loss of one logit, twice: as the kernel computes it (the sign of the logit is turned at the target
  class, then one softplus and one sigmoid of the turned logit) and as the reference states it (cross entropy from
  the logits, the probability of the true class, `alpha` balanced by the one-hot target). The two agree for every
  extended real logit and every weight of the row.
-/
module

public import Idealize.ShloMosaic.PureOps.Ideal
public import Idealize.ShloMosaic.PureOps.Ideal.Laws

@[expose] public section

noncomputable section

namespace Cert.Focal

open Idealize.ShloMosaic

/-- The logit the kernel works on: negated at the target class. -/
def turned (hit : Prop) [Decidable hit] (x : EReal) : EReal := if hit then 0 - x else x

/-- The kernel's `exp (-|y|)`. -/
def tail (y : EReal) : EReal := Ideal.exp (0 - max y (-y))

/-- The kernel's sigmoid of the turned logit. -/
def sigm (y : EReal) : EReal := Ideal.div (if 0 ≤ y then 1 else tail y) (1 + tail y)

/-- The kernel's contribution of one logit. -/
def kernelTerm (hit : Prop) [Decidable hit] (a b x v : EReal) : EReal :=
  (if hit then a else b) * v * (max (turned hit x) 0 + Ideal.log1p (tail (turned hit x)))
    * (sigm (turned hit x) * sigm (turned hit x))

/-- The one-hot target. -/
def onehot (hit : Prop) [Decidable hit] : EReal := if hit then 1 else 0

/-- The reference's probability. -/
def prob (x : EReal) : EReal := Ideal.div 1 (1 + Ideal.exp (-x))

/-- The reference's contribution of one logit. -/
def referenceTerm (hit : Prop) [Decidable hit] (a b g x v : EReal) : EReal :=
  (a * onehot hit + b * (1 - onehot hit))
    * ((max x 0 - x * onehot hit + Ideal.log1p (Ideal.exp (-(max x (-x)))))
        * Ideal.pow (1 - (prob x * onehot hit + (1 - prob x) * (1 - onehot hit))) g)
    * v

theorem one_sub_one : (1 : EReal) - 1 = 0 := by
  rw [← EReal.coe_one, ← EReal.coe_sub]; simp

theorem zero_sub' (x : EReal) : (0 : EReal) - x = -x := by rw [sub_eq_add_neg, zero_add]

theorem div_coe_pos (a b : ℝ) (hb : 0 < b) : Ideal.div (a : EReal) (b : EReal) = ((a / b : ℝ) : EReal) := by
  unfold Ideal.div
  rw [if_neg (by exact_mod_cast hb.ne'), ← EReal.coe_inv, ← EReal.coe_mul, div_eq_mul_inv]

theorem max_neg_coe (y : ℝ) : max (y : EReal) (-(y : EReal)) = ((|y| : ℝ) : EReal) := by
  rw [← EReal.coe_neg, ← EReal.coe_strictMono.monotone.map_max]; rfl

theorem tail_coe (y : ℝ) : tail (y : EReal) = ((Real.exp (-|y|) : ℝ) : EReal) := by
  unfold tail
  rw [max_neg_coe, zero_sub', ← EReal.coe_neg]; rfl

theorem prob_coe (x : ℝ) : prob (x : EReal) = (((1 + Real.exp (-x))⁻¹ : ℝ) : EReal) := by
  unfold prob
  rw [← EReal.coe_neg, show Ideal.exp ((-x : ℝ) : EReal) = ((Real.exp (-x) : ℝ) : EReal) from rfl, ← EReal.coe_one,
    ← EReal.coe_add, div_coe_pos _ _ (by positivity), one_div]

/-- The kernel's branch-free sigmoid is the sigmoid, on the reals. -/
theorem sigm_coe (y : ℝ) : sigm (y : EReal) = (((1 + Real.exp (-y))⁻¹ : ℝ) : EReal) := by
  unfold sigm
  rw [tail_coe, ← EReal.coe_one, ← EReal.coe_add]
  by_cases h : 0 ≤ y
  · rw [if_pos (by exact_mod_cast h), div_coe_pos _ _ (by positivity), abs_of_nonneg h, one_div]
  · rw [if_neg (by exact_mod_cast h), div_coe_pos _ _ (by positivity), abs_of_neg (not_le.mp h), neg_neg]
    congr 1
    rw [Real.exp_neg]
    have := Real.exp_pos y
    field_simp
    ring

theorem log1p_tail (y : ℝ) : Ideal.log1p ((Real.exp (-|y|) : ℝ) : EReal) = ((Real.log (1 + Real.exp (-|y|)) : ℝ) : EReal) := by
  unfold Ideal.log1p
  rw [← EReal.coe_one, ← EReal.coe_add]
  show (if 1 + Real.exp (-|y|) ≤ 0 then (⊥ : EReal) else _) = _
  rw [if_neg (by have := Real.exp_pos (-|y|); linarith)]

theorem max_zero_coe (y : ℝ) : max (y : EReal) 0 = ((max y 0 : ℝ) : EReal) := by
  rw [← EReal.coe_zero, ← EReal.coe_strictMono.monotone.map_max]

theorem pow_two_coe (r : ℝ) : Ideal.pow (r : EReal) ((2 : ℝ) : EReal) = ((r * r : ℝ) : EReal) := by
  show ((Real.rpow r 2 : ℝ) : EReal) = _
  congr 1
  rw [← sq]; exact Real.rpow_two r

/-- Equality on the real logits. -/
theorem term_coe (hit : Prop) [Decidable hit] (a b x : ℝ) (v : EReal) :
    kernelTerm hit a b x v = referenceTerm hit a b (2 : ℝ) x v := by
  unfold kernelTerm referenceTerm turned onehot
  by_cases h : hit
  · simp only [if_pos h, zero_sub', one_sub_one, mul_one, mul_zero, add_zero]
    rw [max_neg_coe, ← EReal.coe_neg x, sigm_coe, tail_coe, log1p_tail, max_zero_coe, ← EReal.coe_neg |x|,
      show Ideal.exp ((-|x| : ℝ) : EReal) = ((Real.exp (-|x|) : ℝ) : EReal) from rfl, log1p_tail, max_zero_coe, prob_coe,
      ← EReal.coe_one, ← EReal.coe_sub, ← EReal.coe_sub, pow_two_coe, ← EReal.coe_add, ← EReal.coe_add, ← EReal.coe_mul, ← EReal.coe_mul,
      abs_neg, neg_neg]
    have e1 : max (-x) 0 = max x 0 - x := by
      rcases le_total 0 x with hx | hx
      · rw [max_eq_right (by linarith), max_eq_left hx]; ring
      · rw [max_eq_left (by linarith), max_eq_right hx]; ring
    have e2 : (1 + Real.exp x)⁻¹ = 1 - (1 + Real.exp (-x))⁻¹ := by
      rw [Real.exp_neg]
      have := Real.exp_pos x
      field_simp
      ring
    rw [e1, e2]
    simp only [EReal.coe_mul]
    ac_rfl
  · simp only [if_neg h, sub_zero, mul_one, mul_zero, zero_add]
    rw [sigm_coe, tail_coe, log1p_tail, max_zero_coe, max_neg_coe, ← EReal.coe_neg |x|,
      show Ideal.exp ((-|x| : ℝ) : EReal) = ((Real.exp (-|x|) : ℝ) : EReal) from rfl, log1p_tail, prob_coe,
      ← EReal.coe_one, ← EReal.coe_sub, ← EReal.coe_sub, pow_two_coe, ← EReal.coe_add, ← EReal.coe_mul, ← EReal.coe_mul]
    have e2 : 1 - (1 - (1 + Real.exp (-x))⁻¹) = (1 + Real.exp (-x))⁻¹ := by ring
    rw [e2]
    simp only [EReal.coe_mul]
    ac_rfl

theorem tail_top : tail ⊤ = 0 := by
  unfold tail; rw [EReal.neg_top, max_eq_left bot_le, zero_sub', EReal.neg_top]; rfl

theorem tail_bot : tail ⊥ = 0 := by
  unfold tail; rw [EReal.neg_bot, max_eq_right bot_le, zero_sub', EReal.neg_top]; rfl

theorem div_one' (x : EReal) : Ideal.div x 1 = x := by
  unfold Ideal.div; rw [if_neg one_ne_zero, inv_one, mul_one]

theorem sigm_top : sigm ⊤ = 1 := by unfold sigm; rw [tail_top, if_pos le_top, add_zero, div_one']

theorem sigm_bot : sigm ⊥ = 0 := by
  unfold sigm; rw [tail_bot, if_neg (by simp), add_zero, div_one']

theorem prob_top : prob ⊤ = 1 := by
  unfold prob; rw [EReal.neg_top, show Ideal.exp ⊥ = 0 from rfl, add_zero, div_one']

theorem prob_bot : prob ⊥ = 0 := by
  unfold prob
  rw [EReal.neg_bot, show Ideal.exp ⊤ = ⊤ from rfl]
  unfold Ideal.div
  rw [EReal.add_top_of_ne_bot (by rw [← EReal.coe_one]; exact EReal.coe_ne_bot 1), if_neg (by simp), EReal.inv_top, mul_zero]

theorem log1p_zero : Ideal.log1p 0 = 0 := by
  unfold Ideal.log1p
  rw [add_zero, ← EReal.coe_one]
  show (if (1 : ℝ) ≤ 0 then (⊥ : EReal) else _) = _
  rw [if_neg (by norm_num), Real.log_one]; rfl

theorem exp_bot' : Ideal.exp ⊥ = 0 := rfl

theorem pow_zero_two : Ideal.pow 0 ((2 : ℝ) : EReal) = 0 := by
  rw [← EReal.coe_zero, pow_two_coe]; simp

theorem pow_one_two : Ideal.pow 1 ((2 : ℝ) : EReal) = 1 := by
  rw [← EReal.coe_one, pow_two_coe]; simp

/-- The kernel's and the reference's contribution of one logit agree, for any extended real logit and row weight. -/
theorem term_eq (hit : Prop) [Decidable hit] (a b : ℝ) (x v : EReal) :
    kernelTerm hit a b x v = referenceTerm hit a b (2 : ℝ) x v := by
  induction x with
  | coe x => exact term_coe hit a b x v
  | top =>
    unfold kernelTerm referenceTerm turned onehot
    by_cases h : hit
    · simp [if_pos h, zero_sub', sigm_bot, tail_bot, prob_top, exp_bot', log1p_zero, one_sub_one, pow_zero_two]
    · simp only [if_neg h, zero_sub', sigm_top, tail_top, prob_top, EReal.neg_top, exp_bot', log1p_zero, one_sub_one, mul_zero,
        sub_zero, mul_one, add_zero, zero_add, pow_one_two, max_eq_left bot_le, max_eq_left le_top]
      rw [mul_right_comm]
  | bot =>
    unfold kernelTerm referenceTerm turned onehot
    by_cases h : hit
    · simp only [if_pos h, zero_sub', EReal.neg_bot, EReal.neg_top, sigm_top, tail_top, prob_bot, exp_bot', log1p_zero, one_sub_one, mul_zero,
        sub_zero, mul_one, add_zero, pow_one_two, max_eq_left le_top, max_eq_right bot_le]
      rw [mul_right_comm]
    · simp [if_neg h, zero_sub', sigm_bot, tail_bot, prob_bot, exp_bot', log1p_zero, one_sub_one, pow_zero_two]

end Cert.Focal
-- ==== Proof.RefRows.lean ====
/-
  The reference's losses row by row: one row per image and anchor.
-/
module

public import proofs.«01_k».proof.Proof.RefTarget
public import proofs.«01_k».proof.Proof.FocalMath

@[expose] public section

set_option maxRecDepth 16384

noncomputable section

namespace Cert.RefSide

open Idealize.ShloMosaic Idealize.ShloMosaic.TcCoe Cert.ReferenceIdeal Cert.ReferenceIdeal.Gen Cert.ReferenceIdeal.Read Cert.Spec

variable (x0 : FVec Ideal S8x65536x80 .f32) (x1 : FVec Ideal S8x65536x4 .f32) (x2 : IVec S8x65536 1)
  (x3 : FVec Ideal S65536x4 .f32) (x4 : FVec Ideal S8x32x4 .f32) (x5 : IVec S8x32 32)

/-- The image of a row. -/
def rb (r : Fin 524288) : Fin 8 := ⟨r.val / 65536, by omega⟩

/-- The anchor of a row. -/
def rj (r : Fin 524288) : Fin 65536 := ⟨r.val % 65536, by omega⟩

/-- A word lies in the range of class numbers. -/
def InRange (k : BitVec 32) : Prop := k.toNat < 80

/-- The label of a row's anchor, and its match's class. -/
def rl (r : Fin 524288) : BitVec 32 := labR x3 x4 (rb r) (rj r)
def rk (r : Fin 524288) : BitVec 32 := x5 (ix2 (rb r) (whoR x3 x4 (rb r) (rj r)))

theorem rl_cases (r : Fin 524288) : rl x3 x4 r = 1#32 ∨ rl x3 x4 r = 0#32 ∨ rl x3 x4 r = 4294967295#32 := lab_cases _ _

theorem v93_eq (r : Fin 524288) (l : Fin 80) : val_main_v93 (F := Ideal) x0 (ix2 r l) = x0 (ix3 (rb r) (rj r) l) := by
  rw [val_main_v93_apply]
  refine congrArg x0 (funext fun a => Fin.ext ?_)
  match a with
  | ⟨0, _⟩ => show (r.val * 80 + l.val) / 5242880 = r.val / 65536; omega
  | ⟨1, _⟩ => show (r.val * 80 + l.val) / 80 % 65536 = r.val % 65536; omega
  | ⟨2, _⟩ => show (r.val * 80 + l.val) % 80 = l.val; omega

theorem v94_eq (r : Fin 524288) (q : Fin 4) : val_main_v94 (F := Ideal) x1 (ix2 r q) = x1 (ix3 (rb r) (rj r) q) := by
  rw [val_main_v94_apply]
  refine congrArg x1 (funext fun a => Fin.ext ?_)
  match a with
  | ⟨0, _⟩ => show (r.val * 4 + q.val) / 262144 = r.val / 65536; omega
  | ⟨1, _⟩ => show (r.val * 4 + q.val) / 4 % 65536 = r.val % 65536; omega
  | ⟨2, _⟩ => show (r.val * 4 + q.val) % 4 = q.val; omega

theorem v96_eq (r : Fin 524288) (q : Fin 4) :
    val_main_v96 (F := Ideal) x3 x4 (ix2 r q) = x4 (ix3 (rb r) (whoR x3 x4 (rb r) (rj r)) q) := by
  rw [val_main_v96_apply, ← v92_eq x3 x4]
  refine congrArg (val_main_v92 (F := Ideal) x3 x4) (funext fun a => Fin.ext ?_)
  match a with
  | ⟨0, _⟩ => show (r.val * 4 + q.val) / 262144 = r.val / 65536; omega
  | ⟨1, _⟩ => show (r.val * 4 + q.val) / 4 % 65536 = r.val % 65536; omega
  | ⟨2, _⟩ => show (r.val * 4 + q.val) % 4 = q.val; omega

theorem v95_eq (r : Fin 524288) : val_main_v95 (F := Ideal) x3 x4 x5 (ix1 r) = tcr (rl x3 x4 r) (rk x3 x4 x5 r) := by
  rw [val_main_v95_apply]
  unfold rl rk
  rw [← v85_eq]
  refine congrArg (val_main_v85 (F := Ideal) x3 x4 x5) (funext fun a => Fin.ext ?_)
  match a with
  | ⟨0, _⟩ => rfl
  | ⟨1, _⟩ => rfl

theorem v114_eq (r : Fin 524288) : val_main_v114 (F := Ideal) x2 (ix1 r) = x2 (ix2 (rb r) (rj r)) := by
  rw [val_main_v114_apply]
  refine congrArg x2 (funext fun a => Fin.ext ?_)
  match a with
  | ⟨0, _⟩ => rfl
  | ⟨1, _⟩ => rfl

/-! Bits of a row. -/

theorem sge_zero (k : BitVec 32) (hk : InRange k) : IntOp.cmpi .sge k 0#32 = 1#1 := by
  unfold InRange at hk
  have : (0#32).sle k = true := by
    rw [BitVec.sle_eq_decide, decide_eq_true_eq, BitVec.toInt_eq_toNat_of_lt (x := k) (by omega)]
    simp
  simp [IntOp.cmpi, this]

theorem ne_eighty (k : BitVec 32) (hk : InRange k) : IntOp.cmpi .ne k 80#32 = 1#1 := by
  unfold InRange at hk
  have h : k ≠ 80#32 := by rintro rfl; simp at hk
  have : (k != 80#32) = true := by simpa using h
  simp [IntOp.cmpi, this]

theorem v101_eq (r : Fin 524288) (hk : InRange (rk x3 x4 x5 r)) :
    val_main_v101 (F := Ideal) x3 x4 x5 (ix1 r) = if rl x3 x4 r = 1#32 then 1#1 else 0#1 := by
  have e : val_main_v101 (F := Ideal) x3 x4 x5 (ix1 r)
      = IntOp.andi (IntOp.cmpi .sge (val_main_v95 (F := Ideal) x3 x4 x5 (ix1 r)) 0#32) (IntOp.cmpi .ne (val_main_v95 (F := Ideal) x3 x4 x5 (ix1 r)) 80#32) := by
    rw [val_main_v101_apply, val_main_v98_apply, val_main_v100_apply, val_main_v97_apply, val_main_v99_apply]
    rfl
  rw [e, v95_eq]
  rcases rl_cases x3 x4 r with h | h | h
  · rw [h, if_pos rfl, show tcr 1#32 (rk x3 x4 x5 r) = rk x3 x4 x5 r from rfl, sge_zero _ hk, ne_eighty _ hk]; decide
  · rw [h, show tcr 0#32 (rk x3 x4 x5 r) = 80#32 from rfl]; decide
  · rw [h, show tcr 4294967295#32 (rk x3 x4 x5 r) = 4294967295#32 from rfl]; decide

theorem bit_fg (l : BitVec 32) : (FloatOps.uitofp (F := Ideal) FTy.f32 (if l = 1#32 then 1#1 else 0#1 : BitVec 1) : EReal) = fgw l := by
  unfold fgw
  by_cases h : l = 1#32
  · rw [if_pos h, if_pos h]
    show (((1#1 : BitVec 1).toNat : ℝ) : EReal) = 1
    simp
  · rw [if_neg h, if_neg h]
    show (((0#1 : BitVec 1).toNat : ℝ) : EReal) = 0
    simp

theorem v213_eq (r : Fin 524288) (hk : InRange (rk x3 x4 x5 r)) : val_main_v213 (F := Ideal) x3 x4 x5 (ix1 r) = fgw (rl x3 x4 r) := by
  rw [val_main_v213_apply, v101_eq x3 x4 x5 r hk, bit_fg]

theorem v116_eq (r : Fin 524288) (hk : InRange (rk x3 x4 x5 r)) :
    val_main_v116 (F := Ideal) x2 x3 x4 x5 (ix1 r) = validw (rl x3 x4 r) (FloatOps.uitofp (F := Ideal) FTy.f32 (x2 (ix2 (rb r) (rj r)))) := by
  have e : val_main_v116 (F := Ideal) x2 x3 x4 x5 (ix1 r)
      = FloatOps.uitofp (F := Ideal) FTy.f32 (IntOp.andi (IntOp.cmpi .sge (val_main_v95 (F := Ideal) x3 x4 x5 (ix1 r)) 0#32) (val_main_v114 (F := Ideal) x2 (ix1 r))) := by
    rw [val_main_v116_apply, val_main_v115_apply, val_main_v113_apply, val_main_v112_apply]
    rfl
  rw [e, v95_eq, v114_eq]
  generalize x2 (ix2 (rb r) (rj r)) = w
  unfold validw
  have one : ∀ w : BitVec 1, IntOp.andi 1#1 w = w := by decide
  have zero : ∀ w : BitVec 1, IntOp.andi 0#1 w = 0#1 := by decide
  rcases rl_cases x3 x4 r with h | h | h
  · rw [h, show tcr 1#32 (rk x3 x4 x5 r) = rk x3 x4 x5 r from rfl, sge_zero _ hk, one, if_neg (by decide), one_mul]
  · rw [h, show tcr 0#32 (rk x3 x4 x5 r) = 80#32 from rfl, show IntOp.cmpi .sge 80#32 0#32 = 1#1 by decide, one, if_neg (by decide), one_mul]
  · rw [h, show tcr 4294967295#32 (rk x3 x4 x5 r) = 4294967295#32 from rfl, show IntOp.cmpi .sge 4294967295#32 0#32 = 0#1 by decide, zero, if_pos rfl, zero_mul]
    show (((0#1 : BitVec 1).toNat : ℝ) : EReal) = 0
    simp

/-- The one-hot lane as the host prints it: a comparison read as a number. -/
theorem onehot_eq (t u : BitVec 32) :
    (FloatOps.uitofp (F := Ideal) FTy.f32 (IntOp.cmpi CmpIPredicate.eq t u) : EReal) = Cert.Focal.onehot (t = u) := by
  unfold Cert.Focal.onehot
  by_cases h : t = u
  · rw [if_pos h]; subst h
    show (((IntOp.cmpi CmpIPredicate.eq t t).toNat : ℝ) : EReal) = 1
    simp [IntOp.cmpi]
  · rw [if_neg h]
    show (((IntOp.cmpi CmpIPredicate.eq t u).toNat : ℝ) : EReal) = 0
    simp [IntOp.cmpi, h]

theorem clip_eq (k : BitVec 32) (hk : InRange k) : IntOp.minsi 79#32 (IntOp.maxsi 0#32 k) = k := by
  unfold InRange at hk
  have ht : k.toInt = k.toNat := BitVec.toInt_eq_toNat_of_lt (by omega)
  have hm : IntOp.maxsi 0#32 k = k := by
    unfold IntOp.maxsi
    rw [if_neg]
    rw [BitVec.slt_eq_decide, decide_eq_true_eq, ht]
    simp
  rw [hm]
  unfold IntOp.minsi
  by_cases h : (79#32).slt k
  · rw [BitVec.slt_eq_decide, decide_eq_true_eq, ht] at h
    have : (79#32 : BitVec 32).toInt = 79 := by decide
    exfalso
    omega
  · rw [if_neg h]

/-- The target lane of a row: its class where it is foreground, none elsewhere. -/
theorem v111_eq (r : Fin 524288) (l : Fin 80) (hk : InRange (rk x3 x4 x5 r)) :
    val_main_v111 (F := Ideal) x3 x4 x5 (ix2 r l) = Cert.Focal.onehot (tcw (rl x3 x4 r) (rk x3 x4 x5 r) = BitVec.ofNat 32 l.val) := by
  have e : val_main_v111 (F := Ideal) x3 x4 x5 (ix2 r l)
      = (FloatOps.uitofp (F := Ideal) FTy.f32 (IntOp.cmpi CmpIPredicate.eq (IntOp.minsi 79#32 (IntOp.maxsi 0#32 (val_main_v95 (F := Ideal) x3 x4 x5 (ix1 r)))) (BitVec.ofNat 32 l.val)) : EReal)
        * (FloatOps.uitofp (F := Ideal) FTy.f32 (val_main_v101 (F := Ideal) x3 x4 x5 (ix1 r)) : EReal) := by
    pointwise [val_main_v111, val_main_v110, val_main_v109, val_main_v108, val_main_v107, val_main_call8_v4, val_main_call8_v3, val_main_call8_v2, val_main_call8_v1, val_main_call8_v0,
      val_main_v106, val_main_call7_v4, val_main_call7_v3, val_main_call7_v2, val_main_call7_v1, val_main_call7_v0, val_main_c_22, val_main_c_23]
    try rfl
  rw [e, v101_eq x3 x4 x5 r hk, bit_fg, v95_eq, onehot_eq]
  have hl : (4294967295#32 : BitVec 32) ≠ BitVec.ofNat 32 l.val := fun h => by
    have := congrArg BitVec.toNat h
    rw [BitVec.toNat_ofNat, BitVec.toNat_ofNat] at this
    have := l.isLt
    omega
  unfold fgw tcw
  rcases rl_cases x3 x4 r with h | h | h
  · rw [h, if_pos rfl, mul_one, show tcr 1#32 (rk x3 x4 x5 r) = rk x3 x4 x5 r from rfl, clip_eq _ hk]
    rfl
  · rw [h, if_neg (by decide), mul_zero]
    unfold Cert.Focal.onehot
    rw [if_neg]
    exact hl
  · rw [h, if_neg (by decide), mul_zero]
    unfold Cert.Focal.onehot
    rw [if_neg]
    exact hl

theorem quarter : Ideal.ofBits .f32 0x3E800000#32 = (((1 / 4 : ℝ)) : EReal) := by
  simp [Ideal.ofBits, Ideal.ieee]; rw [← EReal.coe_mul]; congr 1; norm_num
theorem threeQuarters : Ideal.ofBits .f32 0x3F400000#32 = (((3 / 4 : ℝ)) : EReal) := by
  simp [Ideal.ofBits, Ideal.ieee]; rw [← EReal.coe_mul]; congr 1; norm_num
theorem two : Ideal.ofBits .f32 0x40000000#32 = ((2 : ℝ) : EReal) := by
  simp [Ideal.ofBits, Ideal.ieee]; rw [← EReal.coe_mul]; congr 1; norm_num

/-- The focal loss of one logit. -/
theorem v154_eq (r : Fin 524288) (l : Fin 80) (hk : InRange (rk x3 x4 x5 r)) :
    val_main_v154 (F := Ideal) x0 x2 x3 x4 x5 (ix2 r l)
      = Cert.Focal.referenceTerm (tcw (rl x3 x4 r) (rk x3 x4 x5 r) = BitVec.ofNat 32 l.val) (1 / 4 : ℝ) (3 / 4 : ℝ) (2 : ℝ)
          (x0 (ix3 (rb r) (rj r) l)) (validw (rl x3 x4 r) (FloatOps.uitofp (F := Ideal) FTy.f32 (x2 (ix2 (rb r) (rj r))))) := by
  rw [← v93_eq x0, ← v116_eq x2 x3 x4 x5 r hk]
  unfold Cert.Focal.referenceTerm
  rw [← v111_eq x3 x4 x5 r l hk]
  pointwise [val_main_v117, val_main_v118, val_main_v119, val_main_v120, val_main_v121, val_main_v122, val_main_v123, val_main_v124, val_main_v125, val_main_v126, val_main_v127, val_main_v128, val_main_v129, val_main_v130, val_main_v131, val_main_v132, val_main_v133, val_main_v134, val_main_v135, val_main_v136, val_main_v137, val_main_v138, val_main_v139, val_main_v140, val_main_v141, val_main_v142, val_main_v143, val_main_v144, val_main_v145, val_main_v146, val_main_v147, val_main_v148, val_main_v149, val_main_v150, val_main_v151, val_main_v152, val_main_v153, val_main_v154, val_main_cst_25, val_main_cst_26, val_main_cst_27, val_main_cst_28, val_main_cst_29, val_main_cst_30, val_main_cst_31, val_main_cst_32, val_main_cst_33, val_main_cst_34]
  simp only [quarter, threeQuarters, two]
  rfl

/-- The box loss of one row. -/
theorem v214_eq (r : Fin 524288) (hk : InRange (rk x3 x4 x5 r)) :
    val_main_v214 (F := Ideal) x1 x3 x4 x5 (ix1 r)
      = boxw (rl x3 x4 r) (fun q => x1 (ix3 (rb r) (rj r) q)) (fun q => x4 (ix3 (rb r) (whoR x3 x4 (rb r) (rj r)) q)) := by
  unfold boxw giou
  simp only [← v94_eq x1, ← v96_eq x3 x4]
  rw [← v213_eq x3 x4 x5 r hk]
  pointwise [val_main_v214, val_main_v157, val_main_v158, val_main_v159, val_main_v160, val_main_v161, val_main_v162, val_main_v163, val_main_v164, val_main_v165, val_main_v166, val_main_v167, val_main_v168, val_main_v169, val_main_v170, val_main_v171, val_main_v172, val_main_v173, val_main_v174, val_main_v175, val_main_v176, val_main_v177, val_main_v178, val_main_v179, val_main_v180, val_main_v181, val_main_v182, val_main_v183, val_main_v184, val_main_v185, val_main_v186, val_main_v187, val_main_v188, val_main_v189, val_main_v190, val_main_v191, val_main_v192, val_main_v193, val_main_v194, val_main_v195, val_main_v196, val_main_v197, val_main_v198, val_main_v199, val_main_v200, val_main_v201, val_main_v202, val_main_v203, val_main_v204, val_main_v205, val_main_v206, val_main_v207, val_main_v208, val_main_v209, val_main_v210, val_main_v211, val_main_v212, val_main_call9_v0, val_main_call9_v1, val_main_call10_v0, val_main_call10_v1, val_main_cst_36, val_main_cst_37, val_main_cst_38]
  have z : id (constant (F := Ideal) S_ FTy.f32 0#32) ix0 = (0 : EReal) := by
    show Ideal.ofBits .f32 0#32 = 0
    simp [Ideal.ofBits, Ideal.ieee]
  simp only [z, max_comm (0 : EReal)]

end Cert.RefSide

end
-- ==== Proof.Stretches.lean ====
/-
  What the host operations around the three calls hand on, entry by entry.
-/
module

public import proofs.«01_k».proof.Proof.Segments
public import proofs.«01_k».proof.Proof.RefRows
public import Idealize.ShloMosaic.Lib.Pointwise

@[expose] public section

set_option maxRecDepth 16384

noncomputable section

namespace Cert.KernelIdeal.Whole

open Cert.KernelIdeal Cert.KernelIdeal.Gen
open Idealize.ShloMosaic Idealize.ShloMosaic.TcCoe Idealize.SL.Sem
open Cert.RefSide (rb rj)

variable (m : (ℓ : Loc nD τ sig) → Buf (Elt Ideal) ℓ) (c : Dev nD)

/-- The six arguments. -/
abbrev a0 : FVec Ideal S8x65536x80 .f32 := m ((c.tc : Thread nD τ).loc main_arg0)
abbrev a1 : FVec Ideal S8x65536x4 .f32 := m ((c.tc : Thread nD τ).loc main_arg1)
abbrev a2 : IVec S8x65536 1 := m ((c.tc : Thread nD τ).loc main_arg2)
abbrev a3 : FVec Ideal S65536x4 .f32 := m ((c.tc : Thread nD τ).loc main_arg3)
abbrev a4 : FVec Ideal S8x32x4 .f32 := m ((c.tc : Thread nD τ).loc main_arg4)
abbrev a5 : IVec S8x32 32 := m ((c.tc : Thread nD τ).loc main_arg5)

/-- A row apart into its image and anchor. -/
theorem row_split (r : Fin 524288) : r.val / 65536 * 65536 + r.val % 65536 = r.val := by omega

theorem W1_v0 : W1 m c main_v0 = transpose S4x65536 [1, 0] (a3 m c) transposes_S65536x4_S4x65536_1_0 := by
  show StableHlo.after hostOps0 _ (Proc.devRef .tc main_v0) = _
  after_results

theorem W1_v1 : W1 m c main_v1 = transpose S8x4x65536 [0, 2, 1] (a1 m c) transposes_S8x65536x4_S8x4x65536_0_2_1 := by
  show StableHlo.after hostOps0 _ (Proc.devRef .tc main_v1) = _
  after_results

theorem W1_v2 : W1 m c main_v2 = shapeCast S8x32x1 (a5 m c) shapeCasts_S8x32_S8x32x1 := by
  show StableHlo.after hostOps0 _ (Proc.devRef .tc main_v2) = _
  after_results
  rfl

theorem W1_v4 : W1 m c main_v4 = shapeCast S8x1x65536 (uitofp (F := Ideal) .f32 (a2 m c)) shapeCasts_S8x65536_S8x1x65536 := by
  show StableHlo.after hostOps0 _ (Proc.devRef .tc main_v4) = _
  after_results
  rfl

theorem W4_v7 : W4 m c main_v7 = shapeCast S524288x80 (W3 m c main_arg0 : FVec Ideal S8x65536x80 .f32) shapeCasts_S8x65536x80_S524288x80 := by
  show StableHlo.after hostOps2 _ (Proc.devRef .tc main_v7) = _
  after_results
  rfl

theorem W4_v8 : W4 m c main_v8 = shapeCast S524288x1 (W3 m c main_v6_0 : IVec S8x1x65536 32) shapeCasts_S8x1x65536_S524288x1 := by
  show StableHlo.after hostOps2 _ (Proc.devRef .tc main_v8) = _
  after_results
  rfl

theorem W4_v9 : W4 m c main_v9 = shapeCast S524288x1 (W3 m c main_v6_1 : FVec Ideal S8x1x65536 .f32) shapeCasts_S8x1x65536_S524288x1 := by
  show StableHlo.after hostOps2 _ (Proc.devRef .tc main_v9) = _
  after_results
  rfl

theorem W4_v11 : W4 m c main_v11 = shapeCast S2 (extractStridedSlice S1x2 ![0, 0] (W3 m c main_v6_2 : FVec Ideal S1x128 .f32) slices_S1x128_S1x2_0_0) shapeCasts_S1x2_S2 := by
  show StableHlo.after hostOps2 _ (Proc.devRef .tc main_v11) = _
  after_results
  rfl

theorem W6_v14 : W6 m c main_v14 = shapeCast S_ (extractStridedSlice S1x1 ![0, 0] (W5 m c main_v12 : FVec Ideal S1x128 .f32) slices_S1x128_S1x1_0_0) shapeCasts_S1x1_S_ := by
  show StableHlo.after hostOps3 _ (Proc.devRef .tc main_v14) = _
  after_results
  rfl

theorem W6_v16 : W6 m c main_v16 = shapeCast S_ (extractStridedSlice S1x1 ![0, 1] (W5 m c main_v12 : FVec Ideal S1x128 .f32) slices_S1x128_S1x1_0_1) shapeCasts_S1x1_S_ := by
  show StableHlo.after hostOps3 _ (Proc.devRef .tc main_v16) = _
  after_results
  rfl

theorem W6_v18 : W6 m c main_v18 = shapeCast S_ (extractStridedSlice S1x1 ![0, 2] (W5 m c main_v12 : FVec Ideal S1x128 .f32) slices_S1x128_S1x1_0_2) shapeCasts_S1x1_S_ := by
  show StableHlo.after hostOps3 _ (Proc.devRef .tc main_v18) = _
  after_results
  rfl

theorem anchors_at (q : Fin 4) (j : Fin 65536) : (W1 m c main_v0 : FVec Ideal S4x65536 .f32) (ix2 q j) = a3 m c (ix2 j q) := by
  rw [W1_v0]
  exact transpose_apply _ _ _ _ _ fun k => match k with | ⟨0, _⟩ => rfl | ⟨1, _⟩ => rfl

theorem boxes_at (b : Fin 8) (q : Fin 4) (j : Fin 65536) : (W1 m c main_v1 : FVec Ideal S8x4x65536 .f32) (ix3 b q j) = a1 m c (ix3 b j q) := by
  rw [W1_v1]
  exact transpose_apply _ _ _ _ _ fun k => match k with | ⟨0, _⟩ => rfl | ⟨1, _⟩ => rfl | ⟨2, _⟩ => rfl

theorem classes_at (b : Fin 8) (n : Fin 32) : (W1 m c main_v2 : IVec S8x32x1 32) (ix3 b n 0) = a5 m c (ix2 b n) := by
  rw [W1_v2]
  exact shapeCast_apply _ _ _ _ (by
    rw [Shape.rowMajor_val_three, Shape.rowMajor_val_two]
    show b.val * 32 + n.val = (b.val * 32 + n.val) * 1 + 0; omega)

theorem mask_at (b : Fin 8) (j : Fin 65536) :
    (W1 m c main_v4 : FVec Ideal S8x1x65536 .f32) (ix3 b 0 j) = FloatOps.uitofp (F := Ideal) FTy.f32 (a2 m c (ix2 b j)) := by
  rw [W1_v4]
  exact shapeCast_apply _ _ _ (ix2 b j) (by
    rw [Shape.rowMajor_val_three, Shape.rowMajor_val_two]
    show b.val * 65536 + j.val = (b.val * 1 + 0) * 65536 + j.val; omega)

theorem logits_at (r : Fin 524288) (l : Fin 80) : (W4 m c main_v7 : FVec Ideal S524288x80 .f32) (ix2 r l) = a0 m c (ix3 (rb r) (rj r) l) := by
  have e : (W3 m c main_arg0 : FVec Ideal S8x65536x80 .f32) = a0 m c := by
    rw [W3_of m c main_arg0 (by decide), W2_of m c main_arg0 (by decide), W1_of m c main_arg0 (by decide)]
  rw [W4_v7, e]
  exact shapeCast_apply _ _ _ (ix3 (rb r) (rj r) l) (by
    rw [Shape.rowMajor_val_three, Shape.rowMajor_val_two]
    show (r.val / 65536 * 65536 + r.val % 65536) * 80 + l.val = r.val * 80 + l.val
    rw [row_split])

theorem tc_at (r : Fin 524288) : (W4 m c main_v8 : IVec S524288x1 32) (ix2 r 0) = (W3 m c main_v6_0 : IVec S8x1x65536 32) (ix3 (rb r) 0 (rj r)) := by
  rw [W4_v8]
  exact shapeCast_apply _ _ _ (ix3 (rb r) 0 (rj r)) (by
    rw [Shape.rowMajor_val_three, Shape.rowMajor_val_two]
    show (r.val / 65536 * 1 + 0) * 65536 + r.val % 65536 = r.val * 1 + 0; omega)

theorem valid_at (r : Fin 524288) : (W4 m c main_v9 : FVec Ideal S524288x1 .f32) (ix2 r 0) = (W3 m c main_v6_1 : FVec Ideal S8x1x65536 .f32) (ix3 (rb r) 0 (rj r)) := by
  rw [W4_v9]
  exact shapeCast_apply _ _ _ (ix3 (rb r) 0 (rj r)) (by
    rw [Shape.rowMajor_val_three, Shape.rowMajor_val_two]
    show (r.val / 65536 * 1 + 0) * 65536 + r.val % 65536 = r.val * 1 + 0; omega)

theorem sums_at0 : (W4 m c main_v11 : FVec Ideal S2 .f32) (ix1 0) = (W3 m c main_v6_2 : FVec Ideal S1x128 .f32) (ix2 0 0) := by
  rw [W4_v11]
  generalize (W3 m c main_v6_2 : FVec Ideal S1x128 .f32) = y
  refine (shapeCast_apply _ _ _ (ix2 0 0) (by rw [Shape.rowMajor_val_one, Shape.rowMajor_val_two]; rfl)).trans ?_
  exact congrArg y (funext fun a => by fin_cases a <;> rfl)

theorem sums_at1 : (W4 m c main_v11 : FVec Ideal S2 .f32) (ix1 1) = (W3 m c main_v6_2 : FVec Ideal S1x128 .f32) (ix2 0 1) := by
  rw [W4_v11]
  generalize (W3 m c main_v6_2 : FVec Ideal S1x128 .f32) = y
  refine (shapeCast_apply _ _ _ (ix2 0 1) (by rw [Shape.rowMajor_val_one, Shape.rowMajor_val_two]; rfl)).trans ?_
  exact congrArg y (funext fun a => by fin_cases a <;> rfl)

theorem res0_at (i : S_.Idx) : (W6 m c main_v14 : FVec Ideal S_ .f32) i = (W5 m c main_v12 : FVec Ideal S1x128 .f32) (ix2 0 0) := by
  rw [W6_v14]
  generalize (W5 m c main_v12 : FVec Ideal S1x128 .f32) = y
  obtain rfl : i = ix0 := funext fun a => a.elim0
  refine (shapeCast_apply _ _ _ (ix2 0 0) (by rw [Shape.rowMajor_val_two]; exact (Shape.rowMajorPi_zero _ _).symm)).trans ?_
  exact congrArg y (funext fun a => by fin_cases a <;> rfl)

theorem res1_at (i : S_.Idx) : (W6 m c main_v16 : FVec Ideal S_ .f32) i = (W5 m c main_v12 : FVec Ideal S1x128 .f32) (ix2 0 1) := by
  rw [W6_v16]
  generalize (W5 m c main_v12 : FVec Ideal S1x128 .f32) = y
  obtain rfl : i = ix0 := funext fun a => a.elim0
  refine (shapeCast_apply _ _ _ (ix2 0 0) (by rw [Shape.rowMajor_val_two]; exact (Shape.rowMajorPi_zero _ _).symm)).trans ?_
  exact congrArg y (funext fun a => by fin_cases a <;> rfl)

theorem res2_at (i : S_.Idx) : (W6 m c main_v18 : FVec Ideal S_ .f32) i = (W5 m c main_v12 : FVec Ideal S1x128 .f32) (ix2 0 2) := by
  rw [W6_v18]
  generalize (W5 m c main_v12 : FVec Ideal S1x128 .f32) = y
  obtain rfl : i = ix0 := funext fun a => a.elim0
  refine (shapeCast_apply _ _ _ (ix2 0 0) (by rw [Shape.rowMajor_val_two]; exact (Shape.rowMajorPi_zero _ _).symm)).trans ?_
  exact congrArg y (funext fun a => by fin_cases a <;> rfl)

end Cert.KernelIdeal.Whole

end
-- ==== Proof.RefTotal.lean ====
/-
  The reference's three results as sums over images and anchors.
-/
module

public import proofs.«01_k».proof.Proof.RefRows

@[expose] public section

set_option maxRecDepth 16384

noncomputable section

namespace Cert.RefSide

open Idealize.ShloMosaic Idealize.ShloMosaic.TcCoe Cert.ReferenceIdeal Cert.ReferenceIdeal.Gen Cert.ReferenceIdeal.Read Cert.Spec

/-- Counting by words: as many ones as there are entries with the property. -/
theorem fold_count {ι : Type} [DecidableEq ι] (s : Finset ι) (l : ι → BitVec 32) :
    s.fold IntOp.addi 0#32 (fun i => BitVec.setWidth 32 (if l i = 1#32 then 1#1 else 0#1 : BitVec 1)) = BitVec.ofNat 32 (s.filter fun i => l i = 1#32).card := by
  induction s using Finset.induction_on with
  | empty => rfl
  | insert a s ha ih =>
    rw [Finset.fold_insert ha, ih, Finset.filter_insert]
    by_cases h : l a = 1#32
    · rw [if_pos h, if_pos h, Finset.card_insert_of_notMem (fun hm => ha (Finset.mem_filter.mp hm).1)]
      show (BitVec.setWidth 32 1#1) + _ = _
      rw [BitVec.ofNat_add, BitVec.add_comm]
      rfl
    · rw [if_neg h, if_neg h]
      show (BitVec.setWidth 32 0#1) + _ = _
      rw [show BitVec.setWidth 32 0#1 = 0#32 from rfl, BitVec.zero_add]

/-- The same count as a sum of numbers. -/
theorem sum_count {ι : Type} [DecidableEq ι] (s : Finset ι) (l : ι → BitVec 32) :
    ∑ i ∈ s, fgw (l i) = (((s.filter fun i => l i = 1#32).card : ℝ) : EReal) := by
  induction s using Finset.induction_on with
  | empty => simp
  | insert a s ha ih =>
    rw [Finset.sum_insert ha, ih, Finset.filter_insert]
    unfold fgw
    by_cases h : l a = 1#32
    · rw [if_pos h, if_pos h, Finset.card_insert_of_notMem (fun hm => ha (Finset.mem_filter.mp hm).1)]
      rw [Nat.cast_add, Nat.cast_one, EReal.coe_add, EReal.coe_one, add_comm]
    · rw [if_neg h, if_neg h, zero_add]

/-- The places of a row. -/
def rowEquiv : Fin 524288 ≃ S524288.Idx where
  toFun r := ix1 r
  invFun i := i 0
  left_inv _ := rfl
  right_inv i := funext fun a => by
    obtain rfl : a = 0 := Subsingleton.elim _ _
    rfl

/-- A reduction of one row of words, entry by entry. -/
theorem reduce_row {α : Type} (f : α → α → α) [Std.Commutative f] [Std.Associative f] (x : S524288.Idx → α) (init : S_.Idx → α) (i : S_.Idx) :
    Host.reduce f x init reducesTo_S524288_S_d0 h_S_ i = Finset.univ.fold f (init ix0) (fun r : Fin 524288 => x (ix1 r)) := by
  have e : Shape.Idx.first h_S_ = ix0 := funext fun a => a.elim0
  have hu : (Finset.univ.filter fun k : S524288.Idx => (reducesTo_S524288_S_d0).drop k = i) = Finset.univ.map rowEquiv.toEmbedding := by
    rw [Finset.map_univ_equiv]
    exact Finset.filter_true_of_mem fun k _ => funext fun a => a.elim0
  rw [Host.reduce_eq_fold, e, hu, Finset.fold_map]
  rfl

variable (x0 : FVec Ideal S8x65536x80 .f32) (x1 : FVec Ideal S8x65536x4 .f32) (x2 : IVec S8x65536 1)
  (x3 : FVec Ideal S65536x4 .f32) (x4 : FVec Ideal S8x32x4 .f32) (x5 : IVec S8x32 32)

/-- All classes are class numbers. -/
def AllInRange : Prop := ∀ b n, InRange (x5 (ix2 b n))

/-- The number of foreground anchors. -/
theorem v104_eq (h : AllInRange x5) (i : S_.Idx) : val_main_v104 (F := Ideal) x3 x4 x5 i = ∑ r : Fin 524288, fgw (rl x3 x4 r) := by
  rw [val_main_v104_apply]
  unfold val_main_v103
  rw [reduce_row IntOp.addi]
  have e : (fun r : Fin 524288 => val_main_v102 (F := Ideal) x3 x4 x5 (ix1 r)) = fun r => BitVec.setWidth 32 (if rl x3 x4 r = 1#32 then 1#1 else 0#1 : BitVec 1) :=
    funext fun r => by
      rw [val_main_v102_apply, v101_eq x3 x4 x5 r (h _ _)]
  rw [e, show val_main_c_20 (F := Ideal) ix0 = 0#32 from rfl, fold_count, sum_count]
  have hc : (Finset.univ.filter fun r : Fin 524288 => rl x3 x4 r = 1#32).card ≤ 524288 :=
    (Finset.card_le_univ _).trans (by rw [Fintype.card_fin])
  generalize (Finset.univ.filter fun r : Fin 524288 => rl x3 x4 r = 1#32).card = k at hc ⊢
  show (((BitVec.ofNat 32 k).toInt : ℝ) : EReal) = ((k : ℝ) : EReal)
  rw [toInt_ofNat k (by omega), Int.cast_natCast]

/-- The divisor. -/
def den (n : EReal) : EReal := max n (Ideal.ofBits .f32 1065353216#32)

theorem v105_eq (h : AllInRange x5) (i : S_.Idx) : val_main_v105 (F := Ideal) x3 x4 x5 i = den (∑ r : Fin 524288, fgw (rl x3 x4 r)) := by
  rw [val_main_v105_apply, v104_eq x3 x4 x5 h]
  rfl

/-- The classification loss before division. -/
def focalR : EReal := ∑ r : Fin 524288, ∑ l : Fin 80,
  Cert.Focal.referenceTerm (tcw (rl x3 x4 r) (rk x3 x4 x5 r) = BitVec.ofNat 32 l.val) (1 / 4 : ℝ) (3 / 4 : ℝ) (2 : ℝ)
    (x0 (ix3 (rb r) (rj r) l)) (validw (rl x3 x4 r) (FloatOps.uitofp (F := Ideal) FTy.f32 (x2 (ix2 (rb r) (rj r)))))

/-- The box loss before division. -/
def boxR : EReal := ∑ r : Fin 524288,
  boxw (rl x3 x4 r) (fun q => x1 (ix3 (rb r) (rj r) q)) (fun q => x4 (ix3 (rb r) (whoR x3 x4 (rb r) (rj r)) q))

theorem v155_eq (h : AllInRange x5) (i : S_.Idx) : val_main_v155 (F := Ideal) x0 x2 x3 x4 x5 i = focalR x0 x2 x3 x4 x5 := by
  unfold focalR
  simp only [← v154_eq x0 x2 x3 x4 x5 _ _ (h _ _)]
  unfold val_main_v155
  generalize val_main_v154 (F := Ideal) x0 x2 x3 x4 x5 = y
  pointwise [val_main_cst_35]

theorem v215_eq (h : AllInRange x5) (i : S_.Idx) : val_main_v215 (F := Ideal) x1 x3 x4 x5 i = boxR x1 x3 x4 := by
  unfold boxR
  simp only [← v214_eq x1 x3 x4 x5 _ (h _ _)]
  unfold val_main_v215
  generalize val_main_v214 (F := Ideal) x1 x3 x4 x5 = y
  pointwise [val_main_cst_39]

/-- The three results. -/
theorem labels_eq (h : AllInRange x5) (i : S_.Idx) :
    val_main_v156 (F := Ideal) x0 x2 x3 x4 x5 i = Ideal.div (focalR x0 x2 x3 x4 x5) (den (∑ r : Fin 524288, fgw (rl x3 x4 r))) := by
  rw [val_main_v156_apply, v155_eq x0 x2 x3 x4 x5 h, v105_eq x3 x4 x5 h]
  rfl

theorem boxes_eq (h : AllInRange x5) (i : S_.Idx) :
    val_main_v216 (F := Ideal) x1 x3 x4 x5 i = Ideal.div (boxR x1 x3 x4) (den (∑ r : Fin 524288, fgw (rl x3 x4 r))) := by
  rw [val_main_v216_apply, v215_eq x1 x3 x4 x5 h, v105_eq x3 x4 x5 h]
  rfl

theorem one_eq : Ideal.ofBits .f32 1065353216#32 = (1 : EReal) := by
  simp [Ideal.ofBits, Ideal.ieee]; rw [← EReal.coe_mul, ← EReal.coe_one]; congr 1; norm_num

theorem total_eq (h : AllInRange x5) (i : S_.Idx) :
    val_main_v219 (F := Ideal) x0 x1 x2 x3 x4 x5 i
      = Ideal.div (focalR x0 x2 x3 x4 x5) (den (∑ r : Fin 524288, fgw (rl x3 x4 r))) + Ideal.div (boxR x1 x3 x4) (den (∑ r : Fin 524288, fgw (rl x3 x4 r))) := by
  rw [val_main_v219_apply, val_main_v217_apply, val_main_v218_apply, labels_eq x0 x2 x3 x4 x5 h, boxes_eq x1 x3 x4 x5 h]
  show Ideal.ofBits .f32 1065353216#32 * _ + Ideal.ofBits .f32 1065353216#32 * _ = _
  rw [one_eq, one_mul, one_mul]

end Cert.RefSide

end
-- ==== Proof.PreFit.lean ====
/-
  What the precondition says: every ground truth has only one best anchor, and every class is a class number.
-/
module

public import proofs.«01_k».proof.Proof.RefTotal
public import proofs.«01_k».proof.Proof.Gen.Pre_targets_fit

@[expose] public section

set_option maxRecDepth 16384

noncomputable section

namespace Cert.RefSide

open Idealize.ShloMosaic Idealize.ShloMosaic.TcCoe Cert.ReferenceIdeal Cert.ReferenceIdeal.Gen Cert.ReferenceIdeal.Read Cert.Spec

variable (x0 : FVec Ideal S8x65536x80 .f32) (x1 : FVec Ideal S8x65536x4 .f32) (x2 : IVec S8x65536 1)
  (x3 : FVec Ideal S65536x4 .f32) (x4 : FVec Ideal S8x32x4 .f32) (x5 : IVec S8x32 32)

/-- The anchors' numbers where they are a ground truth's best, else a fixed word. -/
def places (w : BitVec 32) : IVec S8x32x65536 32 :=
  Cert.Pre_targets_fit.fn_where (F := Ideal) (val_main_v70 (F := Ideal) x3 x4) (iotaInDim S65536 32 0) (constantI S_ 32 w)

theorem fit_eq : Cert.Pre_targets_fit.fn (F := Ideal) x0 x1 x2 x3 x4 x5
    = Cert.Pre_targets_fit.fn_part3 (F := Ideal) x5
        (cmpi .eq (Host.reduce IntOp.minsi (places x3 x4 65536#32) (constantI S_ 32 2147483647#32) reducesTo_S8x32x65536_S8x32_d2 h_S_)
          (Host.reduce IntOp.maxsi (places x3 x4 4294967295#32) (constantI S_ 32 2147483648#32) reducesTo_S8x32x65536_S8x32_d2 h_S_))
        (cmpi .sge x5 (broadcastInDim S8x32 ![] Cert.Pre_targets_fit.Gen.bcast_S_S8x32 (constantI S_ 32 0#32))) := rfl

theorem places_eq (w : BitVec 32) (b : Fin 8) (n : Fin 32) (j : Fin 65536) :
    places x3 x4 w (ix3 b n j) = if ovR x3 x4 b n j = top (fun j => ovR x3 x4 b n j) then BitVec.ofNat 32 j.val else w := by
  have e : places x3 x4 w (ix3 b n j) = Scalar.select (val_main_v70 (F := Ideal) x3 x4 (ix3 b n j)) (BitVec.ofNat 32 j.val) w := by
    pointwise [places, Cert.Pre_targets_fit.fn_where]
    try rfl
  rw [e, v70_eq]
  by_cases h : ovR x3 x4 b n j = top (fun j => ovR x3 x4 b n j)
  · rw [if_pos h, decide_eq_true h]; rfl
  · rw [if_neg h, decide_eq_false h]; rfl

theorem and_one : ∀ a b : BitVec 1, IntOp.andi a b = 1#1 → a = 1#1 ∧ b = 1#1 := by decide

theorem ofBool_one {p : Bool} (h : BitVec.ofBool p = 1#1) : p = true := by
  cases p
  · exact absurd h (by decide)
  · rfl

/-- What holds where the precondition does. -/
theorem fit_facts (h : Cert.Pre_targets_fit.fn (F := Ideal) x0 x1 x2 x3 x4 x5 = fun _ => 1#1) :
    AllInRange x5 ∧ ∀ (b : Fin 8) (n : Fin 32) (j j' : Fin 65536),
      ovR x3 x4 b n j = top (fun j => ovR x3 x4 b n j) → ovR x3 x4 b n j' = top (fun j => ovR x3 x4 b n j) → j = j' := by
  rw [fit_eq] at h
  have hb : ∀ (b : Fin 8) (n : Fin 32),
      (Host.reduce IntOp.minsi (places x3 x4 65536#32) (constantI S_ 32 2147483647#32) reducesTo_S8x32x65536_S8x32_d2 h_S_ (ix2 b n)
        = Host.reduce IntOp.maxsi (places x3 x4 4294967295#32) (constantI S_ 32 2147483648#32) reducesTo_S8x32x65536_S8x32_d2 h_S_ (ix2 b n))
      ∧ InRange (x5 (ix2 b n)) := by
    intro b n
    have hn := congrFun h (ix2 b n)
    have hn' : IntOp.andi (IntOp.andi
        (IntOp.cmpi .eq (Host.reduce IntOp.minsi (places x3 x4 65536#32) (constantI S_ 32 2147483647#32) reducesTo_S8x32x65536_S8x32_d2 h_S_ (ix2 b n))
          (Host.reduce IntOp.maxsi (places x3 x4 4294967295#32) (constantI S_ 32 2147483648#32) reducesTo_S8x32x65536_S8x32_d2 h_S_ (ix2 b n)))
        (IntOp.cmpi .sge (x5 (ix2 b n)) 0#32)) (IntOp.cmpi .slt (x5 (ix2 b n)) 80#32) = 1#1 := hn
    obtain ⟨h1, h2⟩ := and_one _ _ hn'
    obtain ⟨h3, h4⟩ := and_one _ _ h1
    refine ⟨eq_of_beq (ofBool_one h3), ?_⟩
    have h5 : (x5 (ix2 b n)).slt 80#32 = true := ofBool_one h2
    have h6 : (0#32 : BitVec 32).sle (x5 (ix2 b n)) = true := ofBool_one h4
    rw [BitVec.slt_eq_decide, decide_eq_true_eq] at h5
    rw [BitVec.sle_eq_decide, decide_eq_true_eq] at h6
    have e80 : (80#32 : BitVec 32).toInt = 80 := by decide
    have e0 : (0#32 : BitVec 32).toInt = 0 := by decide
    rw [e80] at h5
    rw [e0] at h6
    unfold InRange
    rw [BitVec.toInt_eq_toNat_cond] at h5 h6
    split at h5 <;> omega
  refine ⟨fun b n => (hb b n).2, fun b n j j' hj hj' => ?_⟩
  have h1 := (hb b n).1
  rw [reduce_anchor IntOp.minsi, reduce_anchor IntOp.maxsi] at h1
  simp only [places_eq] at h1
  exact unique_of_first_last (by decide) (fun j => ovR x3 x4 b n j) _ _ _ _ _ h1 j j' hj hj'

end Cert.RefSide

end
-- ==== Proof.Region0.Pieces.lean ====
/-
  Region 0 of the kernel, the matching call: the values its body leaves at a grid point, in the body's named payloads.
-/
module

public import proofs.«01_k».proof.Proof.Region0.Body
public import Idealize.ShloMosaic.Lib.Pointwise
public import Idealize.ShloMosaic.Lib.Pipeline.Value
@[expose] public section

noncomputable section
namespace Cert.KernelIdeal.Region0
open Cert.KernelIdeal Cert.KernelIdeal.Gen Idealize.ShloMosaic Idealize.ShloMosaic.TcCoe Idealize.SL.Sem
open Idealize.ShloMosaic.Pipeline (Dat)
variable {F : FTy → Type} [FloatOps F]

theorem hz1 : (![0] : Fin 1 → Nat) = fun _ => 0 := funext fun a => by fin_cases a; rfl
theorem hz2 : (![0, 0] : Fin 2 → Nat) = fun _ => 0 := funext fun a => by fin_cases a <;> rfl
theorem hz3 : (![0, 0, 0] : Fin 3 → Nat) = fun _ => 0 := funext fun a => by fin_cases a <;> rfl

theorem out_A_2 (c : Dev nD) (i : grid0.Coords) (arg2 : Memref sig .tc .vmem S4x16384 .f32) (harg2 : arg2.IsWhole) (arg3 : Memref sig .tc .vmem S1x32x4 .f32) (harg3 : arg3.IsWhole) (arg4 : Memref sig .tc .vmem S1x1x16384 .f32) (harg4 : arg4.IsWhole) (arg5 : Memref sig .tc .vmem S1x1x16384 .i32) (harg5 : arg5.IsWhole) (arg6 : Memref sig .tc .vmem S1x32x1 .f32) (harg6 : arg6.IsWhole) (arg7 : Memref sig .tc .vmem S1x32x1 .i32) (harg7 : arg7.IsWhole) (hc0 : cond0_0 i) (hc1 : ¬cond0_1 i)
    (x0 : Vec F S4x16384 .f32) (x1 : Vec F S1x32x4 .f32) :
    out0_A_2 c i arg2 harg2 arg3 harg3 arg4 harg4 arg5 harg5 arg6 harg6 arg7 harg7 hc0 hc1 x0 x1 = k0_pay1 (k0_pay12 x0 x1) := by
  unfold out0_A_2
  rw [View.read_writes_eq_canon _ _ _ (cover0_A_2 c i arg2 harg2 arg3 harg3 arg4 harg4 arg5 harg5 arg6 harg6 arg7 harg7 hc0 hc1 x0 x1)]
  unfold kernelRun0_A
  dsimp only
  sl_unfold_words
  rw [View.canon_unit_zero hz3]
  simp only [View.readAt_eq_ld, harg2.read_unread, harg3.read_unread, harg4.read_unread, harg5.read_unread, harg6.read_unread, harg7.read_unread, View.ld_unit_zero (S := S4x16384) hz2, View.ld_unit_zero (S := S1x32x4) hz3, View.ld_unit_zero (S := S1x32x1) hz3, View.ld_unit_zero (S := S1x1x16384) hz3, shapeCast_self]
  try rfl

theorem out_A_3 (c : Dev nD) (i : grid0.Coords) (arg2 : Memref sig .tc .vmem S4x16384 .f32) (harg2 : arg2.IsWhole) (arg3 : Memref sig .tc .vmem S1x32x4 .f32) (harg3 : arg3.IsWhole) (arg4 : Memref sig .tc .vmem S1x1x16384 .f32) (harg4 : arg4.IsWhole) (arg5 : Memref sig .tc .vmem S1x1x16384 .i32) (harg5 : arg5.IsWhole) (arg6 : Memref sig .tc .vmem S1x32x1 .f32) (harg6 : arg6.IsWhole) (arg7 : Memref sig .tc .vmem S1x32x1 .i32) (harg7 : arg7.IsWhole) (hc0 : cond0_0 i) (hc1 : ¬cond0_1 i)
    (x0 : Vec F S4x16384 .f32) (x1 : Vec F S1x32x4 .f32) :
    out0_A_3 c i arg2 harg2 arg3 harg3 arg4 harg4 arg5 harg5 arg6 harg6 arg7 harg7 hc0 hc1 x0 x1 = k0_pay2 (k0_pay13 x0 x1) := by
  unfold out0_A_3
  rw [View.read_writes_eq_canon _ _ _ (cover0_A_3 c i arg2 harg2 arg3 harg3 arg4 harg4 arg5 harg5 arg6 harg6 arg7 harg7 hc0 hc1 x0 x1)]
  unfold kernelRun0_A
  dsimp only
  sl_unfold_words
  rw [View.canon_unit_zero hz3]
  simp only [View.readAt_eq_ld, harg2.read_unread, harg3.read_unread, harg4.read_unread, harg5.read_unread, harg6.read_unread, harg7.read_unread, View.ld_unit_zero (S := S4x16384) hz2, View.ld_unit_zero (S := S1x32x4) hz3, View.ld_unit_zero (S := S1x32x1) hz3, View.ld_unit_zero (S := S1x1x16384) hz3, shapeCast_self]
  try rfl

theorem out_B_2 (c : Dev nD) (i : grid0.Coords) (arg2 : Memref sig .tc .vmem S4x16384 .f32) (harg2 : arg2.IsWhole) (arg3 : Memref sig .tc .vmem S1x32x4 .f32) (harg3 : arg3.IsWhole) (arg4 : Memref sig .tc .vmem S1x1x16384 .f32) (harg4 : arg4.IsWhole) (arg5 : Memref sig .tc .vmem S1x1x16384 .i32) (harg5 : arg5.IsWhole) (arg6 : Memref sig .tc .vmem S1x32x1 .f32) (harg6 : arg6.IsWhole) (arg7 : Memref sig .tc .vmem S1x32x1 .i32) (harg7 : arg7.IsWhole) (hc0 : ¬cond0_0 i) (hc1 : cond0_1 i)
    (x0 : Vec F S4x16384 .f32) (x1 : Vec F S1x32x4 .f32) (xo4 : Vec F S1x32x1 .f32) (xo5 : Vec F S1x32x1 .i32) :
    out0_B_2 c i arg2 harg2 arg3 harg3 arg4 harg4 arg5 harg5 arg6 harg6 arg7 harg7 hc0 hc1 x0 x1 xo4 xo5 = k0_pay1 (k0_pay12 x0 x1) := by
  unfold out0_B_2
  rw [View.read_writes_eq_canon _ _ _ (cover0_B_2 c i arg2 harg2 arg3 harg3 arg4 harg4 arg5 harg5 arg6 harg6 arg7 harg7 hc0 hc1 x0 x1 xo4 xo5)]
  unfold kernelRun0_B
  dsimp only
  sl_unfold_words
  rw [View.canon_unit_zero hz3]
  simp only [View.readAt_eq_ld, harg2.read_unread, harg3.read_unread, harg4.read_unread, harg5.read_unread, harg6.read_unread, harg7.read_unread, View.ld_unit_zero (S := S4x16384) hz2, View.ld_unit_zero (S := S1x32x4) hz3, View.ld_unit_zero (S := S1x32x1) hz3, View.ld_unit_zero (S := S1x1x16384) hz3, shapeCast_self]
  try rfl

theorem out_B_3 (c : Dev nD) (i : grid0.Coords) (arg2 : Memref sig .tc .vmem S4x16384 .f32) (harg2 : arg2.IsWhole) (arg3 : Memref sig .tc .vmem S1x32x4 .f32) (harg3 : arg3.IsWhole) (arg4 : Memref sig .tc .vmem S1x1x16384 .f32) (harg4 : arg4.IsWhole) (arg5 : Memref sig .tc .vmem S1x1x16384 .i32) (harg5 : arg5.IsWhole) (arg6 : Memref sig .tc .vmem S1x32x1 .f32) (harg6 : arg6.IsWhole) (arg7 : Memref sig .tc .vmem S1x32x1 .i32) (harg7 : arg7.IsWhole) (hc0 : ¬cond0_0 i) (hc1 : cond0_1 i)
    (x0 : Vec F S4x16384 .f32) (x1 : Vec F S1x32x4 .f32) (xo4 : Vec F S1x32x1 .f32) (xo5 : Vec F S1x32x1 .i32) :
    out0_B_3 c i arg2 harg2 arg3 harg3 arg4 harg4 arg5 harg5 arg6 harg6 arg7 harg7 hc0 hc1 x0 x1 xo4 xo5 = k0_pay2 (k0_pay13 x0 x1) := by
  unfold out0_B_3
  rw [View.read_writes_eq_canon _ _ _ (cover0_B_3 c i arg2 harg2 arg3 harg3 arg4 harg4 arg5 harg5 arg6 harg6 arg7 harg7 hc0 hc1 x0 x1 xo4 xo5)]
  unfold kernelRun0_B
  dsimp only
  sl_unfold_words
  rw [View.canon_unit_zero hz3]
  simp only [View.readAt_eq_ld, harg2.read_unread, harg3.read_unread, harg4.read_unread, harg5.read_unread, harg6.read_unread, harg7.read_unread, View.ld_unit_zero (S := S4x16384) hz2, View.ld_unit_zero (S := S1x32x4) hz3, View.ld_unit_zero (S := S1x32x1) hz3, View.ld_unit_zero (S := S1x1x16384) hz3, shapeCast_self]
  try rfl

theorem out_A_4 (c : Dev nD) (i : grid0.Coords) (arg2 : Memref sig .tc .vmem S4x16384 .f32) (harg2 : arg2.IsWhole) (arg3 : Memref sig .tc .vmem S1x32x4 .f32) (harg3 : arg3.IsWhole) (arg4 : Memref sig .tc .vmem S1x1x16384 .f32) (harg4 : arg4.IsWhole) (arg5 : Memref sig .tc .vmem S1x1x16384 .i32) (harg5 : arg5.IsWhole) (arg6 : Memref sig .tc .vmem S1x32x1 .f32) (harg6 : arg6.IsWhole) (arg7 : Memref sig .tc .vmem S1x32x1 .i32) (harg7 : arg7.IsWhole) (hc0 : cond0_0 i) (hc1 : ¬cond0_1 i)
    (x0 : Vec F S4x16384 .f32) (x1 : Vec F S1x32x4 .f32) :
    out0_A_4 c i arg2 harg2 arg3 harg3 arg4 harg4 arg5 harg5 arg6 harg6 arg7 harg7 hc0 hc1 x0 x1 = k0_pay5 (k0_pay11 x0 x1) := by
  unfold out0_A_4
  rw [View.read_writes_eq_canon _ _ _ (cover0_A_4 c i arg2 harg2 arg3 harg3 arg4 harg4 arg5 harg5 arg6 harg6 arg7 harg7 hc0 hc1 x0 x1)]
  unfold kernelRun0_A
  dsimp only
  sl_unfold_words
  rw [View.canon_unit_zero hz3]
  simp only [View.readAt_eq_ld, harg2.read_unread, harg3.read_unread, harg4.read_unread, harg5.read_unread, harg6.read_unread, harg7.read_unread, View.ld_unit_zero (S := S4x16384) hz2, View.ld_unit_zero (S := S1x32x4) hz3, View.ld_unit_zero (S := S1x32x1) hz3, View.ld_unit_zero (S := S1x1x16384) hz3, shapeCast_self]
  try rfl

theorem out_A_5 (c : Dev nD) (i : grid0.Coords) (arg2 : Memref sig .tc .vmem S4x16384 .f32) (harg2 : arg2.IsWhole) (arg3 : Memref sig .tc .vmem S1x32x4 .f32) (harg3 : arg3.IsWhole) (arg4 : Memref sig .tc .vmem S1x1x16384 .f32) (harg4 : arg4.IsWhole) (arg5 : Memref sig .tc .vmem S1x1x16384 .i32) (harg5 : arg5.IsWhole) (arg6 : Memref sig .tc .vmem S1x32x1 .f32) (harg6 : arg6.IsWhole) (arg7 : Memref sig .tc .vmem S1x32x1 .i32) (harg7 : arg7.IsWhole) (hc0 : cond0_0 i) (hc1 : ¬cond0_1 i)
    (x0 : Vec F S4x16384 .f32) (x1 : Vec F S1x32x4 .f32) :
    out0_A_5 c i arg2 harg2 arg3 harg3 arg4 harg4 arg5 harg5 arg6 harg6 arg7 harg7 hc0 hc1 x0 x1 = k0_pay6 (BitVec.ofNat 32 (i 1).val) (k0_pay11 x0 x1) := by
  unfold out0_A_5
  rw [View.read_writes_eq_canon _ _ _ (cover0_A_5 c i arg2 harg2 arg3 harg3 arg4 harg4 arg5 harg5 arg6 harg6 arg7 harg7 hc0 hc1 x0 x1)]
  unfold kernelRun0_A
  dsimp only
  sl_unfold_words
  rw [View.canon_unit_zero hz3]
  simp only [View.readAt_eq_ld, harg2.read_unread, harg3.read_unread, harg4.read_unread, harg5.read_unread, harg6.read_unread, harg7.read_unread, View.ld_unit_zero (S := S4x16384) hz2, View.ld_unit_zero (S := S1x32x4) hz3, View.ld_unit_zero (S := S1x32x1) hz3, View.ld_unit_zero (S := S1x1x16384) hz3, shapeCast_self]
  try rfl

theorem out_B_4 (c : Dev nD) (i : grid0.Coords) (arg2 : Memref sig .tc .vmem S4x16384 .f32) (harg2 : arg2.IsWhole) (arg3 : Memref sig .tc .vmem S1x32x4 .f32) (harg3 : arg3.IsWhole) (arg4 : Memref sig .tc .vmem S1x1x16384 .f32) (harg4 : arg4.IsWhole) (arg5 : Memref sig .tc .vmem S1x1x16384 .i32) (harg5 : arg5.IsWhole) (arg6 : Memref sig .tc .vmem S1x32x1 .f32) (harg6 : arg6.IsWhole) (arg7 : Memref sig .tc .vmem S1x32x1 .i32) (harg7 : arg7.IsWhole) (hc0 : ¬cond0_0 i) (hc1 : cond0_1 i)
    (x0 : Vec F S4x16384 .f32) (x1 : Vec F S1x32x4 .f32) (xo4 : Vec F S1x32x1 .f32) (xo5 : Vec F S1x32x1 .i32) :
    out0_B_4 c i arg2 harg2 arg3 harg3 arg4 harg4 arg5 harg5 arg6 harg6 arg7 harg7 hc0 hc1 x0 x1 xo4 xo5 = k0_pay9 (k0_pay11 x0 x1) xo4 := by
  unfold out0_B_4
  rw [View.read_writes_eq_canon _ _ _ (cover0_B_4 c i arg2 harg2 arg3 harg3 arg4 harg4 arg5 harg5 arg6 harg6 arg7 harg7 hc0 hc1 x0 x1 xo4 xo5)]
  unfold kernelRun0_B
  dsimp only
  sl_unfold_words
  rw [View.canon_unit_zero hz3]
  simp only [View.readAt_eq_ld, harg2.read_unread, harg3.read_unread, harg4.read_unread, harg5.read_unread, harg6.read_unread, harg7.read_unread, View.ld_unit_zero (S := S4x16384) hz2, View.ld_unit_zero (S := S1x32x4) hz3, View.ld_unit_zero (S := S1x32x1) hz3, View.ld_unit_zero (S := S1x1x16384) hz3, shapeCast_self]
  try rfl

theorem out_B_5 (c : Dev nD) (i : grid0.Coords) (arg2 : Memref sig .tc .vmem S4x16384 .f32) (harg2 : arg2.IsWhole) (arg3 : Memref sig .tc .vmem S1x32x4 .f32) (harg3 : arg3.IsWhole) (arg4 : Memref sig .tc .vmem S1x1x16384 .f32) (harg4 : arg4.IsWhole) (arg5 : Memref sig .tc .vmem S1x1x16384 .i32) (harg5 : arg5.IsWhole) (arg6 : Memref sig .tc .vmem S1x32x1 .f32) (harg6 : arg6.IsWhole) (arg7 : Memref sig .tc .vmem S1x32x1 .i32) (harg7 : arg7.IsWhole) (hc0 : ¬cond0_0 i) (hc1 : cond0_1 i)
    (x0 : Vec F S4x16384 .f32) (x1 : Vec F S1x32x4 .f32) (xo4 : Vec F S1x32x1 .f32) (xo5 : Vec F S1x32x1 .i32) :
    out0_B_5 c i arg2 harg2 arg3 harg3 arg4 harg4 arg5 harg5 arg6 harg6 arg7 harg7 hc0 hc1 x0 x1 xo4 xo5 = k0_pay10 (BitVec.ofNat 32 (i 1).val) (k0_pay11 x0 x1) xo4 xo5 := by
  unfold out0_B_5
  rw [View.read_writes_eq_canon _ _ _ (cover0_B_5 c i arg2 harg2 arg3 harg3 arg4 harg4 arg5 harg5 arg6 harg6 arg7 harg7 hc0 hc1 x0 x1 xo4 xo5)]
  unfold kernelRun0_B
  dsimp only
  sl_unfold_words
  rw [View.canon_unit_zero hz3]
  simp only [View.readAt_eq_ld, harg2.read_unread, harg3.read_unread, harg4.read_unread, harg5.read_unread, harg6.read_unread, harg7.read_unread, View.ld_unit_zero (S := S4x16384) hz2, View.ld_unit_zero (S := S1x32x4) hz3, View.ld_unit_zero (S := S1x32x1) hz3, View.ld_unit_zero (S := S1x1x16384) hz3, shapeCast_self]
  try rfl

end Cert.KernelIdeal.Region0

end
-- ==== Proof.Region0.Entries.lean ====
/- The matching call's named payloads, entry by entry over the extended reals. -/
module

public import proofs.«01_k».proof.Proof.Gen.KernelIdeal.Skeleton
public import proofs.«01_k».proof.Proof.Spec

@[expose] public section

set_option maxRecDepth 16384

noncomputable section

namespace Cert.KernelIdeal.Region0

open Cert.KernelIdeal Cert.KernelIdeal.Gen Idealize.ShloMosaic Idealize.ShloMosaic.TcCoe Cert.Spec

/-- The block of overlaps. -/
theorem pay11_apply (x0 : Vec Ideal S4x16384 .f32) (x1 : Vec Ideal S1x32x4 .f32) (n : Fin 32) (r : Fin 16384) :
    k0_pay11 (F := Ideal) x0 x1 (ix2 n r) = iou (fun q => x1 (ix3 0 n q)) (fun q => x0 (ix2 q r)) := by
  pointwise [k0_pay11]
  rfl

/-- Each anchor's largest overlap. -/
theorem pay1_apply (x0 : Vec Ideal S4x16384 .f32) (x1 : Vec Ideal S1x32x4 .f32) (r : Fin 16384) :
    k0_pay1 (F := Ideal) (k0_pay12 x0 x1) (ix3 0 0 r) = top (fun n => k0_pay11 (F := Ideal) x0 x1 (ix2 n r)) := by
  pointwise [k0_pay12, k0_pay1]
  rfl

/-- Each anchor's match. -/
theorem pay2_apply (x0 : Vec Ideal S4x16384 .f32) (x1 : Vec Ideal S1x32x4 .f32) (r : Fin 16384) :
    k0_pay2 (k0_pay13 (F := Ideal) x0 x1) (ix3 0 0 r) = match32 (fun n => k0_pay11 (F := Ideal) x0 x1 (ix2 n r)) := by
  pointwise [k0_pay13, k0_pay2, k0_pay12]
  rfl

/-- The least anchor of the block `b` at which ground truth `n` reaches its largest overlap in the block. -/
def blockArg (b : BitVec 32) (f : Fin 16384 → EReal) : BitVec 32 :=
  Finset.univ.fold IntOp.minsi (2147483647#32) fun r =>
    if f r = top f then IntOp.addi (BitVec.ofNat 32 r.val) (Scalar.muli b 16384#32) else 1073741824#32

theorem pay5_apply (x : Vec Ideal S32x16384 .f32) (n : Fin 32) :
    k0_pay5 (F := Ideal) x (ix3 0 n 0) = top (fun r => x (ix2 n r)) := by
  pointwise [k0_pay5, k0_pay3]
  rfl

theorem pay6_apply (b : BitVec 32) (x : Vec Ideal S32x16384 .f32) (n : Fin 32) :
    k0_pay6 (F := Ideal) b x (ix3 0 n 0) = blockArg b (fun r => x (ix2 n r)) := by
  pointwise [k0_pay6, k0_pay4, k0_pay3]
  rfl

theorem pay9_apply (x : Vec Ideal S32x16384 .f32) (v : Vec Ideal S1x32x1 .f32) (n : Fin 32) :
    k0_pay9 (F := Ideal) x v (ix3 0 n 0)
      = if v (ix3 0 n 0) < top (fun r => x (ix2 n r)) then top (fun r => x (ix2 n r)) else v (ix3 0 n 0) := by
  pointwise [k0_pay9, k0_pay8, k0_pay7, k0_pay4, k0_pay3]
  rfl

theorem pay10_apply (b : BitVec 32) (x : Vec Ideal S32x16384 .f32) (v : Vec Ideal S1x32x1 .f32) (w : Vec Ideal S1x32x1 .i32) (n : Fin 32) :
    k0_pay10 (F := Ideal) b x v w (ix3 0 n 0)
      = if v (ix3 0 n 0) < top (fun r => x (ix2 n r)) then blockArg b (fun r => x (ix2 n r)) else w (ix3 0 n 0) := by
  pointwise [k0_pay10, k0_pay8, k0_pay7, k0_pay4, k0_pay3]
  rfl

/-- Block `k`'s least index is some anchor of the block that reaches the block's largest overlap. -/
theorem blockArg_eq (k : ℕ) (hk : k < 4) (f : Fin 16384 → EReal) :
    ∃ r : Fin 16384, blockArg (BitVec.ofNat 32 k) f = BitVec.ofNat 32 (k * 16384 + r.val) ∧ f r = top f := by
  have e : ∀ r : Fin 16384, IntOp.addi (BitVec.ofNat 32 r.val) (Scalar.muli (BitVec.ofNat 32 k) 16384#32) = BitVec.ofNat 32 (k * 16384 + r.val) := fun r => by
    show BitVec.ofNat 32 r.val + BitVec.ofNat 32 k * 16384#32 = _
    apply BitVec.eq_of_toNat_eq
    simp only [BitVec.toNat_add, BitVec.toNat_mul, BitVec.toNat_ofNat]
    omega
  unfold blockArg
  simp only [e]
  refine pick f (fun r => BitVec.ofNat 32 (k * 16384 + r.val)) 1073741824#32 2147483647#32 (fun r => ?_) (by decide)
  have : (1073741824#32 : BitVec 32).toInt = 1073741824 := by decide
  rw [this]
  show (BitVec.ofNat 32 (k * 16384 + r.val)).toInt < _
  rw [toInt_ofNat _ (by omega)]
  omega

end Cert.KernelIdeal.Region0

end
-- ==== Proof.Region0.Value.lean ====
/-
  What the matching call leaves at the end, entry by entry: each anchor's largest overlap and match, and for every ground
  truth an anchor at which it reaches its largest overlap.
-/
module

public import proofs.«01_k».proof.Proof.Region0.Pieces
public import proofs.«01_k».proof.Proof.Region0.Entries

@[expose] public section

set_option maxRecDepth 16384

noncomputable section

namespace Cert.KernelIdeal.Region0

open Cert.KernelIdeal Cert.KernelIdeal.Gen Idealize.ShloMosaic Idealize.ShloMosaic.TcCoe Idealize.SL.Sem Cert.Spec
open Idealize.ShloMosaic.Pipeline (Dat)

variable (V : (c : Dev nD) → (b : Ref sig .tc) → Buf (Elt Ideal) ((c : Thread nD τ).loc b))

/-- Grid point `t` is image `t / 4` and block `t % 4` of the anchors. -/
theorem coord1 (t : Fin cfg0.N) : (grid0.coords t 1).val = t.val % 4 :=
  (by decide +kernel : ∀ t : Fin grid0.N, (grid0.coords t 1).val = t.val % 4) t

theorem lt32 (t : Fin cfg0.N) : t.val < 32 := lt_of_lt_of_eq t.isLt N_0

/-- The image of a grid point. -/
def img (t : Fin cfg0.N) : Fin 8 := ⟨t.val / 4, by have := lt32 t; omega⟩

/-- The anchor at place `r` of a grid point's block. -/
def anc (t : Fin cfg0.N) (r : Fin 16384) : Fin 65536 := ⟨t.val % 4 * 16384 + r.val, by omega⟩

/-- The grid point of image `b` whose block holds anchor `j`. -/
def pt (b : Fin 8) (j : Fin 65536) : Fin cfg0.N := ⟨4 * b.val + j.val / 16384, lt_of_lt_of_eq (by omega) N_0.symm⟩

theorem blk0 (c : Dev nD) (t : Fin cfg0.N) (q : Fin 4) (r : Fin 16384) :
    iblk V c 0 t (ix2 q r) = V c main_v0 (ix2 q (anc t r)) := by
  have hi : win0_0.index t 0 = 0 ∧ win0_0.index t 1 = t.val % 4 :=
    (by decide +kernel : ∀ t : Fin grid0.N, win0_0.index t 0 = 0 ∧ win0_0.index t 1 = t.val % 4) t
  unfold iblk
  rw [View.read_apply]
  show V c main_v0 _ = V c main_v0 _
  congr 1
  funext a
  apply Fin.ext
  match a with
  | ⟨0, _⟩ => show win0_0.index t 0 * 4 + 1 * q.val = q.val; rw [hi.1]; omega
  | ⟨1, _⟩ => show win0_0.index t 1 * 16384 + 1 * r.val = t.val % 4 * 16384 + r.val; rw [hi.2]; omega

theorem blk1 (c : Dev nD) (t : Fin cfg0.N) (n : Fin 32) (q : Fin 4) :
    iblk V c 1 t (ix3 0 n q) = V c main_arg4 (ix3 (img t) n q) := by
  have hi : win0_1.index t 0 = t.val / 4 ∧ win0_1.index t 1 = 0 ∧ win0_1.index t 2 = 0 :=
    (by decide +kernel : ∀ t : Fin grid0.N, win0_1.index t 0 = t.val / 4 ∧ win0_1.index t 1 = 0 ∧ win0_1.index t 2 = 0) t
  unfold iblk
  rw [View.read_apply]
  show V c main_arg4 _ = V c main_arg4 _
  congr 1
  funext a
  apply Fin.ext
  match a with
  | ⟨0, _⟩ => show win0_1.index t 0 * 1 + 1 * 0 = t.val / 4; rw [hi.1]; omega
  | ⟨1, _⟩ => show win0_1.index t 1 * 32 + 1 * n.val = n.val; rw [hi.2.1]; omega
  | ⟨2, _⟩ => show win0_1.index t 2 * 4 + 1 * q.val = q.val; rw [hi.2.2]; omega

/-- The overlap of ground truth `n` of image `b` with anchor `j`, from the arrays the call is given. -/
def ov (c : Dev nD) (b : Fin 8) (n : Fin 32) (j : Fin 65536) : EReal :=
  iou (fun q => V c main_arg4 (ix3 b n q)) (fun q => V c main_v0 (ix2 q j))

theorem block_ov (c : Dev nD) (t : Fin cfg0.N) (n : Fin 32) (r : Fin 16384) :
    k0_pay11 (F := Ideal) (iblk V c 0 t) (iblk V c 1 t) (ix2 n r) = ov V c (img t) n (anc t r) := by
  rw [pay11_apply]
  unfold ov
  congr 1
  · funext q; exact blk1 V c t n q
  · funext q; exact blk0 V c t q r

/-! The outputs after a point, by the point's case. -/

theorem mvAt (c : Dev nD) (t : Fin cfg0.N) :
    (outsAt0 V c t.val t.isLt).1 = k0_pay1 (k0_pay12 (F := Ideal) (iblk V c 0 t) (iblk V c 1 t)) := by
  by_cases h0 : t.val % 4 = 0
  · rw [outsAt0_A V c t h0 (by omega)]
    dsimp only
    rw [out_A_2]
  · rw [outsAt0_B V c t h0 (by omega)]
    dsimp only
    rw [out_B_2]

theorem mtAt (c : Dev nD) (t : Fin cfg0.N) :
    (outsAt0 V c t.val t.isLt).2.1 = k0_pay2 (k0_pay13 (F := Ideal) (iblk V c 0 t) (iblk V c 1 t)) := by
  by_cases h0 : t.val % 4 = 0
  · rw [outsAt0_A V c t h0 (by omega)]
    dsimp only
    rw [out_A_3]
  · rw [outsAt0_B V c t h0 (by omega)]
    dsimp only
    rw [out_B_3]

/-- What holds after point `t` of ground truth `n`'s running maximum `M` and its index `C`: `C` is one of the anchors seen
    so far, `M` is its overlap, and no anchor seen so far overlaps more. -/
def Reached (c : Dev nD) (b : Fin 8) (k : ℕ) (n : Fin 32) (M : EReal) (C : BitVec 32) : Prop :=
  ∃ j : Fin 65536, j.val < k * 16384 ∧ C = BitVec.ofNat 32 j.val ∧ ov V c b n j = M
    ∧ ∀ j' : Fin 65536, j'.val < k * 16384 → ov V c b n j' ≤ M

/-- The largest overlap within point `t`'s block. -/
theorem block_top (c : Dev nD) (t : Fin cfg0.N) (n : Fin 32) :
    (fun r => k0_pay11 (F := Ideal) (iblk V c 0 t) (iblk V c 1 t) (ix2 n r)) = fun r => ov V c (img t) n (anc t r) :=
  funext fun r => block_ov V c t n r

theorem reached (c : Dev nD) : ∀ (k : ℕ) (h : k < cfg0.N) (n : Fin 32),
    Reached V c (img ⟨k, h⟩) (k % 4 + 1) n ((outsAt0 V c k h).2.2.1 (ix3 0 n 0)) ((outsAt0 V c k h).2.2.2 (ix3 0 n 0)) := by
  intro k
  induction k with
  | zero =>
    intro h n
    have e := outsAt0_A V c ⟨0, h⟩ rfl (by dsimp only; omega)
    rw [e]
    dsimp only
    rw [out_A_4, out_A_5, pay5_apply, pay6_apply, coord1, block_top]
    obtain ⟨r, er, hr⟩ := blockArg_eq (0 % 4) (by omega) (fun r => ov V c (img ⟨0, h⟩) n (anc ⟨0, h⟩ r))
    refine ⟨anc ⟨0, h⟩ r, by show 0 % 4 * 16384 + r.val < _; omega, er, hr, fun j' hj' => ?_⟩
    have := le_top (fun r => ov V c (img ⟨0, h⟩) n (anc ⟨0, h⟩ r)) ⟨j'.val, by omega⟩
    refine le_trans (le_of_eq ?_) this
    exact congrArg _ (Fin.ext (by show j'.val = 0 % 4 * 16384 + j'.val; omega))
  | succ k ih =>
    intro h n
    have hN : k + 1 < 32 := lt_of_lt_of_eq h N_0
    by_cases h0 : (k + 1) % 4 = 0
    · have e := outsAt0_A V c ⟨k + 1, h⟩ h0 (by dsimp only; omega)
      rw [e]
      dsimp only
      rw [out_A_4, out_A_5, pay5_apply, pay6_apply, coord1, block_top]
      obtain ⟨r, er, hr⟩ := blockArg_eq ((k + 1) % 4) (by omega) (fun r => ov V c (img ⟨k + 1, h⟩) n (anc ⟨k + 1, h⟩ r))
      refine ⟨anc ⟨k + 1, h⟩ r, by show (k + 1) % 4 * 16384 + r.val < _; omega, er, hr, fun j' hj' => ?_⟩
      have := le_top (fun r => ov V c (img ⟨k + 1, h⟩) n (anc ⟨k + 1, h⟩ r)) ⟨j'.val, by omega⟩
      refine le_trans (le_of_eq ?_) this
      exact congrArg _ (Fin.ext (by show j'.val = (k + 1) % 4 * 16384 + j'.val; omega))
    · have e := outsAt0_B V c ⟨k + 1, h⟩ h0 (by dsimp only; omega)
      rw [e]
      dsimp only
      rw [out_B_4, out_B_5, pay9_apply, pay10_apply, coord1, block_top]
      obtain ⟨r, er, hr⟩ := blockArg_eq ((k + 1) % 4) (by omega) (fun r => ov V c (img ⟨k + 1, h⟩) n (anc ⟨k + 1, h⟩ r))
      have hb : img ⟨k, Nat.lt_of_succ_lt h⟩ = img ⟨k + 1, h⟩ := Fin.ext (by show k / 4 = (k + 1) / 4; omega)
      obtain ⟨j, hj, eC, eM, hle⟩ := hb ▸ ih (Nat.lt_of_succ_lt h) n
      have hjj : j.val < ((k + 1) % 4 + 1) * 16384 :=
        lt_of_lt_of_le hj (Nat.mul_le_mul_right _ (by omega))
      have inside : ∀ j' : Fin 65536, j'.val < ((k + 1) % 4 + 1) * 16384 → ¬ j'.val < (k % 4 + 1) * 16384 →
          ov V c (img ⟨k + 1, h⟩) n j' ≤ top (fun r => ov V c (img ⟨k + 1, h⟩) n (anc ⟨k + 1, h⟩ r)) := fun j' h1 h2 => by
        have := le_top (fun r => ov V c (img ⟨k + 1, h⟩) n (anc ⟨k + 1, h⟩ r)) ⟨j'.val - (k + 1) % 4 * 16384, by omega⟩
        refine le_trans (le_of_eq ?_) this
        exact congrArg _ (Fin.ext (by show j'.val = (k + 1) % 4 * 16384 + (j'.val - (k + 1) % 4 * 16384); omega))
      show Reached V c _ _ n (if (outsAt0 V c k (Nat.lt_of_succ_lt h)).2.2.1 (ix3 0 n 0) < _ then _ else (outsAt0 V c k (Nat.lt_of_succ_lt h)).2.2.1 (ix3 0 n 0))
        (if (outsAt0 V c k (Nat.lt_of_succ_lt h)).2.2.1 (ix3 0 n 0) < _ then _ else (outsAt0 V c k (Nat.lt_of_succ_lt h)).2.2.2 (ix3 0 n 0))
      by_cases hlt : (outsAt0 V c k (Nat.lt_of_succ_lt h)).2.2.1 (ix3 0 n 0) < top (fun r => ov V c (img ⟨k + 1, h⟩) n (anc ⟨k + 1, h⟩ r))
      · rw [if_pos hlt, if_pos hlt]
        refine ⟨anc ⟨k + 1, h⟩ r, by show (k + 1) % 4 * 16384 + r.val < _; omega, er, hr, fun j' hj' => ?_⟩
        by_cases hs : j'.val < (k % 4 + 1) * 16384
        · exact (hle j' hs).trans hlt.le
        · exact inside j' hj' hs
      · rw [if_neg hlt, if_neg hlt]
        refine ⟨j, hjj, eC, eM, fun j' hj' => ?_⟩
        by_cases hs : j'.val < (k % 4 + 1) * 16384
        · exact hle j' hs
        · exact (inside j' hj' hs).trans (not_lt.mp hlt)

/-! The arrays after the run. -/

/-- Two points that write window 2's block back write different blocks. -/
theorem disjoint2 : ∀ t t' : Fin cfg0.N, (cfg0.win 2).flush t = true → (cfg0.win 2).flush t' = true → t ≠ t' →
    Disjoint ((cfg0.win 2).blk t).view.set ((cfg0.win 2).blk t').view.set :=
  fun t t' hf hf' hne => (cfg0.win 2).disjoint_blk fun h => hne
    ((by decide +kernel : ∀ t t' : Fin grid0.N, win0_2.flush t = true → win0_2.flush t' = true → win0_2.index t = win0_2.index t' → t = t') t t' hf hf' h)

/-- So a block of the final array is what its point wrote. -/
theorem arr2 (c : Dev nD) (t : Fin cfg0.N) (hf : (cfg0.win 2).flush t = true) (y : S1x1x16384.Idx) :
    (dats V 0 c).arrAt 2 cfg0.N (((cfg0.win 2).blk t).view.emb y) = (outsAt0 V c t.val t.isLt).1 y := by
  have h := congrFun ((dats V 0 c).read_blk_arrAt_eq_flushed 2 disjoint2 cfg0.N t t.isLt hf) y
  refine Eq.trans ?_ (h.trans ?_)
  · generalize (dats V 0 c).arrAt 2 cfg0.N = f
    rw [View.read_apply]
    exact (cast_eq _ _).symm
  show (cfg0.win 2).cut (grid0.coords t) ((dats V 0 c).after 2 t) y = _
  rw [after0_2]
  rfl

/-- Two points that write window 3's block back write different blocks. -/
theorem disjoint3 : ∀ t t' : Fin cfg0.N, (cfg0.win 3).flush t = true → (cfg0.win 3).flush t' = true → t ≠ t' →
    Disjoint ((cfg0.win 3).blk t).view.set ((cfg0.win 3).blk t').view.set :=
  fun t t' hf hf' hne => (cfg0.win 3).disjoint_blk fun h => hne
    ((by decide +kernel : ∀ t t' : Fin grid0.N, win0_3.flush t = true → win0_3.flush t' = true → win0_3.index t = win0_3.index t' → t = t') t t' hf hf' h)

/-- So a block of the final array is what its point wrote. -/
theorem arr3 (c : Dev nD) (t : Fin cfg0.N) (hf : (cfg0.win 3).flush t = true) (y : S1x1x16384.Idx) :
    (dats V 0 c).arrAt 3 cfg0.N (((cfg0.win 3).blk t).view.emb y) = (outsAt0 V c t.val t.isLt).2.1 y := by
  have h := congrFun ((dats V 0 c).read_blk_arrAt_eq_flushed 3 disjoint3 cfg0.N t t.isLt hf) y
  refine Eq.trans ?_ (h.trans ?_)
  · generalize (dats V 0 c).arrAt 3 cfg0.N = f
    rw [View.read_apply]
    exact (cast_eq _ _).symm
  show (cfg0.win 3).cut (grid0.coords t) ((dats V 0 c).after 3 t) y = _
  rw [after0_3]
  rfl

/-- Two points that write window 5's block back write different blocks. -/
theorem disjoint5 : ∀ t t' : Fin cfg0.N, (cfg0.win 5).flush t = true → (cfg0.win 5).flush t' = true → t ≠ t' →
    Disjoint ((cfg0.win 5).blk t).view.set ((cfg0.win 5).blk t').view.set :=
  fun t t' hf hf' hne => (cfg0.win 5).disjoint_blk fun h => hne
    ((by decide +kernel : ∀ t t' : Fin grid0.N, win0_5.flush t = true → win0_5.flush t' = true → win0_5.index t = win0_5.index t' → t = t') t t' hf hf' h)

/-- So a block of the final array is what its point wrote. -/
theorem arr5 (c : Dev nD) (t : Fin cfg0.N) (hf : (cfg0.win 5).flush t = true) (y : S1x32x1.Idx) :
    (dats V 0 c).arrAt 5 cfg0.N (((cfg0.win 5).blk t).view.emb y) = (outsAt0 V c t.val t.isLt).2.2.2 y := by
  have h := congrFun ((dats V 0 c).read_blk_arrAt_eq_flushed 5 disjoint5 cfg0.N t t.isLt hf) y
  refine Eq.trans ?_ (h.trans ?_)
  · generalize (dats V 0 c).arrAt 5 cfg0.N = f
    rw [View.read_apply]
    exact (cast_eq _ _).symm
  show (cfg0.win 5).cut (grid0.coords t) ((dats V 0 c).after 5 t) y = _
  rw [after0_5]
  rfl

/-- Each anchor's largest overlap. -/
theorem mv_final (c : Dev nD) (b : Fin 8) (j : Fin 65536) :
    (dats V 0 c).arrAt 2 cfg0.N (ix3 b 0 j) = top (fun n => ov V c b n j) := by
  have hi : win0_2.index (pt b j) 0 = (pt b j).val / 4 ∧ win0_2.index (pt b j) 1 = 0 ∧ win0_2.index (pt b j) 2 = (pt b j).val % 4 :=
    (by decide +kernel : ∀ t : Fin grid0.N, win0_2.index t 0 = t.val / 4 ∧ win0_2.index t 1 = 0 ∧ win0_2.index t 2 = t.val % 4) (pt b j)
  have hf : (cfg0.win 2).flush (pt b j) = true := (by decide +kernel : ∀ t : Fin grid0.N, win0_2.flush t = true) (pt b j)
  have hb : img (pt b j) = b := Fin.ext (by show (4 * b.val + j.val / 16384) / 4 = b.val; omega)
  have hj : anc (pt b j) ⟨j.val % 16384, by omega⟩ = j :=
    Fin.ext (by show (4 * b.val + j.val / 16384) % 4 * 16384 + j.val % 16384 = j.val; omega)
  have h := arr2 V c (pt b j) hf (ix3 0 0 ⟨j.val % 16384, by omega⟩)
  rw [mvAt, pay1_apply] at h
  simp only [block_ov, hb, hj] at h
  refine Eq.trans (congrArg _ ?_) h
  funext a
  apply Fin.ext
  match a with
  | ⟨0, _⟩ => show b.val = win0_2.index (pt b j) 0 * 1 + 1 * 0; rw [hi.1]; show b.val = (4 * b.val + j.val / 16384) / 4 * 1 + 1 * 0; omega
  | ⟨1, _⟩ => show 0 = win0_2.index (pt b j) 1 * 1 + 1 * 0; rw [hi.2.1]
  | ⟨2, _⟩ => show j.val = win0_2.index (pt b j) 2 * 16384 + 1 * (j.val % 16384); rw [hi.2.2]; show j.val = (4 * b.val + j.val / 16384) % 4 * 16384 + 1 * (j.val % 16384); omega

/-- Each anchor's match. -/
theorem mt_final (c : Dev nD) (b : Fin 8) (j : Fin 65536) :
    (dats V 0 c).arrAt 3 cfg0.N (ix3 b 0 j) = match32 (fun n => ov V c b n j) := by
  have hi : win0_3.index (pt b j) 0 = (pt b j).val / 4 ∧ win0_3.index (pt b j) 1 = 0 ∧ win0_3.index (pt b j) 2 = (pt b j).val % 4 :=
    (by decide +kernel : ∀ t : Fin grid0.N, win0_3.index t 0 = t.val / 4 ∧ win0_3.index t 1 = 0 ∧ win0_3.index t 2 = t.val % 4) (pt b j)
  have hf : (cfg0.win 3).flush (pt b j) = true := (by decide +kernel : ∀ t : Fin grid0.N, win0_3.flush t = true) (pt b j)
  have hb : img (pt b j) = b := Fin.ext (by show (4 * b.val + j.val / 16384) / 4 = b.val; omega)
  have hj : anc (pt b j) ⟨j.val % 16384, by omega⟩ = j :=
    Fin.ext (by show (4 * b.val + j.val / 16384) % 4 * 16384 + j.val % 16384 = j.val; omega)
  have h := arr3 V c (pt b j) hf (ix3 0 0 ⟨j.val % 16384, by omega⟩)
  rw [mtAt, pay2_apply] at h
  simp only [block_ov, hb, hj] at h
  refine Eq.trans (congrArg _ ?_) h
  funext a
  apply Fin.ext
  match a with
  | ⟨0, _⟩ => show b.val = win0_3.index (pt b j) 0 * 1 + 1 * 0; rw [hi.1]; show b.val = (4 * b.val + j.val / 16384) / 4 * 1 + 1 * 0; omega
  | ⟨1, _⟩ => show 0 = win0_3.index (pt b j) 1 * 1 + 1 * 0; rw [hi.2.1]
  | ⟨2, _⟩ => show j.val = win0_3.index (pt b j) 2 * 16384 + 1 * (j.val % 16384); rw [hi.2.2]; show j.val = (4 * b.val + j.val / 16384) % 4 * 16384 + 1 * (j.val % 16384); omega

/-- For every ground truth, an anchor at which it reaches its largest overlap. -/
theorem garg_final (c : Dev nD) (b : Fin 8) (n : Fin 32) :
    ∃ j : Fin 65536, (dats V 0 c).arrAt 5 cfg0.N (ix3 b n 0) = BitVec.ofNat 32 j.val ∧ ov V c b n j = top (fun j => ov V c b n j) := by
  let t : Fin cfg0.N := ⟨4 * b.val + 3, lt_of_lt_of_eq (by omega) N_0.symm⟩
  have hi : win0_5.index t 0 = t.val / 4 ∧ win0_5.index t 1 = 0 ∧ win0_5.index t 2 = 0 :=
    (by decide +kernel : ∀ t : Fin grid0.N, win0_5.index t 0 = t.val / 4 ∧ win0_5.index t 1 = 0 ∧ win0_5.index t 2 = 0) t
  have hf : (cfg0.win 5).flush t = true :=
    (by decide +kernel : ∀ t : Fin grid0.N, t.val % 4 = 3 → win0_5.flush t = true) t (by show (4 * b.val + 3) % 4 = 3; omega)
  have hb : img t = b := Fin.ext (by show (4 * b.val + 3) / 4 = b.val; omega)
  have h := arr5 V c t hf (ix3 0 n 0)
  obtain ⟨j, -, eC, eM, hle⟩ := reached V c t.val t.isLt n
  have hb' : img ⟨t.val, t.isLt⟩ = b := hb
  rw [hb'] at eM hle
  have hk : t.val % 4 + 1 = 4 := by show (4 * b.val + 3) % 4 + 1 = 4; omega
  rw [hk] at hle
  refine ⟨j, (Eq.trans (congrArg _ ?_) h).trans eC, ?_⟩
  · funext a
    apply Fin.ext
    match a with
    | ⟨0, _⟩ => show b.val = win0_5.index t 0 * 1 + 1 * 0; rw [hi.1]; show b.val = (4 * b.val + 3) / 4 * 1 + 1 * 0; omega
    | ⟨1, _⟩ => show n.val = win0_5.index t 1 * 32 + 1 * n.val; rw [hi.2.1]; omega
    | ⟨2, _⟩ => show 0 = win0_5.index t 2 * 1 + 1 * 0; rw [hi.2.2]
  · rw [eM]
    exact (top_eq _ _ (fun j' => hle j' (by omega)) j eM).symm

end Cert.KernelIdeal.Region0

end
-- ==== Proof.Region1.Pieces.lean ====
/-
  Region 1 of the kernel, the assignment call: the values its body leaves at a grid point, in the body's named payloads.
-/
module

public import proofs.«01_k».proof.Proof.Region1.Body
public import Idealize.ShloMosaic.Lib.Pointwise
public import Idealize.ShloMosaic.Lib.Pipeline.Value
@[expose] public section

noncomputable section
namespace Cert.KernelIdeal.Region1
open Cert.KernelIdeal Cert.KernelIdeal.Gen Idealize.ShloMosaic Idealize.ShloMosaic.TcCoe Idealize.SL.Sem
open Idealize.ShloMosaic.Pipeline (Dat)
variable {F : FTy → Type} [FloatOps F]

theorem hz1 : (![0] : Fin 1 → Nat) = fun _ => 0 := funext fun a => by fin_cases a; rfl
theorem hz2 : (![0, 0] : Fin 2 → Nat) = fun _ => 0 := funext fun a => by fin_cases a <;> rfl
theorem hz3 : (![0, 0, 0] : Fin 3 → Nat) = fun _ => 0 := funext fun a => by fin_cases a <;> rfl

theorem out_A_7 (c : Dev nD) (i : grid1.Coords) (arg2 : Memref sig .tc .vmem S1x1x16384 .f32) (harg2 : arg2.IsWhole) (arg3 : Memref sig .tc .vmem S1x1x16384 .i32) (harg3 : arg3.IsWhole) (arg4 : Memref sig .tc .vmem S1x32x1 .i32) (harg4 : arg4.IsWhole) (arg5 : Memref sig .tc .vmem S1x32x1 .i32) (harg5 : arg5.IsWhole) (arg6 : Memref sig .tc .vmem S1x32x4 .f32) (harg6 : arg6.IsWhole) (arg7 : Memref sig .tc .vmem S1x4x16384 .f32) (harg7 : arg7.IsWhole) (arg8 : Memref sig .tc .vmem S1x1x16384 .f32) (harg8 : arg8.IsWhole) (arg9 : Memref sig .tc .vmem S1x1x16384 .i32) (harg9 : arg9.IsWhole) (arg10 : Memref sig .tc .vmem S1x1x16384 .f32) (harg10 : arg10.IsWhole) (arg11 : Memref sig .tc .vmem S1x128 .f32) (harg11 : arg11.IsWhole) (arg12 : Memref sig .tc .smem S2 .f32) (harg12 : arg12.IsWhole) (hc0 : cond0_0 i) (hc1 : ¬cond0_1 i) (hc2 : ¬cond0_2 i)
    (x0 : Vec F S1x1x16384 .f32) (x1 : Vec F S1x1x16384 .i32) (x2 : Vec F S1x32x1 .i32) (x3 : Vec F S1x32x1 .i32) (x4 : Vec F S1x32x4 .f32) (x5 : Vec F S1x4x16384 .f32) (x6 : Vec F S1x1x16384 .f32) :
    out0_A_7 c i arg2 harg2 arg3 harg3 arg4 harg4 arg5 harg5 arg6 harg6 arg7 harg7 arg8 harg8 arg9 harg9 arg10 harg10 arg11 harg11 arg12 harg12 hc0 hc1 hc2 x0 x1 x2 x3 x4 x5 x6 = k1_pay12 (k1_pay6 x1) (k1_pay8 i x0 x2) x3 := by
  unfold out0_A_7
  rw [View.read_writes_eq_canon _ _ _ (cover0_A_7 c i arg2 harg2 arg3 harg3 arg4 harg4 arg5 harg5 arg6 harg6 arg7 harg7 arg8 harg8 arg9 harg9 arg10 harg10 arg11 harg11 arg12 harg12 hc0 hc1 hc2 x0 x1 x2 x3 x4 x5 x6)]
  unfold kernelRun0_A
  dsimp only
  sl_unfold_words
  rw [View.canon_unit_zero hz3]
  simp only [View.readAt_eq_ld, harg2.read_unread, harg3.read_unread, harg4.read_unread, harg5.read_unread, harg6.read_unread, harg7.read_unread, harg8.read_unread, harg9.read_unread, harg10.read_unread, harg11.read_unread, harg12.read_unread, View.ld_unit_zero (S := S1x4x16384) hz3, View.ld_unit_zero (S := S1x32x4) hz3, View.ld_unit_zero (S := S1x32x1) hz3, View.ld_unit_zero (S := S1x1x16384) hz3, View.ld_unit_zero (S := S1x128) hz2, shapeCast_self]
  try rfl

theorem out_A_8 (c : Dev nD) (i : grid1.Coords) (arg2 : Memref sig .tc .vmem S1x1x16384 .f32) (harg2 : arg2.IsWhole) (arg3 : Memref sig .tc .vmem S1x1x16384 .i32) (harg3 : arg3.IsWhole) (arg4 : Memref sig .tc .vmem S1x32x1 .i32) (harg4 : arg4.IsWhole) (arg5 : Memref sig .tc .vmem S1x32x1 .i32) (harg5 : arg5.IsWhole) (arg6 : Memref sig .tc .vmem S1x32x4 .f32) (harg6 : arg6.IsWhole) (arg7 : Memref sig .tc .vmem S1x4x16384 .f32) (harg7 : arg7.IsWhole) (arg8 : Memref sig .tc .vmem S1x1x16384 .f32) (harg8 : arg8.IsWhole) (arg9 : Memref sig .tc .vmem S1x1x16384 .i32) (harg9 : arg9.IsWhole) (arg10 : Memref sig .tc .vmem S1x1x16384 .f32) (harg10 : arg10.IsWhole) (arg11 : Memref sig .tc .vmem S1x128 .f32) (harg11 : arg11.IsWhole) (arg12 : Memref sig .tc .smem S2 .f32) (harg12 : arg12.IsWhole) (hc0 : cond0_0 i) (hc1 : ¬cond0_1 i) (hc2 : ¬cond0_2 i)
    (x0 : Vec F S1x1x16384 .f32) (x1 : Vec F S1x1x16384 .i32) (x2 : Vec F S1x32x1 .i32) (x3 : Vec F S1x32x1 .i32) (x4 : Vec F S1x32x4 .f32) (x5 : Vec F S1x4x16384 .f32) (x6 : Vec F S1x1x16384 .f32) :
    out0_A_8 c i arg2 harg2 arg3 harg3 arg4 harg4 arg5 harg5 arg6 harg6 arg7 harg7 arg8 harg8 arg9 harg9 arg10 harg10 arg11 harg11 arg12 harg12 hc0 hc1 hc2 x0 x1 x2 x3 x4 x5 x6 = k1_pay13 (k1_pay10 i x0 x2) x6 := by
  unfold out0_A_8
  rw [View.read_writes_eq_canon _ _ _ (cover0_A_8 c i arg2 harg2 arg3 harg3 arg4 harg4 arg5 harg5 arg6 harg6 arg7 harg7 arg8 harg8 arg9 harg9 arg10 harg10 arg11 harg11 arg12 harg12 hc0 hc1 hc2 x0 x1 x2 x3 x4 x5 x6)]
  unfold kernelRun0_A
  dsimp only
  sl_unfold_words
  rw [View.canon_unit_zero hz3]
  simp only [View.readAt_eq_ld, harg2.read_unread, harg3.read_unread, harg4.read_unread, harg5.read_unread, harg6.read_unread, harg7.read_unread, harg8.read_unread, harg9.read_unread, harg10.read_unread, harg11.read_unread, harg12.read_unread, View.ld_unit_zero (S := S1x4x16384) hz3, View.ld_unit_zero (S := S1x32x4) hz3, View.ld_unit_zero (S := S1x32x1) hz3, View.ld_unit_zero (S := S1x1x16384) hz3, View.ld_unit_zero (S := S1x128) hz2, shapeCast_self]
  try rfl

theorem out_B_7 (c : Dev nD) (i : grid1.Coords) (arg2 : Memref sig .tc .vmem S1x1x16384 .f32) (harg2 : arg2.IsWhole) (arg3 : Memref sig .tc .vmem S1x1x16384 .i32) (harg3 : arg3.IsWhole) (arg4 : Memref sig .tc .vmem S1x32x1 .i32) (harg4 : arg4.IsWhole) (arg5 : Memref sig .tc .vmem S1x32x1 .i32) (harg5 : arg5.IsWhole) (arg6 : Memref sig .tc .vmem S1x32x4 .f32) (harg6 : arg6.IsWhole) (arg7 : Memref sig .tc .vmem S1x4x16384 .f32) (harg7 : arg7.IsWhole) (arg8 : Memref sig .tc .vmem S1x1x16384 .f32) (harg8 : arg8.IsWhole) (arg9 : Memref sig .tc .vmem S1x1x16384 .i32) (harg9 : arg9.IsWhole) (arg10 : Memref sig .tc .vmem S1x1x16384 .f32) (harg10 : arg10.IsWhole) (arg11 : Memref sig .tc .vmem S1x128 .f32) (harg11 : arg11.IsWhole) (arg12 : Memref sig .tc .smem S2 .f32) (harg12 : arg12.IsWhole) (hc0 : ¬cond0_0 i) (hc1 : cond0_1 i) (hc2 : ¬cond0_2 i)
    (x0 : Vec F S1x1x16384 .f32) (x1 : Vec F S1x1x16384 .i32) (x2 : Vec F S1x32x1 .i32) (x3 : Vec F S1x32x1 .i32) (x4 : Vec F S1x32x4 .f32) (x5 : Vec F S1x4x16384 .f32) (x6 : Vec F S1x1x16384 .f32) (xs0 : Vec F S2 .f32) :
    out0_B_7 c i arg2 harg2 arg3 harg3 arg4 harg4 arg5 harg5 arg6 harg6 arg7 harg7 arg8 harg8 arg9 harg9 arg10 harg10 arg11 harg11 arg12 harg12 hc0 hc1 hc2 x0 x1 x2 x3 x4 x5 x6 xs0 = k1_pay12 (k1_pay6 x1) (k1_pay8 i x0 x2) x3 := by
  unfold out0_B_7
  rw [View.read_writes_eq_canon _ _ _ (cover0_B_7 c i arg2 harg2 arg3 harg3 arg4 harg4 arg5 harg5 arg6 harg6 arg7 harg7 arg8 harg8 arg9 harg9 arg10 harg10 arg11 harg11 arg12 harg12 hc0 hc1 hc2 x0 x1 x2 x3 x4 x5 x6 xs0)]
  unfold kernelRun0_B
  dsimp only
  sl_unfold_words
  rw [View.canon_unit_zero hz3]
  simp only [View.readAt_eq_ld, harg2.read_unread, harg3.read_unread, harg4.read_unread, harg5.read_unread, harg6.read_unread, harg7.read_unread, harg8.read_unread, harg9.read_unread, harg10.read_unread, harg11.read_unread, harg12.read_unread, View.ld_unit_zero (S := S1x4x16384) hz3, View.ld_unit_zero (S := S1x32x4) hz3, View.ld_unit_zero (S := S1x32x1) hz3, View.ld_unit_zero (S := S1x1x16384) hz3, View.ld_unit_zero (S := S1x128) hz2, shapeCast_self]
  try rfl

theorem out_B_8 (c : Dev nD) (i : grid1.Coords) (arg2 : Memref sig .tc .vmem S1x1x16384 .f32) (harg2 : arg2.IsWhole) (arg3 : Memref sig .tc .vmem S1x1x16384 .i32) (harg3 : arg3.IsWhole) (arg4 : Memref sig .tc .vmem S1x32x1 .i32) (harg4 : arg4.IsWhole) (arg5 : Memref sig .tc .vmem S1x32x1 .i32) (harg5 : arg5.IsWhole) (arg6 : Memref sig .tc .vmem S1x32x4 .f32) (harg6 : arg6.IsWhole) (arg7 : Memref sig .tc .vmem S1x4x16384 .f32) (harg7 : arg7.IsWhole) (arg8 : Memref sig .tc .vmem S1x1x16384 .f32) (harg8 : arg8.IsWhole) (arg9 : Memref sig .tc .vmem S1x1x16384 .i32) (harg9 : arg9.IsWhole) (arg10 : Memref sig .tc .vmem S1x1x16384 .f32) (harg10 : arg10.IsWhole) (arg11 : Memref sig .tc .vmem S1x128 .f32) (harg11 : arg11.IsWhole) (arg12 : Memref sig .tc .smem S2 .f32) (harg12 : arg12.IsWhole) (hc0 : ¬cond0_0 i) (hc1 : cond0_1 i) (hc2 : ¬cond0_2 i)
    (x0 : Vec F S1x1x16384 .f32) (x1 : Vec F S1x1x16384 .i32) (x2 : Vec F S1x32x1 .i32) (x3 : Vec F S1x32x1 .i32) (x4 : Vec F S1x32x4 .f32) (x5 : Vec F S1x4x16384 .f32) (x6 : Vec F S1x1x16384 .f32) (xs0 : Vec F S2 .f32) :
    out0_B_8 c i arg2 harg2 arg3 harg3 arg4 harg4 arg5 harg5 arg6 harg6 arg7 harg7 arg8 harg8 arg9 harg9 arg10 harg10 arg11 harg11 arg12 harg12 hc0 hc1 hc2 x0 x1 x2 x3 x4 x5 x6 xs0 = k1_pay13 (k1_pay10 i x0 x2) x6 := by
  unfold out0_B_8
  rw [View.read_writes_eq_canon _ _ _ (cover0_B_8 c i arg2 harg2 arg3 harg3 arg4 harg4 arg5 harg5 arg6 harg6 arg7 harg7 arg8 harg8 arg9 harg9 arg10 harg10 arg11 harg11 arg12 harg12 hc0 hc1 hc2 x0 x1 x2 x3 x4 x5 x6 xs0)]
  unfold kernelRun0_B
  dsimp only
  sl_unfold_words
  rw [View.canon_unit_zero hz3]
  simp only [View.readAt_eq_ld, harg2.read_unread, harg3.read_unread, harg4.read_unread, harg5.read_unread, harg6.read_unread, harg7.read_unread, harg8.read_unread, harg9.read_unread, harg10.read_unread, harg11.read_unread, harg12.read_unread, View.ld_unit_zero (S := S1x4x16384) hz3, View.ld_unit_zero (S := S1x32x4) hz3, View.ld_unit_zero (S := S1x32x1) hz3, View.ld_unit_zero (S := S1x1x16384) hz3, View.ld_unit_zero (S := S1x128) hz2, shapeCast_self]
  try rfl

theorem out_C_7 (c : Dev nD) (i : grid1.Coords) (arg2 : Memref sig .tc .vmem S1x1x16384 .f32) (harg2 : arg2.IsWhole) (arg3 : Memref sig .tc .vmem S1x1x16384 .i32) (harg3 : arg3.IsWhole) (arg4 : Memref sig .tc .vmem S1x32x1 .i32) (harg4 : arg4.IsWhole) (arg5 : Memref sig .tc .vmem S1x32x1 .i32) (harg5 : arg5.IsWhole) (arg6 : Memref sig .tc .vmem S1x32x4 .f32) (harg6 : arg6.IsWhole) (arg7 : Memref sig .tc .vmem S1x4x16384 .f32) (harg7 : arg7.IsWhole) (arg8 : Memref sig .tc .vmem S1x1x16384 .f32) (harg8 : arg8.IsWhole) (arg9 : Memref sig .tc .vmem S1x1x16384 .i32) (harg9 : arg9.IsWhole) (arg10 : Memref sig .tc .vmem S1x1x16384 .f32) (harg10 : arg10.IsWhole) (arg11 : Memref sig .tc .vmem S1x128 .f32) (harg11 : arg11.IsWhole) (arg12 : Memref sig .tc .smem S2 .f32) (harg12 : arg12.IsWhole) (hc0 : ¬cond0_0 i) (hc1 : cond0_1 i) (hc2 : cond0_2 i)
    (x0 : Vec F S1x1x16384 .f32) (x1 : Vec F S1x1x16384 .i32) (x2 : Vec F S1x32x1 .i32) (x3 : Vec F S1x32x1 .i32) (x4 : Vec F S1x32x4 .f32) (x5 : Vec F S1x4x16384 .f32) (x6 : Vec F S1x1x16384 .f32) (xs0 : Vec F S2 .f32) :
    out0_C_7 c i arg2 harg2 arg3 harg3 arg4 harg4 arg5 harg5 arg6 harg6 arg7 harg7 arg8 harg8 arg9 harg9 arg10 harg10 arg11 harg11 arg12 harg12 hc0 hc1 hc2 x0 x1 x2 x3 x4 x5 x6 xs0 = k1_pay12 (k1_pay6 x1) (k1_pay8 i x0 x2) x3 := by
  unfold out0_C_7
  rw [View.read_writes_eq_canon _ _ _ (cover0_C_7 c i arg2 harg2 arg3 harg3 arg4 harg4 arg5 harg5 arg6 harg6 arg7 harg7 arg8 harg8 arg9 harg9 arg10 harg10 arg11 harg11 arg12 harg12 hc0 hc1 hc2 x0 x1 x2 x3 x4 x5 x6 xs0)]
  unfold kernelRun0_C
  dsimp only
  sl_unfold_words
  rw [View.canon_unit_zero hz3]
  simp only [View.readAt_eq_ld, harg2.read_unread, harg3.read_unread, harg4.read_unread, harg5.read_unread, harg6.read_unread, harg7.read_unread, harg8.read_unread, harg9.read_unread, harg10.read_unread, harg11.read_unread, harg12.read_unread, View.ld_unit_zero (S := S1x4x16384) hz3, View.ld_unit_zero (S := S1x32x4) hz3, View.ld_unit_zero (S := S1x32x1) hz3, View.ld_unit_zero (S := S1x1x16384) hz3, View.ld_unit_zero (S := S1x128) hz2, shapeCast_self]
  try rfl

theorem out_C_8 (c : Dev nD) (i : grid1.Coords) (arg2 : Memref sig .tc .vmem S1x1x16384 .f32) (harg2 : arg2.IsWhole) (arg3 : Memref sig .tc .vmem S1x1x16384 .i32) (harg3 : arg3.IsWhole) (arg4 : Memref sig .tc .vmem S1x32x1 .i32) (harg4 : arg4.IsWhole) (arg5 : Memref sig .tc .vmem S1x32x1 .i32) (harg5 : arg5.IsWhole) (arg6 : Memref sig .tc .vmem S1x32x4 .f32) (harg6 : arg6.IsWhole) (arg7 : Memref sig .tc .vmem S1x4x16384 .f32) (harg7 : arg7.IsWhole) (arg8 : Memref sig .tc .vmem S1x1x16384 .f32) (harg8 : arg8.IsWhole) (arg9 : Memref sig .tc .vmem S1x1x16384 .i32) (harg9 : arg9.IsWhole) (arg10 : Memref sig .tc .vmem S1x1x16384 .f32) (harg10 : arg10.IsWhole) (arg11 : Memref sig .tc .vmem S1x128 .f32) (harg11 : arg11.IsWhole) (arg12 : Memref sig .tc .smem S2 .f32) (harg12 : arg12.IsWhole) (hc0 : ¬cond0_0 i) (hc1 : cond0_1 i) (hc2 : cond0_2 i)
    (x0 : Vec F S1x1x16384 .f32) (x1 : Vec F S1x1x16384 .i32) (x2 : Vec F S1x32x1 .i32) (x3 : Vec F S1x32x1 .i32) (x4 : Vec F S1x32x4 .f32) (x5 : Vec F S1x4x16384 .f32) (x6 : Vec F S1x1x16384 .f32) (xs0 : Vec F S2 .f32) :
    out0_C_8 c i arg2 harg2 arg3 harg3 arg4 harg4 arg5 harg5 arg6 harg6 arg7 harg7 arg8 harg8 arg9 harg9 arg10 harg10 arg11 harg11 arg12 harg12 hc0 hc1 hc2 x0 x1 x2 x3 x4 x5 x6 xs0 = k1_pay13 (k1_pay10 i x0 x2) x6 := by
  unfold out0_C_8
  rw [View.read_writes_eq_canon _ _ _ (cover0_C_8 c i arg2 harg2 arg3 harg3 arg4 harg4 arg5 harg5 arg6 harg6 arg7 harg7 arg8 harg8 arg9 harg9 arg10 harg10 arg11 harg11 arg12 harg12 hc0 hc1 hc2 x0 x1 x2 x3 x4 x5 x6 xs0)]
  unfold kernelRun0_C
  dsimp only
  sl_unfold_words
  rw [View.canon_unit_zero hz3]
  simp only [View.readAt_eq_ld, harg2.read_unread, harg3.read_unread, harg4.read_unread, harg5.read_unread, harg6.read_unread, harg7.read_unread, harg8.read_unread, harg9.read_unread, harg10.read_unread, harg11.read_unread, harg12.read_unread, View.ld_unit_zero (S := S1x4x16384) hz3, View.ld_unit_zero (S := S1x32x4) hz3, View.ld_unit_zero (S := S1x32x1) hz3, View.ld_unit_zero (S := S1x1x16384) hz3, View.ld_unit_zero (S := S1x128) hz2, shapeCast_self]
  try rfl

end Cert.KernelIdeal.Region1

end
-- ==== Proof.Region1.Sums.lean ====
/-
  Region 1 of the kernel, the assignment call: the two sums its body leaves at a grid point, in the body's named payloads.
-/
module

public import proofs.«01_k».proof.Proof.Region1.Pieces
public import Idealize.ShloMosaic.Lib.Pointwise
public import Idealize.ShloMosaic.Lib.WritesUnit
public import Idealize.ShloMosaic.Lib.Pipeline.Value
@[expose] public section

noncomputable section
namespace Cert.KernelIdeal.Region1
open Cert.KernelIdeal Cert.KernelIdeal.Gen Idealize.ShloMosaic Idealize.ShloMosaic.TcCoe Idealize.SL.Sem
open Idealize.ShloMosaic.Pipeline (Dat)
variable {F : FTy → Type} [FloatOps F]

theorem sout_A_0_0 (c : Dev nD) (i : grid1.Coords) (arg2 : Memref sig .tc .vmem S1x1x16384 .f32) (harg2 : arg2.IsWhole) (arg3 : Memref sig .tc .vmem S1x1x16384 .i32) (harg3 : arg3.IsWhole) (arg4 : Memref sig .tc .vmem S1x32x1 .i32) (harg4 : arg4.IsWhole) (arg5 : Memref sig .tc .vmem S1x32x1 .i32) (harg5 : arg5.IsWhole) (arg6 : Memref sig .tc .vmem S1x32x4 .f32) (harg6 : arg6.IsWhole) (arg7 : Memref sig .tc .vmem S1x4x16384 .f32) (harg7 : arg7.IsWhole) (arg8 : Memref sig .tc .vmem S1x1x16384 .f32) (harg8 : arg8.IsWhole) (arg9 : Memref sig .tc .vmem S1x1x16384 .i32) (harg9 : arg9.IsWhole) (arg10 : Memref sig .tc .vmem S1x1x16384 .f32) (harg10 : arg10.IsWhole) (arg11 : Memref sig .tc .vmem S1x128 .f32) (harg11 : arg11.IsWhole) (arg12 : Memref sig .tc .smem S2 .f32) (harg12 : arg12.IsWhole) (hc0 : cond0_0 i) (hc1 : ¬cond0_1 i) (hc2 : ¬cond0_2 i)
    (x0 : Vec F S1x1x16384 .f32) (x1 : Vec F S1x1x16384 .i32) (x2 : Vec F S1x32x1 .i32) (x3 : Vec F S1x32x1 .i32) (x4 : Vec F S1x32x4 .f32) (x5 : Vec F S1x4x16384 .f32) (x6 : Vec F S1x1x16384 .f32) :
    sout0_A_0 c i arg2 harg2 arg3 harg3 arg4 harg4 arg5 harg5 arg6 harg6 arg7 harg7 arg8 harg8 arg9 harg9 arg10 harg10 arg11 harg11 arg12 harg12 hc0 hc1 hc2 x0 x1 x2 x3 x4 x5 x6 (ix1 0) = k1_pay1 (k1_pay9 i x0 x2) (k1_pay18 (k1_pay11 (k1_pay6 x1)) (k1_pay14 x4) (k1_pay15 (k1_pay6 x1) x4) (k1_pay16 (k1_pay6 x1) x4) (k1_pay17 x4) x5) k1_pay19 := by
  unfold sout0_A_0
  unfold kernelRun0_A
  dsimp only
  sl_unfold_words
  refine (View.read_writes_cons_unit_of_not_mem _ _ _ _ _ (ix1 0) rfl 0 (.inl (by decide))).trans ?_
  refine (View.read_writes_cons_unit_of_mem _ _ _ _ _ (ix1 0) (fun a => ⟨0, by fin_cases a; decide⟩) rfl (fun a => by fin_cases a; rfl)).trans ?_
  simp only [View.readAt_eq_ld, harg2.read_unread, harg3.read_unread, harg4.read_unread, harg5.read_unread, harg6.read_unread, harg7.read_unread, harg8.read_unread, harg9.read_unread, harg10.read_unread, harg11.read_unread, harg12.read_unread, View.ld_unit_zero (S := S1x4x16384) hz3, View.ld_unit_zero (S := S1x32x4) hz3, View.ld_unit_zero (S := S1x32x1) hz3, View.ld_unit_zero (S := S1x1x16384) hz3, View.ld_unit_zero (S := S1x128) hz2, shapeCast_self]
  try rfl

theorem sout_A_0_1 (c : Dev nD) (i : grid1.Coords) (arg2 : Memref sig .tc .vmem S1x1x16384 .f32) (harg2 : arg2.IsWhole) (arg3 : Memref sig .tc .vmem S1x1x16384 .i32) (harg3 : arg3.IsWhole) (arg4 : Memref sig .tc .vmem S1x32x1 .i32) (harg4 : arg4.IsWhole) (arg5 : Memref sig .tc .vmem S1x32x1 .i32) (harg5 : arg5.IsWhole) (arg6 : Memref sig .tc .vmem S1x32x4 .f32) (harg6 : arg6.IsWhole) (arg7 : Memref sig .tc .vmem S1x4x16384 .f32) (harg7 : arg7.IsWhole) (arg8 : Memref sig .tc .vmem S1x1x16384 .f32) (harg8 : arg8.IsWhole) (arg9 : Memref sig .tc .vmem S1x1x16384 .i32) (harg9 : arg9.IsWhole) (arg10 : Memref sig .tc .vmem S1x1x16384 .f32) (harg10 : arg10.IsWhole) (arg11 : Memref sig .tc .vmem S1x128 .f32) (harg11 : arg11.IsWhole) (arg12 : Memref sig .tc .smem S2 .f32) (harg12 : arg12.IsWhole) (hc0 : cond0_0 i) (hc1 : ¬cond0_1 i) (hc2 : ¬cond0_2 i)
    (x0 : Vec F S1x1x16384 .f32) (x1 : Vec F S1x1x16384 .i32) (x2 : Vec F S1x32x1 .i32) (x3 : Vec F S1x32x1 .i32) (x4 : Vec F S1x32x4 .f32) (x5 : Vec F S1x4x16384 .f32) (x6 : Vec F S1x1x16384 .f32) :
    sout0_A_0 c i arg2 harg2 arg3 harg3 arg4 harg4 arg5 harg5 arg6 harg6 arg7 harg7 arg8 harg8 arg9 harg9 arg10 harg10 arg11 harg11 arg12 harg12 hc0 hc1 hc2 x0 x1 x2 x3 x4 x5 x6 (ix1 1) = k1_pay2 (k1_pay9 i x0 x2) := by
  unfold sout0_A_0
  unfold kernelRun0_A
  dsimp only
  sl_unfold_words
  refine (View.read_writes_cons_unit_of_mem _ _ _ _ _ (ix1 1) (fun a => ⟨0, by fin_cases a; decide⟩) rfl (fun a => by fin_cases a; rfl)).trans ?_
  simp only [View.readAt_eq_ld, harg2.read_unread, harg3.read_unread, harg4.read_unread, harg5.read_unread, harg6.read_unread, harg7.read_unread, harg8.read_unread, harg9.read_unread, harg10.read_unread, harg11.read_unread, harg12.read_unread, View.ld_unit_zero (S := S1x4x16384) hz3, View.ld_unit_zero (S := S1x32x4) hz3, View.ld_unit_zero (S := S1x32x1) hz3, View.ld_unit_zero (S := S1x1x16384) hz3, View.ld_unit_zero (S := S1x128) hz2, shapeCast_self]
  try rfl

theorem sout_B_0_0 (c : Dev nD) (i : grid1.Coords) (arg2 : Memref sig .tc .vmem S1x1x16384 .f32) (harg2 : arg2.IsWhole) (arg3 : Memref sig .tc .vmem S1x1x16384 .i32) (harg3 : arg3.IsWhole) (arg4 : Memref sig .tc .vmem S1x32x1 .i32) (harg4 : arg4.IsWhole) (arg5 : Memref sig .tc .vmem S1x32x1 .i32) (harg5 : arg5.IsWhole) (arg6 : Memref sig .tc .vmem S1x32x4 .f32) (harg6 : arg6.IsWhole) (arg7 : Memref sig .tc .vmem S1x4x16384 .f32) (harg7 : arg7.IsWhole) (arg8 : Memref sig .tc .vmem S1x1x16384 .f32) (harg8 : arg8.IsWhole) (arg9 : Memref sig .tc .vmem S1x1x16384 .i32) (harg9 : arg9.IsWhole) (arg10 : Memref sig .tc .vmem S1x1x16384 .f32) (harg10 : arg10.IsWhole) (arg11 : Memref sig .tc .vmem S1x128 .f32) (harg11 : arg11.IsWhole) (arg12 : Memref sig .tc .smem S2 .f32) (harg12 : arg12.IsWhole) (hc0 : ¬cond0_0 i) (hc1 : cond0_1 i) (hc2 : ¬cond0_2 i)
    (x0 : Vec F S1x1x16384 .f32) (x1 : Vec F S1x1x16384 .i32) (x2 : Vec F S1x32x1 .i32) (x3 : Vec F S1x32x1 .i32) (x4 : Vec F S1x32x4 .f32) (x5 : Vec F S1x4x16384 .f32) (x6 : Vec F S1x1x16384 .f32) (xs0 : Vec F S2 .f32) :
    sout0_B_0 c i arg2 harg2 arg3 harg3 arg4 harg4 arg5 harg5 arg6 harg6 arg7 harg7 arg8 harg8 arg9 harg9 arg10 harg10 arg11 harg11 arg12 harg12 hc0 hc1 hc2 x0 x1 x2 x3 x4 x5 x6 xs0 (ix1 0) = k1_pay3 (k1_pay9 i x0 x2) (k1_pay18 (k1_pay11 (k1_pay6 x1)) (k1_pay14 x4) (k1_pay15 (k1_pay6 x1) x4) (k1_pay16 (k1_pay6 x1) x4) (k1_pay17 x4) x5) k1_pay19 (xs0 (ix1 0)) := by
  unfold sout0_B_0
  unfold kernelRun0_B
  dsimp only
  sl_unfold_words
  refine (View.read_writes_cons_unit_of_not_mem _ _ _ _ _ (ix1 0) rfl 0 (.inl (by decide))).trans ?_
  refine (View.read_writes_cons_unit_of_mem _ _ _ _ _ (ix1 0) (fun a => ⟨0, by fin_cases a; decide⟩) rfl (fun a => by fin_cases a; rfl)).trans ?_
  simp only [View.readAt_eq_ld, harg2.read_unread, harg3.read_unread, harg4.read_unread, harg5.read_unread, harg6.read_unread, harg7.read_unread, harg8.read_unread, harg9.read_unread, harg10.read_unread, harg11.read_unread, harg12.read_unread, View.ld_unit_zero (S := S1x4x16384) hz3, View.ld_unit_zero (S := S1x32x4) hz3, View.ld_unit_zero (S := S1x32x1) hz3, View.ld_unit_zero (S := S1x1x16384) hz3, View.ld_unit_zero (S := S1x128) hz2, shapeCast_self]
  rw [show View.ld xs0 (Rect.unit ![0] ![1] inb_S2_S1_0) (Shape.Idx.first numel1_S1.symm.le) = xs0 (ix1 0) from
    congrArg xs0 (funext fun a => by fin_cases a; rfl)]
  try rfl

theorem sout_B_0_1 (c : Dev nD) (i : grid1.Coords) (arg2 : Memref sig .tc .vmem S1x1x16384 .f32) (harg2 : arg2.IsWhole) (arg3 : Memref sig .tc .vmem S1x1x16384 .i32) (harg3 : arg3.IsWhole) (arg4 : Memref sig .tc .vmem S1x32x1 .i32) (harg4 : arg4.IsWhole) (arg5 : Memref sig .tc .vmem S1x32x1 .i32) (harg5 : arg5.IsWhole) (arg6 : Memref sig .tc .vmem S1x32x4 .f32) (harg6 : arg6.IsWhole) (arg7 : Memref sig .tc .vmem S1x4x16384 .f32) (harg7 : arg7.IsWhole) (arg8 : Memref sig .tc .vmem S1x1x16384 .f32) (harg8 : arg8.IsWhole) (arg9 : Memref sig .tc .vmem S1x1x16384 .i32) (harg9 : arg9.IsWhole) (arg10 : Memref sig .tc .vmem S1x1x16384 .f32) (harg10 : arg10.IsWhole) (arg11 : Memref sig .tc .vmem S1x128 .f32) (harg11 : arg11.IsWhole) (arg12 : Memref sig .tc .smem S2 .f32) (harg12 : arg12.IsWhole) (hc0 : ¬cond0_0 i) (hc1 : cond0_1 i) (hc2 : ¬cond0_2 i)
    (x0 : Vec F S1x1x16384 .f32) (x1 : Vec F S1x1x16384 .i32) (x2 : Vec F S1x32x1 .i32) (x3 : Vec F S1x32x1 .i32) (x4 : Vec F S1x32x4 .f32) (x5 : Vec F S1x4x16384 .f32) (x6 : Vec F S1x1x16384 .f32) (xs0 : Vec F S2 .f32) :
    sout0_B_0 c i arg2 harg2 arg3 harg3 arg4 harg4 arg5 harg5 arg6 harg6 arg7 harg7 arg8 harg8 arg9 harg9 arg10 harg10 arg11 harg11 arg12 harg12 hc0 hc1 hc2 x0 x1 x2 x3 x4 x5 x6 xs0 (ix1 1) = k1_pay4 (k1_pay9 i x0 x2) (xs0 (ix1 1)) := by
  unfold sout0_B_0
  unfold kernelRun0_B
  dsimp only
  sl_unfold_words
  refine (View.read_writes_cons_unit_of_mem _ _ _ _ _ (ix1 1) (fun a => ⟨0, by fin_cases a; decide⟩) rfl (fun a => by fin_cases a; rfl)).trans ?_
  simp only [View.readAt_eq_ld, harg2.read_unread, harg3.read_unread, harg4.read_unread, harg5.read_unread, harg6.read_unread, harg7.read_unread, harg8.read_unread, harg9.read_unread, harg10.read_unread, harg11.read_unread, harg12.read_unread, View.ld_unit_zero (S := S1x4x16384) hz3, View.ld_unit_zero (S := S1x32x4) hz3, View.ld_unit_zero (S := S1x32x1) hz3, View.ld_unit_zero (S := S1x1x16384) hz3, View.ld_unit_zero (S := S1x128) hz2, shapeCast_self]
  rw [show View.ld xs0 (Rect.unit ![1] ![1] inb_S2_S1_1) (Shape.Idx.first numel1_S1.symm.le) = xs0 (ix1 1) from
    congrArg xs0 (funext fun a => by fin_cases a; rfl)]
  try rfl

theorem sout_C_0_0 (c : Dev nD) (i : grid1.Coords) (arg2 : Memref sig .tc .vmem S1x1x16384 .f32) (harg2 : arg2.IsWhole) (arg3 : Memref sig .tc .vmem S1x1x16384 .i32) (harg3 : arg3.IsWhole) (arg4 : Memref sig .tc .vmem S1x32x1 .i32) (harg4 : arg4.IsWhole) (arg5 : Memref sig .tc .vmem S1x32x1 .i32) (harg5 : arg5.IsWhole) (arg6 : Memref sig .tc .vmem S1x32x4 .f32) (harg6 : arg6.IsWhole) (arg7 : Memref sig .tc .vmem S1x4x16384 .f32) (harg7 : arg7.IsWhole) (arg8 : Memref sig .tc .vmem S1x1x16384 .f32) (harg8 : arg8.IsWhole) (arg9 : Memref sig .tc .vmem S1x1x16384 .i32) (harg9 : arg9.IsWhole) (arg10 : Memref sig .tc .vmem S1x1x16384 .f32) (harg10 : arg10.IsWhole) (arg11 : Memref sig .tc .vmem S1x128 .f32) (harg11 : arg11.IsWhole) (arg12 : Memref sig .tc .smem S2 .f32) (harg12 : arg12.IsWhole) (hc0 : ¬cond0_0 i) (hc1 : cond0_1 i) (hc2 : cond0_2 i)
    (x0 : Vec F S1x1x16384 .f32) (x1 : Vec F S1x1x16384 .i32) (x2 : Vec F S1x32x1 .i32) (x3 : Vec F S1x32x1 .i32) (x4 : Vec F S1x32x4 .f32) (x5 : Vec F S1x4x16384 .f32) (x6 : Vec F S1x1x16384 .f32) (xs0 : Vec F S2 .f32) :
    sout0_C_0 c i arg2 harg2 arg3 harg3 arg4 harg4 arg5 harg5 arg6 harg6 arg7 harg7 arg8 harg8 arg9 harg9 arg10 harg10 arg11 harg11 arg12 harg12 hc0 hc1 hc2 x0 x1 x2 x3 x4 x5 x6 xs0 (ix1 0) = k1_pay3 (k1_pay9 i x0 x2) (k1_pay18 (k1_pay11 (k1_pay6 x1)) (k1_pay14 x4) (k1_pay15 (k1_pay6 x1) x4) (k1_pay16 (k1_pay6 x1) x4) (k1_pay17 x4) x5) k1_pay19 (xs0 (ix1 0)) := by
  unfold sout0_C_0
  unfold kernelRun0_C
  dsimp only
  sl_unfold_words
  refine (View.read_writes_cons_unit_of_not_mem _ _ _ _ _ (ix1 0) rfl 0 (.inl (by decide))).trans ?_
  refine (View.read_writes_cons_unit_of_mem _ _ _ _ _ (ix1 0) (fun a => ⟨0, by fin_cases a; decide⟩) rfl (fun a => by fin_cases a; rfl)).trans ?_
  simp only [View.readAt_eq_ld, harg2.read_unread, harg3.read_unread, harg4.read_unread, harg5.read_unread, harg6.read_unread, harg7.read_unread, harg8.read_unread, harg9.read_unread, harg10.read_unread, harg11.read_unread, harg12.read_unread, View.ld_unit_zero (S := S1x4x16384) hz3, View.ld_unit_zero (S := S1x32x4) hz3, View.ld_unit_zero (S := S1x32x1) hz3, View.ld_unit_zero (S := S1x1x16384) hz3, View.ld_unit_zero (S := S1x128) hz2, shapeCast_self]
  rw [show View.ld xs0 (Rect.unit ![0] ![1] inb_S2_S1_0) (Shape.Idx.first numel1_S1.symm.le) = xs0 (ix1 0) from
    congrArg xs0 (funext fun a => by fin_cases a; rfl)]
  try rfl

theorem sout_C_0_1 (c : Dev nD) (i : grid1.Coords) (arg2 : Memref sig .tc .vmem S1x1x16384 .f32) (harg2 : arg2.IsWhole) (arg3 : Memref sig .tc .vmem S1x1x16384 .i32) (harg3 : arg3.IsWhole) (arg4 : Memref sig .tc .vmem S1x32x1 .i32) (harg4 : arg4.IsWhole) (arg5 : Memref sig .tc .vmem S1x32x1 .i32) (harg5 : arg5.IsWhole) (arg6 : Memref sig .tc .vmem S1x32x4 .f32) (harg6 : arg6.IsWhole) (arg7 : Memref sig .tc .vmem S1x4x16384 .f32) (harg7 : arg7.IsWhole) (arg8 : Memref sig .tc .vmem S1x1x16384 .f32) (harg8 : arg8.IsWhole) (arg9 : Memref sig .tc .vmem S1x1x16384 .i32) (harg9 : arg9.IsWhole) (arg10 : Memref sig .tc .vmem S1x1x16384 .f32) (harg10 : arg10.IsWhole) (arg11 : Memref sig .tc .vmem S1x128 .f32) (harg11 : arg11.IsWhole) (arg12 : Memref sig .tc .smem S2 .f32) (harg12 : arg12.IsWhole) (hc0 : ¬cond0_0 i) (hc1 : cond0_1 i) (hc2 : cond0_2 i)
    (x0 : Vec F S1x1x16384 .f32) (x1 : Vec F S1x1x16384 .i32) (x2 : Vec F S1x32x1 .i32) (x3 : Vec F S1x32x1 .i32) (x4 : Vec F S1x32x4 .f32) (x5 : Vec F S1x4x16384 .f32) (x6 : Vec F S1x1x16384 .f32) (xs0 : Vec F S2 .f32) :
    sout0_C_0 c i arg2 harg2 arg3 harg3 arg4 harg4 arg5 harg5 arg6 harg6 arg7 harg7 arg8 harg8 arg9 harg9 arg10 harg10 arg11 harg11 arg12 harg12 hc0 hc1 hc2 x0 x1 x2 x3 x4 x5 x6 xs0 (ix1 1) = k1_pay4 (k1_pay9 i x0 x2) (xs0 (ix1 1)) := by
  unfold sout0_C_0
  unfold kernelRun0_C
  dsimp only
  sl_unfold_words
  refine (View.read_writes_cons_unit_of_mem _ _ _ _ _ (ix1 1) (fun a => ⟨0, by fin_cases a; decide⟩) rfl (fun a => by fin_cases a; rfl)).trans ?_
  simp only [View.readAt_eq_ld, harg2.read_unread, harg3.read_unread, harg4.read_unread, harg5.read_unread, harg6.read_unread, harg7.read_unread, harg8.read_unread, harg9.read_unread, harg10.read_unread, harg11.read_unread, harg12.read_unread, View.ld_unit_zero (S := S1x4x16384) hz3, View.ld_unit_zero (S := S1x32x4) hz3, View.ld_unit_zero (S := S1x32x1) hz3, View.ld_unit_zero (S := S1x1x16384) hz3, View.ld_unit_zero (S := S1x128) hz2, shapeCast_self]
  rw [show View.ld xs0 (Rect.unit ![1] ![1] inb_S2_S1_1) (Shape.Idx.first numel1_S1.symm.le) = xs0 (ix1 1) from
    congrArg xs0 (funext fun a => by fin_cases a; rfl)]
  try rfl

theorem out_C_9 (c : Dev nD) (i : grid1.Coords) (arg2 : Memref sig .tc .vmem S1x1x16384 .f32) (harg2 : arg2.IsWhole) (arg3 : Memref sig .tc .vmem S1x1x16384 .i32) (harg3 : arg3.IsWhole) (arg4 : Memref sig .tc .vmem S1x32x1 .i32) (harg4 : arg4.IsWhole) (arg5 : Memref sig .tc .vmem S1x32x1 .i32) (harg5 : arg5.IsWhole) (arg6 : Memref sig .tc .vmem S1x32x4 .f32) (harg6 : arg6.IsWhole) (arg7 : Memref sig .tc .vmem S1x4x16384 .f32) (harg7 : arg7.IsWhole) (arg8 : Memref sig .tc .vmem S1x1x16384 .f32) (harg8 : arg8.IsWhole) (arg9 : Memref sig .tc .vmem S1x1x16384 .i32) (harg9 : arg9.IsWhole) (arg10 : Memref sig .tc .vmem S1x1x16384 .f32) (harg10 : arg10.IsWhole) (arg11 : Memref sig .tc .vmem S1x128 .f32) (harg11 : arg11.IsWhole) (arg12 : Memref sig .tc .smem S2 .f32) (harg12 : arg12.IsWhole) (hc0 : ¬cond0_0 i) (hc1 : cond0_1 i) (hc2 : cond0_2 i)
    (x0 : Vec F S1x1x16384 .f32) (x1 : Vec F S1x1x16384 .i32) (x2 : Vec F S1x32x1 .i32) (x3 : Vec F S1x32x1 .i32) (x4 : Vec F S1x32x4 .f32) (x5 : Vec F S1x4x16384 .f32) (x6 : Vec F S1x1x16384 .f32) (xs0 : Vec F S2 .f32) :
    out0_C_9 c i arg2 harg2 arg3 harg3 arg4 harg4 arg5 harg5 arg6 harg6 arg7 harg7 arg8 harg8 arg9 harg9 arg10 harg10 arg11 harg11 arg12 harg12 hc0 hc1 hc2 x0 x1 x2 x3 x4 x5 x6 xs0 = k1_pay5 (k1_pay3 (k1_pay9 i x0 x2) (k1_pay18 (k1_pay11 (k1_pay6 x1)) (k1_pay14 x4) (k1_pay15 (k1_pay6 x1) x4) (k1_pay16 (k1_pay6 x1) x4) (k1_pay17 x4) x5) k1_pay19 (xs0 (ix1 0))) (k1_pay4 (k1_pay9 i x0 x2) (xs0 (ix1 1))) := by
  unfold out0_C_9
  rw [View.read_writes_eq_canon _ _ _ (cover0_C_9 c i arg2 harg2 arg3 harg3 arg4 harg4 arg5 harg5 arg6 harg6 arg7 harg7 arg8 harg8 arg9 harg9 arg10 harg10 arg11 harg11 arg12 harg12 hc0 hc1 hc2 x0 x1 x2 x3 x4 x5 x6 xs0)]
  unfold kernelRun0_C
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, harg11.read_unread, harg12.read_unread, View.ld_unit_zero (S := S1x4x16384) hz3, View.ld_unit_zero (S := S1x32x4) hz3, View.ld_unit_zero (S := S1x32x1) hz3, View.ld_unit_zero (S := S1x1x16384) hz3, View.ld_unit_zero (S := S1x128) hz2, shapeCast_self]
  rw [show View.ld xs0 (Rect.unit ![0] ![1] inb_S2_S1_0) (Shape.Idx.first numel1_S1.symm.le) = xs0 (ix1 0) from
    congrArg xs0 (funext fun a => by fin_cases a; rfl)]
  rw [show View.ld xs0 (Rect.unit ![1] ![1] inb_S2_S1_1) (Shape.Idx.first numel1_S1.symm.le) = xs0 (ix1 1) from
    congrArg xs0 (funext fun a => by fin_cases a; rfl)]
  try rfl

end Cert.KernelIdeal.Region1

end
-- ==== Proof.Region1.Entries.lean ====
/- The assignment call's named payloads, entry by entry over the extended reals. -/
module

public import proofs.«01_k».proof.Proof.Gen.KernelIdeal.Skeleton
public import proofs.«01_k».proof.Proof.Rows

@[expose] public section

set_option maxRecDepth 16384

noncomputable section

namespace Cert.KernelIdeal.Region1

open Cert.KernelIdeal Cert.KernelIdeal.Gen Idealize.ShloMosaic Idealize.ShloMosaic.TcCoe Cert.Spec

/-- The anchor's number at place `r` of block `k`, as the body computes it. -/
theorem lane_eq (k r : ℕ) :
    IntOp.addi (BitVec.ofNat 32 r) (Scalar.muli (BitVec.ofNat 32 k) 16384#32) = BitVec.ofNat 32 (k * 16384 + r) := by
  show BitVec.ofNat 32 r + BitVec.ofNat 32 k * 16384#32 = _
  apply BitVec.eq_of_toNat_eq
  simp only [BitVec.toNat_add, BitVec.toNat_mul, BitVec.toNat_ofNat]
  omega

/-- The labels. -/
theorem pay7_apply (i : grid1.Coords) (v : Vec Ideal S1x1x16384 .f32) (w : Vec Ideal S1x32x1 .i32) (r : Fin 16384) :
    k1_pay7 (F := Ideal) i v w (ix2 0 r)
      = lab (v (ix3 0 0 r)) (∃ x : Fin 32, w (ix3 0 x 0) = BitVec.ofNat 32 ((i 1).val * 16384 + r.val)) := by
  have h := any_eq (fun x => w (ix3 0 x 0)) (BitVec.ofNat 32 ((i 1).val * 16384 + r.val))
  pointwise [k1_pay7]
  simp only [lane_eq]
  unfold lab
  by_cases hq : ∃ x : Fin 32, w (ix3 0 x 0) = BitVec.ofNat 32 ((i 1).val * 16384 + r.val)
  · rw [if_pos hq, if_pos (h.mpr hq)]
  · rw [if_neg hq, if_neg (fun h' => hq (h.mp h'))]

theorem pay8_apply (i : grid1.Coords) (v : Vec Ideal S1x1x16384 .f32) (w : Vec Ideal S1x32x1 .i32) (r : Fin 16384) :
    k1_pay8 (F := Ideal) i v w (ix2 0 r) = IntOp.cmpi .eq (k1_pay7 (F := Ideal) i v w (ix2 0 r)) 1#32 := by
  pointwise [k1_pay8]

theorem pay9_apply (i : grid1.Coords) (v : Vec Ideal S1x1x16384 .f32) (w : Vec Ideal S1x32x1 .i32) (r : Fin 16384) :
    k1_pay9 (F := Ideal) i v w (ix2 0 r) = fgw (k1_pay7 (F := Ideal) i v w (ix2 0 r)) := by
  pointwise [k1_pay9, k1_pay8]
  rw [bit_eq]
  rfl

theorem pay13_apply (i : grid1.Coords) (v : Vec Ideal S1x1x16384 .f32) (w : Vec Ideal S1x32x1 .i32) (m : Vec Ideal S1x1x16384 .f32)
    (r : Fin 16384) :
    k1_pay13 (F := Ideal) (k1_pay10 (F := Ideal) i v w) m (ix3 0 0 r) = validw (k1_pay7 (F := Ideal) i v w (ix2 0 r)) (m (ix3 0 0 r)) := by
  pointwise [k1_pay13, k1_pay10]
  rw [bit_ne]
  rfl

/-- The target classes, where the anchor's match is ground truth `n`. -/
theorem pay12_apply (i : grid1.Coords) (v : Vec Ideal S1x1x16384 .f32) (w : Vec Ideal S1x32x1 .i32) (x1 : Vec Ideal S1x1x16384 .i32)
    (u : Vec Ideal S1x32x1 .i32) (r : Fin 16384) (n : Fin 32) (hn : x1 (ix3 0 0 r) = BitVec.ofNat 32 n.val) :
    k1_pay12 (F := Ideal) (k1_pay6 (F := Ideal) x1) (k1_pay8 (F := Ideal) i v w) u (ix3 0 0 r)
      = tcw (k1_pay7 (F := Ideal) i v w (ix2 0 r)) (u (ix3 0 n 0)) := by
  pointwise [k1_pay12, k1_pay11, k1_pay6, k1_pay8]
  rw [onehot_sum n (fun x => FloatOps.sitofp (F := Ideal) FTy.f32 (u (ix3 0 x 0))) _ hn, select_eq]
  unfold tcw
  refine if_congr Iff.rfl ?_ rfl
  exact word_back _

/-- The generalised overlap of the predicted box with the matched one, where the anchor's match is ground truth `n`. -/
theorem pay18_apply (x1 : Vec Ideal S1x1x16384 .i32) (x4 : Vec Ideal S1x32x4 .f32) (x5 : Vec Ideal S1x4x16384 .f32) (r : Fin 16384)
    (n : Fin 32) (hn : x1 (ix3 0 0 r) = BitVec.ofNat 32 n.val) :
    k1_pay18 (F := Ideal) (k1_pay11 (k1_pay6 (F := Ideal) x1)) (k1_pay14 x4) (k1_pay15 (k1_pay6 (F := Ideal) x1) x4)
        (k1_pay16 (k1_pay6 (F := Ideal) x1) x4) (k1_pay17 x4) x5 (ix2 0 r)
      = giou (fun q => x5 (ix3 0 q r)) (fun q => x4 (ix3 0 n q)) := by
  pointwise [k1_pay18, k1_pay11, k1_pay14, k1_pay15, k1_pay16, k1_pay17, k1_pay6]
  have h := fun q : Fin 4 => onehot_sum n (fun x => x4 (ix3 0 x q)) _ hn
  simp only [h]
  rfl

/-- The block's box loss. -/
theorem pay1_eq (v33 v123 : FVec Ideal S1x16384 .f32) :
    (k1_pay1 (F := Ideal) v33 v123 (k1_pay19 (F := Ideal)) : EReal) = ∑ r : Fin 16384, ((1 : EReal) - v123 (ix2 0 r)) * v33 (ix2 0 r) := by
  pointwise [k1_pay1, k1_pay19]
  rw [Fin.sum_univ_one]

/-- The block's number of foreground anchors. -/
theorem pay2_eq (v33 : FVec Ideal S1x16384 .f32) : (k1_pay2 (F := Ideal) v33 : EReal) = ∑ r : Fin 16384, v33 (ix2 0 r) := by
  pointwise [k1_pay2]
  rw [Fin.sum_univ_one]

theorem pay3_eq (a b : FVec Ideal S1x16384 .f32) (s : EReal) :
    (k1_pay3 (F := Ideal) a b (k1_pay19 (F := Ideal)) s : EReal) = s + k1_pay1 (F := Ideal) a b (k1_pay19 (F := Ideal)) := rfl

theorem pay4_eq (a : FVec Ideal S1x16384 .f32) (s : EReal) : (k1_pay4 (F := Ideal) a s : EReal) = s + k1_pay2 (F := Ideal) a := rfl

theorem pay5_zero (s t : EReal) : k1_pay5 (F := Ideal) s t (ix2 0 0) = s := by
  pointwise [k1_pay5]
  try rfl

theorem pay5_one (s t : EReal) : k1_pay5 (F := Ideal) s t (ix2 0 1) = t := by
  pointwise [k1_pay5]
  try rfl

end Cert.KernelIdeal.Region1

end
-- ==== Proof.Region1.Value.lean ====
/-
  What the assignment call leaves at the end, entry by entry: target classes, weights, and the two sums over all anchors.
-/
module

public import proofs.«01_k».proof.Proof.Region1.Sums
public import proofs.«01_k».proof.Proof.Region1.Entries

@[expose] public section

set_option maxRecDepth 16384

noncomputable section

namespace Cert.KernelIdeal.Region1

open Cert.KernelIdeal Cert.KernelIdeal.Gen Idealize.ShloMosaic Idealize.ShloMosaic.TcCoe Idealize.SL.Sem Cert.Spec
open Idealize.ShloMosaic.Pipeline (Dat)

variable (V : (c : Dev nD) → (b : Ref sig .tc) → Buf (Elt Ideal) ((c : Thread nD τ).loc b))

/-- Grid point `t` is image `t / 4` and block `t % 4` of the anchors. -/
theorem coord1 (t : Fin cfg1.N) : (grid1.coords t 1).val = t.val % 4 :=
  (by decide +kernel : ∀ t : Fin grid1.N, (grid1.coords t 1).val = t.val % 4) t

theorem lt32 (t : Fin cfg1.N) : t.val < 32 := lt_of_lt_of_eq t.isLt N_1

/-- The image of a grid point. -/
def img (t : Fin cfg1.N) : Fin 8 := ⟨t.val / 4, by have := lt32 t; omega⟩

/-- The anchor at place `r` of a grid point's block. -/
def anc (t : Fin cfg1.N) (r : Fin 16384) : Fin 65536 := ⟨t.val % 4 * 16384 + r.val, by omega⟩

/-- The grid point of image `b` whose block holds anchor `j`. -/
def pt (b : Fin 8) (j : Fin 65536) : Fin cfg1.N := ⟨4 * b.val + j.val / 16384, lt_of_lt_of_eq (by omega) N_1.symm⟩

theorem blk0 (c : Dev nD) (t : Fin cfg1.N) (r : Fin 16384) :
    iblk V c 0 t (ix3 0 0 r) = V c main_v5_0 (ix3 (img t) 0 (anc t r)) := by
  have hi : win1_0.index t 0 = t.val / 4 ∧ win1_0.index t 1 = 0 ∧ win1_0.index t 2 = t.val % 4 :=
    (by decide +kernel : ∀ t : Fin grid1.N, win1_0.index t 0 = t.val / 4 ∧ win1_0.index t 1 = 0 ∧ win1_0.index t 2 = t.val % 4) t
  unfold iblk
  rw [View.read_apply]
  show V c main_v5_0 _ = V c main_v5_0 _
  congr 1
  funext a
  apply Fin.ext
  match a with
  | ⟨0, _⟩ => show win1_0.index t 0 * 1 + 1 * 0 = t.val / 4; rw [hi.1]; omega
  | ⟨1, _⟩ => show win1_0.index t 1 * 1 + 1 * 0 = 0; rw [hi.2.1]
  | ⟨2, _⟩ => show win1_0.index t 2 * 16384 + 1 * r.val = t.val % 4 * 16384 + r.val; rw [hi.2.2]; omega

theorem blk1 (c : Dev nD) (t : Fin cfg1.N) (r : Fin 16384) :
    iblk V c 1 t (ix3 0 0 r) = V c main_v5_1 (ix3 (img t) 0 (anc t r)) := by
  have hi : win1_1.index t 0 = t.val / 4 ∧ win1_1.index t 1 = 0 ∧ win1_1.index t 2 = t.val % 4 :=
    (by decide +kernel : ∀ t : Fin grid1.N, win1_1.index t 0 = t.val / 4 ∧ win1_1.index t 1 = 0 ∧ win1_1.index t 2 = t.val % 4) t
  unfold iblk
  rw [View.read_apply]
  show V c main_v5_1 _ = V c main_v5_1 _
  congr 1
  funext a
  apply Fin.ext
  match a with
  | ⟨0, _⟩ => show win1_1.index t 0 * 1 + 1 * 0 = t.val / 4; rw [hi.1]; omega
  | ⟨1, _⟩ => show win1_1.index t 1 * 1 + 1 * 0 = 0; rw [hi.2.1]
  | ⟨2, _⟩ => show win1_1.index t 2 * 16384 + 1 * r.val = t.val % 4 * 16384 + r.val; rw [hi.2.2]; omega

theorem blk2 (c : Dev nD) (t : Fin cfg1.N) (n : Fin 32) :
    iblk V c 2 t (ix3 0 n 0) = V c main_v5_3 (ix3 (img t) n 0) := by
  have hi : win1_2.index t 0 = t.val / 4 ∧ win1_2.index t 1 = 0 ∧ win1_2.index t 2 = 0 :=
    (by decide +kernel : ∀ t : Fin grid1.N, win1_2.index t 0 = t.val / 4 ∧ win1_2.index t 1 = 0 ∧ win1_2.index t 2 = 0) t
  unfold iblk
  rw [View.read_apply]
  show V c main_v5_3 _ = V c main_v5_3 _
  congr 1
  funext a
  apply Fin.ext
  match a with
  | ⟨0, _⟩ => show win1_2.index t 0 * 1 + 1 * 0 = t.val / 4; rw [hi.1]; omega
  | ⟨1, _⟩ => show win1_2.index t 1 * 32 + 1 * n.val = n.val; rw [hi.2.1]; omega
  | ⟨2, _⟩ => show win1_2.index t 2 * 1 + 1 * 0 = 0; rw [hi.2.2]

theorem blk3 (c : Dev nD) (t : Fin cfg1.N) (n : Fin 32) :
    iblk V c 3 t (ix3 0 n 0) = V c main_v2 (ix3 (img t) n 0) := by
  have hi : win1_3.index t 0 = t.val / 4 ∧ win1_3.index t 1 = 0 ∧ win1_3.index t 2 = 0 :=
    (by decide +kernel : ∀ t : Fin grid1.N, win1_3.index t 0 = t.val / 4 ∧ win1_3.index t 1 = 0 ∧ win1_3.index t 2 = 0) t
  unfold iblk
  rw [View.read_apply]
  show V c main_v2 _ = V c main_v2 _
  congr 1
  funext a
  apply Fin.ext
  match a with
  | ⟨0, _⟩ => show win1_3.index t 0 * 1 + 1 * 0 = t.val / 4; rw [hi.1]; omega
  | ⟨1, _⟩ => show win1_3.index t 1 * 32 + 1 * n.val = n.val; rw [hi.2.1]; omega
  | ⟨2, _⟩ => show win1_3.index t 2 * 1 + 1 * 0 = 0; rw [hi.2.2]

theorem blk4 (c : Dev nD) (t : Fin cfg1.N) (n : Fin 32) (q : Fin 4) :
    iblk V c 4 t (ix3 0 n q) = V c main_arg4 (ix3 (img t) n q) := by
  have hi : win1_4.index t 0 = t.val / 4 ∧ win1_4.index t 1 = 0 ∧ win1_4.index t 2 = 0 :=
    (by decide +kernel : ∀ t : Fin grid1.N, win1_4.index t 0 = t.val / 4 ∧ win1_4.index t 1 = 0 ∧ win1_4.index t 2 = 0) t
  unfold iblk
  rw [View.read_apply]
  show V c main_arg4 _ = V c main_arg4 _
  congr 1
  funext a
  apply Fin.ext
  match a with
  | ⟨0, _⟩ => show win1_4.index t 0 * 1 + 1 * 0 = t.val / 4; rw [hi.1]; omega
  | ⟨1, _⟩ => show win1_4.index t 1 * 32 + 1 * n.val = n.val; rw [hi.2.1]; omega
  | ⟨2, _⟩ => show win1_4.index t 2 * 4 + 1 * q.val = q.val; rw [hi.2.2]; omega

theorem blk5 (c : Dev nD) (t : Fin cfg1.N) (q : Fin 4) (r : Fin 16384) :
    iblk V c 5 t (ix3 0 q r) = V c main_v1 (ix3 (img t) q (anc t r)) := by
  have hi : win1_5.index t 0 = t.val / 4 ∧ win1_5.index t 1 = 0 ∧ win1_5.index t 2 = t.val % 4 :=
    (by decide +kernel : ∀ t : Fin grid1.N, win1_5.index t 0 = t.val / 4 ∧ win1_5.index t 1 = 0 ∧ win1_5.index t 2 = t.val % 4) t
  unfold iblk
  rw [View.read_apply]
  show V c main_v1 _ = V c main_v1 _
  congr 1
  funext a
  apply Fin.ext
  match a with
  | ⟨0, _⟩ => show win1_5.index t 0 * 1 + 1 * 0 = t.val / 4; rw [hi.1]; omega
  | ⟨1, _⟩ => show win1_5.index t 1 * 4 + 1 * q.val = q.val; rw [hi.2.1]; omega
  | ⟨2, _⟩ => show win1_5.index t 2 * 16384 + 1 * r.val = t.val % 4 * 16384 + r.val; rw [hi.2.2]; omega

theorem blk6 (c : Dev nD) (t : Fin cfg1.N) (r : Fin 16384) :
    iblk V c 6 t (ix3 0 0 r) = V c main_v4 (ix3 (img t) 0 (anc t r)) := by
  have hi : win1_6.index t 0 = t.val / 4 ∧ win1_6.index t 1 = 0 ∧ win1_6.index t 2 = t.val % 4 :=
    (by decide +kernel : ∀ t : Fin grid1.N, win1_6.index t 0 = t.val / 4 ∧ win1_6.index t 1 = 0 ∧ win1_6.index t 2 = t.val % 4) t
  unfold iblk
  rw [View.read_apply]
  show V c main_v4 _ = V c main_v4 _
  congr 1
  funext a
  apply Fin.ext
  match a with
  | ⟨0, _⟩ => show win1_6.index t 0 * 1 + 1 * 0 = t.val / 4; rw [hi.1]; omega
  | ⟨1, _⟩ => show win1_6.index t 1 * 1 + 1 * 0 = 0; rw [hi.2.1]
  | ⟨2, _⟩ => show win1_6.index t 2 * 16384 + 1 * r.val = t.val % 4 * 16384 + r.val; rw [hi.2.2]; omega

/-- The label of anchor `j` of image `b`, from the arrays the call is given. -/
def labV (c : Dev nD) (b : Fin 8) (j : Fin 65536) : BitVec 32 :=
  lab (V c main_v5_0 (ix3 b 0 j)) (∃ x : Fin 32, V c main_v5_3 (ix3 b x 0) = BitVec.ofNat 32 j.val)

theorem block_lab (c : Dev nD) (t : Fin cfg1.N) (r : Fin 16384) :
    k1_pay7 (F := Ideal) (grid1.coords t) (iblk V c 0 t) (iblk V c 2 t) (ix2 0 r) = labV V c (img t) (anc t r) := by
  rw [pay7_apply, coord1]
  unfold labV
  simp only [blk0, blk2]
  rfl

/-! The outputs after a point, by the point's case. -/

theorem tcAt (c : Dev nD) (t : Fin cfg1.N) :
    (outsAt0 V c t.val t.isLt).1
      = k1_pay12 (F := Ideal) (k1_pay6 (F := Ideal) (iblk V c 1 t)) (k1_pay8 (F := Ideal) (grid1.coords t) (iblk V c 0 t) (iblk V c 2 t)) (iblk V c 3 t) := by
  have hN := lt32 t
  by_cases h0 : t.val % 32 = 0
  · rw [outsAt0_A V c t h0 (by omega) (by omega)]
    dsimp only
    rw [out_A_7]
  · by_cases h2 : t.val % 32 = 31
    · rw [outsAt0_C V c t h0 (by omega) h2]
      dsimp only
      rw [out_C_7]
    · rw [outsAt0_B V c t h0 (by omega) h2]
      dsimp only
      rw [out_B_7]

theorem validAt (c : Dev nD) (t : Fin cfg1.N) :
    (outsAt0 V c t.val t.isLt).2.1
      = k1_pay13 (F := Ideal) (k1_pay10 (F := Ideal) (grid1.coords t) (iblk V c 0 t) (iblk V c 2 t)) (iblk V c 6 t) := by
  have hN := lt32 t
  by_cases h0 : t.val % 32 = 0
  · rw [outsAt0_A V c t h0 (by omega) (by omega)]
    dsimp only
    rw [out_A_8]
  · by_cases h2 : t.val % 32 = 31
    · rw [outsAt0_C V c t h0 (by omega) h2]
      dsimp only
      rw [out_C_8]
    · rw [outsAt0_B V c t h0 (by omega) h2]
      dsimp only
      rw [out_B_8]

theorem disjoint7 : ∀ t t' : Fin cfg1.N, (cfg1.win 7).flush t = true → (cfg1.win 7).flush t' = true → t ≠ t' →
    Disjoint ((cfg1.win 7).blk t).view.set ((cfg1.win 7).blk t').view.set :=
  fun t t' hf hf' hne => (cfg1.win 7).disjoint_blk fun h => hne
    ((by decide +kernel : ∀ t t' : Fin grid1.N, win1_7.flush t = true → win1_7.flush t' = true → win1_7.index t = win1_7.index t' → t = t') t t' hf hf' h)

theorem arr7 (c : Dev nD) (t : Fin cfg1.N) (hf : (cfg1.win 7).flush t = true) (y : S1x1x16384.Idx) :
    (dats V 0 c).arrAt 7 cfg1.N (((cfg1.win 7).blk t).view.emb y) = (outsAt0 V c t.val t.isLt).1 y := by
  have h := congrFun ((dats V 0 c).read_blk_arrAt_eq_flushed 7 disjoint7 cfg1.N t t.isLt hf) y
  refine Eq.trans ?_ (h.trans ?_)
  · generalize (dats V 0 c).arrAt 7 cfg1.N = f
    rw [View.read_apply]
    exact (cast_eq _ _).symm
  show (cfg1.win 7).cut (grid1.coords t) ((dats V 0 c).after 7 t) y = _
  rw [after0_7]
  rfl

/-- Each anchor's target class, where its match is ground truth `n`. -/
theorem tc_final (c : Dev nD) (b : Fin 8) (j : Fin 65536) (n : Fin 32) (hn : V c main_v5_1 (ix3 b 0 j) = BitVec.ofNat 32 n.val) :
    (dats V 0 c).arrAt 7 cfg1.N (ix3 b 0 j) = tcw (labV V c b j) (V c main_v2 (ix3 b n 0)) := by
  have hi : win1_7.index (pt b j) 0 = (pt b j).val / 4 ∧ win1_7.index (pt b j) 1 = 0 ∧ win1_7.index (pt b j) 2 = (pt b j).val % 4 :=
    (by decide +kernel : ∀ t : Fin grid1.N, win1_7.index t 0 = t.val / 4 ∧ win1_7.index t 1 = 0 ∧ win1_7.index t 2 = t.val % 4) (pt b j)
  have hf : (cfg1.win 7).flush (pt b j) = true := (by decide +kernel : ∀ t : Fin grid1.N, win1_7.flush t = true) (pt b j)
  have hb : img (pt b j) = b := Fin.ext (by show (4 * b.val + j.val / 16384) / 4 = b.val; omega)
  have hj : anc (pt b j) ⟨j.val % 16384, by omega⟩ = j :=
    Fin.ext (by show (4 * b.val + j.val / 16384) % 4 * 16384 + j.val % 16384 = j.val; omega)
  have h := arr7 V c (pt b j) hf (ix3 0 0 ⟨j.val % 16384, by omega⟩)
  rw [tcAt, pay12_apply _ _ _ _ _ _ n (by rw [blk1, hb, hj, hn]), block_lab, blk3, hb, hj] at h
  refine Eq.trans (congrArg _ ?_) h
  funext a
  apply Fin.ext
  match a with
  | ⟨0, _⟩ => show b.val = win1_7.index (pt b j) 0 * 1 + 1 * 0; rw [hi.1]; show b.val = (4 * b.val + j.val / 16384) / 4 * 1 + 1 * 0; omega
  | ⟨1, _⟩ => show 0 = win1_7.index (pt b j) 1 * 1 + 1 * 0; rw [hi.2.1]
  | ⟨2, _⟩ => show j.val = win1_7.index (pt b j) 2 * 16384 + 1 * (j.val % 16384); rw [hi.2.2]; show j.val = (4 * b.val + j.val / 16384) % 4 * 16384 + 1 * (j.val % 16384); omega

theorem disjoint8 : ∀ t t' : Fin cfg1.N, (cfg1.win 8).flush t = true → (cfg1.win 8).flush t' = true → t ≠ t' →
    Disjoint ((cfg1.win 8).blk t).view.set ((cfg1.win 8).blk t').view.set :=
  fun t t' hf hf' hne => (cfg1.win 8).disjoint_blk fun h => hne
    ((by decide +kernel : ∀ t t' : Fin grid1.N, win1_8.flush t = true → win1_8.flush t' = true → win1_8.index t = win1_8.index t' → t = t') t t' hf hf' h)

theorem arr8 (c : Dev nD) (t : Fin cfg1.N) (hf : (cfg1.win 8).flush t = true) (y : S1x1x16384.Idx) :
    (dats V 0 c).arrAt 8 cfg1.N (((cfg1.win 8).blk t).view.emb y) = (outsAt0 V c t.val t.isLt).2.1 y := by
  have h := congrFun ((dats V 0 c).read_blk_arrAt_eq_flushed 8 disjoint8 cfg1.N t t.isLt hf) y
  refine Eq.trans ?_ (h.trans ?_)
  · generalize (dats V 0 c).arrAt 8 cfg1.N = f
    rw [View.read_apply]
    exact (cast_eq _ _).symm
  show (cfg1.win 8).cut (grid1.coords t) ((dats V 0 c).after 8 t) y = _
  rw [after0_8]
  rfl

/-- Each anchor's weight in the classification loss. -/
theorem valid_final (c : Dev nD) (b : Fin 8) (j : Fin 65536) :
    (dats V 0 c).arrAt 8 cfg1.N (ix3 b 0 j) = validw (labV V c b j) (V c main_v4 (ix3 b 0 j)) := by
  have hi : win1_8.index (pt b j) 0 = (pt b j).val / 4 ∧ win1_8.index (pt b j) 1 = 0 ∧ win1_8.index (pt b j) 2 = (pt b j).val % 4 :=
    (by decide +kernel : ∀ t : Fin grid1.N, win1_8.index t 0 = t.val / 4 ∧ win1_8.index t 1 = 0 ∧ win1_8.index t 2 = t.val % 4) (pt b j)
  have hf : (cfg1.win 8).flush (pt b j) = true := (by decide +kernel : ∀ t : Fin grid1.N, win1_8.flush t = true) (pt b j)
  have hb : img (pt b j) = b := Fin.ext (by show (4 * b.val + j.val / 16384) / 4 = b.val; omega)
  have hj : anc (pt b j) ⟨j.val % 16384, by omega⟩ = j :=
    Fin.ext (by show (4 * b.val + j.val / 16384) % 4 * 16384 + j.val % 16384 = j.val; omega)
  have h := arr8 V c (pt b j) hf (ix3 0 0 ⟨j.val % 16384, by omega⟩)
  rw [validAt, pay13_apply, block_lab, blk6, hb, hj] at h
  refine Eq.trans (congrArg _ ?_) h
  funext a
  apply Fin.ext
  match a with
  | ⟨0, _⟩ => show b.val = win1_8.index (pt b j) 0 * 1 + 1 * 0; rw [hi.1]; show b.val = (4 * b.val + j.val / 16384) / 4 * 1 + 1 * 0; omega
  | ⟨1, _⟩ => show 0 = win1_8.index (pt b j) 1 * 1 + 1 * 0; rw [hi.2.1]
  | ⟨2, _⟩ => show j.val = win1_8.index (pt b j) 2 * 16384 + 1 * (j.val % 16384); rw [hi.2.2]; show j.val = (4 * b.val + j.val / 16384) % 4 * 16384 + 1 * (j.val % 16384); omega

/-! The two sums. -/

/-- The matched ground truths, in the match array's words. -/
def Matches (c : Dev nD) (m : Fin 8 → Fin 65536 → Fin 32) : Prop := ∀ b j, V c main_v5_1 (ix3 b 0 j) = BitVec.ofNat 32 (m b j).val

/-- What anchor `j` of image `b` adds to the box loss. -/
def boxV (c : Dev nD) (m : Fin 8 → Fin 65536 → Fin 32) (b : Fin 8) (j : Fin 65536) : EReal :=
  boxw (labV V c b j) (fun q => V c main_v1 (ix3 b q j)) (fun q => V c main_arg4 (ix3 b (m b j) q))

/-- The box loss of a point's block. -/
theorem block_box (c : Dev nD) (m : Fin 8 → Fin 65536 → Fin 32) (hm : Matches V c m) (t : Fin cfg1.N) :
    (k1_pay1 (F := Ideal) (k1_pay9 (F := Ideal) (grid1.coords t) (iblk V c 0 t) (iblk V c 2 t))
      (k1_pay18 (F := Ideal) (k1_pay11 (k1_pay6 (F := Ideal) (iblk V c 1 t))) (k1_pay14 (iblk V c 4 t)) (k1_pay15 (k1_pay6 (F := Ideal) (iblk V c 1 t)) (iblk V c 4 t))
        (k1_pay16 (k1_pay6 (F := Ideal) (iblk V c 1 t)) (iblk V c 4 t)) (k1_pay17 (iblk V c 4 t)) (iblk V c 5 t)) (k1_pay19 (F := Ideal)) : EReal)
      = ∑ r : Fin 16384, boxV V c m (img t) (anc t r) := by
  rw [pay1_eq]
  refine Finset.sum_congr rfl fun r _ => ?_
  rw [pay18_apply _ _ _ r (m (img t) (anc t r)) ((blk1 V c t r).trans (hm _ _)), pay9_apply, block_lab]
  simp only [blk4, blk5]
  rfl

/-- The number of foreground anchors of a point's block. -/
theorem block_fg (c : Dev nD) (t : Fin cfg1.N) :
    (k1_pay2 (F := Ideal) (k1_pay9 (F := Ideal) (grid1.coords t) (iblk V c 0 t) (iblk V c 2 t)) : EReal)
      = ∑ r : Fin 16384, fgw (labV V c (img t) (anc t r)) := by
  rw [pay2_eq]
  refine Finset.sum_congr rfl fun r _ => ?_
  rw [pay9_apply, block_lab]

/-- The two accumulators after point `k`. -/
theorem scratch_eq (c : Dev nD) (m : Fin 8 → Fin 65536 → Fin 32) (hm : Matches V c m) : ∀ (k : ℕ) (h : k < cfg1.N),
    ((outsAt0 V c k h).2.2.2 (ix1 0) : EReal) = ∑ t : Fin (k + 1), ∑ r : Fin 16384, boxV V c m (img ⟨t.val, by have := t.isLt; omega⟩) (anc ⟨t.val, by have := t.isLt; omega⟩ r)
      ∧ ((outsAt0 V c k h).2.2.2 (ix1 1) : EReal) = ∑ t : Fin (k + 1), ∑ r : Fin 16384, fgw (labV V c (img ⟨t.val, by have := t.isLt; omega⟩) (anc ⟨t.val, by have := t.isLt; omega⟩ r))
  | 0, h => by
    rw [outsAt0_A V c ⟨0, h⟩ rfl (by dsimp only; omega) (by dsimp only; omega)]
    dsimp only
    rw [sout_A_0_0, sout_A_0_1, block_box V c m hm, block_fg, Fin.sum_univ_one, Fin.sum_univ_one]
    exact ⟨rfl, rfl⟩
  | k + 1, h => by
    have hN : k + 1 < 32 := lt_of_lt_of_eq h N_1
    have ih := scratch_eq c m hm k (Nat.lt_of_succ_lt h)
    have h0 : ¬ (⟨k + 1, h⟩ : Fin cfg1.N).val % 32 = 0 := by dsimp only; omega
    have h1 : 1 ≤ (⟨k + 1, h⟩ : Fin cfg1.N).val := by dsimp only; omega
    by_cases h2 : (⟨k + 1, h⟩ : Fin cfg1.N).val % 32 = 31
    · rw [outsAt0_C V c ⟨k + 1, h⟩ h0 h1 h2]
      dsimp only
      rw [sout_C_0_0, sout_C_0_1, pay3_eq, pay4_eq, block_box V c m hm, block_fg]
      refine ⟨?_, ?_⟩
      · rw [Fin.sum_univ_castSucc (n := k + 1)]
        exact congrArg₂ (· + ·) ih.1 rfl
      · rw [Fin.sum_univ_castSucc (n := k + 1)]
        exact congrArg₂ (· + ·) ih.2 rfl
    · rw [outsAt0_B V c ⟨k + 1, h⟩ h0 h1 h2]
      dsimp only
      rw [sout_B_0_0, sout_B_0_1, pay3_eq, pay4_eq, block_box V c m hm, block_fg]
      refine ⟨?_, ?_⟩
      · rw [Fin.sum_univ_castSucc (n := k + 1)]
        exact congrArg₂ (· + ·) ih.1 rfl
      · rw [Fin.sum_univ_castSucc (n := k + 1)]
        exact congrArg₂ (· + ·) ih.2 rfl

/-- The last point. -/
abbrev last : Fin cfg1.N := ⟨31, lt_of_lt_of_eq (by decide) N_1.symm⟩

theorem disjoint9 : ∀ t t' : Fin cfg1.N, (cfg1.win 9).flush t = true → (cfg1.win 9).flush t' = true → t ≠ t' →
    Disjoint ((cfg1.win 9).blk t).view.set ((cfg1.win 9).blk t').view.set :=
  fun t t' hf hf' hne => (cfg1.win 9).disjoint_blk fun h => hne
    ((by decide +kernel : ∀ t t' : Fin grid1.N, win1_9.flush t = true → win1_9.flush t' = true → win1_9.index t = win1_9.index t' → t = t') t t' hf hf' h)

theorem arr9 (c : Dev nD) (t : Fin cfg1.N) (hf : (cfg1.win 9).flush t = true) (y : S1x128.Idx) :
    (dats V 0 c).arrAt 9 cfg1.N (((cfg1.win 9).blk t).view.emb y) = (outsAt0 V c t.val t.isLt).2.2.1 y := by
  have h := congrFun ((dats V 0 c).read_blk_arrAt_eq_flushed 9 disjoint9 cfg1.N t t.isLt hf) y
  refine Eq.trans ?_ (h.trans ?_)
  · generalize (dats V 0 c).arrAt 9 cfg1.N = f
    rw [View.read_apply]
    exact (cast_eq _ _).symm
  show (cfg1.win 9).cut (grid1.coords t) ((dats V 0 c).after 9 t) y = _
  rw [after0_9]
  rfl

theorem row_last (c : Dev nD) (l : Fin 128) :
    (dats V 0 c).arrAt 9 cfg1.N (ix2 0 l)
      = k1_pay5 (F := Ideal) ((outsAt0 V c 31 last.isLt).2.2.2 (ix1 0)) ((outsAt0 V c 31 last.isLt).2.2.2 (ix1 1)) (ix2 0 l) := by
  have hi : win1_9.index last 0 = 0 ∧ win1_9.index last 1 = 0 := by decide +kernel
  have hf : (cfg1.win 9).flush last = true := by decide +kernel
  have h := arr9 V c last hf (ix2 0 l)
  have e : (outsAt0 V c last.val last.isLt).2.2.1
      = k1_pay5 (F := Ideal) ((outsAt0 V c last.val last.isLt).2.2.2 (ix1 0)) ((outsAt0 V c last.val last.isLt).2.2.2 (ix1 1)) := by
    rw [outsAt0_C V c last (by decide) (by decide) (by decide)]
    dsimp only
    rw [out_C_9, sout_C_0_0, sout_C_0_1]
  rw [e] at h
  refine Eq.trans (congrArg _ ?_) h
  funext a
  apply Fin.ext
  match a with
  | ⟨0, _⟩ => show 0 = win1_9.index last 0 * 1 + 1 * 0; rw [hi.1]
  | ⟨1, _⟩ => show l.val = win1_9.index last 1 * 128 + 1 * l.val; rw [hi.2]; omega

/-- A sum over the grid's blocks is the sum over images and anchors. -/
theorem sum_points (f : Fin 8 → Fin 65536 → EReal) :
    ∑ t : Fin (31 + 1), ∑ r : Fin 16384, f (img ⟨t.val, lt_of_lt_of_eq t.isLt N_1.symm⟩) (anc ⟨t.val, lt_of_lt_of_eq t.isLt N_1.symm⟩ r)
      = ∑ b : Fin 8, ∑ j : Fin 65536, f b j := by
  rw [Fin.sum_univ_tiles 8 4 rfl]
  refine Finset.sum_congr rfl fun b _ => ?_
  rw [Fin.sum_univ_tiles (N := 65536) 4 16384 rfl]
  refine Finset.sum_congr rfl fun k _ => Finset.sum_congr rfl fun r _ => ?_
  refine congrArg₂ f (Fin.ext ?_) (Fin.ext ?_)
  · show (b.val * 4 + k.val) / 4 = b.val; omega
  · show (b.val * 4 + k.val) % 4 * 16384 + r.val = k.val * 16384 + r.val; omega

theorem box_final (c : Dev nD) (m : Fin 8 → Fin 65536 → Fin 32) (hm : Matches V c m) :
    ((dats V 0 c).arrAt 9 cfg1.N (ix2 0 0) : EReal) = ∑ b : Fin 8, ∑ j : Fin 65536, boxV V c m b j := by
  rw [row_last, pay5_zero, (scratch_eq V c m hm 31 last.isLt).1]
  exact sum_points (boxV V c m)

theorem fg_final (c : Dev nD) (m : Fin 8 → Fin 65536 → Fin 32) (hm : Matches V c m) :
    ((dats V 0 c).arrAt 9 cfg1.N (ix2 0 1) : EReal) = ∑ b : Fin 8, ∑ j : Fin 65536, fgw (labV V c b j) := by
  rw [row_last, pay5_one, (scratch_eq V c m hm 31 last.isLt).2]
  exact sum_points (fun b j => fgw (labV V c b j))

end Cert.KernelIdeal.Region1

end
-- ==== Proof.Region2.Pieces.lean ====
/-
  Region 2 of the kernel, the focal call: the values its body leaves at a grid point, in the body's named payloads.
-/
module

public import proofs.«01_k».proof.Proof.Region2.Body
public import Idealize.ShloMosaic.Lib.Pointwise
public import Idealize.ShloMosaic.Lib.Pipeline.Value
@[expose] public section

noncomputable section
namespace Cert.KernelIdeal.Region2
open Cert.KernelIdeal Cert.KernelIdeal.Gen Idealize.ShloMosaic Idealize.ShloMosaic.TcCoe Idealize.SL.Sem
open Idealize.ShloMosaic.Pipeline (Dat)
variable {F : FTy → Type} [FloatOps F]
theorem hz1 : (![0] : Fin 1 → Nat) = fun _ => 0 := funext fun a => by fin_cases a; rfl
theorem hz2 : (![0, 0] : Fin 2 → Nat) = fun _ => 0 := funext fun a => by fin_cases a <;> rfl

theorem sout_A (c : Dev nD) (i : grid2.Coords) (arg1 : Memref sig .tc .vmem S8192x80 .f32) (harg1 : arg1.IsWhole) (arg2 : Memref sig .tc .vmem S8192x1 .i32) (harg2 : arg2.IsWhole) (arg3 : Memref sig .tc .vmem S8192x1 .f32) (harg3 : arg3.IsWhole) (arg4 : Memref sig .tc .smem S2 .f32) (harg4 : arg4.IsWhole)
    (arg5 : Memref sig .tc .vmem S1x128 .f32) (harg5 : arg5.IsWhole) (arg6 : Memref sig .tc .smem S1 .f32) (harg6 : arg6.IsWhole) (hc0 : cond0_0 i) (hc1 : ¬cond0_1 i) (hc2 : ¬cond0_2 i)
    (x0 : Vec F S8192x80 .f32) (x1 : Vec F S8192x1 .i32) (x2 : Vec F S8192x1 .f32) (x3 : Vec F S2 .f32)  :
    sout0_A_0 c i arg1 harg1 arg2 harg2 arg3 harg3 arg4 harg4 arg5 harg5 arg6 harg6 hc0 hc1 hc2 x0 x1 x2 x3  = fun _ => k2_pay3 x0 x1 x2 := by
  unfold sout0_A_0
  rw [View.read_writes_eq_canon _ _ _ (scover0_A_0 c i arg1 harg1 arg2 harg2 arg3 harg3 arg4 harg4 arg5 harg5 arg6 harg6 hc0 hc1 hc2 x0 x1 x2 x3 )]
  unfold kernelRun0_A
  dsimp only
  sl_unfold_words
  rw [View.canon_unit_zero hz1]
  simp only [View.readAt_eq_ld, harg1.read_unread, harg2.read_unread, harg3.read_unread, harg4.read_unread, harg6.read_unread, View.ld_unit_zero (S := S8192x80) hz2, View.ld_unit_zero (S := S8192x1) hz2, View.ld_unit_zero (S := S1) hz1, shapeCast_self]
  try rfl

theorem sout_B (c : Dev nD) (i : grid2.Coords) (arg1 : Memref sig .tc .vmem S8192x80 .f32) (harg1 : arg1.IsWhole) (arg2 : Memref sig .tc .vmem S8192x1 .i32) (harg2 : arg2.IsWhole) (arg3 : Memref sig .tc .vmem S8192x1 .f32) (harg3 : arg3.IsWhole) (arg4 : Memref sig .tc .smem S2 .f32) (harg4 : arg4.IsWhole)
    (arg5 : Memref sig .tc .vmem S1x128 .f32) (harg5 : arg5.IsWhole) (arg6 : Memref sig .tc .smem S1 .f32) (harg6 : arg6.IsWhole) (hc0 : ¬cond0_0 i) (hc1 : cond0_1 i) (hc2 : ¬cond0_2 i)
    (x0 : Vec F S8192x80 .f32) (x1 : Vec F S8192x1 .i32) (x2 : Vec F S8192x1 .f32) (x3 : Vec F S2 .f32) (s : F .f32) :
    sout0_B_0 c i arg1 harg1 arg2 harg2 arg3 harg3 arg4 harg4 arg5 harg5 arg6 harg6 hc0 hc1 hc2 x0 x1 x2 x3 (fun _ => s) = fun _ => k2_pay1 (k2_pay3 x0 x1 x2) s := by
  unfold sout0_B_0
  rw [View.read_writes_eq_canon _ _ _ (scover0_B_0 c i arg1 harg1 arg2 harg2 arg3 harg3 arg4 harg4 arg5 harg5 arg6 harg6 hc0 hc1 hc2 x0 x1 x2 x3 (fun _ => s))]
  unfold kernelRun0_B
  dsimp only
  sl_unfold_words
  rw [View.canon_unit_zero hz1]
  simp only [View.readAt_eq_ld, harg1.read_unread, harg2.read_unread, harg3.read_unread, harg4.read_unread, harg6.read_unread, View.ld_unit_zero (S := S8192x80) hz2, View.ld_unit_zero (S := S8192x1) hz2, View.ld_unit_zero (S := S1) hz1, shapeCast_self]
  try rfl

theorem sout_C (c : Dev nD) (i : grid2.Coords) (arg1 : Memref sig .tc .vmem S8192x80 .f32) (harg1 : arg1.IsWhole) (arg2 : Memref sig .tc .vmem S8192x1 .i32) (harg2 : arg2.IsWhole) (arg3 : Memref sig .tc .vmem S8192x1 .f32) (harg3 : arg3.IsWhole) (arg4 : Memref sig .tc .smem S2 .f32) (harg4 : arg4.IsWhole)
    (arg5 : Memref sig .tc .vmem S1x128 .f32) (harg5 : arg5.IsWhole) (arg6 : Memref sig .tc .smem S1 .f32) (harg6 : arg6.IsWhole) (hc0 : ¬cond0_0 i) (hc1 : cond0_1 i) (hc2 : cond0_2 i)
    (x0 : Vec F S8192x80 .f32) (x1 : Vec F S8192x1 .i32) (x2 : Vec F S8192x1 .f32) (x3 : Vec F S2 .f32) (s : F .f32) :
    sout0_C_0 c i arg1 harg1 arg2 harg2 arg3 harg3 arg4 harg4 arg5 harg5 arg6 harg6 hc0 hc1 hc2 x0 x1 x2 x3 (fun _ => s) = fun _ => k2_pay1 (k2_pay3 x0 x1 x2) s := by
  unfold sout0_C_0
  rw [View.read_writes_eq_canon _ _ _ (scover0_C_0 c i arg1 harg1 arg2 harg2 arg3 harg3 arg4 harg4 arg5 harg5 arg6 harg6 hc0 hc1 hc2 x0 x1 x2 x3 (fun _ => s))]
  unfold kernelRun0_C
  dsimp only
  sl_unfold_words
  rw [View.canon_unit_zero hz1]
  simp only [View.readAt_eq_ld, harg1.read_unread, harg2.read_unread, harg3.read_unread, harg4.read_unread, harg6.read_unread, View.ld_unit_zero (S := S8192x80) hz2, View.ld_unit_zero (S := S8192x1) hz2, View.ld_unit_zero (S := S1) hz1, shapeCast_self]
  try rfl

theorem out_C (c : Dev nD) (i : grid2.Coords) (arg1 : Memref sig .tc .vmem S8192x80 .f32) (harg1 : arg1.IsWhole) (arg2 : Memref sig .tc .vmem S8192x1 .i32) (harg2 : arg2.IsWhole) (arg3 : Memref sig .tc .vmem S8192x1 .f32) (harg3 : arg3.IsWhole) (arg4 : Memref sig .tc .smem S2 .f32) (harg4 : arg4.IsWhole)
    (arg5 : Memref sig .tc .vmem S1x128 .f32) (harg5 : arg5.IsWhole) (arg6 : Memref sig .tc .smem S1 .f32) (harg6 : arg6.IsWhole) (hc0 : ¬cond0_0 i) (hc1 : cond0_1 i) (hc2 : cond0_2 i)
    (x0 : Vec F S8192x80 .f32) (x1 : Vec F S8192x1 .i32) (x2 : Vec F S8192x1 .f32) (x3 : Vec F S2 .f32) (s : F .f32) :
    out0_C_4 c i arg1 harg1 arg2 harg2 arg3 harg3 arg4 harg4 arg5 harg5 arg6 harg6 hc0 hc1 hc2 x0 x1 x2 x3 (fun _ => s) = k2_pay2 (x3 (ix1 0)) (x3 (ix1 1)) (k2_pay1 (k2_pay3 x0 x1 x2) s) := by
  unfold out0_C_4
  rw [View.read_writes_eq_canon _ _ _ (cover0_C_4 c i arg1 harg1 arg2 harg2 arg3 harg3 arg4 harg4 arg5 harg5 arg6 harg6 hc0 hc1 hc2 x0 x1 x2 x3 (fun _ => s))]
  unfold kernelRun0_C
  dsimp only
  sl_unfold_words
  rw [View.canon_unit_zero hz2]
  simp only [View.readAt_eq_ld, harg1.read_unread, harg2.read_unread, harg3.read_unread, harg4.read_unread, harg6.read_unread, View.ld_unit_zero (S := S8192x80) hz2, View.ld_unit_zero (S := S8192x1) hz2, View.ld_unit_zero (S := S1) hz1, shapeCast_self]
  rw [show View.ld x3 (Rect.unit ![0] ![1] inb_S2_S1_0) (Shape.Idx.first numel1_S1.symm.le) = x3 (ix1 0) from
      congrArg x3 (funext fun a => by fin_cases a; rfl),
    show View.ld x3 (Rect.unit ![1] ![1] inb_S2_S1_1) (Shape.Idx.first numel1_S1.symm.le) = x3 (ix1 1) from
      congrArg x3 (funext fun a => by fin_cases a; rfl)]

end Cert.KernelIdeal.Region2

end
-- ==== Proof.Region2.Value.lean ====
/-
  Region 2 of the kernel, the focal call: the accumulator after each grid point is the running sum of the blocks' losses,
  and the result row is the last point's payload over the whole sum.
-/
module

public import proofs.«01_k».proof.Proof.Region2.Pieces
public import proofs.«01_k».proof.Proof.FocalMath

@[expose] public section
set_option maxRecDepth 16384

noncomputable section
namespace Cert.KernelIdeal.Region2
open Cert.KernelIdeal Cert.KernelIdeal.Gen Idealize.ShloMosaic Idealize.ShloMosaic.TcCoe Idealize.SL.Sem
open Idealize.ShloMosaic.Pipeline (Dat)

section
variable {F : FTy → Type} [FloatOps F]
variable (V : (c : Dev nD) → (b : Ref sig .tc) → Buf (Elt F) ((c : Thread nD τ).loc b))

/-- The loss of point `t`'s block. -/
def blockLoss (c : Dev nD) (t : Fin cfg2.N) : F .f32 := k2_pay3 (iblk V c 0 t) (iblk V c 1 t) (iblk V c 2 t)

/-- The accumulator after point `n`. -/
def running (c : Dev nD) : (n : ℕ) → n < cfg2.N → F .f32
  | 0, h => blockLoss V c ⟨0, h⟩
  | n + 1, h => k2_pay1 (blockLoss V c ⟨n + 1, h⟩) (running c n (Nat.lt_of_succ_lt h))

theorem scratch_eq (c : Dev nD) : ∀ (n : ℕ) (h : n < cfg2.N), (outsAt0 V c n h).2 = fun _ => running V c n h
  | 0, h => by
    rw [outsAt0_A V c ⟨0, h⟩ rfl (by dsimp only; omega) (by dsimp only; omega)]
    dsimp only
    rw [sout_A]
    rfl
  | n + 1, h => by
    have hN : n + 1 < 64 := lt_of_lt_of_eq h N_2
    have ih := scratch_eq c n (Nat.lt_of_succ_lt h)
    have e : (outsAt0 V c ((⟨n + 1, h⟩ : Fin cfg2.N).val - 1) (Nat.lt_of_le_of_lt (Nat.sub_le _ _) h)).2
        = fun _ => running V c n (Nat.lt_of_succ_lt h) := ih
    have h0 : ¬ (⟨n + 1, h⟩ : Fin cfg2.N).val % 64 = 0 := by dsimp only; omega
    have h1 : 1 ≤ (⟨n + 1, h⟩ : Fin cfg2.N).val := by dsimp only; omega
    by_cases h2 : (⟨n + 1, h⟩ : Fin cfg2.N).val % 64 = 63
    · rw [outsAt0_C V c ⟨n + 1, h⟩ h0 h1 h2, e]
      dsimp only
      rw [sout_C]
      rfl
    · rw [outsAt0_B V c ⟨n + 1, h⟩ h0 h1 h2, e]
      dsimp only
      rw [sout_B]
      rfl

/-- The last point. -/
abbrev last : Fin cfg2.N := ⟨63, lt_of_lt_of_eq (by decide) N_2.symm⟩

theorem blk0 (c : Dev nD) (t : Fin cfg2.N) (r : Fin 8192) (l : Fin 80) :
    iblk V c 0 t (ix2 r l) = V c main_v7 (ix2 ⟨t.val * 8192 + r.val, by have := lt_of_lt_of_eq t.isLt N_2; omega⟩ l) := by
  have hi : win2_0.index t 0 = t.val ∧ win2_0.index t 1 = 0 :=
    (by decide +kernel : ∀ t : Fin grid2.N, win2_0.index t 0 = t.val ∧ win2_0.index t 1 = 0) t
  unfold iblk
  rw [View.read_apply]
  show V c main_v7 _ = V c main_v7 _
  congr 1
  funext a
  apply Fin.ext
  match a with
  | ⟨0, _⟩ => show win2_0.index t 0 * 8192 + 1 * r.val = t.val * 8192 + r.val; rw [hi.1]; omega
  | ⟨1, _⟩ => show win2_0.index t 1 * 80 + 1 * l.val = l.val; rw [hi.2]; omega

theorem blk1 (c : Dev nD) (t : Fin cfg2.N) (r : Fin 8192) :
    iblk V c 1 t (ix2 r 0) = V c main_v8 (ix2 ⟨t.val * 8192 + r.val, by have := lt_of_lt_of_eq t.isLt N_2; omega⟩ 0) := by
  have hi : win2_1.index t 0 = t.val ∧ win2_1.index t 1 = 0 :=
    (by decide +kernel : ∀ t : Fin grid2.N, win2_1.index t 0 = t.val ∧ win2_1.index t 1 = 0) t
  unfold iblk
  rw [View.read_apply]
  show V c main_v8 _ = V c main_v8 _
  congr 1
  funext a
  apply Fin.ext
  match a with
  | ⟨0, _⟩ => show win2_1.index t 0 * 8192 + 1 * r.val = t.val * 8192 + r.val; rw [hi.1]; omega
  | ⟨1, _⟩ => show win2_1.index t 1 * 1 + 1 * 0 = 0; rw [hi.2]

theorem blk2 (c : Dev nD) (t : Fin cfg2.N) (r : Fin 8192) :
    iblk V c 2 t (ix2 r 0) = V c main_v9 (ix2 ⟨t.val * 8192 + r.val, by have := lt_of_lt_of_eq t.isLt N_2; omega⟩ 0) := by
  have hi : win2_2.index t 0 = t.val ∧ win2_2.index t 1 = 0 :=
    (by decide +kernel : ∀ t : Fin grid2.N, win2_2.index t 0 = t.val ∧ win2_2.index t 1 = 0) t
  unfold iblk
  rw [View.read_apply]
  show V c main_v9 _ = V c main_v9 _
  congr 1
  funext a
  apply Fin.ext
  match a with
  | ⟨0, _⟩ => show win2_2.index t 0 * 8192 + 1 * r.val = t.val * 8192 + r.val; rw [hi.1]; omega
  | ⟨1, _⟩ => show win2_2.index t 1 * 1 + 1 * 0 = 0; rw [hi.2]

theorem blk3 (c : Dev nD) (t : Fin cfg2.N) (k : Fin 2) :
    iblk V c 3 t (ix1 k) = V c main_v11 (ix1 k) := by
  have hi : win2_3.index t 0 = 0 :=
    (by decide +kernel : ∀ t : Fin grid2.N, win2_3.index t 0 = 0) t
  unfold iblk
  rw [View.read_apply]
  show V c main_v11 _ = V c main_v11 _
  congr 1
  funext a
  apply Fin.ext
  match a with
  | ⟨0, _⟩ => show win2_3.index t 0 * 2 + 1 * k.val = k.val; rw [hi]; omega

theorem disjoint4 : ∀ t t' : Fin cfg2.N, (cfg2.win 4).flush t = true → (cfg2.win 4).flush t' = true → t ≠ t' →
    Disjoint ((cfg2.win 4).blk t).view.set ((cfg2.win 4).blk t').view.set :=
  fun t t' hf hf' hne => (cfg2.win 4).disjoint_blk fun h => hne
    ((by decide +kernel : ∀ t t' : Fin grid2.N, win2_4.flush t = true → win2_4.flush t' = true → win2_4.index t = win2_4.index t' → t = t') t t' hf hf' h)

/-- The result row: only the last point writes it. -/
theorem row_final (c : Dev nD) (l : Fin 128) :
    (dats V 0 c).arrAt 4 cfg2.N (ix2 0 l)
      = k2_pay2 (V c main_v11 (ix1 0)) (V c main_v11 (ix1 1)) (running V c 63 last.isLt) (ix2 0 l) := by
  have hi : win2_4.index last 0 = 0 ∧ win2_4.index last 1 = 0 := by decide +kernel
  have hf : (cfg2.win 4).flush last = true := by decide +kernel
  have h : (dats V 0 c).arrAt 4 cfg2.N (((cfg2.win 4).blk last).view.emb (ix2 0 l)) = (outsAt0 V c last.val last.isLt).1 (ix2 0 l) := by
    have h := congrFun ((dats V 0 c).read_blk_arrAt_eq_flushed 4 disjoint4 cfg2.N last last.isLt hf) (ix2 0 l)
    refine Eq.trans ?_ (h.trans ?_)
    · generalize (dats V 0 c).arrAt 4 cfg2.N = f
      rw [View.read_apply]
      exact (cast_eq _ _).symm
    show (cfg2.win 4).cut (grid2.coords last) ((dats V 0 c).after 4 last) (ix2 0 l) = _
    rw [after0_4]
    rfl
  have e : (outsAt0 V c (last.val - 1) (Nat.lt_of_le_of_lt (Nat.sub_le _ _) last.isLt)).2
      = fun _ => running V c 62 (Nat.lt_of_succ_lt last.isLt) := scratch_eq V c 62 _
  rw [outsAt0_C V c last (by decide) (by decide) (by decide), e] at h
  dsimp only at h
  rw [out_C, blk3, blk3] at h
  refine Eq.trans (congrArg _ ?_) h
  funext a
  apply Fin.ext
  match a with
  | ⟨0, _⟩ => show 0 = win2_4.index last 0 * 1 + 1 * 0; rw [hi.1]
  | ⟨1, _⟩ => show l.val = win2_4.index last 1 * 128 + 1 * l.val; rw [hi.2]; omega
end

section
open Cert.Focal

variable (V : (c : Dev nD) → (b : Ref sig .tc) → Buf (Elt Ideal) ((c : Thread nD τ).loc b))

theorem quarter : Ideal.ofBits .f32 0x3E800000#32 = (((1 / 4 : ℝ)) : EReal) := by
  simp [Ideal.ofBits, Ideal.ieee]; rw [← EReal.coe_mul]; congr 1; norm_num
theorem threeQuarters : Ideal.ofBits .f32 0x3F400000#32 = (((3 / 4 : ℝ)) : EReal) := by
  simp [Ideal.ofBits, Ideal.ieee]; rw [← EReal.coe_mul]; congr 1; norm_num

theorem select_eq {α : Type} (t u : BitVec 32) (a b : α) :
    Scalar.select (IntOp.cmpi CmpIPredicate.eq u t) a b = if t = u then a else b := by
  by_cases h : t = u
  · subst h; simp [Scalar.select, IntOp.cmpi]
  · have h' : (u == t) = false := by simpa using Ne.symm h
    rw [if_neg h]; simp [Scalar.select, IntOp.cmpi, h']

/-- The loss of a block, logit by logit. -/
theorem block_apply (x : FVec Ideal ⟨2, ![8192, 80]⟩ .f32) (t : IVec ⟨2, ![8192, 1]⟩ 32)
    (v : FVec Ideal ⟨2, ![8192, 1]⟩ .f32) :
    k2_pay3 (F := Ideal) x t v
      = ∑ r : Fin 8192, ∑ l : Fin 80,
          kernelTerm (t (ix2 r 0) = BitVec.ofNat 32 l.val) (1 / 4 : ℝ) (3 / 4 : ℝ) (x (ix2 r l)) (v (ix2 r 0)) := by
  pointwise [k2_pay3]
  simp only [select_eq, quarter, threeQuarters]
  rfl

theorem running_eq (c : Dev nD) : ∀ (n : ℕ) (h : n < cfg2.N),
    (running V c n h : EReal) = ∑ k : Fin (n + 1), (blockLoss V c ⟨k.val, by have := k.isLt; omega⟩ : EReal)
  | 0, h => by rw [Fin.sum_univ_one]; rfl
  | n + 1, h => by
    rw [Fin.sum_univ_castSucc]
    show (running V c n _ : EReal) + blockLoss V c ⟨n + 1, h⟩ = _
    rw [running_eq c n]
    rfl

/-- The whole loss: the sum over all rows and lanes of the logits' losses. -/
theorem running_last (c : Dev nD) : (running V c 63 last.isLt : EReal)
    = ∑ r : Fin 524288, ∑ l : Fin 80,
        referenceTerm (V c main_v8 (ix2 r 0) = BitVec.ofNat 32 l.val) (1 / 4 : ℝ) (3 / 4 : ℝ) (2 : ℝ)
          (V c main_v7 (ix2 r l)) (V c main_v9 (ix2 r 0)) := by
  rw [running_eq, Fin.sum_univ_tiles 64 8192 rfl]
  refine Finset.sum_congr rfl fun t _ => ?_
  unfold blockLoss
  rw [block_apply]
  refine Finset.sum_congr rfl fun r _ => Finset.sum_congr rfl fun l _ => ?_
  rw [term_eq]
  have h0 := blk0 V c ⟨t.val, lt_of_lt_of_eq t.isLt N_2.symm⟩ r l
  have h1 := blk1 V c ⟨t.val, lt_of_lt_of_eq t.isLt N_2.symm⟩ r
  have h2 := blk2 V c ⟨t.val, lt_of_lt_of_eq t.isLt N_2.symm⟩ r
  dsimp only at h0 h1 h2
  rw [← h0, ← h1, ← h2]
end

end Cert.KernelIdeal.Region2

end
-- ==== Proof.Joined.lean ====
/-
  The three calls one after another, read in the reference's terms: what each hands on, and the three results.
-/
module

public import proofs.«01_k».proof.Proof.Stretches
public import proofs.«01_k».proof.Proof.PreFit
public import proofs.«01_k».proof.Proof.Region0.Value
public import proofs.«01_k».proof.Proof.Region1.Value
public import proofs.«01_k».proof.Proof.Region2.Value

@[expose] public section

set_option maxRecDepth 16384

noncomputable section

namespace Cert.KernelIdeal.Whole

open Cert.KernelIdeal Cert.KernelIdeal.Gen
open Idealize.ShloMosaic Idealize.ShloMosaic.TcCoe Idealize.SL.Sem
open Cert.RefSide (rb rj ovR bestR labR whoR rl rk den focalR boxR AllInRange one_eq)
open Cert.Spec

/-! ## The last payload's lanes -/

theorem lane0 (s t u : EReal) : k2_pay2 (F := Ideal) s t u (ix2 0 0) = Ideal.div u (den t) := rfl
theorem lane1 (s t u : EReal) : k2_pay2 (F := Ideal) s t u (ix2 0 1) = Ideal.div s (den t) := rfl
theorem lane2 (s t u : EReal) : k2_pay2 (F := Ideal) s t u (ix2 0 2) = Ideal.div u (den t) + Ideal.div s (den t) := by
  show Ideal.ofBits .f32 1065353216#32 * Ideal.div u (den t) + Ideal.ofBits .f32 1065353216#32 * Ideal.div s (den t) = _
  rw [one_eq, one_mul, one_mul]

variable (m : (ℓ : Loc nD τ sig) → Buf (Elt Ideal) ℓ) (c : Dev nD)

/-! ## The match -/

theorem ov_eq (b : Fin 8) (n : Fin 32) (j : Fin 65536) : Region0.ov (E1 m) c b n j = ovR (a3 m c) (a4 m c) b n j := by
  unfold Region0.ov ovR
  refine congrArg₂ iou (funext fun q => ?_) (funext fun q => anchors_at m c q j)
  exact congrFun (W1_of m c main_arg4 (by decide)) (ix3 b n q)

theorem mv_at (b : Fin 8) (j : Fin 65536) : (E2 m c main_v5_0 : FVec Ideal S8x1x65536 .f32) (ix3 b 0 j) = top (fun n => ovR (a3 m c) (a4 m c) b n j) := by
  refine (congrFun (W2_at0 m c) (ix3 b 0 j)).trans ((Region0.mv_final (E1 m) c b j).trans ?_)
  exact congrArg top (funext fun n => ov_eq m c b n j)

theorem mt_at (b : Fin 8) (j : Fin 65536) :
    (E2 m c main_v5_1 : IVec S8x1x65536 32) (ix3 b 0 j) = BitVec.ofNat 32 (whoR (a3 m c) (a4 m c) b j).val := by
  refine (congrFun (W2_at1 m c) (ix3 b 0 j)).trans ((Region0.mt_final (E1 m) c b j).trans ?_)
  exact (congrArg match32 (funext fun n => ov_eq m c b n j)).trans (match32_who _)

theorem garg_at (b : Fin 8) (n : Fin 32) : ∃ j : Fin 65536,
    (E2 m c main_v5_3 : IVec S8x32x1 32) (ix3 b n 0) = BitVec.ofNat 32 j.val
      ∧ ovR (a3 m c) (a4 m c) b n j = top (fun j => ovR (a3 m c) (a4 m c) b n j) := by
  obtain ⟨j, h1, h2⟩ := Region0.garg_final (E1 m) c b n
  refine ⟨j, (congrFun (W2_at3 m c) (ix3 b n 0)).trans h1, ?_⟩
  rw [← ov_eq]
  exact h2.trans (congrArg top (funext fun j => ov_eq m c b n j))

theorem matched : Region1.Matches (E2 m) c (fun b j => whoR (a3 m c) (a4 m c) b j) := fun b j => mt_at m c b j

/-- No ground truth reaches its largest overlap at two anchors. -/
def OneBest : Prop := ∀ (b : Fin 8) (n : Fin 32) (j j' : Fin 65536),
  ovR (a3 m c) (a4 m c) b n j = top (fun j => ovR (a3 m c) (a4 m c) b n j) →
    ovR (a3 m c) (a4 m c) b n j' = top (fun j => ovR (a3 m c) (a4 m c) b n j) → j = j'

/-- The labels agree. -/
theorem lab_eq (h : OneBest m c) (b : Fin 8) (j : Fin 65536) : Region1.labV (E2 m) c b j = labR (a3 m c) (a4 m c) b j := by
  have e : (∃ x : Fin 32, (E2 m c main_v5_3 : IVec S8x32x1 32) (ix3 b x 0) = BitVec.ofNat 32 j.val) ↔ bestR (a3 m c) (a4 m c) b j := by
    constructor
    · rintro ⟨x, hx⟩
      obtain ⟨j0, h1, h2⟩ := garg_at m c b x
      have hj : j0 = j := Fin.ext (ofNat_inj (by have := j0.isLt; omega) (by have := j.isLt; omega) (h1.symm.trans hx))
      exact ⟨x, hj ▸ h2⟩
    · rintro ⟨x, hx⟩
      obtain ⟨j0, h1, h2⟩ := garg_at m c b x
      exact ⟨x, h1.trans (congrArg (fun k : Fin 65536 => BitVec.ofNat 32 k.val) (h b x j0 j h2 hx))⟩
  unfold Region1.labV labR
  exact congrArg₂ lab (mv_at m c b j) (propext e)

/-! ## The targets -/

theorem tc_eq (h : OneBest m c) (b : Fin 8) (j : Fin 65536) : (W3 m c main_v6_0 : IVec S8x1x65536 32) (ix3 b 0 j)
    = tcw (labR (a3 m c) (a4 m c) b j) (a5 m c (ix2 b (whoR (a3 m c) (a4 m c) b j))) := by
  refine (congrFun (W3_at0 m c) (ix3 b 0 j)).trans ((Region1.tc_final (E2 m) c b j _ (mt_at m c b j)).trans ?_)
  refine congrArg₂ tcw (lab_eq m c h b j) ?_
  exact (congrFun (W2_of m c main_v2 (by decide)) (ix3 b _ 0)).trans (classes_at m c b _)

theorem valid_eq (h : OneBest m c) (b : Fin 8) (j : Fin 65536) : (W3 m c main_v6_1 : FVec Ideal S8x1x65536 .f32) (ix3 b 0 j)
    = validw (labR (a3 m c) (a4 m c) b j) (FloatOps.uitofp (F := Ideal) FTy.f32 (a2 m c (ix2 b j))) := by
  refine (congrFun (W3_at1 m c) (ix3 b 0 j)).trans ((Region1.valid_final (E2 m) c b j).trans ?_)
  refine congrArg₂ validw (lab_eq m c h b j) ?_
  exact (congrFun (W2_of m c main_v4 (by decide)) (ix3 b 0 j)).trans (mask_at m c b j)

/-- A sum over images and anchors is a sum over rows. -/
theorem sum_rows (f : Fin 8 → Fin 65536 → EReal) : ∑ b : Fin 8, ∑ j : Fin 65536, f b j = ∑ r : Fin 524288, f (rb r) (rj r) := by
  rw [Fin.sum_univ_tiles 8 65536 rfl]
  refine Finset.sum_congr rfl fun b _ => Finset.sum_congr rfl fun j _ => ?_
  refine congrArg₂ f (Fin.ext ?_) (Fin.ext ?_)
  · show b.val = (b.val * 65536 + j.val) / 65536
    have := j.isLt; omega
  · show j.val = (b.val * 65536 + j.val) % 65536
    have := j.isLt; omega

theorem box_eq (h : OneBest m c) : (W3 m c main_v6_2 : FVec Ideal S1x128 .f32) (ix2 0 0) = boxR (a1 m c) (a3 m c) (a4 m c) := by
  refine (congrFun (W3_at2 m c) (ix2 0 0)).trans ((Region1.box_final (E2 m) c _ (matched m c)).trans ?_)
  refine (sum_rows _).trans (Finset.sum_congr rfl fun r _ => ?_)
  unfold Region1.boxV
  rw [lab_eq m c h]
  refine congrArg₂ (boxw _) (funext fun q => ?_) (funext fun q => ?_)
  · exact (congrFun (W2_of m c main_v1 (by decide)) _).trans (boxes_at m c _ q _)
  · exact congrFun ((W2_of m c main_arg4 (by decide)).trans (W1_of m c main_arg4 (by decide))) _

theorem fg_eq (h : OneBest m c) : (W3 m c main_v6_2 : FVec Ideal S1x128 .f32) (ix2 0 1) = ∑ r : Fin 524288, fgw (rl (a3 m c) (a4 m c) r) := by
  refine (congrFun (W3_at2 m c) (ix2 0 1)).trans ((Region1.fg_final (E2 m) c _ (matched m c)).trans ?_)
  refine (sum_rows _).trans (Finset.sum_congr rfl fun r _ => ?_)
  rw [lab_eq m c h]
  rfl

/-! ## The results -/

/-- The terms do not depend on how the hit is decided. -/
theorem term_congr {p p' : Prop} (d : Decidable p) (d' : Decidable p') {a b g x x' v v' : EReal} (hp : p = p') (hx : x = x') (hv : v = v') :
    @Cert.Focal.referenceTerm p d a b g x v = @Cert.Focal.referenceTerm p' d' a b g x' v' := by
  subst hp; subst hx; subst hv
  rw [Subsingleton.elim d d']

theorem focal_eq (h : OneBest m c) :
    (Region2.running (E4 m) c 63 Region2.last.isLt : EReal) = focalR (a0 m c) (a2 m c) (a3 m c) (a4 m c) (a5 m c) := by
  refine (Region2.running_last (E4 m) c).trans ?_
  unfold focalR
  refine Finset.sum_congr rfl fun r _ => Finset.sum_congr rfl fun l _ => ?_
  have e1 := (tc_at m c r).trans (tc_eq m c h (rb r) (rj r))
  have e2 := (valid_at m c r).trans (valid_eq m c h (rb r) (rj r))
  have e3 := logits_at m c r l
  exact term_congr _ _ (congrArg (fun w : BitVec 32 => w = BitVec.ofNat 32 l.val) e1) e3 e2

theorem row_at (l : Fin 128) : (W5 m c main_v12 : FVec Ideal S1x128 .f32) (ix2 0 l)
    = k2_pay2 (F := Ideal) (E4 m c main_v11 (ix1 0)) (E4 m c main_v11 (ix1 1)) (Region2.running (E4 m) c 63 Region2.last.isLt) (ix2 0 l) :=
  (congrFun (W5_at m c) (ix2 0 l)).trans (Region2.row_final (E4 m) c l)

theorem num_eq (h : OneBest m c) : (E4 m c main_v11 : FVec Ideal S2 .f32) (ix1 1) = ∑ r : Fin 524288, fgw (rl (a3 m c) (a4 m c) r) :=
  (sums_at1 m c).trans (fg_eq m c h)

theorem tot_eq (h : OneBest m c) : (E4 m c main_v11 : FVec Ideal S2 .f32) (ix1 0) = boxR (a1 m c) (a3 m c) (a4 m c) :=
  (sums_at0 m c).trans (box_eq m c h)

theorem result0 (h : OneBest m c) (i : S_.Idx) : (W6 m c main_v14 : FVec Ideal S_ .f32) i
    = Ideal.div (focalR (a0 m c) (a2 m c) (a3 m c) (a4 m c) (a5 m c)) (den (∑ r : Fin 524288, fgw (rl (a3 m c) (a4 m c) r))) := by
  refine (res0_at m c i).trans ((row_at m c 0).trans ((lane0 _ _ _).trans ?_))
  exact congrArg₂ Ideal.div (focal_eq m c h) (congrArg den (num_eq m c h))

theorem result1 (h : OneBest m c) (i : S_.Idx) : (W6 m c main_v16 : FVec Ideal S_ .f32) i
    = Ideal.div (boxR (a1 m c) (a3 m c) (a4 m c)) (den (∑ r : Fin 524288, fgw (rl (a3 m c) (a4 m c) r))) := by
  refine (res1_at m c i).trans ((row_at m c 1).trans ((lane1 _ _ _).trans ?_))
  exact congrArg₂ Ideal.div (tot_eq m c h) (congrArg den (num_eq m c h))

theorem result2 (h : OneBest m c) (i : S_.Idx) : (W6 m c main_v18 : FVec Ideal S_ .f32) i
    = Ideal.div (focalR (a0 m c) (a2 m c) (a3 m c) (a4 m c) (a5 m c)) (den (∑ r : Fin 524288, fgw (rl (a3 m c) (a4 m c) r)))
      + Ideal.div (boxR (a1 m c) (a3 m c) (a4 m c)) (den (∑ r : Fin 524288, fgw (rl (a3 m c) (a4 m c) r))) := by
  refine (res2_at m c i).trans ((row_at m c 2).trans ((lane2 _ _ _).trans ?_))
  refine congrArg₂ (· + ·) (congrArg₂ Ideal.div (focal_eq m c h) (congrArg den (num_eq m c h))) ?_
  exact congrArg₂ Ideal.div (tot_eq m c h) (congrArg den (num_eq m c h))

end Cert.KernelIdeal.Whole

end
-- ==== Proof.lean ====
/- The proof of the claim: the frames from the runs, and the three results beside the reference's. -/
module

public import proofs.«01_k».proof.Defs
public import proofs.«01_k».proof.Proof.Gen.Kernel
public import proofs.«01_k».proof.Proof.Gen.KernelIdeal.Skeleton
public import proofs.«01_k».proof.Proof.Gen.KernelIdeal.Points
public import proofs.«01_k».proof.Proof.Gen.KernelIdeal.Regions
public import proofs.«01_k».proof.Proof.Gen.ReferenceIdeal.Run
public import proofs.«01_k».proof.Proof.Gen.ReferenceIdeal.Read
public import proofs.«01_k».proof.Proof.Gen.Pre_targets_fit
public import Idealize.ShloMosaic.Adequacy
public import Idealize.ShloMosaic.Init
public import Idealize.ShloMosaic.Lib.Quiescent
public import proofs.«01_k».proof.Proof.Frames
public import proofs.«01_k».proof.Proof.Joined

@[expose] public section

noncomputable section

namespace Cert.Proof

open Idealize.ShloMosaic Idealize.ShloMosaic.TcCoe Idealize.SL.Sem

/-- The reference's frame. -/
theorem quiescent_ReferenceIdeal : quiescent_ReferenceIdeal := fun m ρ _ =>
  (θ_run Cert.ReferenceIdeal.defs _ _).mono (fun r h => ⟨fun c => (h c).2.2.2, sem_eq_zero_of_no_sems (by decide) r.2⟩)
    (Cert.ReferenceIdeal.Value.run (F := Ideal) m ρ)

/-- Under the precondition the three results agree. -/
theorem algebraic : algebraic_KernelIdeal_ReferenceIdeal_pre_targets_fit := by
  intro m ρ m' ρ' hpre hagree
  refine ⟨fun c => Cert.KernelIdeal.Whole.W6 m c Cert.KernelIdeal.main_v14, fun c => Cert.KernelIdeal.Whole.W6 m c Cert.KernelIdeal.main_v16,
    fun c => Cert.KernelIdeal.Whole.W6 m c Cert.KernelIdeal.main_v18, ?_, ?_⟩
  · refine (θ_run Cert.KernelIdeal.defs _ _).mono (fun r h c => ?_) (Cert.KernelIdeal.Whole.run_main (F := Ideal) m ρ)
    obtain ⟨r0, r1, r2⟩ := Cert.KernelIdeal.Whole.results m r.2 h.1 c
    exact ⟨r0, r1, r2, Cert.KernelIdeal.Whole.args_kept m r.2 h.1 c⟩
  · refine (θ_run Cert.ReferenceIdeal.defs _ _).mono (fun r h c => ?_) (Cert.ReferenceIdeal.Value.run (F := Ideal) m' ρ')
    obtain ⟨f1, f2⟩ := Cert.RefSide.fit_facts _ _ _ _ _ _ (hpre c)
    obtain ⟨e0, e1, e2, e3, e4, e5⟩ := hagree c
    obtain ⟨s0, s1, s2, kept⟩ := h c
    refine ⟨s0.trans ?_, s1.trans ?_, s2.trans ?_, kept⟩
    · rw [Cert.ReferenceIdeal.Read.val_main_v156_eq]
      refine (congr (congr (congr (congrArg₂ (Cert.ReferenceIdeal.Read.val_main_v156 (F := Ideal)) e0 e2) e3) e4) e5).trans ?_
      exact funext fun i => (Cert.RefSide.labels_eq _ _ _ _ _ f1 i).trans (Cert.KernelIdeal.Whole.result0 m c f2 i).symm
    · rw [Cert.ReferenceIdeal.Read.val_main_v216_eq]
      refine (congr (congr (congrArg₂ (Cert.ReferenceIdeal.Read.val_main_v216 (F := Ideal)) e1 e3) e4) e5).trans ?_
      exact funext fun i => (Cert.RefSide.boxes_eq _ _ _ _ f1 i).trans (Cert.KernelIdeal.Whole.result1 m c f2 i).symm
    · rw [Cert.ReferenceIdeal.Read.val_main_v219_eq]
      refine (congr (congr (congr (congr (congrArg₂ (Cert.ReferenceIdeal.Read.val_main_v219 (F := Ideal)) e0 e1) e2) e3) e4) e5).trans ?_
      exact funext fun i => (Cert.RefSide.total_eq _ _ _ _ _ _ f1 i).trans (Cert.KernelIdeal.Whole.result2 m c f2 i).symm

theorem claim : Cert.Claim := ⟨Cert.Kernel.Gen.facts, Cert.KernelIdeal.Gen.facts, Cert.ReferenceIdeal.Gen.facts, Cert.Pre_targets_fit.Gen.facts,
  Cert.KernelIdeal.Whole.quiescent_Kernel, fun m ρ _ => Cert.KernelIdeal.Whole.frame m ρ, fun m ρ _ => Cert.KernelIdeal.Whole.frame m ρ,
  quiescent_ReferenceIdeal, fun m ρ _ => quiescent_ReferenceIdeal m ρ trivial, (trivial : preserves_Kernel_KernelIdeal), algebraic⟩

end Cert.Proof

end
